-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Feed (m : (ℓ : Loc Cert.Feed.nD Cert.Feed.τ Cert.Feed.sig) → Buf (Elt Bits) ℓ) : Prop :=
  True

def Pre_FeedIdeal (m : (ℓ : Loc Cert.FeedIdeal.nD Cert.FeedIdeal.τ Cert.FeedIdeal.sig) → Buf (Elt Ideal) ℓ) : Prop :=
  True

def Pre_FeedReferenceIdeal (m : (ℓ : Loc Cert.FeedReferenceIdeal.nD Cert.FeedReferenceIdeal.τ Cert.FeedReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysReferenceIdeal (m : (ℓ : Loc Cert.KeysReferenceIdeal.nD Cert.KeysReferenceIdeal.τ Cert.KeysReferenceIdeal.sig) → Buf (Elt Ideal) ℓ) : Prop :=
  True

def Pre_KeysSample (m : (ℓ : Loc Cert.KeysSample.nD Cert.KeysSample.τ Cert.KeysSample.sig) → Buf (Elt Bits) ℓ) : Prop :=
  True

def Pre_KeysSampleIdeal (m : (ℓ : Loc Cert.KeysSampleIdeal.nD Cert.KeysSampleIdeal.τ Cert.KeysSampleIdeal.sig) → Buf (Elt Ideal) ℓ) : Prop :=
  True

def Pre_KeysSampleReferenceIdeal (m : (ℓ : Loc Cert.KeysSampleReferenceIdeal.nD Cert.KeysSampleReferenceIdeal.τ Cert.KeysSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def quiescent_Feed [hFeed : Cert.Feed.Facts] : Prop :=
  ∀ (m : (ℓ : Loc Cert.Feed.nD Cert.Feed.τ Cert.Feed.sig) → Buf (Elt Bits) ℓ) (g : Dev Cert.Feed.nD → PrngReg), Pre_Feed m →
    θ_run (Cert.Feed.defs (F := Bits)) (onTc (τ := Cert.Feed.τ) (Cert.Feed.main (F := Bits))) ⟨m, fun _ => 0, g⟩ (fun r => (∀ c : Dev Cert.Feed.nD,
      r.2.mem ((c.tc : Thread Cert.Feed.nD Cert.Feed.τ).loc Cert.Feed.main_arg0) = m ((c.tc : Thread Cert.Feed.nD Cert.Feed.τ).loc Cert.Feed.main_arg0)
      ∧ r.2.mem ((c.tc : Thread Cert.Feed.nD Cert.Feed.τ).loc Cert.Feed.main_arg1) = m ((c.tc : Thread Cert.Feed.nD Cert.Feed.τ).loc Cert.Feed.main_arg1)
      ∧ r.2.mem ((c.tc : Thread Cert.Feed.nD Cert.Feed.τ).loc Cert.Feed.main_arg2) = m ((c.tc : Thread Cert.Feed.nD Cert.Feed.τ).loc Cert.Feed.main_arg2)
      ∧ r.2.mem ((c.tc : Thread Cert.Feed.nD Cert.Feed.τ).loc Cert.Feed.main_arg3) = m ((c.tc : Thread Cert.Feed.nD Cert.Feed.τ).loc Cert.Feed.main_arg3)
      ∧ r.2.mem ((c.tc : Thread Cert.Feed.nD Cert.Feed.τ).loc Cert.Feed.main_arg4) = m ((c.tc : Thread Cert.Feed.nD Cert.Feed.τ).loc Cert.Feed.main_arg4)
      ∧ r.2.mem ((c.tc : Thread Cert.Feed.nD Cert.Feed.τ).loc Cert.Feed.main_arg5) = m ((c.tc : Thread Cert.Feed.nD Cert.Feed.τ).loc Cert.Feed.main_arg5))
      ∧ r.2.sem = fun _ => 0)

def quiescent_FeedIdeal [hFeedIdeal : Cert.FeedIdeal.Facts] : Prop :=
  ∀ (m : (ℓ : Loc Cert.FeedIdeal.nD Cert.FeedIdeal.τ Cert.FeedIdeal.sig) → Buf (Elt Ideal) ℓ) (g : Dev Cert.FeedIdeal.nD → PrngReg), Pre_FeedIdeal m →
    θ_run (Cert.FeedIdeal.defs (F := Ideal)) (onTc (τ := Cert.FeedIdeal.τ) (Cert.FeedIdeal.main (F := Ideal))) ⟨m, fun _ => 0, g⟩ (fun r => (∀ c : Dev Cert.FeedIdeal.nD,
      r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
      ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
      ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
      ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3)
      ∧ r.2.mem ((c.tc : Thread Cert.FeedIdeal.nD Cert.FeedIdeal.τ).loc Cert.FeedIdeal.main_arg4) = m ((c.tc : Thread Cert.FeedIdeal.nD Cert.FeedIdeal.τ).loc Cert.FeedIdeal.main_arg4)
      ∧ r.2.mem ((c.tc : Thread Cert.FeedIdeal.nD Cert.FeedIdeal.τ).loc Cert.FeedIdeal.main_arg5) = m ((c.tc : Thread Cert.FeedIdeal.nD Cert.FeedIdeal.τ).loc Cert.FeedIdeal.main_arg5))
      ∧ r.2.sem = fun _ => 0)

def quiescent_FeedReferenceIdeal [hFeedReferenceIdeal : Cert.FeedReferenceIdeal.Facts] : Prop :=
  ∀ (m : (ℓ : Loc Cert.FeedReferenceIdeal.nD Cert.FeedReferenceIdeal.τ Cert.FeedReferenceIdeal.sig) → Buf (Elt Ideal) ℓ) (g : Dev Cert.FeedReferenceIdeal.nD → PrngReg), Pre_FeedReferenceIdeal m →
    θ_run (Cert.FeedReferenceIdeal.defs (F := Ideal)) (onTc (τ := Cert.FeedReferenceIdeal.τ) (Cert.FeedReferenceIdeal.main (F := Ideal))) ⟨m, fun _ => 0, g⟩ (fun r => (∀ c : Dev Cert.FeedReferenceIdeal.nD,
      r.2.mem ((c.tc : Thread Cert.FeedReferenceIdeal.nD Cert.FeedReferenceIdeal.τ).loc Cert.FeedReferenceIdeal.main_arg0) = m ((c.tc : Thread Cert.FeedReferenceIdeal.nD Cert.FeedReferenceIdeal.τ).loc Cert.FeedReferenceIdeal.main_arg0)
      ∧ r.2.mem ((c.tc : Thread Cert.FeedReferenceIdeal.nD Cert.FeedReferenceIdeal.τ).loc Cert.FeedReferenceIdeal.main_arg1) = m ((c.tc : Thread Cert.FeedReferenceIdeal.nD Cert.FeedReferenceIdeal.τ).loc Cert.FeedReferenceIdeal.main_arg1)
      ∧ r.2.mem ((c.tc : Thread Cert.FeedReferenceIdeal.nD Cert.FeedReferenceIdeal.τ).loc Cert.FeedReferenceIdeal.main_arg2) = m ((c.tc : Thread Cert.FeedReferenceIdeal.nD Cert.FeedReferenceIdeal.τ).loc Cert.FeedReferenceIdeal.main_arg2)
      ∧ r.2.mem ((c.tc : Thread Cert.FeedReferenceIdeal.nD Cert.FeedReferenceIdeal.τ).loc Cert.FeedReferenceIdeal.main_arg3) = m ((c.tc : Thread Cert.FeedReferenceIdeal.nD Cert.FeedReferenceIdeal.τ).loc Cert.FeedReferenceIdeal.main_arg3)
      ∧ r.2.mem ((c.tc : Thread Cert.FeedReferenceIdeal.nD Cert.FeedReferenceIdeal.τ).loc Cert.FeedReferenceIdeal.main_arg4) = m ((c.tc : Thread Cert.FeedReferenceIdeal.nD Cert.FeedReferenceIdeal.τ).loc Cert.FeedReferenceIdeal.main_arg4)
      ∧ r.2.mem ((c.tc : Thread Cert.FeedReferenceIdeal.nD Cert.FeedReferenceIdeal.τ).loc Cert.FeedReferenceIdeal.main_arg5) = m ((c.tc : Thread Cert.FeedReferenceIdeal.nD Cert.FeedReferenceIdeal.τ).loc Cert.FeedReferenceIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1)
      ∧ r.2.mem ((c.tc : Thread Cert.Keys.nD Cert.Keys.τ).loc Cert.Keys.main_arg2) = m ((c.tc : Thread Cert.Keys.nD Cert.Keys.τ).loc Cert.Keys.main_arg2)
      ∧ r.2.mem ((c.tc : Thread Cert.Keys.nD Cert.Keys.τ).loc Cert.Keys.main_arg3) = m ((c.tc : Thread Cert.Keys.nD Cert.Keys.τ).loc Cert.Keys.main_arg3)
      ∧ r.2.mem ((c.tc : Thread Cert.Keys.nD Cert.Keys.τ).loc Cert.Keys.main_arg4) = m ((c.tc : Thread Cert.Keys.nD Cert.Keys.τ).loc Cert.Keys.main_arg4)
      ∧ r.2.mem ((c.tc : Thread Cert.Keys.nD Cert.Keys.τ).loc Cert.Keys.main_arg5) = m ((c.tc : Thread Cert.Keys.nD Cert.Keys.τ).loc Cert.Keys.main_arg5))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
      ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3)
      ∧ r.2.mem ((c.tc : Thread Cert.KeysIdeal.nD Cert.KeysIdeal.τ).loc Cert.KeysIdeal.main_arg4) = m ((c.tc : Thread Cert.KeysIdeal.nD Cert.KeysIdeal.τ).loc Cert.KeysIdeal.main_arg4)
      ∧ r.2.mem ((c.tc : Thread Cert.KeysIdeal.nD Cert.KeysIdeal.τ).loc Cert.KeysIdeal.main_arg5) = m ((c.tc : Thread Cert.KeysIdeal.nD Cert.KeysIdeal.τ).loc Cert.KeysIdeal.main_arg5))
      ∧ r.2.sem = fun _ => 0)

def quiescent_KeysReferenceIdeal [hKeysReferenceIdeal : Cert.KeysReferenceIdeal.Facts] : Prop :=
  ∀ (m : (ℓ : Loc Cert.KeysReferenceIdeal.nD Cert.KeysReferenceIdeal.τ Cert.KeysReferenceIdeal.sig) → Buf (Elt Ideal) ℓ) (g : Dev Cert.KeysReferenceIdeal.nD → PrngReg), Pre_KeysReferenceIdeal m →
    θ_run (Cert.KeysReferenceIdeal.defs (F := Ideal)) (onTc (τ := Cert.KeysReferenceIdeal.τ) (Cert.KeysReferenceIdeal.main (F := Ideal))) ⟨m, fun _ => 0, g⟩ (fun r => (∀ c : Dev Cert.KeysReferenceIdeal.nD,
      r.2.mem ((c.tc : Thread Cert.KeysReferenceIdeal.nD Cert.KeysReferenceIdeal.τ).loc Cert.KeysReferenceIdeal.main_arg0) = m ((c.tc : Thread Cert.KeysReferenceIdeal.nD Cert.KeysReferenceIdeal.τ).loc Cert.KeysReferenceIdeal.main_arg0)
      ∧ r.2.mem ((c.tc : Thread Cert.KeysReferenceIdeal.nD Cert.KeysReferenceIdeal.τ).loc Cert.KeysReferenceIdeal.main_arg1) = m ((c.tc : Thread Cert.KeysReferenceIdeal.nD Cert.KeysReferenceIdeal.τ).loc Cert.KeysReferenceIdeal.main_arg1)
      ∧ r.2.mem ((c.tc : Thread Cert.KeysReferenceIdeal.nD Cert.KeysReferenceIdeal.τ).loc Cert.KeysReferenceIdeal.main_arg2) = m ((c.tc : Thread Cert.KeysReferenceIdeal.nD Cert.KeysReferenceIdeal.τ).loc Cert.KeysReferenceIdeal.main_arg2)
      ∧ r.2.mem ((c.tc : Thread Cert.KeysReferenceIdeal.nD Cert.KeysReferenceIdeal.τ).loc Cert.KeysReferenceIdeal.main_arg3) = m ((c.tc : Thread Cert.KeysReferenceIdeal.nD Cert.KeysReferenceIdeal.τ).loc Cert.KeysReferenceIdeal.main_arg3)
      ∧ r.2.mem ((c.tc : Thread Cert.KeysReferenceIdeal.nD Cert.KeysReferenceIdeal.τ).loc Cert.KeysReferenceIdeal.main_arg4) = m ((c.tc : Thread Cert.KeysReferenceIdeal.nD Cert.KeysReferenceIdeal.τ).loc Cert.KeysReferenceIdeal.main_arg4)
      ∧ r.2.mem ((c.tc : Thread Cert.KeysReferenceIdeal.nD Cert.KeysReferenceIdeal.τ).loc Cert.KeysReferenceIdeal.main_arg5) = m ((c.tc : Thread Cert.KeysReferenceIdeal.nD Cert.KeysReferenceIdeal.τ).loc Cert.KeysReferenceIdeal.main_arg5))
      ∧ r.2.sem = fun _ => 0)

def quiescent_KeysSample [hKeysSample : Cert.KeysSample.Facts] : Prop :=
  ∀ (m : (ℓ : Loc Cert.KeysSample.nD Cert.KeysSample.τ Cert.KeysSample.sig) → Buf (Elt Bits) ℓ) (g : Dev Cert.KeysSample.nD → PrngReg), Pre_KeysSample m →
    θ_run (Cert.KeysSample.defs (F := Bits)) (onTc (τ := Cert.KeysSample.τ) (Cert.KeysSample.main (F := Bits))) ⟨m, fun _ => 0, g⟩ (fun r => (∀ c : Dev Cert.KeysSample.nD,
      r.2.mem ((c.tc : Thread Cert.KeysSample.nD Cert.KeysSample.τ).loc Cert.KeysSample.main_arg0) = m ((c.tc : Thread Cert.KeysSample.nD Cert.KeysSample.τ).loc Cert.KeysSample.main_arg0)
      ∧ r.2.mem ((c.tc : Thread Cert.KeysSample.nD Cert.KeysSample.τ).loc Cert.KeysSample.main_arg1) = m ((c.tc : Thread Cert.KeysSample.nD Cert.KeysSample.τ).loc Cert.KeysSample.main_arg1)
      ∧ r.2.mem ((c.tc : Thread Cert.KeysSample.nD Cert.KeysSample.τ).loc Cert.KeysSample.main_arg2) = m ((c.tc : Thread Cert.KeysSample.nD Cert.KeysSample.τ).loc Cert.KeysSample.main_arg2)
      ∧ r.2.mem ((c.tc : Thread Cert.KeysSample.nD Cert.KeysSample.τ).loc Cert.KeysSample.main_arg3) = m ((c.tc : Thread Cert.KeysSample.nD Cert.KeysSample.τ).loc Cert.KeysSample.main_arg3)
      ∧ r.2.mem ((c.tc : Thread Cert.KeysSample.nD Cert.KeysSample.τ).loc Cert.KeysSample.main_arg4) = m ((c.tc : Thread Cert.KeysSample.nD Cert.KeysSample.τ).loc Cert.KeysSample.main_arg4)
      ∧ r.2.mem ((c.tc : Thread Cert.KeysSample.nD Cert.KeysSample.τ).loc Cert.KeysSample.main_arg5) = m ((c.tc : Thread Cert.KeysSample.nD Cert.KeysSample.τ).loc Cert.KeysSample.main_arg5))
      ∧ r.2.sem = fun _ => 0)

def quiescent_KeysSampleIdeal [hKeysSampleIdeal : Cert.KeysSampleIdeal.Facts] : Prop :=
  ∀ (m : (ℓ : Loc Cert.KeysSampleIdeal.nD Cert.KeysSampleIdeal.τ Cert.KeysSampleIdeal.sig) → Buf (Elt Ideal) ℓ) (g : Dev Cert.KeysSampleIdeal.nD → PrngReg), Pre_KeysSampleIdeal m →
    θ_run (Cert.KeysSampleIdeal.defs (F := Ideal)) (onTc (τ := Cert.KeysSampleIdeal.τ) (Cert.KeysSampleIdeal.main (F := Ideal))) ⟨m, fun _ => 0, g⟩ (fun r => (∀ c : Dev Cert.KeysSampleIdeal.nD,
      r.2.mem ((c.tc : Thread Cert.KeysSampleIdeal.nD Cert.KeysSampleIdeal.τ).loc Cert.KeysSampleIdeal.main_arg0) = m ((c.tc : Thread Cert.KeysSampleIdeal.nD Cert.KeysSampleIdeal.τ).loc Cert.KeysSampleIdeal.main_arg0)
      ∧ r.2.mem ((c.tc : Thread Cert.KeysSampleIdeal.nD Cert.KeysSampleIdeal.τ).loc Cert.KeysSampleIdeal.main_arg1) = m ((c.tc : Thread Cert.KeysSampleIdeal.nD Cert.KeysSampleIdeal.τ).loc Cert.KeysSampleIdeal.main_arg1)
      ∧ r.2.mem ((c.tc : Thread Cert.KeysSampleIdeal.nD Cert.KeysSampleIdeal.τ).loc Cert.KeysSampleIdeal.main_arg2) = m ((c.tc : Thread Cert.KeysSampleIdeal.nD Cert.KeysSampleIdeal.τ).loc Cert.KeysSampleIdeal.main_arg2)
      ∧ r.2.mem ((c.tc : Thread Cert.KeysSampleIdeal.nD Cert.KeysSampleIdeal.τ).loc Cert.KeysSampleIdeal.main_arg3) = m ((c.tc : Thread Cert.KeysSampleIdeal.nD Cert.KeysSampleIdeal.τ).loc Cert.KeysSampleIdeal.main_arg3)
      ∧ r.2.mem ((c.tc : Thread Cert.KeysSampleIdeal.nD Cert.KeysSampleIdeal.τ).loc Cert.KeysSampleIdeal.main_arg4) = m ((c.tc : Thread Cert.KeysSampleIdeal.nD Cert.KeysSampleIdeal.τ).loc Cert.KeysSampleIdeal.main_arg4)
      ∧ r.2.mem ((c.tc : Thread Cert.KeysSampleIdeal.nD Cert.KeysSampleIdeal.τ).loc Cert.KeysSampleIdeal.main_arg5) = m ((c.tc : Thread Cert.KeysSampleIdeal.nD Cert.KeysSampleIdeal.τ).loc Cert.KeysSampleIdeal.main_arg5))
      ∧ r.2.sem = fun _ => 0)

def quiescent_KeysSampleReferenceIdeal [hKeysSampleReferenceIdeal : Cert.KeysSampleReferenceIdeal.Facts] : Prop :=
  ∀ (m : (ℓ : Loc Cert.KeysSampleReferenceIdeal.nD Cert.KeysSampleReferenceIdeal.τ Cert.KeysSampleReferenceIdeal.sig) → Buf (Elt Ideal) ℓ) (g : Dev Cert.KeysSampleReferenceIdeal.nD → PrngReg), Pre_KeysSampleReferenceIdeal m →
    θ_run (Cert.KeysSampleReferenceIdeal.defs (F := Ideal)) (onTc (τ := Cert.KeysSampleReferenceIdeal.τ) (Cert.KeysSampleReferenceIdeal.main (F := Ideal))) ⟨m, fun _ => 0, g⟩ (fun r => (∀ c : Dev Cert.KeysSampleReferenceIdeal.nD,
      r.2.mem ((c.tc : Thread Cert.KeysSampleReferenceIdeal.nD Cert.KeysSampleReferenceIdeal.τ).loc Cert.KeysSampleReferenceIdeal.main_arg0) = m ((c.tc : Thread Cert.KeysSampleReferenceIdeal.nD Cert.KeysSampleReferenceIdeal.τ).loc Cert.KeysSampleReferenceIdeal.main_arg0)
      ∧ r.2.mem ((c.tc : Thread Cert.KeysSampleReferenceIdeal.nD Cert.KeysSampleReferenceIdeal.τ).loc Cert.KeysSampleReferenceIdeal.main_arg1) = m ((c.tc : Thread Cert.KeysSampleReferenceIdeal.nD Cert.KeysSampleReferenceIdeal.τ).loc Cert.KeysSampleReferenceIdeal.main_arg1)
      ∧ r.2.mem ((c.tc : Thread Cert.KeysSampleReferenceIdeal.nD Cert.KeysSampleReferenceIdeal.τ).loc Cert.KeysSampleReferenceIdeal.main_arg2) = m ((c.tc : Thread Cert.KeysSampleReferenceIdeal.nD Cert.KeysSampleReferenceIdeal.τ).loc Cert.KeysSampleReferenceIdeal.main_arg2)
      ∧ r.2.mem ((c.tc : Thread Cert.KeysSampleReferenceIdeal.nD Cert.KeysSampleReferenceIdeal.τ).loc Cert.KeysSampleReferenceIdeal.main_arg3) = m ((c.tc : Thread Cert.KeysSampleReferenceIdeal.nD Cert.KeysSampleReferenceIdeal.τ).loc Cert.KeysSampleReferenceIdeal.main_arg3)
      ∧ r.2.mem ((c.tc : Thread Cert.KeysSampleReferenceIdeal.nD Cert.KeysSampleReferenceIdeal.τ).loc Cert.KeysSampleReferenceIdeal.main_arg4) = m ((c.tc : Thread Cert.KeysSampleReferenceIdeal.nD Cert.KeysSampleReferenceIdeal.τ).loc Cert.KeysSampleReferenceIdeal.main_arg4)
      ∧ r.2.mem ((c.tc : Thread Cert.KeysSampleReferenceIdeal.nD Cert.KeysSampleReferenceIdeal.τ).loc Cert.KeysSampleReferenceIdeal.main_arg5) = m ((c.tc : Thread Cert.KeysSampleReferenceIdeal.nD Cert.KeysSampleReferenceIdeal.τ).loc Cert.KeysSampleReferenceIdeal.main_arg5))
      ∧ r.2.sem = fun _ => 0)

def preserves_Kernel_KernelIdeal : Prop :=
  IdealRules.named_const.Statement Cert.KernelIdeal.κ "lg0" .f32 0xBD020AEC#32 ((Real.log (31 / 32) : ℝ) : EReal)
  ∧ IdealRules.named_const.Statement Cert.KernelIdeal.κ "lg4" .f32 0xBB00200B#32 ((Real.log (511 / 512) : ℝ) : EReal)
  ∧ IdealRules.named_const.Statement Cert.KernelIdeal.κ "lg1" .f32 0xBC8102B3#32 ((Real.log (63 / 64) : ℝ) : EReal)
  ∧ IdealRules.named_const.Statement Cert.KernelIdeal.κ "lg5" .f32 0xBA801003#32 ((Real.log (1023 / 1024) : ℝ) : EReal)
  ∧ IdealRules.named_const.Statement Cert.KernelIdeal.κ "lg2" .f32 0xBC0080AC#32 ((Real.log (127 / 128) : ℝ) : EReal)
  ∧ IdealRules.named_const.Statement Cert.KernelIdeal.κ "lg6" .f32 0xBA000801#32 ((Real.log (2047 / 2048) : ℝ) : EReal)
  ∧ IdealRules.named_const.Statement Cert.KernelIdeal.κ "lg3" .f32 0xBB80402B#32 ((Real.log (255 / 256) : ℝ) : EReal)
  ∧ IdealRules.named_const.Statement Cert.KernelIdeal.κ "lg7" .f32 0xB9800400#32 ((Real.log (4095 / 4096) : ℝ) : EReal)

def algebraic_KernelIdeal_ReferenceIdeal_on_prompt_rows_pre_finite_qkv [hKernelIdeal : Cert.KernelIdeal.Facts] [hReferenceIdeal : Cert.ReferenceIdeal.Facts] [hPre_finite_qkv : Cert.Pre_finite_qkv.Facts] [hOn_prompt_rows : Cert.On_prompt_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8320, 1024]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v29_0) i = v0 c i)
          ∧ (∀ i : (⟨4, ![4, 8, 128, 128]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.KernelIdeal.nD Cert.KernelIdeal.τ).loc Cert.KernelIdeal.main_v29_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8320, 1024]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v145) i = v0 c i)
          ∧ (∀ i : (⟨4, ![4, 8, 128, 128]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 i = 1#1 → r.2.mem ((c.tc : Thread Cert.ReferenceIdeal.nD Cert.ReferenceIdeal.τ).loc Cert.ReferenceIdeal.main_v120_8) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)
      ∧ m' ((c.tc : Thread Cert.UpReferenceIdeal.nD Cert.UpReferenceIdeal.τ).loc Cert.UpReferenceIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v6_0)) (v1 : (c : Dev Cert.UpIdeal.nD) → Buf (Elt Ideal) ((c.tc : Thread Cert.UpIdeal.nD Cert.UpIdeal.τ).loc Cert.UpIdeal.main_v6_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v6_0) = v0 c
          ∧ r.2.mem ((c.tc : Thread Cert.UpIdeal.nD Cert.UpIdeal.τ).loc Cert.UpIdeal.main_v6_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v51) = v0 c
          ∧ r.2.mem ((c.tc : Thread Cert.UpReferenceIdeal.nD Cert.UpReferenceIdeal.τ).loc Cert.UpReferenceIdeal.main_v54) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v9)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v9) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v15) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def preserves_Feed_FeedIdeal : Prop :=
  True

def algebraic_FeedIdeal_FeedReferenceIdeal [hFeedIdeal : Cert.FeedIdeal.Facts] [hFeedReferenceIdeal : Cert.FeedReferenceIdeal.Facts] : Prop :=
  ∀ (m : (ℓ : Loc Cert.FeedIdeal.nD Cert.FeedIdeal.τ Cert.FeedIdeal.sig) → Buf (Elt Ideal) ℓ) (g : Dev Cert.FeedIdeal.nD → PrngReg)
    (m' : (ℓ : Loc Cert.FeedReferenceIdeal.nD Cert.FeedReferenceIdeal.τ Cert.FeedReferenceIdeal.sig) → Buf (Elt Ideal) ℓ) (g' : Dev Cert.FeedReferenceIdeal.nD → PrngReg), Pre_FeedIdeal m →
    (∀ c : Dev Cert.FeedIdeal.nD,
      m' ((c.tc : Thread Cert.FeedReferenceIdeal.nD Cert.FeedReferenceIdeal.τ).loc Cert.FeedReferenceIdeal.main_arg0) = m ((c.tc : Thread Cert.FeedIdeal.nD Cert.FeedIdeal.τ).loc Cert.FeedIdeal.main_arg0)
      ∧ m' ((c.tc : Thread Cert.FeedReferenceIdeal.nD Cert.FeedReferenceIdeal.τ).loc Cert.FeedReferenceIdeal.main_arg1) = m ((c.tc : Thread Cert.FeedIdeal.nD Cert.FeedIdeal.τ).loc Cert.FeedIdeal.main_arg1)
      ∧ m' ((c.tc : Thread Cert.FeedReferenceIdeal.nD Cert.FeedReferenceIdeal.τ).loc Cert.FeedReferenceIdeal.main_arg2) = m ((c.tc : Thread Cert.FeedIdeal.nD Cert.FeedIdeal.τ).loc Cert.FeedIdeal.main_arg2)
      ∧ m' ((c.tc : Thread Cert.FeedReferenceIdeal.nD Cert.FeedReferenceIdeal.τ).loc Cert.FeedReferenceIdeal.main_arg3) = m ((c.tc : Thread Cert.FeedIdeal.nD Cert.FeedIdeal.τ).loc Cert.FeedIdeal.main_arg3)
      ∧ m' ((c.tc : Thread Cert.FeedReferenceIdeal.nD Cert.FeedReferenceIdeal.τ).loc Cert.FeedReferenceIdeal.main_arg4) = m ((c.tc : Thread Cert.FeedIdeal.nD Cert.FeedIdeal.τ).loc Cert.FeedIdeal.main_arg4)
      ∧ m' ((c.tc : Thread Cert.FeedReferenceIdeal.nD Cert.FeedReferenceIdeal.τ).loc Cert.FeedReferenceIdeal.main_arg5) = m ((c.tc : Thread Cert.FeedIdeal.nD Cert.FeedIdeal.τ).loc Cert.FeedIdeal.main_arg5)) →
    ∃ (v0 : (c : Dev Cert.FeedIdeal.nD) → Buf (Elt Ideal) ((c.tc : Thread Cert.FeedIdeal.nD Cert.FeedIdeal.τ).loc Cert.FeedIdeal.main_v10_0)) (v1 : (c : Dev Cert.FeedIdeal.nD) → Buf (Elt Ideal) ((c.tc : Thread Cert.FeedIdeal.nD Cert.FeedIdeal.τ).loc Cert.FeedIdeal.main_v10_1)) (v2 : (c : Dev Cert.FeedIdeal.nD) → Buf (Elt Ideal) ((c.tc : Thread Cert.FeedIdeal.nD Cert.FeedIdeal.τ).loc Cert.FeedIdeal.main_v10_2)),
      θ_run (Cert.FeedIdeal.defs (F := Ideal)) (onTc (τ := Cert.FeedIdeal.τ) (Cert.FeedIdeal.main (F := Ideal))) ⟨m, fun _ => 0, g⟩ (fun r => ∀ c : Dev Cert.FeedIdeal.nD,
          r.2.mem ((c.tc : Thread Cert.FeedIdeal.nD Cert.FeedIdeal.τ).loc Cert.FeedIdeal.main_v10_0) = v0 c
          ∧ r.2.mem ((c.tc : Thread Cert.FeedIdeal.nD Cert.FeedIdeal.τ).loc Cert.FeedIdeal.main_v10_1) = v1 c
          ∧ r.2.mem ((c.tc : Thread Cert.FeedIdeal.nD Cert.FeedIdeal.τ).loc Cert.FeedIdeal.main_v10_2) = v2 c
          ∧ r.2.mem ((c.tc : Thread Cert.FeedIdeal.nD Cert.FeedIdeal.τ).loc Cert.FeedIdeal.main_arg0) = m ((c.tc : Thread Cert.FeedIdeal.nD Cert.FeedIdeal.τ).loc Cert.FeedIdeal.main_arg0)
          ∧ r.2.mem ((c.tc : Thread Cert.FeedIdeal.nD Cert.FeedIdeal.τ).loc Cert.FeedIdeal.main_arg1) = m ((c.tc : Thread Cert.FeedIdeal.nD Cert.FeedIdeal.τ).loc Cert.FeedIdeal.main_arg1)
          ∧ r.2.mem ((c.tc : Thread Cert.FeedIdeal.nD Cert.FeedIdeal.τ).loc Cert.FeedIdeal.main_arg2) = m ((c.tc : Thread Cert.FeedIdeal.nD Cert.FeedIdeal.τ).loc Cert.FeedIdeal.main_arg2)
          ∧ r.2.mem ((c.tc : Thread Cert.FeedIdeal.nD Cert.FeedIdeal.τ).loc Cert.FeedIdeal.main_arg3) = m ((c.tc : Thread Cert.FeedIdeal.nD Cert.FeedIdeal.τ).loc Cert.FeedIdeal.main_arg3)
          ∧ r.2.mem ((c.tc : Thread Cert.FeedIdeal.nD Cert.FeedIdeal.τ).loc Cert.FeedIdeal.main_arg4) = m ((c.tc : Thread Cert.FeedIdeal.nD Cert.FeedIdeal.τ).loc Cert.FeedIdeal.main_arg4)
          ∧ r.2.mem ((c.tc : Thread Cert.FeedIdeal.nD Cert.FeedIdeal.τ).loc Cert.FeedIdeal.main_arg5) = m ((c.tc : Thread Cert.FeedIdeal.nD Cert.FeedIdeal.τ).loc Cert.FeedIdeal.main_arg5))
      ∧ θ_run (Cert.FeedReferenceIdeal.defs (F := Ideal)) (onTc (τ := Cert.FeedReferenceIdeal.τ) (Cert.FeedReferenceIdeal.main (F := Ideal))) ⟨m', fun _ => 0, g'⟩ (fun r => ∀ c : Dev Cert.FeedReferenceIdeal.nD,
          r.2.mem ((c.tc : Thread Cert.FeedReferenceIdeal.nD Cert.FeedReferenceIdeal.τ).loc Cert.FeedReferenceIdeal.main_v33) = v0 c
          ∧ r.2.mem ((c.tc : Thread Cert.FeedReferenceIdeal.nD Cert.FeedReferenceIdeal.τ).loc Cert.FeedReferenceIdeal.main_v37) = v1 c
          ∧ r.2.mem ((c.tc : Thread Cert.FeedReferenceIdeal.nD Cert.FeedReferenceIdeal.τ).loc Cert.FeedReferenceIdeal.main_v42) = v2 c
          ∧ r.2.mem ((c.tc : Thread Cert.FeedReferenceIdeal.nD Cert.FeedReferenceIdeal.τ).loc Cert.FeedReferenceIdeal.main_arg0) = m' ((c.tc : Thread Cert.FeedReferenceIdeal.nD Cert.FeedReferenceIdeal.τ).loc Cert.FeedReferenceIdeal.main_arg0)
          ∧ r.2.mem ((c.tc : Thread Cert.FeedReferenceIdeal.nD Cert.FeedReferenceIdeal.τ).loc Cert.FeedReferenceIdeal.main_arg1) = m' ((c.tc : Thread Cert.FeedReferenceIdeal.nD Cert.FeedReferenceIdeal.τ).loc Cert.FeedReferenceIdeal.main_arg1)
          ∧ r.2.mem ((c.tc : Thread Cert.FeedReferenceIdeal.nD Cert.FeedReferenceIdeal.τ).loc Cert.FeedReferenceIdeal.main_arg2) = m' ((c.tc : Thread Cert.FeedReferenceIdeal.nD Cert.FeedReferenceIdeal.τ).loc Cert.FeedReferenceIdeal.main_arg2)
          ∧ r.2.mem ((c.tc : Thread Cert.FeedReferenceIdeal.nD Cert.FeedReferenceIdeal.τ).loc Cert.FeedReferenceIdeal.main_arg3) = m' ((c.tc : Thread Cert.FeedReferenceIdeal.nD Cert.FeedReferenceIdeal.τ).loc Cert.FeedReferenceIdeal.main_arg3)
          ∧ r.2.mem ((c.tc : Thread Cert.FeedReferenceIdeal.nD Cert.FeedReferenceIdeal.τ).loc Cert.FeedReferenceIdeal.main_arg4) = m' ((c.tc : Thread Cert.FeedReferenceIdeal.nD Cert.FeedReferenceIdeal.τ).loc Cert.FeedReferenceIdeal.main_arg4)
          ∧ r.2.mem ((c.tc : Thread Cert.FeedReferenceIdeal.nD Cert.FeedReferenceIdeal.τ).loc Cert.FeedReferenceIdeal.main_arg5) = m' ((c.tc : Thread Cert.FeedReferenceIdeal.nD Cert.FeedReferenceIdeal.τ).loc Cert.FeedReferenceIdeal.main_arg5))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v15)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v15) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v46) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v29)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v29) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v75) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v10_0)) (v1 : (c : Dev Cert.OutIdeal.nD) → Buf (Elt Ideal) ((c.tc : Thread Cert.OutIdeal.nD Cert.OutIdeal.τ).loc Cert.OutIdeal.main_v10_1)) (v2 : (c : Dev Cert.OutIdeal.nD) → Buf (Elt Ideal) ((c.tc : Thread Cert.OutIdeal.nD Cert.OutIdeal.τ).loc Cert.OutIdeal.main_v10_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v10_0) = v0 c
          ∧ r.2.mem ((c.tc : Thread Cert.OutIdeal.nD Cert.OutIdeal.τ).loc Cert.OutIdeal.main_v10_1) = v1 c
          ∧ r.2.mem ((c.tc : Thread Cert.OutIdeal.nD Cert.OutIdeal.τ).loc Cert.OutIdeal.main_v10_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v31) = v0 c
          ∧ r.2.mem ((c.tc : Thread Cert.OutReferenceIdeal.nD Cert.OutReferenceIdeal.τ).loc Cert.OutReferenceIdeal.main_v35) = v1 c
          ∧ r.2.mem ((c.tc : Thread Cert.OutReferenceIdeal.nD Cert.OutReferenceIdeal.τ).loc Cert.OutReferenceIdeal.main_v40) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_Keys_KeysIdeal : Prop :=
  True

def algebraic_KeysIdeal_KeysReferenceIdeal [hKeysIdeal : Cert.KeysIdeal.Facts] [hKeysReferenceIdeal : Cert.KeysReferenceIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysReferenceIdeal.nD Cert.KeysReferenceIdeal.τ Cert.KeysReferenceIdeal.sig) → Buf (Elt Ideal) ℓ) (g' : Dev Cert.KeysReferenceIdeal.nD → PrngReg), Pre_KeysIdeal m →
    (∀ c : Dev Cert.KeysIdeal.nD,
      m' ((c.tc : Thread Cert.KeysReferenceIdeal.nD Cert.KeysReferenceIdeal.τ).loc Cert.KeysReferenceIdeal.main_arg0) = m ((c.tc : Thread Cert.KeysIdeal.nD Cert.KeysIdeal.τ).loc Cert.KeysIdeal.main_arg0)
      ∧ m' ((c.tc : Thread Cert.KeysReferenceIdeal.nD Cert.KeysReferenceIdeal.τ).loc Cert.KeysReferenceIdeal.main_arg1) = m ((c.tc : Thread Cert.KeysIdeal.nD Cert.KeysIdeal.τ).loc Cert.KeysIdeal.main_arg1)
      ∧ m' ((c.tc : Thread Cert.KeysReferenceIdeal.nD Cert.KeysReferenceIdeal.τ).loc Cert.KeysReferenceIdeal.main_arg2) = m ((c.tc : Thread Cert.KeysIdeal.nD Cert.KeysIdeal.τ).loc Cert.KeysIdeal.main_arg2)
      ∧ m' ((c.tc : Thread Cert.KeysReferenceIdeal.nD Cert.KeysReferenceIdeal.τ).loc Cert.KeysReferenceIdeal.main_arg3) = m ((c.tc : Thread Cert.KeysIdeal.nD Cert.KeysIdeal.τ).loc Cert.KeysIdeal.main_arg3)
      ∧ m' ((c.tc : Thread Cert.KeysReferenceIdeal.nD Cert.KeysReferenceIdeal.τ).loc Cert.KeysReferenceIdeal.main_arg4) = m ((c.tc : Thread Cert.KeysIdeal.nD Cert.KeysIdeal.τ).loc Cert.KeysIdeal.main_arg4)
      ∧ m' ((c.tc : Thread Cert.KeysReferenceIdeal.nD Cert.KeysReferenceIdeal.τ).loc Cert.KeysReferenceIdeal.main_arg5) = m ((c.tc : Thread Cert.KeysIdeal.nD Cert.KeysIdeal.τ).loc Cert.KeysIdeal.main_arg5)) →
    ∃ (v0 : (c : Dev Cert.KeysIdeal.nD) → Buf (Elt Ideal) ((c.tc : Thread Cert.KeysIdeal.nD Cert.KeysIdeal.τ).loc Cert.KeysIdeal.main_v62_1)) (v1 : (c : Dev Cert.KeysIdeal.nD) → Buf (Elt Ideal) ((c.tc : Thread Cert.KeysIdeal.nD Cert.KeysIdeal.τ).loc Cert.KeysIdeal.main_v62_2)) (v2 : (c : Dev Cert.KeysIdeal.nD) → Buf (Elt Ideal) ((c.tc : Thread Cert.KeysIdeal.nD Cert.KeysIdeal.τ).loc Cert.KeysIdeal.main_v62_6)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v62_1) = v0 c
          ∧ r.2.mem ((c.tc : Thread Cert.KeysIdeal.nD Cert.KeysIdeal.τ).loc Cert.KeysIdeal.main_v62_2) = v1 c
          ∧ r.2.mem ((c.tc : Thread Cert.KeysIdeal.nD Cert.KeysIdeal.τ).loc Cert.KeysIdeal.main_v62_6) = v2 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2)
          ∧ r.2.mem ((c.tc : Thread Cert.KeysIdeal.nD Cert.KeysIdeal.τ).loc Cert.KeysIdeal.main_arg3) = m ((c.tc : Thread Cert.KeysIdeal.nD Cert.KeysIdeal.τ).loc Cert.KeysIdeal.main_arg3)
          ∧ r.2.mem ((c.tc : Thread Cert.KeysIdeal.nD Cert.KeysIdeal.τ).loc Cert.KeysIdeal.main_arg4) = m ((c.tc : Thread Cert.KeysIdeal.nD Cert.KeysIdeal.τ).loc Cert.KeysIdeal.main_arg4)
          ∧ r.2.mem ((c.tc : Thread Cert.KeysIdeal.nD Cert.KeysIdeal.τ).loc Cert.KeysIdeal.main_arg5) = m ((c.tc : Thread Cert.KeysIdeal.nD Cert.KeysIdeal.τ).loc Cert.KeysIdeal.main_arg5))
      ∧ θ_run (Cert.KeysReferenceIdeal.defs (F := Ideal)) (onTc (τ := Cert.KeysReferenceIdeal.τ) (Cert.KeysReferenceIdeal.main (F := Ideal))) ⟨m', fun _ => 0, g'⟩ (fun r => ∀ c : Dev Cert.KeysReferenceIdeal.nD,
          r.2.mem ((c.tc : Thread Cert.KeysReferenceIdeal.nD Cert.KeysReferenceIdeal.τ).loc Cert.KeysReferenceIdeal.main_v128) = v0 c
          ∧ r.2.mem ((c.tc : Thread Cert.KeysReferenceIdeal.nD Cert.KeysReferenceIdeal.τ).loc Cert.KeysReferenceIdeal.main_v129) = v1 c
          ∧ r.2.mem ((c.tc : Thread Cert.KeysReferenceIdeal.nD Cert.KeysReferenceIdeal.τ).loc Cert.KeysReferenceIdeal.main_v130) = v2 c
          ∧ r.2.mem ((c.tc : Thread Cert.KeysReferenceIdeal.nD Cert.KeysReferenceIdeal.τ).loc Cert.KeysReferenceIdeal.main_arg0) = m' ((c.tc : Thread Cert.KeysReferenceIdeal.nD Cert.KeysReferenceIdeal.τ).loc Cert.KeysReferenceIdeal.main_arg0)
          ∧ r.2.mem ((c.tc : Thread Cert.KeysReferenceIdeal.nD Cert.KeysReferenceIdeal.τ).loc Cert.KeysReferenceIdeal.main_arg1) = m' ((c.tc : Thread Cert.KeysReferenceIdeal.nD Cert.KeysReferenceIdeal.τ).loc Cert.KeysReferenceIdeal.main_arg1)
          ∧ r.2.mem ((c.tc : Thread Cert.KeysReferenceIdeal.nD Cert.KeysReferenceIdeal.τ).loc Cert.KeysReferenceIdeal.main_arg2) = m' ((c.tc : Thread Cert.KeysReferenceIdeal.nD Cert.KeysReferenceIdeal.τ).loc Cert.KeysReferenceIdeal.main_arg2)
          ∧ r.2.mem ((c.tc : Thread Cert.KeysReferenceIdeal.nD Cert.KeysReferenceIdeal.τ).loc Cert.KeysReferenceIdeal.main_arg3) = m' ((c.tc : Thread Cert.KeysReferenceIdeal.nD Cert.KeysReferenceIdeal.τ).loc Cert.KeysReferenceIdeal.main_arg3)
          ∧ r.2.mem ((c.tc : Thread Cert.KeysReferenceIdeal.nD Cert.KeysReferenceIdeal.τ).loc Cert.KeysReferenceIdeal.main_arg4) = m' ((c.tc : Thread Cert.KeysReferenceIdeal.nD Cert.KeysReferenceIdeal.τ).loc Cert.KeysReferenceIdeal.main_arg4)
          ∧ r.2.mem ((c.tc : Thread Cert.KeysReferenceIdeal.nD Cert.KeysReferenceIdeal.τ).loc Cert.KeysReferenceIdeal.main_arg5) = m' ((c.tc : Thread Cert.KeysReferenceIdeal.nD Cert.KeysReferenceIdeal.τ).loc Cert.KeysReferenceIdeal.main_arg5))

def preserves_KeysSample_KeysSampleIdeal : Prop :=
  True

def algebraic_KeysSampleIdeal_KeysSampleReferenceIdeal [hKeysSampleIdeal : Cert.KeysSampleIdeal.Facts] [hKeysSampleReferenceIdeal : Cert.KeysSampleReferenceIdeal.Facts] : Prop :=
  ∀ (m : (ℓ : Loc Cert.KeysSampleIdeal.nD Cert.KeysSampleIdeal.τ Cert.KeysSampleIdeal.sig) → Buf (Elt Ideal) ℓ) (g : Dev Cert.KeysSampleIdeal.nD → PrngReg)
    (m' : (ℓ : Loc Cert.KeysSampleReferenceIdeal.nD Cert.KeysSampleReferenceIdeal.τ Cert.KeysSampleReferenceIdeal.sig) → Buf (Elt Ideal) ℓ) (g' : Dev Cert.KeysSampleReferenceIdeal.nD → PrngReg), Pre_KeysSampleIdeal m →
    (∀ c : Dev Cert.KeysSampleIdeal.nD,
      m' ((c.tc : Thread Cert.KeysSampleReferenceIdeal.nD Cert.KeysSampleReferenceIdeal.τ).loc Cert.KeysSampleReferenceIdeal.main_arg0) = m ((c.tc : Thread Cert.KeysSampleIdeal.nD Cert.KeysSampleIdeal.τ).loc Cert.KeysSampleIdeal.main_arg0)
      ∧ m' ((c.tc : Thread Cert.KeysSampleReferenceIdeal.nD Cert.KeysSampleReferenceIdeal.τ).loc Cert.KeysSampleReferenceIdeal.main_arg1) = m ((c.tc : Thread Cert.KeysSampleIdeal.nD Cert.KeysSampleIdeal.τ).loc Cert.KeysSampleIdeal.main_arg1)
      ∧ m' ((c.tc : Thread Cert.KeysSampleReferenceIdeal.nD Cert.KeysSampleReferenceIdeal.τ).loc Cert.KeysSampleReferenceIdeal.main_arg2) = m ((c.tc : Thread Cert.KeysSampleIdeal.nD Cert.KeysSampleIdeal.τ).loc Cert.KeysSampleIdeal.main_arg2)
      ∧ m' ((c.tc : Thread Cert.KeysSampleReferenceIdeal.nD Cert.KeysSampleReferenceIdeal.τ).loc Cert.KeysSampleReferenceIdeal.main_arg3) = m ((c.tc : Thread Cert.KeysSampleIdeal.nD Cert.KeysSampleIdeal.τ).loc Cert.KeysSampleIdeal.main_arg3)
      ∧ m' ((c.tc : Thread Cert.KeysSampleReferenceIdeal.nD Cert.KeysSampleReferenceIdeal.τ).loc Cert.KeysSampleReferenceIdeal.main_arg4) = m ((c.tc : Thread Cert.KeysSampleIdeal.nD Cert.KeysSampleIdeal.τ).loc Cert.KeysSampleIdeal.main_arg4)
      ∧ m' ((c.tc : Thread Cert.KeysSampleReferenceIdeal.nD Cert.KeysSampleReferenceIdeal.τ).loc Cert.KeysSampleReferenceIdeal.main_arg5) = m ((c.tc : Thread Cert.KeysSampleIdeal.nD Cert.KeysSampleIdeal.τ).loc Cert.KeysSampleIdeal.main_arg5)) →
    ∃ (v0 : (c : Dev Cert.KeysSampleIdeal.nD) → Buf (Elt Ideal) ((c.tc : Thread Cert.KeysSampleIdeal.nD Cert.KeysSampleIdeal.τ).loc Cert.KeysSampleIdeal.main_v63_1)) (v1 : (c : Dev Cert.KeysSampleIdeal.nD) → Buf (Elt Ideal) ((c.tc : Thread Cert.KeysSampleIdeal.nD Cert.KeysSampleIdeal.τ).loc Cert.KeysSampleIdeal.main_v63_2)) (v2 : (c : Dev Cert.KeysSampleIdeal.nD) → Buf (Elt Ideal) ((c.tc : Thread Cert.KeysSampleIdeal.nD Cert.KeysSampleIdeal.τ).loc Cert.KeysSampleIdeal.main_v63_6)),
      θ_run (Cert.KeysSampleIdeal.defs (F := Ideal)) (onTc (τ := Cert.KeysSampleIdeal.τ) (Cert.KeysSampleIdeal.main (F := Ideal))) ⟨m, fun _ => 0, g⟩ (fun r => ∀ c : Dev Cert.KeysSampleIdeal.nD,
          r.2.mem ((c.tc : Thread Cert.KeysSampleIdeal.nD Cert.KeysSampleIdeal.τ).loc Cert.KeysSampleIdeal.main_v63_1) = v0 c
          ∧ r.2.mem ((c.tc : Thread Cert.KeysSampleIdeal.nD Cert.KeysSampleIdeal.τ).loc Cert.KeysSampleIdeal.main_v63_2) = v1 c
          ∧ r.2.mem ((c.tc : Thread Cert.KeysSampleIdeal.nD Cert.KeysSampleIdeal.τ).loc Cert.KeysSampleIdeal.main_v63_6) = v2 c
          ∧ r.2.mem ((c.tc : Thread Cert.KeysSampleIdeal.nD Cert.KeysSampleIdeal.τ).loc Cert.KeysSampleIdeal.main_arg0) = m ((c.tc : Thread Cert.KeysSampleIdeal.nD Cert.KeysSampleIdeal.τ).loc Cert.KeysSampleIdeal.main_arg0)
          ∧ r.2.mem ((c.tc : Thread Cert.KeysSampleIdeal.nD Cert.KeysSampleIdeal.τ).loc Cert.KeysSampleIdeal.main_arg1) = m ((c.tc : Thread Cert.KeysSampleIdeal.nD Cert.KeysSampleIdeal.τ).loc Cert.KeysSampleIdeal.main_arg1)
          ∧ r.2.mem ((c.tc : Thread Cert.KeysSampleIdeal.nD Cert.KeysSampleIdeal.τ).loc Cert.KeysSampleIdeal.main_arg2) = m ((c.tc : Thread Cert.KeysSampleIdeal.nD Cert.KeysSampleIdeal.τ).loc Cert.KeysSampleIdeal.main_arg2)
          ∧ r.2.mem ((c.tc : Thread Cert.KeysSampleIdeal.nD Cert.KeysSampleIdeal.τ).loc Cert.KeysSampleIdeal.main_arg3) = m ((c.tc : Thread Cert.KeysSampleIdeal.nD Cert.KeysSampleIdeal.τ).loc Cert.KeysSampleIdeal.main_arg3)
          ∧ r.2.mem ((c.tc : Thread Cert.KeysSampleIdeal.nD Cert.KeysSampleIdeal.τ).loc Cert.KeysSampleIdeal.main_arg4) = m ((c.tc : Thread Cert.KeysSampleIdeal.nD Cert.KeysSampleIdeal.τ).loc Cert.KeysSampleIdeal.main_arg4)
          ∧ r.2.mem ((c.tc : Thread Cert.KeysSampleIdeal.nD Cert.KeysSampleIdeal.τ).loc Cert.KeysSampleIdeal.main_arg5) = m ((c.tc : Thread Cert.KeysSampleIdeal.nD Cert.KeysSampleIdeal.τ).loc Cert.KeysSampleIdeal.main_arg5))
      ∧ θ_run (Cert.KeysSampleReferenceIdeal.defs (F := Ideal)) (onTc (τ := Cert.KeysSampleReferenceIdeal.τ) (Cert.KeysSampleReferenceIdeal.main (F := Ideal))) ⟨m', fun _ => 0, g'⟩ (fun r => ∀ c : Dev Cert.KeysSampleReferenceIdeal.nD,
          r.2.mem ((c.tc : Thread Cert.KeysSampleReferenceIdeal.nD Cert.KeysSampleReferenceIdeal.τ).loc Cert.KeysSampleReferenceIdeal.main_v128) = v0 c
          ∧ r.2.mem ((c.tc : Thread Cert.KeysSampleReferenceIdeal.nD Cert.KeysSampleReferenceIdeal.τ).loc Cert.KeysSampleReferenceIdeal.main_v129) = v1 c
          ∧ r.2.mem ((c.tc : Thread Cert.KeysSampleReferenceIdeal.nD Cert.KeysSampleReferenceIdeal.τ).loc Cert.KeysSampleReferenceIdeal.main_v130) = v2 c
          ∧ r.2.mem ((c.tc : Thread Cert.KeysSampleReferenceIdeal.nD Cert.KeysSampleReferenceIdeal.τ).loc Cert.KeysSampleReferenceIdeal.main_arg0) = m' ((c.tc : Thread Cert.KeysSampleReferenceIdeal.nD Cert.KeysSampleReferenceIdeal.τ).loc Cert.KeysSampleReferenceIdeal.main_arg0)
          ∧ r.2.mem ((c.tc : Thread Cert.KeysSampleReferenceIdeal.nD Cert.KeysSampleReferenceIdeal.τ).loc Cert.KeysSampleReferenceIdeal.main_arg1) = m' ((c.tc : Thread Cert.KeysSampleReferenceIdeal.nD Cert.KeysSampleReferenceIdeal.τ).loc Cert.KeysSampleReferenceIdeal.main_arg1)
          ∧ r.2.mem ((c.tc : Thread Cert.KeysSampleReferenceIdeal.nD Cert.KeysSampleReferenceIdeal.τ).loc Cert.KeysSampleReferenceIdeal.main_arg2) = m' ((c.tc : Thread Cert.KeysSampleReferenceIdeal.nD Cert.KeysSampleReferenceIdeal.τ).loc Cert.KeysSampleReferenceIdeal.main_arg2)
          ∧ r.2.mem ((c.tc : Thread Cert.KeysSampleReferenceIdeal.nD Cert.KeysSampleReferenceIdeal.τ).loc Cert.KeysSampleReferenceIdeal.main_arg3) = m' ((c.tc : Thread Cert.KeysSampleReferenceIdeal.nD Cert.KeysSampleReferenceIdeal.τ).loc Cert.KeysSampleReferenceIdeal.main_arg3)
          ∧ r.2.mem ((c.tc : Thread Cert.KeysSampleReferenceIdeal.nD Cert.KeysSampleReferenceIdeal.τ).loc Cert.KeysSampleReferenceIdeal.main_arg4) = m' ((c.tc : Thread Cert.KeysSampleReferenceIdeal.nD Cert.KeysSampleReferenceIdeal.τ).loc Cert.KeysSampleReferenceIdeal.main_arg4)
          ∧ r.2.mem ((c.tc : Thread Cert.KeysSampleReferenceIdeal.nD Cert.KeysSampleReferenceIdeal.τ).loc Cert.KeysSampleReferenceIdeal.main_arg5) = m' ((c.tc : Thread Cert.KeysSampleReferenceIdeal.nD Cert.KeysSampleReferenceIdeal.τ).loc Cert.KeysSampleReferenceIdeal.main_arg5))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hFeed : Cert.Feed.Facts) (hFeedIdeal : Cert.FeedIdeal.Facts) (hFeedReferenceIdeal : Cert.FeedReferenceIdeal.Facts) (hProj : Cert.Proj.Facts) (hProjIdeal : Cert.ProjIdeal.Facts) (hProjReferenceIdeal : Cert.ProjReferenceIdeal.Facts) (hMerge : Cert.Merge.Facts) (hMergeIdeal : Cert.MergeIdeal.Facts) (hMergeReferenceIdeal : Cert.MergeReferenceIdeal.Facts) (hOut : Cert.Out.Facts) (hOutIdeal : Cert.OutIdeal.Facts) (hOutReferenceIdeal : Cert.OutReferenceIdeal.Facts) (hKeys : Cert.Keys.Facts) (hKeysIdeal : Cert.KeysIdeal.Facts) (hKeysReferenceIdeal : Cert.KeysReferenceIdeal.Facts) (hKeysSample : Cert.KeysSample.Facts) (hKeysSampleIdeal : Cert.KeysSampleIdeal.Facts) (hKeysSampleReferenceIdeal : Cert.KeysSampleReferenceIdeal.Facts) (hPre_finite_qkv : Cert.Pre_finite_qkv.Facts) (hOn_prompt_rows : Cert.On_prompt_rows.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Feed (hFeed := hFeed)
    ∧ quiescent_FeedIdeal (hFeedIdeal := hFeedIdeal)
    ∧ quiescent_FeedReferenceIdeal (hFeedReferenceIdeal := hFeedReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Out (hOut := hOut)
    ∧ quiescent_OutIdeal (hOutIdeal := hOutIdeal)
    ∧ quiescent_OutReferenceIdeal (hOutReferenceIdeal := hOutReferenceIdeal)
    ∧ quiescent_Keys (hKeys := hKeys)
    ∧ quiescent_KeysIdeal (hKeysIdeal := hKeysIdeal)
    ∧ quiescent_KeysReferenceIdeal (hKeysReferenceIdeal := hKeysReferenceIdeal)
    ∧ quiescent_KeysSample (hKeysSample := hKeysSample)
    ∧ quiescent_KeysSampleIdeal (hKeysSampleIdeal := hKeysSampleIdeal)
    ∧ quiescent_KeysSampleReferenceIdeal (hKeysSampleReferenceIdeal := hKeysSampleReferenceIdeal)
    ∧ preserves_Kernel_KernelIdeal
    ∧ algebraic_KernelIdeal_ReferenceIdeal_on_prompt_rows_pre_finite_qkv (hKernelIdeal := hKernelIdeal) (hReferenceIdeal := hReferenceIdeal) (hPre_finite_qkv := hPre_finite_qkv) (hOn_prompt_rows := hOn_prompt_rows)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Feed_FeedIdeal
    ∧ algebraic_FeedIdeal_FeedReferenceIdeal (hFeedIdeal := hFeedIdeal) (hFeedReferenceIdeal := hFeedReferenceIdeal)
    ∧ preserves_Proj_ProjIdeal
    ∧ algebraic_ProjIdeal_ProjReferenceIdeal (hProjIdeal := hProjIdeal) (hProjReferenceIdeal := hProjReferenceIdeal)
    ∧ preserves_Merge_MergeIdeal
    ∧ algebraic_MergeIdeal_MergeReferenceIdeal (hMergeIdeal := hMergeIdeal) (hMergeReferenceIdeal := hMergeReferenceIdeal)
    ∧ preserves_Out_OutIdeal
    ∧ algebraic_OutIdeal_OutReferenceIdeal (hOutIdeal := hOutIdeal) (hOutReferenceIdeal := hOutReferenceIdeal)
    ∧ preserves_Keys_KeysIdeal
    ∧ algebraic_KeysIdeal_KeysReferenceIdeal (hKeysIdeal := hKeysIdeal) (hKeysReferenceIdeal := hKeysReferenceIdeal)
    ∧ preserves_KeysSample_KeysSampleIdeal
    ∧ algebraic_KeysSampleIdeal_KeysSampleReferenceIdeal (hKeysSampleIdeal := hKeysSampleIdeal) (hKeysSampleReferenceIdeal := hKeysSampleReferenceIdeal)
-- ==== On_prompt_rows.lean ====
abbrev S4x2048x1024 : Shape := ⟨3, ![4, 2048, 1024]⟩
abbrev S2x1024 : Shape := ⟨2, ![2, 1024]⟩
abbrev S8320x1024 : Shape := ⟨2, ![8320, 1024]⟩
abbrev S_ : Shape := ⟨0, ![]⟩
abbrev S4x8x128x128 : Shape := ⟨4, ![4, 8, 128, 128]⟩

class Facts : Prop where
  bcast_S_S8320x1024 : S_.BroadcastsInDim S8320x1024 (![] : Fin 0 → Fin S8320x1024.rank)
  bcast_S_S4x8x128x128 : S_.BroadcastsInDim S4x8x128x128 (![] : Fin 0 → Fin S4x8x128x128.rank)

variable [Facts]

def fn {F : FTy → Type} [FloatOps F] (main_arg0 : FVec F S4x2048x1024 .f32) (main_arg1 : FVec F S4x2048x1024 .f32) (main_arg2 : FVec F S4x2048x1024 .f32) (main_arg3 : FVec F S4x2048x1024 .f32) (main_arg4 : FVec F S2x1024 .f32) : IVec S8320x1024 1 × IVec S4x8x128x128 1 :=
  let main_v0 : IVec S8320x1024 32 := iotaInDim S8320x1024 32 0
  let main_c : IVec S_ 32 := constantI S_ 32 8192#32
  let main_v1 : IVec S8320x1024 32 := broadcastInDim S8320x1024 ![] bcast_S_S8320x1024 main_c
  let main_v2 : IVec S8320x1024 1 := cmpi .slt main_v0 main_v1
  let main_c_0 : IVec S_ 1 := constantI S_ 1 1#1
  let main_v3 : IVec S4x8x128x128 1 := broadcastInDim S4x8x128x128 ![] bcast_S_S4x8x128x128 main_c_0
  (main_v2, main_v3)
-- ==== Pre_finite_qkv.lean ====
abbrev S4x2048x1024 : Shape := ⟨3, ![4, 2048, 1024]⟩
abbrev S2x1024 : Shape := ⟨2, ![2, 1024]⟩
abbrev S_ : Shape := ⟨0, ![]⟩

class Facts : Prop where
  bcast_S_S4x2048x1024 : S_.BroadcastsInDim S4x2048x1024 (![] : Fin 0 → Fin S4x2048x1024.rank)

variable [Facts]

def fn {F : FTy → Type} [FloatOps F] (main_arg0 : FVec F S4x2048x1024 .f32) (main_arg1 : FVec F S4x2048x1024 .f32) (main_arg2 : FVec F S4x2048x1024 .f32) (main_arg3 : FVec F S4x2048x1024 .f32) (main_arg4 : FVec F S2x1024 .f32) : IVec S4x2048x1024 1 × IVec S4x2048x1024 1 × IVec S4x2048x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x2048x1024 .f32 := Host.absf main_arg1
  let main_cst_0 : FVec F S_ .f32 := constant S_ .f32 0x7F800000#32
  let main_v4 : FVec F S4x2048x1024 .f32 := broadcastInDim S4x2048x1024 ![] bcast_S_S4x2048x1024 main_cst_0
  let main_v5 : IVec S4x2048x1024 1 := cmpf .olt main_v3 main_v4
  let main_v6 : FVec F S4x2048x1024 .f32 := Host.absf main_arg2
  let main_cst_1 : FVec F S_ .f32 := constant S_ .f32 0x7F800000#32
  let main_v7 : FVec F S4x2048x1024 .f32 := broadcastInDim S4x2048x1024 ![] bcast_S_S4x2048x1024 main_cst_1
  let main_v8 : IVec S4x2048x1024 1 := cmpf .olt main_v6 main_v7
  (main_v2, main_v5, main_v8)
-- ==== Kernel.lean ====
abbrev S4x2048x1024 : Shape := ⟨3, ![4, 2048, 1024]⟩
abbrev S2x1024 : Shape := ⟨2, ![2, 1024]⟩
abbrev S_ : Shape := ⟨0, ![]⟩
abbrev S8192x14336 : Shape := ⟨2, ![8192, 14336]⟩
abbrev S8192x1024 : Shape := ⟨2, ![8192, 1024]⟩
abbrev S8192x5888 : Shape := ⟨2, ![8192, 5888]⟩
abbrev S8192x24320 : Shape := ⟨2, ![8192, 24320]⟩
abbrev S128x24320 : Shape := ⟨2, ![128, 24320]⟩
abbrev S8320x24320 : Shape := ⟨2, ![8320, 24320]⟩
abbrev S2048 : Shape := ⟨1, ![2048]⟩
abbrev S63 : Shape := ⟨1, ![63]⟩
abbrev S1 : Shape := ⟨1, ![1]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S2048x0 : Shape := ⟨2, ![2048, 0]⟩
abbrev S2048x128 : Shape := ⟨2, ![2048, 128]⟩
abbrev S2x1x1024 : Shape := ⟨3, ![2, 1, 1024]⟩
abbrev S8320x1024 : Shape := ⟨2, ![8320, 1024]⟩
abbrev S4x8x128x128 : Shape := ⟨4, ![4, 8, 128, 128]⟩
abbrev S256x512 : Shape := ⟨2, ![256, 512]⟩
abbrev S256x128 : Shape := ⟨2, ![256, 128]⟩
abbrev S1x1x512 : Shape := ⟨3, ![1, 1, 512]⟩
abbrev S1x4x128x128 : Shape := ⟨4, ![1, 4, 128, 128]⟩
abbrev S4x128x128 : Shape := ⟨3, ![4, 128, 128]⟩
abbrev S4x256x256 : Shape := ⟨3, ![4, 256, 256]⟩
abbrev S4x256x128 : Shape := ⟨3, ![4, 256, 128]⟩
abbrev S256x256 : Shape := ⟨2, ![256, 256]⟩
abbrev S1x1 : Shape := ⟨2, ![1, 1]⟩
abbrev S1x256x256 : Shape := ⟨3, ![1, 256, 256]⟩
abbrev S1x256x128 : Shape := ⟨3, ![1, 256, 128]⟩
abbrev S1x128x128 : Shape := ⟨3, ![1, 128, 128]⟩
abbrev S128x128 : Shape := ⟨2, ![128, 128]⟩
abbrev S256 : Shape := ⟨1, ![256]⟩
abbrev S256x1 : Shape := ⟨2, ![256, 1]⟩
abbrev S1x1x128 : Shape := ⟨3, ![1, 1, 128]⟩
abbrev S1x128 : Shape := ⟨2, ![1, 128]⟩

abbrev nBuf : Space → Nat
  | .hbm => 65
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x2048x1024, .f32⟩
  | .hbm, ⟨4, _⟩ => ⟨S2x1024, .f32⟩
  | .hbm, ⟨5, _⟩ => ⟨S_, .f32⟩
  | .hbm, ⟨6, _⟩ => ⟨S8192x14336, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x5888, .f32⟩
  | .hbm, ⟨13, _⟩ => ⟨S8192x24320, .f32⟩
  | .hbm, ⟨14, _⟩ => ⟨S_, .f32⟩
  | .hbm, ⟨15, _⟩ => ⟨S128x24320, .f32⟩
  | .hbm, ⟨16, _⟩ => ⟨S8320x24320, .f32⟩
  | .hbm, ⟨17, _⟩ => ⟨S2048, .i32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S63, .f32⟩
  | .hbm, ⟨26, _⟩ => ⟨S_, .f32⟩
  | .hbm, ⟨27, _⟩ => ⟨S63, .f32⟩
  | .hbm, ⟨28, _⟩ => ⟨S63, .f32⟩
  | .hbm, ⟨29, _⟩ => ⟨S1, .f32⟩
  | .hbm, ⟨30, _⟩ => ⟨S_, .f32⟩
  | .hbm, ⟨31, _⟩ => ⟨S63, .f32⟩
  | .hbm, ⟨32, _⟩ => ⟨S63, .f32⟩
  | .hbm, ⟨33, _⟩ => ⟨S63, .f32⟩
  | .hbm, ⟨34, _⟩ => ⟨S63, .f32⟩
  | .hbm, ⟨35, _⟩ => ⟨S1, .f32⟩
  | .hbm, ⟨36, _⟩ => ⟨S63, .f32⟩
  | .hbm, ⟨37, _⟩ => ⟨S63, .f32⟩
  | .hbm, ⟨38, _⟩ => ⟨S63, .f32⟩
  | .hbm, ⟨39, _⟩ => ⟨S1, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S2048, .f32⟩
  | .hbm, ⟨48, _⟩ => ⟨S2048x1, .f32⟩
  | .hbm, ⟨49, _⟩ => ⟨S1x64, .f32⟩
  | .hbm, ⟨50, _⟩ => ⟨S2048x64, .f32⟩
  | .hbm, ⟨51, _⟩ => ⟨S2048x64, .f32⟩
  | .hbm, ⟨52, _⟩ => ⟨S2048x64, .f32⟩
  | .hbm, ⟨53, _⟩ => ⟨S2048x64, .f32⟩
  | .hbm, ⟨54, _⟩ => ⟨S2048x64, .f32⟩
  | .hbm, ⟨55, _⟩ => ⟨S_, .f32⟩
  | .hbm, ⟨56, _⟩ => ⟨S2048x0, .f32⟩
  | .hbm, ⟨57, _⟩ => ⟨S_, .f32⟩
  | .hbm, ⟨58, _⟩ => ⟨S2048x0, .f32⟩
  | .hbm, ⟨59, _⟩ => ⟨S2048x128, .f32⟩
  | .hbm, ⟨60, _⟩ => ⟨S2048x64, .f32⟩
  | .hbm, ⟨61, _⟩ => ⟨S2048x128, .f32⟩
  | .hbm, ⟨62, _⟩ => ⟨S2x1x1024, .f32⟩
  | .hbm, ⟨63, _⟩ => ⟨S8320x1024, .bf16⟩
  | .hbm, ⟨64, _⟩ => ⟨S4x8x128x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x1x512, .f32⟩
  | .local _ .vmem, ⟨13, _⟩ => ⟨S1x1x512, .f32⟩
  | .local _ .vmem, ⟨14, _⟩ => ⟨S256x512, .bf16⟩
  | .local _ .vmem, ⟨15, _⟩ => ⟨S256x512, .bf16⟩
  | .local _ .vmem, ⟨16, _⟩ => ⟨S1x4x128x128, .f32⟩
  | .local _ .vmem, ⟨17, _⟩ => ⟨S1x4x128x128, .f32⟩
  | .local _ .vmem, ⟨18, _⟩ => ⟨S4x128x128, .f32⟩
  | .local _ .vmem, ⟨19, _⟩ => ⟨S4x256x256, .f32⟩
  | .local _ .vmem, ⟨20, _⟩ => ⟨S4x256x128, .f32⟩
  | .local _ .vmem, ⟨21, _⟩ => ⟨S4x256x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_cst : Ref sig .tc := ⟨.hbm, 23, rfl⟩
abbrev main_call0_v3 : Ref sig .tc := ⟨.hbm, 24, rfl⟩
abbrev main_call0_v4 : Ref sig .tc := ⟨.hbm, 25, rfl⟩
abbrev main_call0_cst_0 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_v10 : Ref sig .tc := ⟨.hbm, 40, rfl⟩
abbrev main_cst_4 : Ref sig .tc := ⟨.hbm, 41, rfl⟩
abbrev main_v11 : Ref sig .tc := ⟨.hbm, 42, rfl⟩
abbrev main_v12 : Ref sig .tc := ⟨.hbm, 43, rfl⟩
abbrev main_cst_5 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst_6 : Ref sig .tc := ⟨.hbm, 55, rfl⟩
abbrev main_v23 : Ref sig .tc := ⟨.hbm, 56, rfl⟩
abbrev main_cst_7 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29_0 : Ref sig .tc := ⟨.hbm, 63, rfl⟩
abbrev main_v29_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v339 : BitVec 1 := Scalar.cmpi .eq arg2 c7_i32
  let v340 : BitVec 32 := Scalar.extui v339
  let c0_i32_180 : BitVec 32 := 0#32
  let v341 : BitVec 1 := Scalar.cmpi .ne v340 c0_i32_180
  v341

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c28_i32 : BitVec 32 := 28#32
  let v2 : BitVec 32 := Scalar.addi c28_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c30_i32 : BitVec 32 := 30#32
  let v2 : BitVec 32 := Scalar.addi c30_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c32_i32 : BitVec 32 := 32#32
  let v2 : BitVec 32 := Scalar.addi c32_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c34_i32 : BitVec 32 := 34#32
  let v2 : BitVec 32 := Scalar.addi c34_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | "lg4" => some ((Real.log (511 / 512) : ℝ) : EReal)
  | "lg5" => some ((Real.log (1023 / 1024) : ℝ) : EReal)
  | "lg6" => some ((Real.log (2047 / 2048) : ℝ) : EReal)
  | "lg7" => some ((Real.log (4095 / 4096) : ℝ) : EReal)
  | _ => none
-- ==== ReferenceIdeal.lean ====
abbrev S4x2048x1024 : Shape := ⟨3, ![4, 2048, 1024]⟩
abbrev S2x1024 : Shape := ⟨2, ![2, 1024]⟩
abbrev S2048 : Shape := ⟨1, ![2048]⟩
abbrev S_ : Shape := ⟨0, ![]⟩
abbrev S63 : Shape := ⟨1, ![63]⟩
abbrev S1 : Shape := ⟨1, ![1]⟩
abbrev S64 : Shape := ⟨1, ![64]⟩
abbrev S4x2048x8x128 : Shape := ⟨4, ![4, 2048, 8, 128]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S4x2048x8x64 : Shape := ⟨4, ![4, 2048, 8, 64]⟩
abbrev S1x2048x1x64 : Shape := ⟨4, ![1, 2048, 1, 64]⟩
abbrev S4x8x128x128 : Shape := ⟨4, ![4, 8, 128, 128]⟩
abbrev S8 : Shape := ⟨1, ![8]⟩
abbrev S64x1 : Shape := ⟨2, ![64, 1]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S8x1 : Shape := ⟨2, ![8, 1]⟩
abbrev S8x64 : Shape := ⟨2, ![8, 64]⟩
abbrev S8x64x1 : Shape := ⟨3, ![8, 64, 1]⟩
abbrev S4x32x64x8x128 : Shape := ⟨5, ![4, 32, 64, 8, 128]⟩
abbrev S32x4x8x64x128 : Shape := ⟨5, ![32, 4, 8, 64, 128]⟩
abbrev S1x4x8x64x128 : Shape := ⟨5, ![1, 4, 8, 64, 128]⟩
abbrev S4x8x64x128 : Shape := ⟨4, ![4, 8, 64, 128]⟩
abbrev S4x8x64x64 : Shape := ⟨4, ![4, 8, 64, 64]⟩
abbrev S1x8x64x64 : Shape := ⟨4, ![1, 8, 64, 64]⟩
abbrev S1x8x64x1 : Shape := ⟨4, ![1, 8, 64, 1]⟩
abbrev S1x8x1x1 : Shape := ⟨4, ![1, 8, 1, 1]⟩
abbrev S1x1024 : Shape := ⟨2, ![1, 1024]⟩
abbrev S1024 : Shape := ⟨1, ![1024]⟩
abbrev S8x128 : Shape := ⟨2, ![8, 128]⟩
abbrev S4x2048x8 : Shape := ⟨3, ![4, 2048, 8]⟩
abbrev S4x2048x8x1 : Shape := ⟨4, ![4, 2048, 8, 1]⟩
abbrev S1x1x8x128 : Shape := ⟨4, ![1, 1, 8, 128]⟩
abbrev S8192x1024 : Shape := ⟨2, ![8192, 1024]⟩
abbrev S128x1024 : Shape := ⟨2, ![128, 1024]⟩
abbrev S8320x1024 : Shape := ⟨2, ![8320, 1024]⟩

abbrev nBuf : Space → Nat
  | .hbm => 258
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x2048x1024, .f32⟩
  | 3 => ⟨S4x2048x1024, .f32⟩
  | 4 => ⟨S2x1024, .f32⟩
  | 5 => ⟨S2048, .i32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S63, .f32⟩
  | 14 => ⟨S_, .f32⟩
  | 15 => ⟨S63, .f32⟩
  | 16 => ⟨S63, .f32⟩
  | 17 => ⟨S1, .f32⟩
  | 18 => ⟨S_, .f32⟩
  | 19 => ⟨S63, .f32⟩
  | 20 => ⟨S63, .f32⟩
  | 21 => ⟨S63, .f32⟩
  | 22 => ⟨S63, .f32⟩
  | 23 => ⟨S1, .f32⟩
  | 24 => ⟨S63, .f32⟩
  | 25 => ⟨S63, .f32⟩
  | 26 => ⟨S63, .f32⟩
  | 27 => ⟨S1, .f32⟩
  | 28 => ⟨S64, .f32⟩
  | 29 => ⟨S_, .f32⟩
  | 30 => ⟨S64, .f32⟩
  | 31 => ⟨S64, .f32⟩
  | 32 => ⟨S_, .f32⟩
  | 33 => ⟨S64, .f32⟩
  | 34 => ⟨S64, .f32⟩
  | 35 => ⟨S4x2048x8x128, .f32⟩
  | 36 => ⟨S2048, .f32⟩
  | 37 => ⟨S2048x1, .f32⟩
  | 38 => ⟨S1x64, .f32⟩
  | 39 => ⟨S2048x64, .f32⟩
  | 40 => ⟨S2048x64, .f32⟩
  | 41 => ⟨S2048x64, .f32⟩
  | 42 => ⟨S2048x64, .f32⟩
  | 43 => ⟨S2048x1x64, .f32⟩
  | 44 => ⟨S2048x64, .f32⟩
  | 45 => ⟨S2048x1x64, .f32⟩
  | 46 => ⟨S4x2048x8x64, .f32⟩
  | 47 => ⟨S4x2048x8x64, .f32⟩
  | 48 => ⟨S1x2048x1x64, .f32⟩
  | 49 => ⟨S4x2048x8x64, .f32⟩
  | 50 => ⟨S4x2048x8x64, .f32⟩
  | 51 => ⟨S1x2048x1x64, .f32⟩
  | 52 => ⟨S4x2048x8x64, .f32⟩
  | 53 => ⟨S4x2048x8x64, .f32⟩
  | 54 => ⟨S4x2048x8x64, .f32⟩
  | 55 => ⟨S1x2048x1x64, .f32⟩
  | 56 => ⟨S4x2048x8x64, .f32⟩
  | 57 => ⟨S4x2048x8x64, .f32⟩
  | 58 => ⟨S1x2048x1x64, .f32⟩
  | 59 => ⟨S4x2048x8x64, .f32⟩
  | 60 => ⟨S4x2048x8x64, .f32⟩
  | 61 => ⟨S4x2048x8x64, .f32⟩
  | 62 => ⟨S4x2048x8x128, .f32⟩
  | 63 => ⟨S4x2048x8x128, .f32⟩
  | 64 => ⟨S2048, .f32⟩
  | 65 => ⟨S2048x1, .f32⟩
  | 66 => ⟨S1x64, .f32⟩
  | 67 => ⟨S2048x64, .f32⟩
  | 68 => ⟨S2048x64, .f32⟩
  | 69 => ⟨S2048x64, .f32⟩
  | 70 => ⟨S2048x64, .f32⟩
  | 71 => ⟨S2048x1x64, .f32⟩
  | 72 => ⟨S2048x64, .f32⟩
  | 73 => ⟨S2048x1x64, .f32⟩
  | 74 => ⟨S4x2048x8x64, .f32⟩
  | 75 => ⟨S4x2048x8x64, .f32⟩
  | 76 => ⟨S1x2048x1x64, .f32⟩
  | 77 => ⟨S4x2048x8x64, .f32⟩
  | 78 => ⟨S4x2048x8x64, .f32⟩
  | 79 => ⟨S1x2048x1x64, .f32⟩
  | 80 => ⟨S4x2048x8x64, .f32⟩
  | 81 => ⟨S4x2048x8x64, .f32⟩
  | 82 => ⟨S4x2048x8x64, .f32⟩
  | 83 => ⟨S1x2048x1x64, .f32⟩
  | 84 => ⟨S4x2048x8x64, .f32⟩
  | 85 => ⟨S4x2048x8x64, .f32⟩
  | 86 => ⟨S1x2048x1x64, .f32⟩
  | 87 => ⟨S4x2048x8x64, .f32⟩
  | 88 => ⟨S4x2048x8x64, .f32⟩
  | 89 => ⟨S4x2048x8x64, .f32⟩
  | 90 => ⟨S4x2048x8x128, .f32⟩
  | 91 => ⟨S_, .f32⟩
  | 92 => ⟨S4x2048x8x128, .f32⟩
  | 93 => ⟨S4x2048x8x128, .f32⟩
  | 94 => ⟨S_, .f32⟩
  | 95 => ⟨S4x8x128x128, .f32⟩
  | 96 => ⟨S4x2048x8x128, .f32⟩
  | 97 => ⟨S8, .f32⟩
  | 98 => ⟨S_, .f32⟩
  | 99 => ⟨S8, .f32⟩
  | 100 => ⟨S8, .f32⟩
  | 101 => ⟨S_, .f32⟩
  | 102 => ⟨S8, .f32⟩
  | 103 => ⟨S8, .f32⟩
  | 104 => ⟨S_, .f32⟩
  | 105 => ⟨S8, .f32⟩
  | 106 => ⟨S8, .f32⟩
  | 107 => ⟨S8, .f32⟩
  | 108 => ⟨S64, .f32⟩
  | 109 => ⟨S64x1, .f32⟩
  | 110 => ⟨S1x64, .f32⟩
  | 111 => ⟨S64x64, .f32⟩
  | 112 => ⟨S64x64, .f32⟩
  | 113 => ⟨S64x64, .f32⟩
  | 114 => ⟨S_, .f32⟩
  | 115 => ⟨S64x64, .f32⟩
  | 116 => ⟨S64x64, .i1⟩
  | 117 => ⟨S8x1x1, .f32⟩
  | 118 => ⟨S_, .f32⟩
  | 119 => ⟨S64x64, .f32⟩
  | 120 => ⟨S64x64, .f32⟩
  | 121 => ⟨S1x64x64, .f32⟩
  | 122 => ⟨S8x64x64, .f32⟩
  | 123 => ⟨S8x64x64, .f32⟩
  | 124 => ⟨S8x64x64, .f32⟩
  | 125 => ⟨S8x64x64, .f32⟩
  | 126 => ⟨S_, .f32⟩
  | 127 => ⟨S_, .f32⟩
  | _ => ⟨S4x2048x1024, .f32⟩

abbrev hbmTy0_1 (i : Nat) : BufTy := match i % 128 with
  | 0 => ⟨S8x64x64, .i1⟩
  | 1 => ⟨S8x64x64, .f32⟩
  | 2 => ⟨S8x64x64, .f32⟩
  | 3 => ⟨S8x1, .f32⟩
  | 4 => ⟨S1x64, .f32⟩
  | 5 => ⟨S_, .f32⟩
  | 6 => ⟨S1x64, .f32⟩
  | 7 => ⟨S1x64, .f32⟩
  | 8 => ⟨S8x64, .f32⟩
  | 9 => ⟨S8x64, .f32⟩
  | 10 => ⟨S8x64, .f32⟩
  | 11 => ⟨S8x64, .f32⟩
  | 12 => ⟨S8x64x1, .f32⟩
  | 13 => ⟨S8x1, .f32⟩
  | 14 => ⟨S1x64, .f32⟩
  | 15 => ⟨S_, .f32⟩
  | 16 => ⟨S1x64, .f32⟩
  | 17 => ⟨S1x64, .f32⟩
  | 18 => ⟨S8x64, .f32⟩
  | 19 => ⟨S8x64, .f32⟩
  | 20 => ⟨S8x64, .f32⟩
  | 21 => ⟨S8x64, .f32⟩
  | 22 => ⟨S8x64x1, .f32⟩
  | 23 => ⟨S_, .f32⟩
  | 24 => ⟨S8, .f32⟩
  | 25 => ⟨S8, .f32⟩
  | 26 => ⟨S8, .f32⟩
  | 27 => ⟨S8x1x1, .f32⟩
  | 28 => ⟨S4x32x64x8x128, .f32⟩
  | 29 => ⟨S32x4x8x64x128, .f32⟩
  | 30 => ⟨S4x32x64x8x128, .f32⟩
  | 31 => ⟨S32x4x8x64x128, .f32⟩
  | 32 => ⟨S4x32x64x8x128, .f32⟩
  | 33 => ⟨S32x4x8x64x128, .f32⟩
  | 34 => ⟨S_, .f32⟩
  | 35 => ⟨S32x4x8x64x128, .f32⟩
  | 36 => ⟨S_, .i32⟩
  | 37 => ⟨S32x4x8x64x128, .f32⟩
  | 38 => ⟨S32x4x8x64x128, .f32⟩
  | 39 => ⟨S32x4x8x64x128, .f32⟩
  | 40 => ⟨S8x64x64, .f32⟩
  | 41 => ⟨S8x64x1, .f32⟩
  | 42 => ⟨S8x1x1, .f32⟩
  | 43 => ⟨S8x64x1, .f32⟩
  | 44 => ⟨S_, .i32⟩
  | 45 => ⟨S4x8x128x128, .f32⟩
  | 46 => ⟨S32x4x8x64x128, .f32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S1x4x8x64x128, .f32⟩
  | 54 => ⟨S4x8x64x128, .f32⟩
  | 55 => ⟨S_, .i32⟩
  | 56 => ⟨S_, .i32⟩
  | 57 => ⟨S_, .i32⟩
  | 58 => ⟨S_, .i32⟩
  | 59 => ⟨S1x4x8x64x128, .f32⟩
  | 60 => ⟨S4x8x64x128, .f32⟩
  | 61 => ⟨S_, .i32⟩
  | 62 => ⟨S_, .i32⟩
  | 63 => ⟨S_, .i32⟩
  | 64 => ⟨S_, .i32⟩
  | 65 => ⟨S1x4x8x64x128, .f32⟩
  | 66 => ⟨S4x8x64x128, .f32⟩
  | 67 => ⟨S4x8x64x64, .f32⟩
  | 68 => ⟨S1x8x64x64, .f32⟩
  | 69 => ⟨S4x8x64x64, .f32⟩
  | 70 => ⟨S4x8x64x64, .f32⟩
  | 71 => ⟨S4x8x64x128, .f32⟩
  | 72 => ⟨S1x8x64x1, .f32⟩
  | 73 => ⟨S4x8x64x128, .f32⟩
  | 74 => ⟨S4x8x64x128, .f32⟩
  | 75 => ⟨S4x8x64x128, .f32⟩
  | 76 => ⟨S4x8x64x128, .f32⟩
  | 77 => ⟨S1x8x1x1, .f32⟩
  | 78 => ⟨S4x8x128x128, .f32⟩
  | 79 => ⟨S4x8x128x128, .f32⟩
  | 80 => ⟨S1x8x64x1, .f32⟩
  | 81 => ⟨S4x8x64x128, .f32⟩
  | 82 => ⟨S4x8x64x128, .f32⟩
  | 83 => ⟨S4x8x128x128, .f32⟩
  | 84 => ⟨S4x8x128x128, .f32⟩
  | 85 => ⟨S1x4x8x64x128, .f32⟩
  | 86 => ⟨S_, .i32⟩
  | 87 => ⟨S_, .i32⟩
  | 88 => ⟨S_, .i32⟩
  | 89 => ⟨S_, .i32⟩
  | 90 => ⟨S32x4x8x64x128, .f32⟩
  | 91 => ⟨S_, .i32⟩
  | 92 => ⟨S_, .i32⟩
  | 93 => ⟨S4x32x64x8x128, .f32⟩
  | 94 => ⟨S4x2048x8x128, .f32⟩
  | 95 => ⟨S1x1024, .f32⟩
  | 96 => ⟨S1024, .f32⟩
  | 97 => ⟨S8x128, .f32⟩
  | 98 => ⟨S4x2048x8x128, .f32⟩
  | 99 => ⟨S_, .f32⟩
  | 100 => ⟨S4x2048x8, .f32⟩
  | 101 => ⟨S4x2048x8x1, .f32⟩
  | 102 => ⟨S_, .f32⟩
  | 103 => ⟨S4x2048x8x1, .f32⟩
  | 104 => ⟨S4x2048x8x1, .f32⟩
  | 105 => ⟨S_, .f32⟩
  | 106 => ⟨S4x2048x8x1, .f32⟩
  | 107 => ⟨S4x2048x8x1, .f32⟩
  | 108 => ⟨S4x2048x8x1, .f32⟩
  | 109 => ⟨S4x2048x8x128, .f32⟩
  | 110 => ⟨S4x2048x8x128, .f32⟩
  | 111 => ⟨S1x1x8x128, .f32⟩
  | 112 => ⟨S4x2048x8x128, .f32⟩
  | 113 => ⟨S4x2048x8x128, .f32⟩
  | 114 => ⟨S4x2048x1024, .f32⟩
  | 115 => ⟨S4x2048x1024, .f32⟩
  | 116 => ⟨S4x2048x1024, .f32⟩
  | 117 => ⟨S_, .f32⟩
  | 118 => ⟨S4x2048x1024, .f32⟩
  | 119 => ⟨S4x2048x1024, .f32⟩
  | 120 => ⟨S_, .f32⟩
  | 121 => ⟨S4x2048x1024, .f32⟩
  | 122 => ⟨S4x2048x1024, .f32⟩
  | 123 => ⟨S4x2048x1024, .f32⟩
  | 124 => ⟨S4x2048x1024, .f32⟩
  | 125 => ⟨S8192x1024, .f32⟩
  | 126 => ⟨S_, .f32⟩
  | 127 => ⟨S128x1024, .f32⟩
  | _ => ⟨S4x2048x1024, .f32⟩

abbrev hbmTy0_2 (i : Nat) : BufTy := match i % 128 with
  | 0 => ⟨S8320x1024, .f32⟩
  | 1 => ⟨S8320x1024, .bf16⟩
  | _ => ⟨S4x2048x1024, .f32⟩

abbrev hbmTy (i : Nat) : BufTy := match i / 128 with
  | 0 => hbmTy0_0 i
  | 1 => hbmTy0_1 i
  | 2 => hbmTy0_2 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_cst : Ref sig .tc := ⟨.hbm, 11, rfl⟩
abbrev main_call0_v3 : Ref sig .tc := ⟨.hbm, 12, rfl⟩
abbrev main_call0_v4 : Ref sig .tc := ⟨.hbm, 13, rfl⟩
abbrev main_call0_cst_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_cst_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_v1 : Ref sig .tc := ⟨.hbm, 28, rfl⟩
abbrev main_cst_1 : Ref sig .tc := ⟨.hbm, 29, rfl⟩
abbrev main_v2 : Ref sig .tc := ⟨.hbm, 30, rfl⟩
abbrev main_v3 : Ref sig .tc := ⟨.hbm, 31, rfl⟩
abbrev main_cst_2 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_3 : Ref sig .tc := ⟨.hbm, 91, rfl⟩
abbrev main_v62 : Ref sig .tc := ⟨.hbm, 92, rfl⟩
abbrev main_v63 : Ref sig .tc := ⟨.hbm, 93, rfl⟩
abbrev main_cst_4 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_5 : Ref sig .tc := ⟨.hbm, 98, rfl⟩
abbrev main_v67 : Ref sig .tc := ⟨.hbm, 99, rfl⟩
abbrev main_v68 : Ref sig .tc := ⟨.hbm, 100, rfl⟩
abbrev main_cst_6 : Ref sig .tc := ⟨.hbm, 101, rfl⟩
abbrev main_v69 : Ref sig .tc := ⟨.hbm, 102, rfl⟩
abbrev main_v70 : Ref sig .tc := ⟨.hbm, 103, rfl⟩
abbrev main_cst_7 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_8 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_9 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_10 : Ref sig .tc := ⟨.hbm, 126, rfl⟩
abbrev main_call1_v0 : Ref sig .tc := ⟨.hbm, 127, rfl⟩
abbrev main_call1_v1 : Ref sig .tc := ⟨.hbm, 128, rfl⟩
abbrev main_call1_v2 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_11 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_12 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_13 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_14 : Ref sig .tc := ⟨.hbm, 162, rfl⟩
abbrev main_v119 : Ref sig .tc := ⟨.hbm, 163, rfl⟩
abbrev main_c : Ref sig .tc := ⟨.hbm, 164, rfl⟩
abbrev main_v120_0 : Ref sig .tc := ⟨.hbm, 165, rfl⟩
abbrev main_v120_1 : Ref sig .tc := ⟨.hbm, 166, rfl⟩
abbrev main_v120_2 : Ref sig .tc := ⟨.hbm, 167, rfl⟩
abbrev main_v120_3 : Ref sig .tc := ⟨.hbm, 168, rfl⟩
abbrev main_v120_4 : Ref sig .tc := ⟨.hbm, 169, rfl⟩
abbrev main_v120_5 : Ref sig .tc := ⟨.hbm, 170, rfl⟩
abbrev main_v120_6 : Ref sig .tc := ⟨.hbm, 171, rfl⟩
abbrev main_v120_7 : Ref sig .tc := ⟨.hbm, 172, rfl⟩
abbrev main_v120_8 : Ref sig .tc := ⟨.hbm, 173, rfl⟩
abbrev main_v120_9 : Ref sig .tc := ⟨.hbm, 174, rfl⟩
abbrev main_while0c_c_28 : Ref sig .tc := ⟨.hbm, 175, rfl⟩
abbrev main_while0c_v146 : Ref sig .tc := ⟨.hbm, 176, rfl⟩
abbrev main_while0b_call2_c : Ref sig .tc := ⟨.hbm, 177, rfl⟩
abbrev main_while0b_call2_c_0 : Ref sig .tc := ⟨.hbm, 178, rfl⟩
abbrev main_while0b_call2_c_1 : Ref sig .tc := ⟨.hbm, 179, rfl⟩
abbrev main_while0b_call2_c_2 : Ref sig .tc := ⟨.hbm, 180, rfl⟩
abbrev main_while0b_call2_v0 : Ref sig .tc := ⟨.hbm, 181, rfl⟩
abbrev main_while0b_v146 : Ref sig .tc := ⟨.hbm, 182, rfl⟩
abbrev main_while0b_call3_c : Ref sig .tc := ⟨.hbm, 183, rfl⟩
abbrev main_while0b_call3_c_0 : Ref sig .tc := ⟨.hbm, 184, rfl⟩
abbrev main_while0b_call3_c_1 : Ref sig .tc := ⟨.hbm, 185, rfl⟩
abbrev main_while0b_call3_c_2 : Ref sig .tc := ⟨.hbm, 186, rfl⟩
abbrev main_while0b_call3_v0 : Ref sig .tc := ⟨.hbm, 187, rfl⟩
abbrev main_while0b_v147 : Ref sig .tc := ⟨.hbm, 188, rfl⟩
abbrev main_while0b_call4_c : Ref sig .tc := ⟨.hbm, 189, rfl⟩
abbrev main_while0b_call4_c_0 : Ref sig .tc := ⟨.hbm, 190, rfl⟩
abbrev main_while0b_call4_c_1 : Ref sig .tc := ⟨.hbm, 191, rfl⟩
abbrev main_while0b_call4_c_2 : Ref sig .tc := ⟨.hbm, 192, rfl⟩
abbrev main_while0b_call4_v0 : Ref sig .tc := ⟨.hbm, 193, rfl⟩
abbrev main_while0b_v148 : Ref sig .tc := ⟨.hbm, 194, rfl⟩
abbrev main_while0b_v149 : Ref sig .tc := ⟨.hbm, 195, rfl⟩
abbrev main_while0b_v150 : Ref sig .tc := ⟨.hbm, 196, rfl⟩
abbrev main_while0b_v151 : Ref sig .tc := ⟨.hbm, 197, rfl⟩
abbrev main_while0b_v152 : Ref sig .tc := ⟨.hbm, 198, rfl⟩
abbrev main_while0b_v153 : Ref sig .tc := ⟨.hbm, 199, rfl⟩
abbrev main_while0b_v154 : Ref sig .tc := ⟨.hbm, 200, rfl⟩
abbrev main_while0b_v155 : Ref sig .tc := ⟨.hbm, 201, rfl⟩
abbrev main_while0b_v156 : Ref sig .tc := ⟨.hbm, 202, rfl⟩
abbrev main_while0b_v157 : Ref sig .tc := ⟨.hbm, 203, rfl⟩
abbrev main_while0b_v158 : Ref sig .tc := ⟨.hbm, 204, rfl⟩
abbrev main_while0b_v159 : Ref sig .tc := ⟨.hbm, 205, rfl⟩
abbrev main_while0b_v160 : Ref sig .tc := ⟨.hbm, 206, rfl⟩
abbrev main_while0b_v161 : Ref sig .tc := ⟨.hbm, 207, rfl⟩
abbrev main_while0b_v162 : Ref sig .tc := ⟨.hbm, 208, rfl⟩
abbrev main_while0b_v163 : Ref sig .tc := ⟨.hbm, 209, rfl⟩
abbrev main_while0b_v164 : Ref sig .tc := ⟨.hbm, 210, rfl⟩
abbrev main_while0b_v165 : Ref sig .tc := ⟨.hbm, 211, rfl⟩
abbrev main_while0b_v166 : Ref sig .tc := ⟨.hbm, 212, rfl⟩
abbrev main_while0b_call5_v0 : Ref sig .tc := ⟨.hbm, 213, rfl⟩
abbrev main_while0b_call5_c : Ref sig .tc := ⟨.hbm, 214, rfl⟩
abbrev main_while0b_call5_c_0 : Ref sig .tc := ⟨.hbm, 215, rfl⟩
abbrev main_while0b_call5_c_1 : Ref sig .tc := ⟨.hbm, 216, rfl⟩
abbrev main_while0b_call5_c_2 : Ref sig .tc := ⟨.hbm, 217, rfl⟩
abbrev main_while0b_v167 : Ref sig .tc := ⟨.hbm, 218, rfl⟩
abbrev main_while0b_c_28 : Ref sig .tc := ⟨.hbm, 219, rfl⟩
abbrev main_while0b_v168 : Ref sig .tc := ⟨.hbm, 220, rfl⟩
abbrev main_v121 : Ref sig .tc := ⟨.hbm, 221, rfl⟩
abbrev main_v122 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_cst_15 : Ref sig .tc := ⟨.hbm, 227, rfl⟩
abbrev main_v127 : Ref sig .tc := ⟨.hbm, 228, rfl⟩
abbrev main_v128 : Ref sig .tc := ⟨.hbm, 229, rfl⟩
abbrev main_cst_16 : Ref sig .tc := ⟨.hbm, 230, rfl⟩
abbrev main_v129 : Ref sig .tc := ⟨.hbm, 231, rfl⟩
abbrev main_v130 : Ref sig .tc := ⟨.hbm, 232, rfl⟩
abbrev main_cst_17 : Ref sig .tc := ⟨.hbm, 233, rfl⟩
abbrev main_v131 : Ref sig .tc := ⟨.hbm, 234, rfl⟩
abbrev main_v132 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_call6_v0 : Ref sig .tc := ⟨.hbm, 243, rfl⟩
abbrev main_call6_v1 : Ref sig .tc := ⟨.hbm, 244, rfl⟩
abbrev main_call6_cst : Ref sig .tc := ⟨.hbm, 245, rfl⟩
abbrev main_call6_v2 : Ref sig .tc := ⟨.hbm, 246, rfl⟩
abbrev main_call6_v3 : Ref sig .tc := ⟨.hbm, 247, rfl⟩
abbrev main_call6_cst_0 : Ref sig .tc := ⟨.hbm, 248, rfl⟩
abbrev main_call6_v4 : Ref sig .tc := ⟨.hbm, 249, rfl⟩
abbrev main_call6_v5 : Ref sig .tc := ⟨.hbm, 250, rfl⟩
abbrev main_v140 : Ref sig .tc := ⟨.hbm, 251, rfl⟩
abbrev main_v141 : Ref sig .tc := ⟨.hbm, 252, rfl⟩
abbrev main_v142 : Ref sig .tc := ⟨.hbm, 253, rfl⟩
abbrev main_cst_18 : Ref sig .tc := ⟨.hbm, 254, rfl⟩
abbrev main_v143 : Ref sig .tc := ⟨.hbm, 255, rfl⟩
abbrev main_v144 : Ref sig .tc := ⟨.hbm, 256, rfl⟩
abbrev main_v145 : Ref sig .tc := ⟨.hbm, 257, rfl⟩

abbrev nD : Nat := 1
abbrev τ : Topo := Topo.v7x

variable {F : FTy → Type} [FloatOps F]

abbrev main_while0_count : Scf.Loop 32 := ⟨0#32, 32#32, 1#32⟩
-- ==== Up.lean ====
abbrev S4x2048x4096 : Shape := ⟨3, ![4, 2048, 4096]⟩
abbrev S8x1x4096 : Shape := ⟨3, ![8, 1, 4096]⟩
abbrev S2x4096 : Shape := ⟨2, ![2, 4096]⟩
abbrev S2x4096x11008 : Shape := ⟨3, ![2, 4096, 11008]⟩
abbrev S2x11008x4096 : Shape := ⟨3, ![2, 11008, 4096]⟩
abbrev S8192x4096 : Shape := ⟨2, ![8192, 4096]⟩
abbrev S8x4096 : Shape := ⟨2, ![8, 4096]⟩
abbrev S_ : Shape := ⟨0, ![]⟩
abbrev S120x4096 : Shape := ⟨2, ![120, 4096]⟩
abbrev S8320x4096 : Shape := ⟨2, ![8320, 4096]⟩
abbrev S2x1x4096 : Shape := ⟨3, ![2, 1, 4096]⟩
abbrev S8320x128 : Shape := ⟨2, ![8320, 128]⟩
abbrev S416x4096 : Shape := ⟨2, ![416, 4096]⟩
abbrev S1x1x4096 : Shape := ⟨3, ![1, 1, 4096]⟩
abbrev S416x128 : Shape := ⟨2, ![416, 128]⟩
abbrev S1x4096 : Shape := ⟨2, ![1, 4096]⟩
abbrev S416 : Shape := ⟨1, ![416]⟩
abbrev S416x1 : Shape := ⟨2, ![416, 1]⟩
abbrev S8320x11008 : Shape := ⟨2, ![8320, 11008]⟩
abbrev S11008x4096 : Shape := ⟨2, ![11008, 4096]⟩
abbrev S2080x4096 : Shape := ⟨2, ![2080, 4096]⟩
abbrev S1x4096x256 : Shape := ⟨3, ![1, 4096, 256]⟩
abbrev S2080x128 : Shape := ⟨2, ![2080, 128]⟩
abbrev S1x64x4096 : Shape := ⟨3, ![1, 64, 4096]⟩
abbrev S2080x256 : Shape := ⟨2, ![2080, 256]⟩
abbrev S64x4096 : Shape := ⟨2, ![64, 4096]⟩
abbrev S4096x256 : Shape := ⟨2, ![4096, 256]⟩
abbrev S2080x1 : Shape := ⟨2, ![2080, 1]⟩

abbrev nBuf : Space → Nat
  | .hbm => 16
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S8x1x4096, .f32⟩
  | .hbm, ⟨2, _⟩ => ⟨S2x4096, .f32⟩
  | .hbm, ⟨3, _⟩ => ⟨S2x4096x11008, .f32⟩
  | .hbm, ⟨4, _⟩ => ⟨S2x4096x11008, .f32⟩
  | .hbm, ⟨5, _⟩ => ⟨S2x11008x4096, .f32⟩
  | .hbm, ⟨6, _⟩ => ⟨S8192x4096, .f32⟩
  | .hbm, ⟨7, _⟩ => ⟨S8x4096, .f32⟩
  | .hbm, ⟨8, _⟩ => ⟨S_, .f32⟩
  | .hbm, ⟨9, _⟩ => ⟨S120x4096, .f32⟩
  | .hbm, ⟨10, _⟩ => ⟨S8320x4096, .f32⟩
  | .hbm, ⟨11, _⟩ => ⟨S2x1x4096, .f32⟩
  | .hbm, ⟨12, _⟩ => ⟨S8320x4096, .bf16⟩
  | .hbm, ⟨13, _⟩ => ⟨S8320x128, .f32⟩
  | .hbm, ⟨14, _⟩ => ⟨S8320x11008, .bf16⟩
  | .hbm, ⟨15, _⟩ => ⟨S11008x4096, .bf16⟩
  | .local _ .vmem, ⟨0, _⟩ => ⟨S416x4096, .f32⟩
  | .local _ .vmem, ⟨1, _⟩ => ⟨S416x4096, .f32⟩
  | .local _ .vmem, ⟨2, _⟩ => ⟨S1x1x4096, .f32⟩
  | .local _ .vmem, ⟨3, _⟩ => ⟨S416x4096, .bf16⟩
  | .local _ .vmem, ⟨4, _⟩ => ⟨S416x4096, .bf16⟩
  | .local _ .vmem, ⟨5, _⟩ => ⟨S416x128, .f32⟩
  | .local _ .vmem, ⟨6, _⟩ => ⟨S416x128, .f32⟩
  | .local _ .vmem, ⟨7, _⟩ => ⟨S2080x4096, .bf16⟩
  | .local _ .vmem, ⟨8, _⟩ => ⟨S1x4096x256, .f32⟩
  | .local _ .vmem, ⟨9, _⟩ => ⟨S1x4096x256, .f32⟩
  | .local _ .vmem, ⟨10, _⟩ => ⟨S1x4096x256, .f32⟩
  | .local _ .vmem, ⟨11, _⟩ => ⟨S1x4096x256, .f32⟩
  | .local _ .vmem, ⟨12, _⟩ => ⟨S2080x128, .f32⟩
  | .local _ .vmem, ⟨13, _⟩ => ⟨S2080x128, .f32⟩
  | .local _ .vmem, ⟨14, _⟩ => ⟨S1x64x4096, .f32⟩
  | .local _ .vmem, ⟨15, _⟩ => ⟨S1x64x4096, .f32⟩
  | .local _ .vmem, ⟨16, _⟩ => ⟨S2080x256, .bf16⟩
  | .local _ .vmem, ⟨17, _⟩ => ⟨S2080x256, .bf16⟩
  | .local _ .vmem, ⟨18, _⟩ => ⟨S64x4096, .bf16⟩
  | .local _ .vmem, ⟨19, _⟩ => ⟨S64x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S416x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

abbrev stage1_0 : Fin 1 → Memref sig .tc .vmem S2080x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1x4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2080x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x64x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2080x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S64x4096 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== UpReferenceIdeal.lean ====
abbrev S4x2048x4096 : Shape := ⟨3, ![4, 2048, 4096]⟩
abbrev S8x1x4096 : Shape := ⟨3, ![8, 1, 4096]⟩
abbrev S2x4096 : Shape := ⟨2, ![2, 4096]⟩
abbrev S2x4096x11008 : Shape := ⟨3, ![2, 4096, 11008]⟩
abbrev S2x11008x4096 : Shape := ⟨3, ![2, 11008, 4096]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S1x4096x11008 : Shape := ⟨3, ![1, 4096, 11008]⟩
abbrev S4096x11008 : Shape := ⟨2, ![4096, 11008]⟩
abbrev S4x2048x11008 : Shape := ⟨3, ![4, 2048, 11008]⟩
abbrev S8192x11008 : Shape := ⟨2, ![8192, 11008]⟩
abbrev S8x1 : Shape := ⟨2, ![8, 1]⟩
abbrev S8x1x1 : Shape := ⟨3, ![8, 1, 1]⟩
abbrev S8x1x11008 : Shape := ⟨3, ![8, 1, 11008]⟩
abbrev S8x11008 : Shape := ⟨2, ![8, 11008]⟩
abbrev S120x11008 : Shape := ⟨2, ![120, 11008]⟩
abbrev S8320x11008 : Shape := ⟨2, ![8320, 11008]⟩
abbrev S1x11008x4096 : Shape := ⟨3, ![1, 11008, 4096]⟩
abbrev S11008x4096 : Shape := ⟨2, ![11008, 4096]⟩

abbrev nBuf : Space → Nat
  | .hbm => 84
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x1x4096, .f32⟩
  | .hbm, ⟨2, _⟩ => ⟨S2x4096, .f32⟩
  | .hbm, ⟨3, _⟩ => ⟨S2x4096x11008, .f32⟩
  | .hbm, ⟨4, _⟩ => ⟨S2x4096x11008, .f32⟩
  | .hbm, ⟨5, _⟩ => ⟨S2x11008x4096, .f32⟩
  | .hbm, ⟨6, _⟩ => ⟨S1x4096, .f32⟩
  | .hbm, ⟨7, _⟩ => ⟨S4096, .f32⟩
  | .hbm, ⟨8, _⟩ => ⟨S4x2048x4096, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x4096, .f32⟩
  | .hbm, ⟨20, _⟩ => ⟨S4x2048x4096, .f32⟩
  | .hbm, ⟨21, _⟩ => ⟨S1x1x4096, .f32⟩
  | .hbm, ⟨22, _⟩ => ⟨S4x2048x4096, .f32⟩
  | .hbm, ⟨23, _⟩ => ⟨S4x2048x4096, .f32⟩
  | .hbm, ⟨24, _⟩ => ⟨S1x4096x11008, .f32⟩
  | .hbm, ⟨25, _⟩ => ⟨S4096x11008, .f32⟩
  | .hbm, ⟨26, _⟩ => ⟨S4x2048x11008, .f32⟩
  | .hbm, ⟨27, _⟩ => ⟨S4x2048x11008, .f32⟩
  | .hbm, ⟨28, _⟩ => ⟨S4x2048x11008, .f32⟩
  | .hbm, ⟨29, _⟩ => ⟨S_, .f32⟩
  | .hbm, ⟨30, _⟩ => ⟨S4x2048x11008, .f32⟩
  | .hbm, ⟨31, _⟩ => ⟨S4x2048x11008, .f32⟩
  | .hbm, ⟨32, _⟩ => ⟨S_, .f32⟩
  | .hbm, ⟨33, _⟩ => ⟨S4x2048x11008, .f32⟩
  | .hbm, ⟨34, _⟩ => ⟨S4x2048x11008, .f32⟩
  | .hbm, ⟨35, _⟩ => ⟨S4x2048x11008, .f32⟩
  | .hbm, ⟨36, _⟩ => ⟨S1x4096x11008, .f32⟩
  | .hbm, ⟨37, _⟩ => ⟨S4096x11008, .f32⟩
  | .hbm, ⟨38, _⟩ => ⟨S4x2048x11008, .f32⟩
  | .hbm, ⟨39, _⟩ => ⟨S4x2048x11008, .f32⟩
  | .hbm, ⟨40, _⟩ => ⟨S4x2048x11008, .bf16⟩
  | .hbm, ⟨41, _⟩ => ⟨S8192x11008, .bf16⟩
  | .hbm, ⟨42, _⟩ => ⟨S1x4096, .f32⟩
  | .hbm, ⟨43, _⟩ => ⟨S4096, .f32⟩
  | .hbm, ⟨44, _⟩ => ⟨S8x1x4096, .f32⟩
  | .hbm, ⟨45, _⟩ => ⟨S_, .f32⟩
  | .hbm, ⟨46, _⟩ => ⟨S8x1, .f32⟩
  | .hbm, ⟨47, _⟩ => ⟨S8x1x1, .f32⟩
  | .hbm, ⟨48, _⟩ => ⟨S_, .f32⟩
  | .hbm, ⟨49, _⟩ => ⟨S8x1x1, .f32⟩
  | .hbm, ⟨50, _⟩ => ⟨S8x1x1, .f32⟩
  | .hbm, ⟨51, _⟩ => ⟨S_, .f32⟩
  | .hbm, ⟨52, _⟩ => ⟨S8x1x1, .f32⟩
  | .hbm, ⟨53, _⟩ => ⟨S8x1x1, .f32⟩
  | .hbm, ⟨54, _⟩ => ⟨S8x1x1, .f32⟩
  | .hbm, ⟨55, _⟩ => ⟨S8x1x4096, .f32⟩
  | .hbm, ⟨56, _⟩ => ⟨S8x1x4096, .f32⟩
  | .hbm, ⟨57, _⟩ => ⟨S1x1x4096, .f32⟩
  | .hbm, ⟨58, _⟩ => ⟨S8x1x4096, .f32⟩
  | .hbm, ⟨59, _⟩ => ⟨S8x1x4096, .f32⟩
  | .hbm, ⟨60, _⟩ => ⟨S1x4096x11008, .f32⟩
  | .hbm, ⟨61, _⟩ => ⟨S4096x11008, .f32⟩
  | .hbm, ⟨62, _⟩ => ⟨S8x1x11008, .f32⟩
  | .hbm, ⟨63, _⟩ => ⟨S8x1x11008, .f32⟩
  | .hbm, ⟨64, _⟩ => ⟨S8x1x11008, .f32⟩
  | .hbm, ⟨65, _⟩ => ⟨S_, .f32⟩
  | .hbm, ⟨66, _⟩ => ⟨S8x1x11008, .f32⟩
  | .hbm, ⟨67, _⟩ => ⟨S8x1x11008, .f32⟩
  | .hbm, ⟨68, _⟩ => ⟨S_, .f32⟩
  | .hbm, ⟨69, _⟩ => ⟨S8x1x11008, .f32⟩
  | .hbm, ⟨70, _⟩ => ⟨S8x1x11008, .f32⟩
  | .hbm, ⟨71, _⟩ => ⟨S8x1x11008, .f32⟩
  | .hbm, ⟨72, _⟩ => ⟨S1x4096x11008, .f32⟩
  | .hbm, ⟨73, _⟩ => ⟨S4096x11008, .f32⟩
  | .hbm, ⟨74, _⟩ => ⟨S8x1x11008, .f32⟩
  | .hbm, ⟨75, _⟩ => ⟨S8x1x11008, .f32⟩
  | .hbm, ⟨76, _⟩ => ⟨S8x1x11008, .bf16⟩
  | .hbm, ⟨77, _⟩ => ⟨S8x11008, .bf16⟩
  | .hbm, ⟨78, _⟩ => ⟨S_, .bf16⟩
  | .hbm, ⟨79, _⟩ => ⟨S120x11008, .bf16⟩
  | .hbm, ⟨80, _⟩ => ⟨S8320x11008, .bf16⟩
  | .hbm, ⟨81, _⟩ => ⟨S1x11008x4096, .f32⟩
  | .hbm, ⟨82, _⟩ => ⟨S11008x4096, .f32⟩
  | .hbm, ⟨83, _⟩ => ⟨S11008x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_5 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩

abbrev nD : Nat := 1
abbrev τ : Topo := Topo.v7x

variable {F : FTy → Type} [FloatOps F]
-- ==== Down.lean ====
abbrev S4x2048x4096 : Shape := ⟨3, ![4, 2048, 4096]⟩
abbrev S8x1x4096 : Shape := ⟨3, ![8, 1, 4096]⟩
abbrev S4x2048x11008 : Shape := ⟨3, ![4, 2048, 11008]⟩
abbrev S8x1x11008 : Shape := ⟨3, ![8, 1, 11008]⟩
abbrev S11008x4096 : Shape := ⟨2, ![11008, 4096]⟩
abbrev S8192x4096 : Shape := ⟨2, ![8192, 4096]⟩
abbrev S8x4096 : Shape := ⟨2, ![8, 4096]⟩
abbrev S_ : Shape := ⟨0, ![]⟩
abbrev S120x4096 : Shape := ⟨2, ![120, 4096]⟩
abbrev S8320x4096 : Shape := ⟨2, ![8320, 4096]⟩
abbrev S8192x11008 : Shape := ⟨2, ![8192, 11008]⟩
abbrev S8x11008 : Shape := ⟨2, ![8, 11008]⟩
abbrev S120x11008 : Shape := ⟨2, ![120, 11008]⟩
abbrev S8320x11008 : Shape := ⟨2, ![8320, 11008]⟩
abbrev S1x11008x4096 : Shape := ⟨3, ![1, 11008, 4096]⟩
abbrev S1040x11008 : Shape := ⟨2, ![1040, 11008]⟩
abbrev S1x11008x256 : Shape := ⟨3, ![1, 11008, 256]⟩
abbrev S1040x256 : Shape := ⟨2, ![1040, 256]⟩
abbrev S11008x256 : Shape := ⟨2, ![11008, 256]⟩

abbrev nBuf : Space → Nat
  | .hbm => 17
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S8x1x4096, .f32⟩
  | .hbm, ⟨2, _⟩ => ⟨S4x2048x11008, .bf16⟩
  | .hbm, ⟨3, _⟩ => ⟨S8x1x11008, .bf16⟩
  | .hbm, ⟨4, _⟩ => ⟨S11008x4096, .bf16⟩
  | .hbm, ⟨5, _⟩ => ⟨S8192x4096, .f32⟩
  | .hbm, ⟨6, _⟩ => ⟨S8x4096, .f32⟩
  | .hbm, ⟨7, _⟩ => ⟨S_, .f32⟩
  | .hbm, ⟨8, _⟩ => ⟨S120x4096, .f32⟩
  | .hbm, ⟨9, _⟩ => ⟨S8320x4096, .f32⟩
  | .hbm, ⟨10, _⟩ => ⟨S8192x11008, .bf16⟩
  | .hbm, ⟨11, _⟩ => ⟨S8x11008, .bf16⟩
  | .hbm, ⟨12, _⟩ => ⟨S_, .bf16⟩
  | .hbm, ⟨13, _⟩ => ⟨S120x11008, .bf16⟩
  | .hbm, ⟨14, _⟩ => ⟨S8320x11008, .bf16⟩
  | .hbm, ⟨15, _⟩ => ⟨S1x11008x4096, .bf16⟩
  | .hbm, ⟨16, _⟩ => ⟨S8320x4096, .f32⟩
  | .local _ .vmem, ⟨0, _⟩ => ⟨S1040x11008, .bf16⟩
  | .local _ .vmem, ⟨1, _⟩ => ⟨S1x11008x256, .bf16⟩
  | .local _ .vmem, ⟨2, _⟩ => ⟨S1x11008x256, .bf16⟩
  | .local _ .vmem, ⟨3, _⟩ => ⟨S1040x256, .f32⟩
  | .local _ .vmem, ⟨4, _⟩ => ⟨S1040x256, .f32⟩
  | .local _ .vmem, ⟨5, _⟩ => ⟨S1040x256, .f32⟩
  | .local _ .vmem, ⟨6, _⟩ => ⟨S1040x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1040x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1040x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownReferenceIdeal.lean ====
abbrev S4x2048x4096 : Shape := ⟨3, ![4, 2048, 4096]⟩
abbrev S8x1x4096 : Shape := ⟨3, ![8, 1, 4096]⟩
abbrev S4x2048x11008 : Shape := ⟨3, ![4, 2048, 11008]⟩
abbrev S8x1x11008 : Shape := ⟨3, ![8, 1, 11008]⟩
abbrev S11008x4096 : Shape := ⟨2, ![11008, 4096]⟩
abbrev S_ : Shape := ⟨0, ![]⟩
abbrev S8192x4096 : Shape := ⟨2, ![8192, 4096]⟩
abbrev S8x4096 : Shape := ⟨2, ![8, 4096]⟩
abbrev S120x4096 : Shape := ⟨2, ![120, 4096]⟩
abbrev S8320x4096 : Shape := ⟨2, ![8320, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x1x4096, .f32⟩
  | .hbm, ⟨2, _⟩ => ⟨S4x2048x11008, .bf16⟩
  | .hbm, ⟨3, _⟩ => ⟨S8x1x11008, .bf16⟩
  | .hbm, ⟨4, _⟩ => ⟨S11008x4096, .bf16⟩
  | .hbm, ⟨5, _⟩ => ⟨S4x2048x11008, .f32⟩
  | .hbm, ⟨6, _⟩ => ⟨S11008x4096, .f32⟩
  | .hbm, ⟨7, _⟩ => ⟨S4x2048x4096, .f32⟩
  | .hbm, ⟨8, _⟩ => ⟨S_, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | .hbm, ⟨12, _⟩ => ⟨S8x1x11008, .f32⟩
  | .hbm, ⟨13, _⟩ => ⟨S11008x4096, .f32⟩
  | .hbm, ⟨14, _⟩ => ⟨S8x1x4096, .f32⟩
  | .hbm, ⟨15, _⟩ => ⟨S_, .f32⟩
  | .hbm, ⟨16, _⟩ => ⟨S8x1x4096, .f32⟩
  | .hbm, ⟨17, _⟩ => ⟨S8x1x4096, .f32⟩
  | .hbm, ⟨18, _⟩ => ⟨S8x1x4096, .f32⟩
  | .hbm, ⟨19, _⟩ => ⟨S8192x4096, .f32⟩
  | .hbm, ⟨20, _⟩ => ⟨S8x4096, .f32⟩
  | .hbm, ⟨21, _⟩ => ⟨S_, .f32⟩
  | .hbm, ⟨22, _⟩ => ⟨S120x4096, .f32⟩
  | .hbm, ⟨23, _⟩ => ⟨S8320x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Feed.lean ====
abbrev S4x2048x4096 : Shape := ⟨3, ![4, 2048, 4096]⟩
abbrev S8x1x4096 : Shape := ⟨3, ![8, 1, 4096]⟩
abbrev S4x2048x11008 : Shape := ⟨3, ![4, 2048, 11008]⟩
abbrev S8x1x11008 : Shape := ⟨3, ![8, 1, 11008]⟩
abbrev S11008x4096 : Shape := ⟨2, ![11008, 4096]⟩
abbrev S2x4096 : Shape := ⟨2, ![2, 4096]⟩
abbrev S8192x4096 : Shape := ⟨2, ![8192, 4096]⟩
abbrev S8x4096 : Shape := ⟨2, ![8, 4096]⟩
abbrev S_ : Shape := ⟨0, ![]⟩
abbrev S120x4096 : Shape := ⟨2, ![120, 4096]⟩
abbrev S8320x4096 : Shape := ⟨2, ![8320, 4096]⟩
abbrev S8192x11008 : Shape := ⟨2, ![8192, 11008]⟩
abbrev S8x11008 : Shape := ⟨2, ![8, 11008]⟩
abbrev S120x11008 : Shape := ⟨2, ![120, 11008]⟩
abbrev S8320x11008 : Shape := ⟨2, ![8320, 11008]⟩
abbrev S1x11008x4096 : Shape := ⟨3, ![1, 11008, 4096]⟩
abbrev S2x1x4096 : Shape := ⟨3, ![2, 1, 4096]⟩
abbrev S8320x128 : Shape := ⟨2, ![8320, 128]⟩
abbrev S1040x11008 : Shape := ⟨2, ![1040, 11008]⟩
abbrev S1x11008x256 : Shape := ⟨3, ![1, 11008, 256]⟩
abbrev S1040x256 : Shape := ⟨2, ![1040, 256]⟩
abbrev S1x1x256 : Shape := ⟨3, ![1, 1, 256]⟩
abbrev S1040x128 : Shape := ⟨2, ![1040, 128]⟩
abbrev S11008x256 : Shape := ⟨2, ![11008, 256]⟩
abbrev S1x256 : Shape := ⟨2, ![1, 256]⟩
abbrev S1040 : Shape := ⟨1, ![1040]⟩
abbrev S1040x1 : Shape := ⟨2, ![1040, 1]⟩

abbrev nBuf : Space → Nat
  | .hbm => 21
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S8x1x4096, .f32⟩
  | .hbm, ⟨2, _⟩ => ⟨S4x2048x11008, .bf16⟩
  | .hbm, ⟨3, _⟩ => ⟨S8x1x11008, .bf16⟩
  | .hbm, ⟨4, _⟩ => ⟨S11008x4096, .bf16⟩
  | .hbm, ⟨5, _⟩ => ⟨S2x4096, .f32⟩
  | .hbm, ⟨6, _⟩ => ⟨S8192x4096, .f32⟩
  | .hbm, ⟨7, _⟩ => ⟨S8x4096, .f32⟩
  | .hbm, ⟨8, _⟩ => ⟨S_, .f32⟩
  | .hbm, ⟨9, _⟩ => ⟨S120x4096, .f32⟩
  | .hbm, ⟨10, _⟩ => ⟨S8320x4096, .f32⟩
  | .hbm, ⟨11, _⟩ => ⟨S8192x11008, .bf16⟩
  | .hbm, ⟨12, _⟩ => ⟨S8x11008, .bf16⟩
  | .hbm, ⟨13, _⟩ => ⟨S_, .bf16⟩
  | .hbm, ⟨14, _⟩ => ⟨S120x11008, .bf16⟩
  | .hbm, ⟨15, _⟩ => ⟨S8320x11008, .bf16⟩
  | .hbm, ⟨16, _⟩ => ⟨S1x11008x4096, .bf16⟩
  | .hbm, ⟨17, _⟩ => ⟨S2x1x4096, .f32⟩
  | .hbm, ⟨18, _⟩ => ⟨S8320x4096, .f32⟩
  | .hbm, ⟨19, _⟩ => ⟨S8320x4096, .bf16⟩
  | .hbm, ⟨20, _⟩ => ⟨S8320x128, .f32⟩
  | .local _ .vmem, ⟨0, _⟩ => ⟨S1040x11008, .bf16⟩
  | .local _ .vmem, ⟨1, _⟩ => ⟨S1x11008x256, .bf16⟩
  | .local _ .vmem, ⟨2, _⟩ => ⟨S1x11008x256, .bf16⟩
  | .local _ .vmem, ⟨3, _⟩ => ⟨S1040x256, .f32⟩
  | .local _ .vmem, ⟨4, _⟩ => ⟨S1040x256, .f32⟩
  | .local _ .vmem, ⟨5, _⟩ => ⟨S1x1x256, .f32⟩
  | .local _ .vmem, ⟨6, _⟩ => ⟨S1x1x256, .f32⟩
  | .local _ .vmem, ⟨7, _⟩ => ⟨S1040x256, .f32⟩
  | .local _ .vmem, ⟨8, _⟩ => ⟨S1040x256, .f32⟩
  | .local _ .vmem, ⟨9, _⟩ => ⟨S1040x256, .bf16⟩
  | .local _ .vmem, ⟨10, _⟩ => ⟨S1040x256, .bf16⟩
  | .local _ .vmem, ⟨11, _⟩ => ⟨S1040x128, .f32⟩
  | .local _ .vmem, ⟨12, _⟩ => ⟨S1040x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v22 : BitVec 1 := Scalar.cmpi .eq arg1 c0_i32
  let v23 : BitVec 32 := Scalar.extui v22
  let c0_i32_15 : BitVec 32 := 0#32
  let v24 : BitVec 1 := Scalar.cmpi .ne v23 c0_i32_15
  v24

def k0_cond2 (i : grid0.Coords) : BitVec 1 :=
  let arg1 : BitVec 32 := BitVec.ofNat 32 (i 1).val
  let c0_i32_16 : BitVec 32 := 0#32
  let v25 : BitVec 1 := Scalar.cmpi .sgt arg1 c0_i32_16
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1040x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1040x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1040x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1040x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FeedReferenceIdeal.lean ====
abbrev S4x2048x4096 : Shape := ⟨3, ![4, 2048, 4096]⟩
abbrev S8x1x4096 : Shape := ⟨3, ![8, 1, 4096]⟩
abbrev S4x2048x11008 : Shape := ⟨3, ![4, 2048, 11008]⟩
abbrev S8x1x11008 : Shape := ⟨3, ![8, 1, 11008]⟩
abbrev S11008x4096 : Shape := ⟨2, ![11008, 4096]⟩
abbrev S2x4096 : Shape := ⟨2, ![2, 4096]⟩
abbrev S_ : Shape := ⟨0, ![]⟩
abbrev S1x4096 : Shape := ⟨2, ![1, 4096]⟩
abbrev S4096 : Shape := ⟨1, ![4096]⟩
abbrev S1x1x4096 : Shape := ⟨3, ![1, 1, 4096]⟩
abbrev S4x2048 : Shape := ⟨2, ![4, 2048]⟩
abbrev S4x2048x1 : Shape := ⟨3, ![4, 2048, 1]⟩
abbrev S8x1 : Shape := ⟨2, ![8, 1]⟩
abbrev S8x1x1 : Shape := ⟨3, ![8, 1, 1]⟩
abbrev S8192x4096 : Shape := ⟨2, ![8192, 4096]⟩
abbrev S8x4096 : Shape := ⟨2, ![8, 4096]⟩
abbrev S120x4096 : Shape := ⟨2, ![120, 4096]⟩
abbrev S8320x4096 : Shape := ⟨2, ![8320, 4096]⟩
abbrev S8192x1 : Shape := ⟨2, ![8192, 1]⟩
abbrev S120x1 : Shape := ⟨2, ![120, 1]⟩
abbrev S8320x1 : Shape := ⟨2, ![8320, 1]⟩
abbrev S8320x128 : Shape := ⟨2, ![8320, 128]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x1x4096, .f32⟩
  | .hbm, ⟨2, _⟩ => ⟨S4x2048x11008, .bf16⟩
  | .hbm, ⟨3, _⟩ => ⟨S8x1x11008, .bf16⟩
  | .hbm, ⟨4, _⟩ => ⟨S11008x4096, .bf16⟩
  | .hbm, ⟨5, _⟩ => ⟨S2x4096, .f32⟩
  | .hbm, ⟨6, _⟩ => ⟨S4x2048x11008, .f32⟩
  | .hbm, ⟨7, _⟩ => ⟨S11008x4096, .f32⟩
  | .hbm, ⟨8, _⟩ => ⟨S4x2048x4096, .f32⟩
  | .hbm, ⟨9, _⟩ => ⟨S_, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S1x4096, .f32⟩
  | .hbm, ⟨14, _⟩ => ⟨S4096, .f32⟩
  | .hbm, ⟨15, _⟩ => ⟨S1x1x4096, .f32⟩
  | .hbm, ⟨16, _⟩ => ⟨S4x2048x4096, .f32⟩
  | .hbm, ⟨17, _⟩ => ⟨S4x2048x4096, .f32⟩
  | .hbm, ⟨18, _⟩ => ⟨S4x2048x4096, .bf16⟩
  | .hbm, ⟨19, _⟩ => ⟨S4x2048x4096, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S8x1x11008, .f32⟩
  | .hbm, ⟨24, _⟩ => ⟨S11008x4096, .f32⟩
  | .hbm, ⟨25, _⟩ => ⟨S8x1x4096, .f32⟩
  | .hbm, ⟨26, _⟩ => ⟨S_, .f32⟩
  | .hbm, ⟨27, _⟩ => ⟨S8x1x4096, .f32⟩
  | .hbm, ⟨28, _⟩ => ⟨S8x1x4096, .f32⟩
  | .hbm, ⟨29, _⟩ => ⟨S8x1x4096, .f32⟩
  | .hbm, ⟨30, _⟩ => ⟨S1x4096, .f32⟩
  | .hbm, ⟨31, _⟩ => ⟨S4096, .f32⟩
  | .hbm, ⟨32, _⟩ => ⟨S1x1x4096, .f32⟩
  | .hbm, ⟨33, _⟩ => ⟨S8x1x4096, .f32⟩
  | .hbm, ⟨34, _⟩ => ⟨S8x1x4096, .f32⟩
  | .hbm, ⟨35, _⟩ => ⟨S8x1x4096, .bf16⟩
  | .hbm, ⟨36, _⟩ => ⟨S8x1x4096, .f32⟩
  | .hbm, ⟨37, _⟩ => ⟨S_, .f32⟩
  | .hbm, ⟨38, _⟩ => ⟨S8x1, .f32⟩
  | .hbm, ⟨39, _⟩ => ⟨S8x1x1, .f32⟩
  | .hbm, ⟨40, _⟩ => ⟨S8192x4096, .f32⟩
  | .hbm, ⟨41, _⟩ => ⟨S8x4096, .f32⟩
  | .hbm, ⟨42, _⟩ => ⟨S_, .f32⟩
  | .hbm, ⟨43, _⟩ => ⟨S120x4096, .f32⟩
  | .hbm, ⟨44, _⟩ => ⟨S8320x4096, .f32⟩
  | .hbm, ⟨45, _⟩ => ⟨S8192x4096, .bf16⟩
  | .hbm, ⟨46, _⟩ => ⟨S8x4096, .bf16⟩
  | .hbm, ⟨47, _⟩ => ⟨S_, .bf16⟩
  | .hbm, ⟨48, _⟩ => ⟨S120x4096, .bf16⟩
  | .hbm, ⟨49, _⟩ => ⟨S8320x4096, .bf16⟩
  | .hbm, ⟨50, _⟩ => ⟨S8192x1, .f32⟩
  | .hbm, ⟨51, _⟩ => ⟨S8x1, .f32⟩
  | .hbm, ⟨52, _⟩ => ⟨S_, .f32⟩
  | .hbm, ⟨53, _⟩ => ⟨S120x1, .f32⟩
  | .hbm, ⟨54, _⟩ => ⟨S8320x1, .f32⟩
  | .hbm, ⟨55, _⟩ => ⟨S8320x128, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Proj.lean ====
abbrev S4x2048x4096 : Shape := ⟨3, ![4, 2048, 4096]⟩
abbrev S8x1x4096 : Shape := ⟨3, ![8, 1, 4096]⟩
abbrev S2x4096 : Shape := ⟨2, ![2, 4096]⟩
abbrev S2x4096x24208 : Shape := ⟨3, ![2, 4096, 24208]⟩
abbrev S95 : Shape := ⟨1, ![95]⟩
abbrev S8192x4096 : Shape := ⟨2, ![8192, 4096]⟩
abbrev S8x4096 : Shape := ⟨2, ![8, 4096]⟩
abbrev S_ : Shape := ⟨0, ![]⟩
abbrev S120x4096 : Shape := ⟨2, ![120, 4096]⟩
abbrev S8320x4096 : Shape := ⟨2, ![8320, 4096]⟩
abbrev S1x4096 : Shape := ⟨2, ![1, 4096]⟩
abbrev S4096 : Shape := ⟨1, ![4096]⟩
abbrev S8320 : Shape := ⟨1, ![8320]⟩
abbrev S8320x1 : Shape := ⟨2, ![8320, 1]⟩
abbrev S8320x128 : Shape := ⟨2, ![8320, 128]⟩
abbrev S2x24208x4096 : Shape := ⟨3, ![2, 24208, 4096]⟩
abbrev S8320x24320 : Shape := ⟨2, ![8320, 24320]⟩
abbrev S2080x4096 : Shape := ⟨2, ![2080, 4096]⟩
abbrev S1x256x4096 : Shape := ⟨3, ![1, 256, 4096]⟩
abbrev S1 : Shape := ⟨1, ![1]⟩
abbrev S2080x128 : Shape := ⟨2, ![2080, 128]⟩
abbrev S2080x256 : Shape := ⟨2, ![2080, 256]⟩
abbrev S256x4096 : Shape := ⟨2, ![256, 4096]⟩
abbrev S2080x1 : Shape := ⟨2, ![2080, 1]⟩

abbrev nBuf : Space → Nat
  | .hbm => 22
  | .vmem => 7
  | .smem => 1
  | _ => 0

abbrev bufTy : (tb : Table) → Fin (tcTables nBuf tb) → BufTy
  | .hbm, ⟨0, _⟩ => ⟨S4x2048x4096, .f32⟩
  | .hbm, ⟨1, _⟩ => ⟨S8x1x4096, .f32⟩
  | .hbm, ⟨2, _⟩ => ⟨S2x4096, .f32⟩
  | .hbm, ⟨3, _⟩ => ⟨S2x4096x24208, .f32⟩
  | .hbm, ⟨4, _⟩ => ⟨S8192x4096, .f32⟩
  | .hbm, ⟨5, _⟩ => ⟨S8x4096, .f32⟩
  | .hbm, ⟨6, _⟩ => ⟨S_, .f32⟩
  | .hbm, ⟨7, _⟩ => ⟨S120x4096, .f32⟩
  | .hbm, ⟨8, _⟩ => ⟨S8320x4096, .f32⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S8320x4096, .f32⟩
  | .hbm, ⟨13, _⟩ => ⟨S8320x4096, .f32⟩
  | .hbm, ⟨14, _⟩ => ⟨S8320x4096, .bf16⟩
  | .hbm, ⟨15, _⟩ => ⟨S8320x4096, .f32⟩
  | .hbm, ⟨16, _⟩ => ⟨S_, .f32⟩
  | .hbm, ⟨17, _⟩ => ⟨S8320, .f32⟩
  | .hbm, ⟨18, _⟩ => ⟨S8320x1, .f32⟩
  | .hbm, ⟨19, _⟩ => ⟨S8320x128, .f32⟩
  | .hbm, ⟨20, _⟩ => ⟨S2x24208x4096, .f32⟩
  | .hbm, ⟨21, _⟩ => ⟨S8320x24320, .f32⟩
  | .local _ .vmem, ⟨0, _⟩ => ⟨S2080x4096, .bf16⟩
  | .local _ .vmem, ⟨1, _⟩ => ⟨S1x256x4096, .f32⟩
  | .local _ .vmem, ⟨2, _⟩ => ⟨S1x256x4096, .f32⟩
  | .local _ .vmem, ⟨3, _⟩ => ⟨S2080x128, .f32⟩
  | .local _ .vmem, ⟨4, _⟩ => ⟨S2080x128, .f32⟩
  | .local _ .vmem, ⟨5, _⟩ => ⟨S2080x256, .f32⟩
  | .local _ .vmem, ⟨6, _⟩ => ⟨S2080x256, .f32⟩
  | .local _ .smem, ⟨0, _⟩ => ⟨S95, .i32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 95], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c8_i32 : BitVec 32 := 8#32
  let v2 : BitVec 32 := Scalar.muli v1 c8_i32
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S95.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S95) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  let c0_i32_1 : BitVec 32 := 0#32
  ![c0_i32.toNat, v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2080x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2080x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjReferenceIdeal.lean ====
abbrev S4x2048x4096 : Shape := ⟨3, ![4, 2048, 4096]⟩
abbrev S8x1x4096 : Shape := ⟨3, ![8, 1, 4096]⟩
abbrev S2x4096 : Shape := ⟨2, ![2, 4096]⟩
abbrev S2x4096x24208 : Shape := ⟨3, ![2, 4096, 24208]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S1x4096x24208 : Shape := ⟨3, ![1, 4096, 24208]⟩
abbrev S4096x24208 : Shape := ⟨2, ![4096, 24208]⟩
abbrev S4x2048x24208 : Shape := ⟨3, ![4, 2048, 24208]⟩
abbrev S8x1 : Shape := ⟨2, ![8, 1]⟩
abbrev S8x1x1 : Shape := ⟨3, ![8, 1, 1]⟩
abbrev S8x1x24208 : Shape := ⟨3, ![8, 1, 24208]⟩
abbrev S8192x24208 : Shape := ⟨2, ![8192, 24208]⟩
abbrev S8x24208 : Shape := ⟨2, ![8, 24208]⟩
abbrev S120x24208 : Shape := ⟨2, ![120, 24208]⟩
abbrev S8320x24208 : Shape := ⟨2, ![8320, 24208]⟩
abbrev S8320x12288 : Shape := ⟨2, ![8320, 12288]⟩
abbrev S8320x2048 : Shape := ⟨2, ![8320, 2048]⟩
abbrev S8320x5120 : Shape := ⟨2, ![8320, 5120]⟩
abbrev S8320x4096 : Shape := ⟨2, ![8320, 4096]⟩
abbrev S8320x512 : Shape := ⟨2, ![8320, 512]⟩
abbrev S8320x256 : Shape := ⟨2, ![8320, 256]⟩
abbrev S8320x24320 : Shape := ⟨2, ![8320, 24320]⟩

abbrev nBuf : Space → Nat
  | .hbm => 58
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x1x4096, .f32⟩
  | .hbm, ⟨2, _⟩ => ⟨S2x4096, .f32⟩
  | .hbm, ⟨3, _⟩ => ⟨S2x4096x24208, .f32⟩
  | .hbm, ⟨4, _⟩ => ⟨S1x4096, .f32⟩
  | .hbm, ⟨5, _⟩ => ⟨S4096, .f32⟩
  | .hbm, ⟨6, _⟩ => ⟨S4x2048x4096, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x4096, .f32⟩
  | .hbm, ⟨18, _⟩ => ⟨S4x2048x4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | .hbm, ⟨22, _⟩ => ⟨S1x4096x24208, .f32⟩
  | .hbm, ⟨23, _⟩ => ⟨S4096x24208, .f32⟩
  | .hbm, ⟨24, _⟩ => ⟨S4x2048x24208, .f32⟩
  | .hbm, ⟨25, _⟩ => ⟨S1x4096, .f32⟩
  | .hbm, ⟨26, _⟩ => ⟨S4096, .f32⟩
  | .hbm, ⟨27, _⟩ => ⟨S8x1x4096, .f32⟩
  | .hbm, ⟨28, _⟩ => ⟨S_, .f32⟩
  | .hbm, ⟨29, _⟩ => ⟨S8x1, .f32⟩
  | .hbm, ⟨30, _⟩ => ⟨S8x1x1, .f32⟩
  | .hbm, ⟨31, _⟩ => ⟨S_, .f32⟩
  | .hbm, ⟨32, _⟩ => ⟨S8x1x1, .f32⟩
  | .hbm, ⟨33, _⟩ => ⟨S8x1x1, .f32⟩
  | .hbm, ⟨34, _⟩ => ⟨S_, .f32⟩
  | .hbm, ⟨35, _⟩ => ⟨S8x1x1, .f32⟩
  | .hbm, ⟨36, _⟩ => ⟨S8x1x1, .f32⟩
  | .hbm, ⟨37, _⟩ => ⟨S8x1x1, .f32⟩
  | .hbm, ⟨38, _⟩ => ⟨S8x1x4096, .f32⟩
  | .hbm, ⟨39, _⟩ => ⟨S8x1x4096, .f32⟩
  | .hbm, ⟨40, _⟩ => ⟨S1x1x4096, .f32⟩
  | .hbm, ⟨41, _⟩ => ⟨S8x1x4096, .f32⟩
  | .hbm, ⟨42, _⟩ => ⟨S8x1x4096, .f32⟩
  | .hbm, ⟨43, _⟩ => ⟨S1x4096x24208, .f32⟩
  | .hbm, ⟨44, _⟩ => ⟨S4096x24208, .f32⟩
  | .hbm, ⟨45, _⟩ => ⟨S8x1x24208, .f32⟩
  | .hbm, ⟨46, _⟩ => ⟨S8192x24208, .f32⟩
  | .hbm, ⟨47, _⟩ => ⟨S8x24208, .f32⟩
  | .hbm, ⟨48, _⟩ => ⟨S_, .f32⟩
  | .hbm, ⟨49, _⟩ => ⟨S120x24208, .f32⟩
  | .hbm, ⟨50, _⟩ => ⟨S8320x24208, .f32⟩
  | .hbm, ⟨51, _⟩ => ⟨S8320x12288, .f32⟩
  | .hbm, ⟨52, _⟩ => ⟨S8320x2048, .f32⟩
  | .hbm, ⟨53, _⟩ => ⟨S8320x5120, .f32⟩
  | .hbm, ⟨54, _⟩ => ⟨S8320x4096, .f32⟩
  | .hbm, ⟨55, _⟩ => ⟨S8320x512, .f32⟩
  | .hbm, ⟨56, _⟩ => ⟨S8320x256, .f32⟩
  | .hbm, ⟨57, _⟩ => ⟨S8320x24320, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]
-- ==== Merge.lean ====
abbrev S4x2048x1024 : Shape := ⟨3, ![4, 2048, 1024]⟩
abbrev S8x1x1024 : Shape := ⟨3, ![8, 1, 1024]⟩
abbrev S4x2048x4096 : Shape := ⟨3, ![4, 2048, 4096]⟩
abbrev S8x1x4096 : Shape := ⟨3, ![8, 1, 4096]⟩
abbrev S2x1024x4096 : Shape := ⟨3, ![2, 1024, 4096]⟩
abbrev S8192x1024 : Shape := ⟨2, ![8192, 1024]⟩
abbrev S8x1024 : Shape := ⟨2, ![8, 1024]⟩
abbrev S_ : Shape := ⟨0, ![]⟩
abbrev S120x1024 : Shape := ⟨2, ![120, 1024]⟩
abbrev S8320x1024 : Shape := ⟨2, ![8320, 1024]⟩
abbrev S8192x4096 : Shape := ⟨2, ![8192, 4096]⟩
abbrev S8x4096 : Shape := ⟨2, ![8, 4096]⟩
abbrev S120x4096 : Shape := ⟨2, ![120, 4096]⟩
abbrev S8320x4096 : Shape := ⟨2, ![8320, 4096]⟩
abbrev S8320x12032 : Shape := ⟨2, ![8320, 12032]⟩
abbrev S8320x24320 : Shape := ⟨2, ![8320, 24320]⟩
abbrev S1040x1024 : Shape := ⟨2, ![1040, 1024]⟩
abbrev S1x1024x256 : Shape := ⟨3, ![1, 1024, 256]⟩
abbrev S1040x256 : Shape := ⟨2, ![1040, 256]⟩
abbrev S1024x256 : Shape := ⟨2, ![1024, 256]⟩

abbrev nBuf : Space → Nat
  | .hbm => 52
  | .vmem => 20
  | .smem => 0
  | _ => 0

abbrev bufTy : (tb : Table) → Fin (tcTables nBuf tb) → BufTy
  | .hbm, ⟨0, _⟩ => ⟨S4x2048x1024, .bf16⟩
  | .hbm, ⟨1, _⟩ => ⟨S8x1x1024, .bf16⟩
  | .hbm, ⟨2, _⟩ => ⟨S4x2048x1024, .bf16⟩
  | .hbm, ⟨3, _⟩ => ⟨S8x1x1024, .bf16⟩
  | .hbm, ⟨4, _⟩ => ⟨S4x2048x1024, .bf16⟩
  | .hbm, ⟨5, _⟩ => ⟨S8x1x1024, .bf16⟩
  | .hbm, ⟨6, _⟩ => ⟨S4x2048x4096, .f32⟩
  | .hbm, ⟨7, _⟩ => ⟨S8x1x4096, .f32⟩
  | .hbm, ⟨8, _⟩ => ⟨S4x2048x4096, .f32⟩
  | .hbm, ⟨9, _⟩ => ⟨S8x1x4096, .f32⟩
  | .hbm, ⟨10, _⟩ => ⟨S4x2048x4096, .f32⟩
  | .hbm, ⟨11, _⟩ => ⟨S8x1x4096, .f32⟩
  | .hbm, ⟨12, _⟩ => ⟨S2x1024x4096, .f32⟩
  | .hbm, ⟨13, _⟩ => ⟨S2x1024x4096, .f32⟩
  | .hbm, ⟨14, _⟩ => ⟨S2x1024x4096, .f32⟩
  | .hbm, ⟨15, _⟩ => ⟨S8192x1024, .bf16⟩
  | .hbm, ⟨16, _⟩ => ⟨S8x1024, .bf16⟩
  | .hbm, ⟨17, _⟩ => ⟨S_, .bf16⟩
  | .hbm, ⟨18, _⟩ => ⟨S120x1024, .bf16⟩
  | .hbm, ⟨19, _⟩ => ⟨S8320x1024, .bf16⟩
  | .hbm, ⟨20, _⟩ => ⟨S8192x1024, .bf16⟩
  | .hbm, ⟨21, _⟩ => ⟨S8x1024, .bf16⟩
  | .hbm, ⟨22, _⟩ => ⟨S_, .bf16⟩
  | .hbm, ⟨23, _⟩ => ⟨S120x1024, .bf16⟩
  | .hbm, ⟨24, _⟩ => ⟨S8320x1024, .bf16⟩
  | .hbm, ⟨25, _⟩ => ⟨S8192x1024, .bf16⟩
  | .hbm, ⟨26, _⟩ => ⟨S8x1024, .bf16⟩
  | .hbm, ⟨27, _⟩ => ⟨S_, .bf16⟩
  | .hbm, ⟨28, _⟩ => ⟨S120x1024, .bf16⟩
  | .hbm, ⟨29, _⟩ => ⟨S8320x1024, .bf16⟩
  | .hbm, ⟨30, _⟩ => ⟨S8192x4096, .f32⟩
  | .hbm, ⟨31, _⟩ => ⟨S8x4096, .f32⟩
  | .hbm, ⟨32, _⟩ => ⟨S_, .f32⟩
  | .hbm, ⟨33, _⟩ => ⟨S120x4096, .f32⟩
  | .hbm, ⟨34, _⟩ => ⟨S8320x4096, .f32⟩
  | .hbm, ⟨35, _⟩ => ⟨S8192x4096, .f32⟩
  | .hbm, ⟨36, _⟩ => ⟨S8x4096, .f32⟩
  | .hbm, ⟨37, _⟩ => ⟨S_, .f32⟩
  | .hbm, ⟨38, _⟩ => ⟨S120x4096, .f32⟩
  | .hbm, ⟨39, _⟩ => ⟨S8320x4096, .f32⟩
  | .hbm, ⟨40, _⟩ => ⟨S8192x4096, .f32⟩
  | .hbm, ⟨41, _⟩ => ⟨S8x4096, .f32⟩
  | .hbm, ⟨42, _⟩ => ⟨S_, .f32⟩
  | .hbm, ⟨43, _⟩ => ⟨S120x4096, .f32⟩
  | .hbm, ⟨44, _⟩ => ⟨S8320x4096, .f32⟩
  | .hbm, ⟨45, _⟩ => ⟨S_, .f32⟩
  | .hbm, ⟨46, _⟩ => ⟨S8320x12032, .f32⟩
  | .hbm, ⟨47, _⟩ => ⟨S8320x24320, .f32⟩
  | .hbm, ⟨48, _⟩ => ⟨S2x1024x4096, .bf16⟩
  | .hbm, ⟨49, _⟩ => ⟨S2x1024x4096, .bf16⟩
  | .hbm, ⟨50, _⟩ => ⟨S2x1024x4096, .bf16⟩
  | .hbm, ⟨51, _⟩ => ⟨S8320x4096, .bf16⟩
  | .local _ .vmem, ⟨0, _⟩ => ⟨S1040x1024, .bf16⟩
  | .local _ .vmem, ⟨1, _⟩ => ⟨S1040x1024, .bf16⟩
  | .local _ .vmem, ⟨2, _⟩ => ⟨S1040x1024, .bf16⟩
  | .local _ .vmem, ⟨3, _⟩ => ⟨S1040x1024, .bf16⟩
  | .local _ .vmem, ⟨4, _⟩ => ⟨S1040x1024, .bf16⟩
  | .local _ .vmem, ⟨5, _⟩ => ⟨S1040x1024, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1040x256, .f32⟩
  | .local _ .vmem, ⟨13, _⟩ => ⟨S1040x256, .f32⟩
  | .local _ .vmem, ⟨14, _⟩ => ⟨S1040x256, .f32⟩
  | .local _ .vmem, ⟨15, _⟩ => ⟨S1040x256, .f32⟩
  | .local _ .vmem, ⟨16, _⟩ => ⟨S1040x256, .f32⟩
  | .local _ .vmem, ⟨17, _⟩ => ⟨S1040x256, .f32⟩
  | .local _ .vmem, ⟨18, _⟩ => ⟨S1040x256, .bf16⟩
  | .local _ .vmem, ⟨19, _⟩ => ⟨S1040x256, .bf16⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1040x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1040x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1040x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1040x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1040x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeReferenceIdeal.lean ====
abbrev S4x2048x1024 : Shape := ⟨3, ![4, 2048, 1024]⟩
abbrev S8x1x1024 : Shape := ⟨3, ![8, 1, 1024]⟩
abbrev S4x2048x4096 : Shape := ⟨3, ![4, 2048, 4096]⟩
abbrev S8x1x4096 : Shape := ⟨3, ![8, 1, 4096]⟩
abbrev S2x1024x4096 : Shape := ⟨3, ![2, 1024, 4096]⟩
abbrev S_ : Shape := ⟨0, ![]⟩
abbrev S1x1024x4096 : Shape := ⟨3, ![1, 1024, 4096]⟩
abbrev S1024x4096 : Shape := ⟨2, ![1024, 4096]⟩
abbrev S8192x4096 : Shape := ⟨2, ![8192, 4096]⟩
abbrev S8x4096 : Shape := ⟨2, ![8, 4096]⟩
abbrev S120x4096 : Shape := ⟨2, ![120, 4096]⟩
abbrev S8320x4096 : Shape := ⟨2, ![8320, 4096]⟩

abbrev nBuf : Space → Nat
  | .hbm => 104
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S8x1x1024, .bf16⟩
  | .hbm, ⟨2, _⟩ => ⟨S4x2048x1024, .bf16⟩
  | .hbm, ⟨3, _⟩ => ⟨S8x1x1024, .bf16⟩
  | .hbm, ⟨4, _⟩ => ⟨S4x2048x1024, .bf16⟩
  | .hbm, ⟨5, _⟩ => ⟨S8x1x1024, .bf16⟩
  | .hbm, ⟨6, _⟩ => ⟨S4x2048x4096, .f32⟩
  | .hbm, ⟨7, _⟩ => ⟨S8x1x4096, .f32⟩
  | .hbm, ⟨8, _⟩ => ⟨S4x2048x4096, .f32⟩
  | .hbm, ⟨9, _⟩ => ⟨S8x1x4096, .f32⟩
  | .hbm, ⟨10, _⟩ => ⟨S4x2048x4096, .f32⟩
  | .hbm, ⟨11, _⟩ => ⟨S8x1x4096, .f32⟩
  | .hbm, ⟨12, _⟩ => ⟨S2x1024x4096, .f32⟩
  | .hbm, ⟨13, _⟩ => ⟨S2x1024x4096, .f32⟩
  | .hbm, ⟨14, _⟩ => ⟨S2x1024x4096, .f32⟩
  | .hbm, ⟨15, _⟩ => ⟨S4x2048x4096, .f32⟩
  | .hbm, ⟨16, _⟩ => ⟨S4x2048x4096, .f32⟩
  | .hbm, ⟨17, _⟩ => ⟨S_, .f32⟩
  | .hbm, ⟨18, _⟩ => ⟨S4x2048x4096, .f32⟩
  | .hbm, ⟨19, _⟩ => ⟨S4x2048x4096, .f32⟩
  | .hbm, ⟨20, _⟩ => ⟨S_, .f32⟩
  | .hbm, ⟨21, _⟩ => ⟨S4x2048x4096, .f32⟩
  | .hbm, ⟨22, _⟩ => ⟨S4x2048x4096, .f32⟩
  | .hbm, ⟨23, _⟩ => ⟨S4x2048x1024, .f32⟩
  | .hbm, ⟨24, _⟩ => ⟨S1x1024x4096, .f32⟩
  | .hbm, ⟨25, _⟩ => ⟨S1024x4096, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | .hbm, ⟨30, _⟩ => ⟨S_, .f32⟩
  | .hbm, ⟨31, _⟩ => ⟨S4x2048x4096, .f32⟩
  | .hbm, ⟨32, _⟩ => ⟨S4x2048x4096, .f32⟩
  | .hbm, ⟨33, _⟩ => ⟨S_, .f32⟩
  | .hbm, ⟨34, _⟩ => ⟨S4x2048x4096, .f32⟩
  | .hbm, ⟨35, _⟩ => ⟨S4x2048x4096, .f32⟩
  | .hbm, ⟨36, _⟩ => ⟨S4x2048x1024, .f32⟩
  | .hbm, ⟨37, _⟩ => ⟨S1x1024x4096, .f32⟩
  | .hbm, ⟨38, _⟩ => ⟨S1024x4096, .f32⟩
  | .hbm, ⟨39, _⟩ => ⟨S4x2048x4096, .f32⟩
  | .hbm, ⟨40, _⟩ => ⟨S4x2048x4096, .f32⟩
  | .hbm, ⟨41, _⟩ => ⟨S4x2048x4096, .f32⟩
  | .hbm, ⟨42, _⟩ => ⟨S4x2048x4096, .f32⟩
  | .hbm, ⟨43, _⟩ => ⟨S4x2048x4096, .f32⟩
  | .hbm, ⟨44, _⟩ => ⟨S_, .f32⟩
  | .hbm, ⟨45, _⟩ => ⟨S4x2048x4096, .f32⟩
  | .hbm, ⟨46, _⟩ => ⟨S4x2048x4096, .f32⟩
  | .hbm, ⟨47, _⟩ => ⟨S_, .f32⟩
  | .hbm, ⟨48, _⟩ => ⟨S4x2048x4096, .f32⟩
  | .hbm, ⟨49, _⟩ => ⟨S4x2048x4096, .f32⟩
  | .hbm, ⟨50, _⟩ => ⟨S4x2048x1024, .f32⟩
  | .hbm, ⟨51, _⟩ => ⟨S1x1024x4096, .f32⟩
  | .hbm, ⟨52, _⟩ => ⟨S1024x4096, .f32⟩
  | .hbm, ⟨53, _⟩ => ⟨S4x2048x4096, .f32⟩
  | .hbm, ⟨54, _⟩ => ⟨S4x2048x4096, .f32⟩
  | .hbm, ⟨55, _⟩ => ⟨S4x2048x4096, .f32⟩
  | .hbm, ⟨56, _⟩ => ⟨S4x2048x4096, .bf16⟩
  | .hbm, ⟨57, _⟩ => ⟨S8192x4096, .bf16⟩
  | .hbm, ⟨58, _⟩ => ⟨S8x1x4096, .f32⟩
  | .hbm, ⟨59, _⟩ => ⟨S8x1x4096, .f32⟩
  | .hbm, ⟨60, _⟩ => ⟨S_, .f32⟩
  | .hbm, ⟨61, _⟩ => ⟨S8x1x4096, .f32⟩
  | .hbm, ⟨62, _⟩ => ⟨S8x1x4096, .f32⟩
  | .hbm, ⟨63, _⟩ => ⟨S_, .f32⟩
  | .hbm, ⟨64, _⟩ => ⟨S8x1x4096, .f32⟩
  | .hbm, ⟨65, _⟩ => ⟨S8x1x4096, .f32⟩
  | .hbm, ⟨66, _⟩ => ⟨S8x1x1024, .f32⟩
  | .hbm, ⟨67, _⟩ => ⟨S1x1024x4096, .f32⟩
  | .hbm, ⟨68, _⟩ => ⟨S1024x4096, .f32⟩
  | .hbm, ⟨69, _⟩ => ⟨S8x1x4096, .f32⟩
  | .hbm, ⟨70, _⟩ => ⟨S8x1x4096, .f32⟩
  | .hbm, ⟨71, _⟩ => ⟨S8x1x4096, .f32⟩
  | .hbm, ⟨72, _⟩ => ⟨S8x1x4096, .f32⟩
  | .hbm, ⟨73, _⟩ => ⟨S_, .f32⟩
  | .hbm, ⟨74, _⟩ => ⟨S8x1x4096, .f32⟩
  | .hbm, ⟨75, _⟩ => ⟨S8x1x4096, .f32⟩
  | .hbm, ⟨76, _⟩ => ⟨S_, .f32⟩
  | .hbm, ⟨77, _⟩ => ⟨S8x1x4096, .f32⟩
  | .hbm, ⟨78, _⟩ => ⟨S8x1x4096, .f32⟩
  | .hbm, ⟨79, _⟩ => ⟨S8x1x1024, .f32⟩
  | .hbm, ⟨80, _⟩ => ⟨S1x1024x4096, .f32⟩
  | .hbm, ⟨81, _⟩ => ⟨S1024x4096, .f32⟩
  | .hbm, ⟨82, _⟩ => ⟨S8x1x4096, .f32⟩
  | .hbm, ⟨83, _⟩ => ⟨S8x1x4096, .f32⟩
  | .hbm, ⟨84, _⟩ => ⟨S8x1x4096, .f32⟩
  | .hbm, ⟨85, _⟩ => ⟨S8x1x4096, .f32⟩
  | .hbm, ⟨86, _⟩ => ⟨S8x1x4096, .f32⟩
  | .hbm, ⟨87, _⟩ => ⟨S_, .f32⟩
  | .hbm, ⟨88, _⟩ => ⟨S8x1x4096, .f32⟩
  | .hbm, ⟨89, _⟩ => ⟨S8x1x4096, .f32⟩
  | .hbm, ⟨90, _⟩ => ⟨S_, .f32⟩
  | .hbm, ⟨91, _⟩ => ⟨S8x1x4096, .f32⟩
  | .hbm, ⟨92, _⟩ => ⟨S8x1x4096, .f32⟩
  | .hbm, ⟨93, _⟩ => ⟨S8x1x1024, .f32⟩
  | .hbm, ⟨94, _⟩ => ⟨S1x1024x4096, .f32⟩
  | .hbm, ⟨95, _⟩ => ⟨S1024x4096, .f32⟩
  | .hbm, ⟨96, _⟩ => ⟨S8x1x4096, .f32⟩
  | .hbm, ⟨97, _⟩ => ⟨S8x1x4096, .f32⟩
  | .hbm, ⟨98, _⟩ => ⟨S8x1x4096, .f32⟩
  | .hbm, ⟨99, _⟩ => ⟨S8x1x4096, .bf16⟩
  | .hbm, ⟨100, _⟩ => ⟨S8x4096, .bf16⟩
  | .hbm, ⟨101, _⟩ => ⟨S_, .bf16⟩
  | .hbm, ⟨102, _⟩ => ⟨S120x4096, .bf16⟩
  | .hbm, ⟨103, _⟩ => ⟨S8320x4096, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_11 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]
-- ==== Out.lean ====
abbrev S4x2048x4096 : Shape := ⟨3, ![4, 2048, 4096]⟩
abbrev S8x1x4096 : Shape := ⟨3, ![8, 1, 4096]⟩
abbrev S2x4096x4096 : Shape := ⟨3, ![2, 4096, 4096]⟩
abbrev S2x4096 : Shape := ⟨2, ![2, 4096]⟩
abbrev S8192x4096 : Shape := ⟨2, ![8192, 4096]⟩
abbrev S8x4096 : Shape := ⟨2, ![8, 4096]⟩
abbrev S_ : Shape := ⟨0, ![]⟩
abbrev S120x4096 : Shape := ⟨2, ![120, 4096]⟩
abbrev S8320x4096 : Shape := ⟨2, ![8320, 4096]⟩
abbrev S2x1x4096 : Shape := ⟨3, ![2, 1, 4096]⟩
abbrev S8320x128 : Shape := ⟨2, ![8320, 128]⟩
abbrev S1040x4096 : Shape := ⟨2, ![1040, 4096]⟩
abbrev S1x4096x256 : Shape := ⟨3, ![1, 4096, 256]⟩
abbrev S1040x256 : Shape := ⟨2, ![1040, 256]⟩
abbrev S1x1x256 : Shape := ⟨3, ![1, 1, 256]⟩
abbrev S1040x128 : Shape := ⟨2, ![1040, 128]⟩
abbrev S4096x256 : Shape := ⟨2, ![4096, 256]⟩
abbrev S1x256 : Shape := ⟨2, ![1, 256]⟩
abbrev S1040 : Shape := ⟨1, ![1040]⟩
abbrev S1040x1 : Shape := ⟨2, ![1040, 1]⟩

abbrev nBuf : Space → Nat
  | .hbm => 21
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S8x1x4096, .f32⟩
  | .hbm, ⟨2, _⟩ => ⟨S4x2048x4096, .bf16⟩
  | .hbm, ⟨3, _⟩ => ⟨S8x1x4096, .bf16⟩
  | .hbm, ⟨4, _⟩ => ⟨S2x4096x4096, .f32⟩
  | .hbm, ⟨5, _⟩ => ⟨S2x4096, .f32⟩
  | .hbm, ⟨6, _⟩ => ⟨S8192x4096, .f32⟩
  | .hbm, ⟨7, _⟩ => ⟨S8x4096, .f32⟩
  | .hbm, ⟨8, _⟩ => ⟨S_, .f32⟩
  | .hbm, ⟨9, _⟩ => ⟨S120x4096, .f32⟩
  | .hbm, ⟨10, _⟩ => ⟨S8320x4096, .f32⟩
  | .hbm, ⟨11, _⟩ => ⟨S8192x4096, .bf16⟩
  | .hbm, ⟨12, _⟩ => ⟨S8x4096, .bf16⟩
  | .hbm, ⟨13, _⟩ => ⟨S_, .bf16⟩
  | .hbm, ⟨14, _⟩ => ⟨S120x4096, .bf16⟩
  | .hbm, ⟨15, _⟩ => ⟨S8320x4096, .bf16⟩
  | .hbm, ⟨16, _⟩ => ⟨S2x4096x4096, .bf16⟩
  | .hbm, ⟨17, _⟩ => ⟨S2x1x4096, .f32⟩
  | .hbm, ⟨18, _⟩ => ⟨S8320x4096, .f32⟩
  | .hbm, ⟨19, _⟩ => ⟨S8320x4096, .bf16⟩
  | .hbm, ⟨20, _⟩ => ⟨S8320x128, .f32⟩
  | .local _ .vmem, ⟨0, _⟩ => ⟨S1040x4096, .bf16⟩
  | .local _ .vmem, ⟨1, _⟩ => ⟨S1040x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S1040x256, .f32⟩
  | .local _ .vmem, ⟨5, _⟩ => ⟨S1040x256, .f32⟩
  | .local _ .vmem, ⟨6, _⟩ => ⟨S1x1x256, .f32⟩
  | .local _ .vmem, ⟨7, _⟩ => ⟨S1x1x256, .f32⟩
  | .local _ .vmem, ⟨8, _⟩ => ⟨S1040x256, .f32⟩
  | .local _ .vmem, ⟨9, _⟩ => ⟨S1040x256, .f32⟩
  | .local _ .vmem, ⟨10, _⟩ => ⟨S1040x256, .bf16⟩
  | .local _ .vmem, ⟨11, _⟩ => ⟨S1040x256, .bf16⟩
  | .local _ .vmem, ⟨12, _⟩ => ⟨S1040x128, .f32⟩
  | .local _ .vmem, ⟨13, _⟩ => ⟨S1040x128, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v22 : BitVec 1 := Scalar.cmpi .eq arg1 c0_i32
  let v23 : BitVec 32 := Scalar.extui v22
  let c0_i32_15 : BitVec 32 := 0#32
  let v24 : BitVec 1 := Scalar.cmpi .ne v23 c0_i32_15
  v24

def k0_cond2 (i : grid0.Coords) : BitVec 1 :=
  let arg1 : BitVec 32 := BitVec.ofNat 32 (i 1).val
  let c0_i32_16 : BitVec 32 := 0#32
  let v25 : BitVec 1 := Scalar.cmpi .sgt arg1 c0_i32_16
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1040x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1040x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1040x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutReferenceIdeal.lean ====
abbrev S4x2048x4096 : Shape := ⟨3, ![4, 2048, 4096]⟩
abbrev S8x1x4096 : Shape := ⟨3, ![8, 1, 4096]⟩
abbrev S2x4096x4096 : Shape := ⟨3, ![2, 4096, 4096]⟩
abbrev S2x4096 : Shape := ⟨2, ![2, 4096]⟩
abbrev S1x4096x4096 : Shape := ⟨3, ![1, 4096, 4096]⟩
abbrev S4096x4096 : Shape := ⟨2, ![4096, 4096]⟩
abbrev S1x4096 : Shape := ⟨2, ![1, 4096]⟩
abbrev S4096 : Shape := ⟨1, ![4096]⟩
abbrev S1x1x4096 : Shape := ⟨3, ![1, 1, 4096]⟩
abbrev S_ : Shape := ⟨0, ![]⟩
abbrev S4x2048 : Shape := ⟨2, ![4, 2048]⟩
abbrev S4x2048x1 : Shape := ⟨3, ![4, 2048, 1]⟩
abbrev S8x1 : Shape := ⟨2, ![8, 1]⟩
abbrev S8x1x1 : Shape := ⟨3, ![8, 1, 1]⟩
abbrev S8192x4096 : Shape := ⟨2, ![8192, 4096]⟩
abbrev S8x4096 : Shape := ⟨2, ![8, 4096]⟩
abbrev S120x4096 : Shape := ⟨2, ![120, 4096]⟩
abbrev S8320x4096 : Shape := ⟨2, ![8320, 4096]⟩
abbrev S8192x1 : Shape := ⟨2, ![8192, 1]⟩
abbrev S120x1 : Shape := ⟨2, ![120, 1]⟩
abbrev S8320x1 : Shape := ⟨2, ![8320, 1]⟩
abbrev S8320x128 : Shape := ⟨2, ![8320, 128]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8x1x4096, .f32⟩
  | .hbm, ⟨2, _⟩ => ⟨S4x2048x4096, .bf16⟩
  | .hbm, ⟨3, _⟩ => ⟨S8x1x4096, .bf16⟩
  | .hbm, ⟨4, _⟩ => ⟨S2x4096x4096, .f32⟩
  | .hbm, ⟨5, _⟩ => ⟨S2x4096, .f32⟩
  | .hbm, ⟨6, _⟩ => ⟨S4x2048x4096, .f32⟩
  | .hbm, ⟨7, _⟩ => ⟨S1x4096x4096, .f32⟩
  | .hbm, ⟨8, _⟩ => ⟨S4096x4096, .f32⟩
  | .hbm, ⟨9, _⟩ => ⟨S4x2048x4096, .f32⟩
  | .hbm, ⟨10, _⟩ => ⟨S4x2048x4096, .f32⟩
  | .hbm, ⟨11, _⟩ => ⟨S1x4096, .f32⟩
  | .hbm, ⟨12, _⟩ => ⟨S4096, .f32⟩
  | .hbm, ⟨13, _⟩ => ⟨S1x1x4096, .f32⟩
  | .hbm, ⟨14, _⟩ => ⟨S4x2048x4096, .f32⟩
  | .hbm, ⟨15, _⟩ => ⟨S4x2048x4096, .f32⟩
  | .hbm, ⟨16, _⟩ => ⟨S4x2048x4096, .bf16⟩
  | .hbm, ⟨17, _⟩ => ⟨S4x2048x4096, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S8x1x4096, .f32⟩
  | .hbm, ⟨22, _⟩ => ⟨S1x4096x4096, .f32⟩
  | .hbm, ⟨23, _⟩ => ⟨S4096x4096, .f32⟩
  | .hbm, ⟨24, _⟩ => ⟨S8x1x4096, .f32⟩
  | .hbm, ⟨25, _⟩ => ⟨S8x1x4096, .f32⟩
  | .hbm, ⟨26, _⟩ => ⟨S1x4096, .f32⟩
  | .hbm, ⟨27, _⟩ => ⟨S4096, .f32⟩
  | .hbm, ⟨28, _⟩ => ⟨S1x1x4096, .f32⟩
  | .hbm, ⟨29, _⟩ => ⟨S8x1x4096, .f32⟩
  | .hbm, ⟨30, _⟩ => ⟨S8x1x4096, .f32⟩
  | .hbm, ⟨31, _⟩ => ⟨S8x1x4096, .bf16⟩
  | .hbm, ⟨32, _⟩ => ⟨S8x1x4096, .f32⟩
  | .hbm, ⟨33, _⟩ => ⟨S_, .f32⟩
  | .hbm, ⟨34, _⟩ => ⟨S8x1, .f32⟩
  | .hbm, ⟨35, _⟩ => ⟨S8x1x1, .f32⟩
  | .hbm, ⟨36, _⟩ => ⟨S8192x4096, .f32⟩
  | .hbm, ⟨37, _⟩ => ⟨S8x4096, .f32⟩
  | .hbm, ⟨38, _⟩ => ⟨S_, .f32⟩
  | .hbm, ⟨39, _⟩ => ⟨S120x4096, .f32⟩
  | .hbm, ⟨40, _⟩ => ⟨S8320x4096, .f32⟩
  | .hbm, ⟨41, _⟩ => ⟨S8192x4096, .bf16⟩
  | .hbm, ⟨42, _⟩ => ⟨S8x4096, .bf16⟩
  | .hbm, ⟨43, _⟩ => ⟨S_, .bf16⟩
  | .hbm, ⟨44, _⟩ => ⟨S120x4096, .bf16⟩
  | .hbm, ⟨45, _⟩ => ⟨S8320x4096, .bf16⟩
  | .hbm, ⟨46, _⟩ => ⟨S8192x1, .f32⟩
  | .hbm, ⟨47, _⟩ => ⟨S8x1, .f32⟩
  | .hbm, ⟨48, _⟩ => ⟨S_, .f32⟩
  | .hbm, ⟨49, _⟩ => ⟨S120x1, .f32⟩
  | .hbm, ⟨50, _⟩ => ⟨S8320x1, .f32⟩
  | .hbm, ⟨51, _⟩ => ⟨S8320x128, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Keys.lean ====
abbrev S4x2048x24208 : Shape := ⟨3, ![4, 2048, 24208]⟩
abbrev S8x1x24208 : Shape := ⟨3, ![8, 1, 24208]⟩
abbrev S2x128 : Shape := ⟨2, ![2, 128]⟩
abbrev S2048 : Shape := ⟨1, ![2048]⟩
abbrev S64 : Shape := ⟨1, ![64]⟩
abbrev S_ : Shape := ⟨0, ![]⟩
abbrev S32 : Shape := ⟨1, ![32]⟩
abbrev S2048x1 : Shape := ⟨2, ![2048, 1]⟩
abbrev S1x64 : Shape := ⟨2, ![1, 64]⟩
abbrev S2048x64 : Shape := ⟨2, ![2048, 64]⟩
abbrev S2048x0 : Shape := ⟨2, ![2048, 0]⟩
abbrev S2048x128 : Shape := ⟨2, ![2048, 128]⟩
abbrev S1x32 : Shape := ⟨2, ![1, 32]⟩
abbrev S2048x32 : Shape := ⟨2, ![2048, 32]⟩
abbrev S8192x24208 : Shape := ⟨2, ![8192, 24208]⟩
abbrev S8x24208 : Shape := ⟨2, ![8, 24208]⟩
abbrev S120x24208 : Shape := ⟨2, ![120, 24208]⟩
abbrev S8320x24208 : Shape := ⟨2, ![8320, 24208]⟩
abbrev S8320x12288 : Shape := ⟨2, ![8320, 12288]⟩
abbrev S8320x2048 : Shape := ⟨2, ![8320, 2048]⟩
abbrev S8320x5120 : Shape := ⟨2, ![8320, 5120]⟩
abbrev S8320x4096 : Shape := ⟨2, ![8320, 4096]⟩
abbrev S8320x512 : Shape := ⟨2, ![8320, 512]⟩
abbrev S8320x256 : Shape := ⟨2, ![8320, 256]⟩
abbrev S8320x24320 : Shape := ⟨2, ![8320, 24320]⟩
abbrev S2x1x128 : Shape := ⟨3, ![2, 1, 128]⟩
abbrev S8192x1024 : Shape := ⟨2, ![8192, 1024]⟩
abbrev S8192x256 : Shape := ⟨2, ![8192, 256]⟩
abbrev S8192x2048 : Shape := ⟨2, ![8192, 2048]⟩
abbrev S8192x128 : Shape := ⟨2, ![8192, 128]⟩
abbrev S256x1024 : Shape := ⟨2, ![256, 1024]⟩
abbrev S256x256 : Shape := ⟨2, ![256, 256]⟩
abbrev S256x2048 : Shape := ⟨2, ![256, 2048]⟩
abbrev S256x128 : Shape := ⟨2, ![256, 128]⟩
abbrev S1x1x128 : Shape := ⟨3, ![1, 1, 128]⟩
abbrev S1x128 : Shape := ⟨2, ![1, 128]⟩
abbrev S256 : Shape := ⟨1, ![256]⟩
abbrev S256x1 : Shape := ⟨2, ![256, 1]⟩

abbrev nBuf : Space → Nat
  | .hbm => 90
  | .vmem => 42
  | .smem => 0
  | _ => 0

abbrev bufTy : (tb : Table) → Fin (tcTables nBuf tb) → BufTy
  | .hbm, ⟨0, _⟩ => ⟨S4x2048x24208, .f32⟩
  | .hbm, ⟨1, _⟩ => ⟨S8x1x24208, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2048, .i32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S2048, .f32⟩
  | .hbm, ⟨36, _⟩ => ⟨S2048x1, .f32⟩
  | .hbm, ⟨37, _⟩ => ⟨S1x64, .f32⟩
  | .hbm, ⟨38, _⟩ => ⟨S2048x64, .f32⟩
  | .hbm, ⟨39, _⟩ => ⟨S2048x64, .f32⟩
  | .hbm, ⟨40, _⟩ => ⟨S2048x64, .f32⟩
  | .hbm, ⟨41, _⟩ => ⟨S2048x64, .f32⟩
  | .hbm, ⟨42, _⟩ => ⟨S2048x64, .f32⟩
  | .hbm, ⟨43, _⟩ => ⟨S_, .f32⟩
  | .hbm, ⟨44, _⟩ => ⟨S2048x0, .f32⟩
  | .hbm, ⟨45, _⟩ => ⟨S_, .f32⟩
  | .hbm, ⟨46, _⟩ => ⟨S2048x0, .f32⟩
  | .hbm, ⟨47, _⟩ => ⟨S2048x128, .f32⟩
  | .hbm, ⟨48, _⟩ => ⟨S2048x64, .f32⟩
  | .hbm, ⟨49, _⟩ => ⟨S2048x128, .f32⟩
  | .hbm, ⟨50, _⟩ => ⟨S2048, .f32⟩
  | .hbm, ⟨51, _⟩ => ⟨S2048x1, .f32⟩
  | .hbm, ⟨52, _⟩ => ⟨S1x32, .f32⟩
  | .hbm, ⟨53, _⟩ => ⟨S2048x32, .f32⟩
  | .hbm, ⟨54, _⟩ => ⟨S2048x32, .f32⟩
  | .hbm, ⟨55, _⟩ => ⟨S2048x32, .f32⟩
  | .hbm, ⟨56, _⟩ => ⟨S2048x32, .f32⟩
  | .hbm, ⟨57, _⟩ => ⟨S2048x32, .f32⟩
  | .hbm, ⟨58, _⟩ => ⟨S_, .f32⟩
  | .hbm, ⟨59, _⟩ => ⟨S2048x64, .f32⟩
  | .hbm, ⟨60, _⟩ => ⟨S_, .f32⟩
  | .hbm, ⟨61, _⟩ => ⟨S2048x64, .f32⟩
  | .hbm, ⟨62, _⟩ => ⟨S2048x128, .f32⟩
  | .hbm, ⟨63, _⟩ => ⟨S2048x32, .f32⟩
  | .hbm, ⟨64, _⟩ => ⟨S2048x128, .f32⟩
  | .hbm, ⟨65, _⟩ => ⟨S8192x24208, .f32⟩
  | .hbm, ⟨66, _⟩ => ⟨S8x24208, .f32⟩
  | .hbm, ⟨67, _⟩ => ⟨S_, .f32⟩
  | .hbm, ⟨68, _⟩ => ⟨S120x24208, .f32⟩
  | .hbm, ⟨69, _⟩ => ⟨S8320x24208, .f32⟩
  | .hbm, ⟨70, _⟩ => ⟨S8320x12288, .f32⟩
  | .hbm, ⟨71, _⟩ => ⟨S8320x2048, .f32⟩
  | .hbm, ⟨72, _⟩ => ⟨S8320x5120, .f32⟩
  | .hbm, ⟨73, _⟩ => ⟨S8320x4096, .f32⟩
  | .hbm, ⟨74, _⟩ => ⟨S8320x512, .f32⟩
  | .hbm, ⟨75, _⟩ => ⟨S8320x256, .f32⟩
  | .hbm, ⟨76, _⟩ => ⟨S8320x24320, .f32⟩
  | .hbm, ⟨77, _⟩ => ⟨S2x1x128, .f32⟩
  | .hbm, ⟨78, _⟩ => ⟨S2x1x128, .f32⟩
  | .hbm, ⟨79, _⟩ => ⟨S2x1x128, .f32⟩
  | .hbm, ⟨80, _⟩ => ⟨S2x1x128, .f32⟩
  | .hbm, ⟨81, _⟩ => ⟨S8192x1024, .bf16⟩
  | .hbm, ⟨82, _⟩ => ⟨S8192x256, .f32⟩
  | .hbm, ⟨83, _⟩ => ⟨S8192x256, .f32⟩
  | .hbm, ⟨84, _⟩ => ⟨S8192x256, .bf16⟩
  | .hbm, ⟨85, _⟩ => ⟨S8192x256, .bf16⟩
  | .hbm, ⟨86, _⟩ => ⟨S8192x2048, .bf16⟩
  | .hbm, ⟨87, _⟩ => ⟨S8192x128, .f32⟩
  | .hbm, ⟨88, _⟩ => ⟨S8192x128, .bf16⟩
  | .hbm, ⟨89, _⟩ => ⟨S8192x128, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x2048, .f32⟩
  | .local _ .vmem, ⟨7, _⟩ => ⟨S256x2048, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S256x1024, .bf16⟩
  | .local _ .vmem, ⟨25, _⟩ => ⟨S256x1024, .bf16⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .bf16⟩
  | .local _ .vmem, ⟨31, _⟩ => ⟨S256x256, .bf16⟩
  | .local _ .vmem, ⟨32, _⟩ => ⟨S256x256, .bf16⟩
  | .local _ .vmem, ⟨33, _⟩ => ⟨S256x256, .bf16⟩
  | .local _ .vmem, ⟨34, _⟩ => ⟨S256x2048, .bf16⟩
  | .local _ .vmem, ⟨35, _⟩ => ⟨S256x2048, .bf16⟩
  | .local _ .vmem, ⟨36, _⟩ => ⟨S256x128, .f32⟩
  | .local _ .vmem, ⟨37, _⟩ => ⟨S256x128, .f32⟩
  | .local _ .vmem, ⟨38, _⟩ => ⟨S256x128, .bf16⟩
  | .local _ .vmem, ⟨39, _⟩ => ⟨S256x128, .bf16⟩
  | .local _ .vmem, ⟨40, _⟩ => ⟨S256x128, .f32⟩
  | .local _ .vmem, ⟨41, _⟩ => ⟨S256x128, .f32⟩
  | _, _ => ⟨S4x2048x24208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62_0 : Ref sig .tc := ⟨.hbm, 81, rfl⟩
abbrev main_v62_1 : Ref sig .tc := ⟨.hbm, 82, rfl⟩
abbrev main_v62_2 : Ref sig .tc := ⟨.hbm, 83, rfl⟩
abbrev main_v62_3 : Ref sig .tc := ⟨.hbm, 84, rfl⟩
abbrev main_v62_4 : Ref sig .tc := ⟨.hbm, 85, rfl⟩
abbrev main_v62_5 : Ref sig .tc := ⟨.hbm, 86, rfl⟩
abbrev main_v62_6 : Ref sig .tc := ⟨.hbm, 87, rfl⟩
abbrev main_v62_7 : Ref sig .tc := ⟨.hbm, 88, rfl⟩
abbrev main_v62_8 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_1 (i : grid0.Coords) : Fin 2 → Nat :=
  let arg0 : BitVec 32 := BitVec.ofNat 32 (i 0).val
  let c92_i32 : BitVec 32 := 92#32
  let c0_i32 : BitVec 32 := 0#32
  ![arg0.toNat, c92_i32.toNat]

def cc0_transform_2 (i : grid0.Coords) : Fin 2 → Nat :=
  let arg0 : BitVec 32 := BitVec.ofNat 32 (i 0).val
  let c93_i32 : BitVec 32 := 93#32
  let c0_i32 : BitVec 32 := 0#32
  ![arg0.toNat, c93_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c188_i32 : BitVec 32 := 188#32
  let c0_i32 : BitVec 32 := 0#32
  ![arg0.toNat, c188_i32.toNat]

def cc0_transform_5 (i : grid0.Coords) : Fin 2 → Nat :=
  let arg0 : BitVec 32 := BitVec.ofNat 32 (i 0).val
  let c189_i32 : BitVec 32 := 189#32
  let c0_i32 : BitVec 32 := 0#32
  ![arg0.toNat, c189_i32.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== KeysReferenceIdeal.lean ====
abbrev S4x2048x24208 : Shape := ⟨3, ![4, 2048, 24208]⟩
abbrev S8x1x24208 : Shape := ⟨3, ![8, 1, 24208]⟩
abbrev S2x128 : Shape := ⟨2, ![2, 128]⟩
abbrev S2048 : Shape := ⟨1, ![2048]⟩
abbrev S1x128 : Shape := ⟨2, ![1, 128]⟩
abbrev S128 : Shape := ⟨1, ![128]⟩
abbrev S4x2048x256 : Shape := ⟨3, ![4, 2048, 256]⟩
abbrev S4x2048x128 : Shape := ⟨3, ![4, 2048, 128]⟩
abbrev S64 : Shape := ⟨1, ![64]⟩
abbrev S_ : Shape := ⟨0, ![]⟩
abbrev S4x2048x2x128 : Shape := ⟨4, ![4, 2048, 2, 128]⟩
abbrev S4x2048x2 : Shape := ⟨3, ![4, 2048, 2]⟩
abbrev S4x2048x2x1 : Shape := ⟨4, ![4, 2048, 2, 1]⟩
abbrev S1x1x1x128 : Shape := ⟨4, ![1, 1, 1, 128]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S4x2048x2x64 : Shape := ⟨4, ![4, 2048, 2, 64]⟩
abbrev S1x2048x1x64 : Shape := ⟨4, ![1, 2048, 1, 64]⟩
abbrev S32 : Shape := ⟨1, ![32]⟩
abbrev S4x2048 : Shape := ⟨2, ![4, 2048]⟩
abbrev S4x2048x1 : Shape := ⟨3, ![4, 2048, 1]⟩
abbrev S1x1x128 : Shape := ⟨3, ![1, 1, 128]⟩
abbrev S4x2048x64 : Shape := ⟨3, ![4, 2048, 64]⟩
abbrev S4x2048x1x64 : Shape := ⟨4, ![4, 2048, 1, 64]⟩
abbrev S1x32 : Shape := ⟨2, ![1, 32]⟩
abbrev S2048x32 : Shape := ⟨2, ![2048, 32]⟩
abbrev S2048x1x32 : Shape := ⟨3, ![2048, 1, 32]⟩
abbrev S4x2048x1x32 : Shape := ⟨4, ![4, 2048, 1, 32]⟩
abbrev S1x2048x1x32 : Shape := ⟨4, ![1, 2048, 1, 32]⟩
abbrev S8192x256 : Shape := ⟨2, ![8192, 256]⟩
abbrev S8192x128 : Shape := ⟨2, ![8192, 128]⟩

abbrev nBuf : Space → Nat
  | .hbm => 153
  | .vmem => 0
  | .smem => 0
  | _ => 0

abbrev hbmTy0_0 (i : Nat) : BufTy := match i % 128 with
  | 0 => ⟨S4x2048x24208, .f32⟩
  | 1 => ⟨S8x1x24208, .f32⟩
  | 2 => ⟨S2x128, .f32⟩
  | 3 => ⟨S2x128, .f32⟩
  | 4 => ⟨S2x128, .f32⟩
  | 5 => ⟨S2x128, .f32⟩
  | 6 => ⟨S2048, .i32⟩
  | 7 => ⟨S1x128, .f32⟩
  | 8 => ⟨S128, .f32⟩
  | 9 => ⟨S1x128, .f32⟩
  | 10 => ⟨S128, .f32⟩
  | 11 => ⟨S1x128, .f32⟩
  | 12 => ⟨S128, .f32⟩
  | 13 => ⟨S4x2048x256, .f32⟩
  | 14 => ⟨S4x2048x256, .f32⟩
  | 15 => ⟨S4x2048x128, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S4x2048x2x128, .f32⟩
  | 31 => ⟨S4x2048x2x128, .f32⟩
  | 32 => ⟨S_, .f32⟩
  | 33 => ⟨S4x2048x2, .f32⟩
  | 34 => ⟨S4x2048x2x1, .f32⟩
  | 35 => ⟨S_, .f32⟩
  | 36 => ⟨S4x2048x2x1, .f32⟩
  | 37 => ⟨S4x2048x2x1, .f32⟩
  | 38 => ⟨S_, .f32⟩
  | 39 => ⟨S4x2048x2x1, .f32⟩
  | 40 => ⟨S4x2048x2x1, .f32⟩
  | 41 => ⟨S4x2048x2x1, .f32⟩
  | 42 => ⟨S4x2048x2x128, .f32⟩
  | 43 => ⟨S4x2048x2x128, .f32⟩
  | 44 => ⟨S1x1x1x128, .f32⟩
  | 45 => ⟨S4x2048x2x128, .f32⟩
  | 46 => ⟨S4x2048x2x128, .f32⟩
  | 47 => ⟨S2048, .f32⟩
  | 48 => ⟨S2048x1, .f32⟩
  | 49 => ⟨S1x64, .f32⟩
  | 50 => ⟨S2048x64, .f32⟩
  | 51 => ⟨S2048x64, .f32⟩
  | 52 => ⟨S2048x64, .f32⟩
  | 53 => ⟨S2048x64, .f32⟩
  | 54 => ⟨S2048x1x64, .f32⟩
  | 55 => ⟨S2048x64, .f32⟩
  | 56 => ⟨S2048x1x64, .f32⟩
  | 57 => ⟨S4x2048x2x64, .f32⟩
  | 58 => ⟨S4x2048x2x64, .f32⟩
  | 59 => ⟨S1x2048x1x64, .f32⟩
  | 60 => ⟨S4x2048x2x64, .f32⟩
  | 61 => ⟨S4x2048x2x64, .f32⟩
  | 62 => ⟨S1x2048x1x64, .f32⟩
  | 63 => ⟨S4x2048x2x64, .f32⟩
  | 64 => ⟨S4x2048x2x64, .f32⟩
  | 65 => ⟨S4x2048x2x64, .f32⟩
  | 66 => ⟨S1x2048x1x64, .f32⟩
  | 67 => ⟨S4x2048x2x64, .f32⟩
  | 68 => ⟨S4x2048x2x64, .f32⟩
  | 69 => ⟨S1x2048x1x64, .f32⟩
  | 70 => ⟨S4x2048x2x64, .f32⟩
  | 71 => ⟨S4x2048x2x64, .f32⟩
  | 72 => ⟨S4x2048x2x64, .f32⟩
  | 73 => ⟨S4x2048x2x128, .f32⟩
  | 74 => ⟨S4x2048x2x128, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S32, .f32⟩
  | 83 => ⟨S_, .f32⟩
  | 84 => ⟨S32, .f32⟩
  | 85 => ⟨S32, .f32⟩
  | 86 => ⟨S_, .f32⟩
  | 87 => ⟨S32, .f32⟩
  | 88 => ⟨S32, .f32⟩
  | 89 => ⟨S_, .f32⟩
  | 90 => ⟨S4x2048, .f32⟩
  | 91 => ⟨S4x2048x1, .f32⟩
  | 92 => ⟨S_, .f32⟩
  | 93 => ⟨S4x2048x1, .f32⟩
  | 94 => ⟨S4x2048x1, .f32⟩
  | 95 => ⟨S4x2048x128, .f32⟩
  | 96 => ⟨S4x2048x128, .f32⟩
  | 97 => ⟨S4x2048x128, .f32⟩
  | 98 => ⟨S_, .f32⟩
  | 99 => ⟨S4x2048, .f32⟩
  | 100 => ⟨S4x2048x1, .f32⟩
  | 101 => ⟨S_, .f32⟩
  | 102 => ⟨S4x2048x1, .f32⟩
  | 103 => ⟨S4x2048x1, .f32⟩
  | 104 => ⟨S4x2048x128, .f32⟩
  | 105 => ⟨S4x2048x128, .f32⟩
  | 106 => ⟨S_, .f32⟩
  | 107 => ⟨S4x2048x1, .f32⟩
  | 108 => ⟨S4x2048x1, .f32⟩
  | 109 => ⟨S4x2048x1, .f32⟩
  | 110 => ⟨S4x2048x128, .f32⟩
  | 111 => ⟨S4x2048x128, .f32⟩
  | 112 => ⟨S1x1x128, .f32⟩
  | 113 => ⟨S4x2048x128, .f32⟩
  | 114 => ⟨S4x2048x128, .f32⟩
  | 115 => ⟨S1x1x128, .f32⟩
  | 116 => ⟨S4x2048x128, .f32⟩
  | 117 => ⟨S4x2048x128, .f32⟩
  | 118 => ⟨S4x2048x64, .f32⟩
  | 119 => ⟨S4x2048x1x64, .f32⟩
  | 120 => ⟨S2048, .f32⟩
  | 121 => ⟨S2048x1, .f32⟩
  | 122 => ⟨S1x32, .f32⟩
  | 123 => ⟨S2048x32, .f32⟩
  | 124 => ⟨S2048x32, .f32⟩
  | 125 => ⟨S2048x32, .f32⟩
  | 126 => ⟨S2048x32, .f32⟩
  | 127 => ⟨S2048x1x32, .f32⟩
  | _ => ⟨S4x2048x24208, .f32⟩

abbrev hbmTy0_1 (i : Nat) : BufTy := match i % 128 with
  | 0 => ⟨S2048x32, .f32⟩
  | 1 => ⟨S2048x1x32, .f32⟩
  | 2 => ⟨S4x2048x1x32, .f32⟩
  | 3 => ⟨S4x2048x1x32, .f32⟩
  | 4 => ⟨S1x2048x1x32, .f32⟩
  | 5 => ⟨S4x2048x1x32, .f32⟩
  | 6 => ⟨S4x2048x1x32, .f32⟩
  | 7 => ⟨S1x2048x1x32, .f32⟩
  | 8 => ⟨S4x2048x1x32, .f32⟩
  | 9 => ⟨S4x2048x1x32, .f32⟩
  | 10 => ⟨S4x2048x1x32, .f32⟩
  | 11 => ⟨S1x2048x1x32, .f32⟩
  | 12 => ⟨S4x2048x1x32, .f32⟩
  | 13 => ⟨S4x2048x1x32, .f32⟩
  | 14 => ⟨S1x2048x1x32, .f32⟩
  | 15 => ⟨S4x2048x1x32, .f32⟩
  | 16 => ⟨S4x2048x1x32, .f32⟩
  | 17 => ⟨S4x2048x1x32, .f32⟩
  | 18 => ⟨S4x2048x1x64, .f32⟩
  | 19 => ⟨S4x2048x64, .f32⟩
  | 20 => ⟨S4x2048x64, .f32⟩
  | 21 => ⟨S4x2048x128, .f32⟩
  | 22 => ⟨S8192x256, .f32⟩
  | 23 => ⟨S8192x256, .f32⟩
  | 24 => ⟨S8192x128, .f32⟩
  | _ => ⟨S4x2048x24208, .f32⟩

abbrev hbmTy (i : Nat) : BufTy := match i / 128 with
  | 0 => hbmTy0_0 i
  | 1 => hbmTy0_1 i
  | _ => ⟨S4x2048x24208, .f32⟩

abbrev bufTy : (tb : Table) → Fin (tcTables nBuf tb) → BufTy
  | .hbm, ⟨i, _⟩ => hbmTy i
  | _, _ => ⟨S4x2048x24208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_6 : Ref sig .tc := ⟨.hbm, 76, rfl⟩
abbrev main_v63 : Ref sig .tc := ⟨.hbm, 77, rfl⟩
abbrev main_v64 : Ref sig .tc := ⟨.hbm, 78, rfl⟩
abbrev main_cst_7 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_8 : Ref sig .tc := ⟨.hbm, 83, rfl⟩
abbrev main_v68 : Ref sig .tc := ⟨.hbm, 84, rfl⟩
abbrev main_v69 : Ref sig .tc := ⟨.hbm, 85, rfl⟩
abbrev main_cst_9 : Ref sig .tc := ⟨.hbm, 86, rfl⟩
abbrev main_v70 : Ref sig .tc := ⟨.hbm, 87, rfl⟩
abbrev main_v71 : Ref sig .tc := ⟨.hbm, 88, rfl⟩
abbrev main_cst_10 : Ref sig .tc := ⟨.hbm, 89, rfl⟩
abbrev main_v72 : Ref sig .tc := ⟨.hbm, 90, rfl⟩
abbrev main_v73 : Ref sig .tc := ⟨.hbm, 91, rfl⟩
abbrev main_cst_11 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_12 : Ref sig .tc := ⟨.hbm, 98, rfl⟩
abbrev main_v79 : Ref sig .tc := ⟨.hbm, 99, rfl⟩
abbrev main_v80 : Ref sig .tc := ⟨.hbm, 100, rfl⟩
abbrev main_cst_13 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_14 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩

abbrev nD : Nat := 1
abbrev τ : Topo := Topo.v7x

variable {F : FTy → Type} [FloatOps F]
-- ==== KeysSample.lean ====
abbrev S4x2048x24208 : Shape := ⟨3, ![4, 2048, 24208]⟩
abbrev S8x1x24208 : Shape := ⟨3, ![8, 1, 24208]⟩
abbrev S2x128 : Shape := ⟨2, ![2, 128]⟩
abbrev S_ : Shape := ⟨0, ![]⟩
abbrev S8 : Shape := ⟨1, ![8]⟩
abbrev S64 : Shape := ⟨1, ![64]⟩
abbrev S32 : Shape := ⟨1, ![32]⟩
abbrev S8x1 : Shape := ⟨2, ![8, 1]⟩
abbrev S1x64 : Shape := ⟨2, ![1, 64]⟩
abbrev S8x64 : Shape := ⟨2, ![8, 64]⟩
abbrev S8x0 : Shape := ⟨2, ![8, 0]⟩
abbrev S8x128 : Shape := ⟨2, ![8, 128]⟩
abbrev S1x32 : Shape := ⟨2, ![1, 32]⟩
abbrev S8x32 : Shape := ⟨2, ![8, 32]⟩
abbrev S8192x24208 : Shape := ⟨2, ![8192, 24208]⟩
abbrev S8x24208 : Shape := ⟨2, ![8, 24208]⟩
abbrev S120x24208 : Shape := ⟨2, ![120, 24208]⟩
abbrev S8320x24208 : Shape := ⟨2, ![8320, 24208]⟩
abbrev S8320x12288 : Shape := ⟨2, ![8320, 12288]⟩
abbrev S8320x2048 : Shape := ⟨2, ![8320, 2048]⟩
abbrev S8320x5120 : Shape := ⟨2, ![8320, 5120]⟩
abbrev S8320x4096 : Shape := ⟨2, ![8320, 4096]⟩
abbrev S8320x512 : Shape := ⟨2, ![8320, 512]⟩
abbrev S8320x256 : Shape := ⟨2, ![8320, 256]⟩
abbrev S8320x24320 : Shape := ⟨2, ![8320, 24320]⟩
abbrev S8x24320 : Shape := ⟨2, ![8, 24320]⟩
abbrev S2x1x128 : Shape := ⟨3, ![2, 1, 128]⟩
abbrev S8x1024 : Shape := ⟨2, ![8, 1024]⟩
abbrev S8x256 : Shape := ⟨2, ![8, 256]⟩
abbrev S8x2048 : Shape := ⟨2, ![8, 2048]⟩
abbrev S1x1x128 : Shape := ⟨3, ![1, 1, 128]⟩
abbrev S1x128 : Shape := ⟨2, ![1, 128]⟩

abbrev nBuf : Space → Nat
  | .hbm => 92
  | .vmem => 23
  | .smem => 0
  | _ => 0

abbrev bufTy : (tb : Table) → Fin (tcTables nBuf tb) → BufTy
  | .hbm, ⟨0, _⟩ => ⟨S4x2048x24208, .f32⟩
  | .hbm, ⟨1, _⟩ => ⟨S8x1x24208, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S_, .i32⟩
  | .hbm, ⟨7, _⟩ => ⟨S8, .i32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S8, .f32⟩
  | .hbm, ⟨37, _⟩ => ⟨S8x1, .f32⟩
  | .hbm, ⟨38, _⟩ => ⟨S1x64, .f32⟩
  | .hbm, ⟨39, _⟩ => ⟨S8x64, .f32⟩
  | .hbm, ⟨40, _⟩ => ⟨S8x64, .f32⟩
  | .hbm, ⟨41, _⟩ => ⟨S8x64, .f32⟩
  | .hbm, ⟨42, _⟩ => ⟨S8x64, .f32⟩
  | .hbm, ⟨43, _⟩ => ⟨S8x64, .f32⟩
  | .hbm, ⟨44, _⟩ => ⟨S_, .f32⟩
  | .hbm, ⟨45, _⟩ => ⟨S8x0, .f32⟩
  | .hbm, ⟨46, _⟩ => ⟨S_, .f32⟩
  | .hbm, ⟨47, _⟩ => ⟨S8x0, .f32⟩
  | .hbm, ⟨48, _⟩ => ⟨S8x128, .f32⟩
  | .hbm, ⟨49, _⟩ => ⟨S8x64, .f32⟩
  | .hbm, ⟨50, _⟩ => ⟨S8x128, .f32⟩
  | .hbm, ⟨51, _⟩ => ⟨S8, .f32⟩
  | .hbm, ⟨52, _⟩ => ⟨S8x1, .f32⟩
  | .hbm, ⟨53, _⟩ => ⟨S1x32, .f32⟩
  | .hbm, ⟨54, _⟩ => ⟨S8x32, .f32⟩
  | .hbm, ⟨55, _⟩ => ⟨S8x32, .f32⟩
  | .hbm, ⟨56, _⟩ => ⟨S8x32, .f32⟩
  | .hbm, ⟨57, _⟩ => ⟨S8x32, .f32⟩
  | .hbm, ⟨58, _⟩ => ⟨S8x32, .f32⟩
  | .hbm, ⟨59, _⟩ => ⟨S_, .f32⟩
  | .hbm, ⟨60, _⟩ => ⟨S8x64, .f32⟩
  | .hbm, ⟨61, _⟩ => ⟨S_, .f32⟩
  | .hbm, ⟨62, _⟩ => ⟨S8x64, .f32⟩
  | .hbm, ⟨63, _⟩ => ⟨S8x128, .f32⟩
  | .hbm, ⟨64, _⟩ => ⟨S8x32, .f32⟩
  | .hbm, ⟨65, _⟩ => ⟨S8x128, .f32⟩
  | .hbm, ⟨66, _⟩ => ⟨S8192x24208, .f32⟩
  | .hbm, ⟨67, _⟩ => ⟨S8x24208, .f32⟩
  | .hbm, ⟨68, _⟩ => ⟨S_, .f32⟩
  | .hbm, ⟨69, _⟩ => ⟨S120x24208, .f32⟩
  | .hbm, ⟨70, _⟩ => ⟨S8320x24208, .f32⟩
  | .hbm, ⟨71, _⟩ => ⟨S8320x12288, .f32⟩
  | .hbm, ⟨72, _⟩ => ⟨S8320x2048, .f32⟩
  | .hbm, ⟨73, _⟩ => ⟨S8320x5120, .f32⟩
  | .hbm, ⟨74, _⟩ => ⟨S8320x4096, .f32⟩
  | .hbm, ⟨75, _⟩ => ⟨S8320x512, .f32⟩
  | .hbm, ⟨76, _⟩ => ⟨S8320x256, .f32⟩
  | .hbm, ⟨77, _⟩ => ⟨S8320x24320, .f32⟩
  | .hbm, ⟨78, _⟩ => ⟨S8x24320, .f32⟩
  | .hbm, ⟨79, _⟩ => ⟨S2x1x128, .f32⟩
  | .hbm, ⟨80, _⟩ => ⟨S2x1x128, .f32⟩
  | .hbm, ⟨81, _⟩ => ⟨S2x1x128, .f32⟩
  | .hbm, ⟨82, _⟩ => ⟨S2x1x128, .f32⟩
  | .hbm, ⟨83, _⟩ => ⟨S8x1024, .f32⟩
  | .hbm, ⟨84, _⟩ => ⟨S8x256, .f32⟩
  | .hbm, ⟨85, _⟩ => ⟨S8x256, .f32⟩
  | .hbm, ⟨86, _⟩ => ⟨S8x256, .f32⟩
  | .hbm, ⟨87, _⟩ => ⟨S8x256, .f32⟩
  | .hbm, ⟨88, _⟩ => ⟨S8x2048, .f32⟩
  | .hbm, ⟨89, _⟩ => ⟨S8x128, .f32⟩
  | .hbm, ⟨90, _⟩ => ⟨S8x128, .f32⟩
  | .hbm, ⟨91, _⟩ => ⟨S8x128, .f32⟩
  | .local _ .vmem, ⟨0, _⟩ => ⟨S8x1024, .f32⟩
  | .local _ .vmem, ⟨1, _⟩ => ⟨S8x256, .f32⟩
  | .local _ .vmem, ⟨2, _⟩ => ⟨S8x256, .f32⟩
  | .local _ .vmem, ⟨3, _⟩ => ⟨S8x2048, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S8x1024, .f32⟩
  | .local _ .vmem, ⟨15, _⟩ => ⟨S8x256, .f32⟩
  | .local _ .vmem, ⟨16, _⟩ => ⟨S8x256, .f32⟩
  | .local _ .vmem, ⟨17, _⟩ => ⟨S8x256, .f32⟩
  | .local _ .vmem, ⟨18, _⟩ => ⟨S8x256, .f32⟩
  | .local _ .vmem, ⟨19, _⟩ => ⟨S8x2048, .f32⟩
  | .local _ .vmem, ⟨20, _⟩ => ⟨S8x128, .f32⟩
  | .local _ .vmem, ⟨21, _⟩ => ⟨S8x128, .f32⟩
  | .local _ .vmem, ⟨22, _⟩ => ⟨S8x128, .f32⟩
  | _, _ => ⟨S4x2048x24208, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63_0 : Ref sig .tc := ⟨.hbm, 83, rfl⟩
abbrev main_v63_1 : Ref sig .tc := ⟨.hbm, 84, rfl⟩
abbrev main_v63_2 : Ref sig .tc := ⟨.hbm, 85, rfl⟩
abbrev main_v63_3 : Ref sig .tc := ⟨.hbm, 86, rfl⟩
abbrev main_v63_4 : Ref sig .tc := ⟨.hbm, 87, rfl⟩
abbrev main_v63_5 : Ref sig .tc := ⟨.hbm, 88, rfl⟩
abbrev main_v63_6 : Ref sig .tc := ⟨.hbm, 89, rfl⟩
abbrev main_v63_7 : Ref sig .tc := ⟨.hbm, 90, rfl⟩
abbrev main_v63_8 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_1 (i : grid0.Coords) : Fin 2 → Nat :=
  let arg0 : BitVec 32 := BitVec.ofNat 32 (i 0).val
  let c92_i32 : BitVec 32 := 92#32
  let c0_i32 : BitVec 32 := 0#32
  ![arg0.toNat, c92_i32.toNat]

def cc0_transform_2 (i : grid0.Coords) : Fin 2 → Nat :=
  let arg0 : BitVec 32 := BitVec.ofNat 32 (i 0).val
  let c93_i32 : BitVec 32 := 93#32
  let c0_i32 : BitVec 32 := 0#32
  ![arg0.toNat, c93_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c188_i32 : BitVec 32 := 188#32
  let c0_i32 : BitVec 32 := 0#32
  ![arg0.toNat, c188_i32.toNat]

def cc0_transform_5 (i : grid0.Coords) : Fin 2 → Nat :=
  let arg0 : BitVec 32 := BitVec.ofNat 32 (i 0).val
  let c189_i32 : BitVec 32 := 189#32
  let c0_i32 : BitVec 32 := 0#32
  ![arg0.toNat, c189_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S8x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S8x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S8x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S8x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S8x2048 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S8x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]
-- ==== KeysSampleReferenceIdeal.lean ====
abbrev S4x2048x24208 : Shape := ⟨3, ![4, 2048, 24208]⟩
abbrev S8x1x24208 : Shape := ⟨3, ![8, 1, 24208]⟩
abbrev S2x128 : Shape := ⟨2, ![2, 128]⟩
abbrev S1 : Shape := ⟨1, ![1]⟩
abbrev S_ : Shape := ⟨0, ![]⟩
abbrev S1x128 : Shape := ⟨2, ![1, 128]⟩
abbrev S128 : Shape := ⟨1, ![128]⟩
abbrev S8x1x256 : Shape := ⟨3, ![8, 1, 256]⟩
abbrev S8x1x128 : Shape := ⟨3, ![8, 1, 128]⟩
abbrev S64 : Shape := ⟨1, ![64]⟩
abbrev S8x1x2x128 : Shape := ⟨4, ![8, 1, 2, 128]⟩
abbrev S8x1x2 : Shape := ⟨3, ![8, 1, 2]⟩
abbrev S8x1x2x1 : Shape := ⟨4, ![8, 1, 2, 1]⟩
abbrev S1x1x1x128 : Shape := ⟨4, ![1, 1, 1, 128]⟩
abbrev S1x1 : Shape := ⟨2, ![1, 1]⟩
abbrev S1x64 : Shape := ⟨2, ![1, 64]⟩
abbrev S1x1x64 : Shape := ⟨3, ![1, 1, 64]⟩
abbrev S8x1x2x64 : Shape := ⟨4, ![8, 1, 2, 64]⟩
abbrev S1x1x1x64 : Shape := ⟨4, ![1, 1, 1, 64]⟩
abbrev S32 : Shape := ⟨1, ![32]⟩
abbrev S8x1 : Shape := ⟨2, ![8, 1]⟩
abbrev S8x1x1 : Shape := ⟨3, ![8, 1, 1]⟩
abbrev S1x1x128 : Shape := ⟨3, ![1, 1, 128]⟩
abbrev S8x1x64 : Shape := ⟨3, ![8, 1, 64]⟩
abbrev S8x1x1x64 : Shape := ⟨4, ![8, 1, 1, 64]⟩
abbrev S1x32 : Shape := ⟨2, ![1, 32]⟩
abbrev S1x1x32 : Shape := ⟨3, ![1, 1, 32]⟩
abbrev S8x1x1x32 : Shape := ⟨4, ![8, 1, 1, 32]⟩
abbrev S1x1x1x32 : Shape := ⟨4, ![1, 1, 1, 32]⟩
abbrev S8x256 : Shape := ⟨2, ![8, 256]⟩
abbrev S8x128 : Shape := ⟨2, ![8, 128]⟩

abbrev nBuf : Space → Nat
  | .hbm => 154
  | .vmem => 0
  | .smem => 0
  | _ => 0

abbrev hbmTy0_0 (i : Nat) : BufTy := match i % 128 with
  | 0 => ⟨S4x2048x24208, .f32⟩
  | 1 => ⟨S8x1x24208, .f32⟩
  | 2 => ⟨S2x128, .f32⟩
  | 3 => ⟨S2x128, .f32⟩
  | 4 => ⟨S2x128, .f32⟩
  | 5 => ⟨S2x128, .f32⟩
  | 6 => ⟨S1, .i32⟩
  | 7 => ⟨S_, .i32⟩
  | 8 => ⟨S1, .i32⟩
  | 9 => ⟨S1, .i32⟩
  | 10 => ⟨S1x128, .f32⟩
  | 11 => ⟨S128, .f32⟩
  | 12 => ⟨S1x128, .f32⟩
  | 13 => ⟨S128, .f32⟩
  | 14 => ⟨S1x128, .f32⟩
  | 15 => ⟨S128, .f32⟩
  | 16 => ⟨S8x1x256, .f32⟩
  | 17 => ⟨S8x1x256, .f32⟩
  | 18 => ⟨S8x1x128, .f32⟩
  | 19 => ⟨S64, .f32⟩
  | 20 => ⟨S_, .f32⟩
  | 21 => ⟨S64, .f32⟩
  | 22 => ⟨S64, .f32⟩
  | 23 => ⟨S_, .f32⟩
  | 24 => ⟨S64, .f32⟩
  | 25 => ⟨S64, .f32⟩
  | 26 => ⟨S64, .f32⟩
  | 27 => ⟨S_, .f32⟩
  | 28 => ⟨S64, .f32⟩
  | 29 => ⟨S64, .f32⟩
  | 30 => ⟨S_, .f32⟩
  | 31 => ⟨S64, .f32⟩
  | 32 => ⟨S64, .f32⟩
  | 33 => ⟨S8x1x2x128, .f32⟩
  | 34 => ⟨S8x1x2x128, .f32⟩
  | 35 => ⟨S_, .f32⟩
  | 36 => ⟨S8x1x2, .f32⟩
  | 37 => ⟨S8x1x2x1, .f32⟩
  | 38 => ⟨S_, .f32⟩
  | 39 => ⟨S8x1x2x1, .f32⟩
  | 40 => ⟨S8x1x2x1, .f32⟩
  | 41 => ⟨S_, .f32⟩
  | 42 => ⟨S8x1x2x1, .f32⟩
  | 43 => ⟨S8x1x2x1, .f32⟩
  | 44 => ⟨S8x1x2x1, .f32⟩
  | 45 => ⟨S8x1x2x128, .f32⟩
  | 46 => ⟨S8x1x2x128, .f32⟩
  | 47 => ⟨S1x1x1x128, .f32⟩
  | 48 => ⟨S8x1x2x128, .f32⟩
  | 49 => ⟨S8x1x2x128, .f32⟩
  | 50 => ⟨S1, .f32⟩
  | 51 => ⟨S1x1, .f32⟩
  | 52 => ⟨S1x64, .f32⟩
  | 53 => ⟨S1x64, .f32⟩
  | 54 => ⟨S1x64, .f32⟩
  | 55 => ⟨S1x64, .f32⟩
  | 56 => ⟨S1x1x64, .f32⟩
  | 57 => ⟨S1x64, .f32⟩
  | 58 => ⟨S1x1x64, .f32⟩
  | 59 => ⟨S8x1x2x64, .f32⟩
  | 60 => ⟨S8x1x2x64, .f32⟩
  | 61 => ⟨S1x1x1x64, .f32⟩
  | 62 => ⟨S8x1x2x64, .f32⟩
  | 63 => ⟨S8x1x2x64, .f32⟩
  | 64 => ⟨S1x1x1x64, .f32⟩
  | 65 => ⟨S8x1x2x64, .f32⟩
  | 66 => ⟨S8x1x2x64, .f32⟩
  | 67 => ⟨S8x1x2x64, .f32⟩
  | 68 => ⟨S1x1x1x64, .f32⟩
  | 69 => ⟨S8x1x2x64, .f32⟩
  | 70 => ⟨S8x1x2x64, .f32⟩
  | 71 => ⟨S1x1x1x64, .f32⟩
  | 72 => ⟨S8x1x2x64, .f32⟩
  | 73 => ⟨S8x1x2x64, .f32⟩
  | 74 => ⟨S8x1x2x64, .f32⟩
  | 75 => ⟨S8x1x2x128, .f32⟩
  | 76 => ⟨S8x1x2x128, .f32⟩
  | 77 => ⟨S32, .f32⟩
  | 78 => ⟨S_, .f32⟩
  | 79 => ⟨S32, .f32⟩
  | 80 => ⟨S32, .f32⟩
  | 81 => ⟨S_, .f32⟩
  | 82 => ⟨S32, .f32⟩
  | 83 => ⟨S32, .f32⟩
  | 84 => ⟨S32, .f32⟩
  | 85 => ⟨S_, .f32⟩
  | 86 => ⟨S32, .f32⟩
  | 87 => ⟨S32, .f32⟩
  | 88 => ⟨S_, .f32⟩
  | 89 => ⟨S32, .f32⟩
  | 90 => ⟨S32, .f32⟩
  | 91 => ⟨S_, .f32⟩
  | 92 => ⟨S8x1, .f32⟩
  | 93 => ⟨S8x1x1, .f32⟩
  | 94 => ⟨S_, .f32⟩
  | 95 => ⟨S8x1x1, .f32⟩
  | 96 => ⟨S8x1x1, .f32⟩
  | 97 => ⟨S8x1x128, .f32⟩
  | 98 => ⟨S8x1x128, .f32⟩
  | 99 => ⟨S8x1x128, .f32⟩
  | 100 => ⟨S_, .f32⟩
  | 101 => ⟨S8x1, .f32⟩
  | 102 => ⟨S8x1x1, .f32⟩
  | 103 => ⟨S_, .f32⟩
  | 104 => ⟨S8x1x1, .f32⟩
  | 105 => ⟨S8x1x1, .f32⟩
  | 106 => ⟨S8x1x128, .f32⟩
  | 107 => ⟨S8x1x128, .f32⟩
  | 108 => ⟨S_, .f32⟩
  | 109 => ⟨S8x1x1, .f32⟩
  | 110 => ⟨S8x1x1, .f32⟩
  | 111 => ⟨S8x1x1, .f32⟩
  | 112 => ⟨S8x1x128, .f32⟩
  | 113 => ⟨S8x1x128, .f32⟩
  | 114 => ⟨S1x1x128, .f32⟩
  | 115 => ⟨S8x1x128, .f32⟩
  | 116 => ⟨S8x1x128, .f32⟩
  | 117 => ⟨S1x1x128, .f32⟩
  | 118 => ⟨S8x1x128, .f32⟩
  | 119 => ⟨S8x1x128, .f32⟩
  | 120 => ⟨S8x1x64, .f32⟩
  | 121 => ⟨S8x1x1x64, .f32⟩
  | 122 => ⟨S1, .f32⟩
  | 123 => ⟨S1x1, .f32⟩
  | 124 => ⟨S1x32, .f32⟩
  | 125 => ⟨S1x32, .f32⟩
  | 126 => ⟨S1x32, .f32⟩
  | 127 => ⟨S1x32, .f32⟩
  | _ => ⟨S4x2048x24208, .f32⟩

abbrev hbmTy0_1 (i : Nat) : BufTy := match i % 128 with
  | 0 => ⟨S1x1x32, .f32⟩
  | 1 => ⟨S1x32, .f32⟩
  | 2 => ⟨S1x1x32, .f32⟩
  | 3 => ⟨S8x1x1x32, .f32⟩
  | 4 => ⟨S8x1x1x32, .f32⟩
  | 5 => ⟨S1x1x1x32, .f32⟩
  | 6 => ⟨S8x1x1x32, .f32⟩
  | 7 => ⟨S8x1x1x32, .f32⟩
  | 8 => ⟨S1x1x1x32, .f32⟩
  | 9 => ⟨S8x1x1x32, .f32⟩
  | 10 => ⟨S8x1x1x32, .f32⟩
  | 11 => ⟨S8x1x1x32, .f32⟩
  | 12 => ⟨S1x1x1x32, .f32⟩
  | 13 => ⟨S8x1x1x32, .f32⟩
  | 14 => ⟨S8x1x1x32, .f32⟩
  | 15 => ⟨S1x1x1x32, .f32⟩
  | 16 => ⟨S8x1x1x32, .f32⟩
  | 17 => ⟨S8x1x1x32, .f32⟩
  | 18 => ⟨S8x1x1x32, .f32⟩
  | 19 => ⟨S8x1x1x64, .f32⟩
  | 20 => ⟨S8x1x64, .f32⟩
  | 21 => ⟨S8x1x64, .f32⟩
  | 22 => ⟨S8x1x128, .f32⟩
  | 23 => ⟨S8x256, .f32⟩
  | 24 => ⟨S8x256, .f32⟩
  | 25 => ⟨S8x128, .f32⟩
  | _ => ⟨S4x2048x24208, .f32⟩

abbrev hbmTy (i : Nat) : BufTy := match i / 128 with
  | 0 => hbmTy0_0 i
  | 1 => hbmTy0_1 i
  | _ => ⟨S4x2048x24208, .f32⟩

abbrev bufTy : (tb : Table) → Fin (tcTables nBuf tb) → BufTy
  | .hbm, ⟨i, _⟩ => hbmTy i
  | _, _ => ⟨S4x2048x24208, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_6 : Ref sig .tc := ⟨.hbm, 78, rfl⟩
abbrev main_v64 : Ref sig .tc := ⟨.hbm, 79, rfl⟩
abbrev main_v65 : Ref sig .tc := ⟨.hbm, 80, rfl⟩
abbrev main_cst_7 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_8 : Ref sig .tc := ⟨.hbm, 85, rfl⟩
abbrev main_v69 : Ref sig .tc := ⟨.hbm, 86, rfl⟩
abbrev main_v70 : Ref sig .tc := ⟨.hbm, 87, rfl⟩
abbrev main_cst_9 : Ref sig .tc := ⟨.hbm, 88, rfl⟩
abbrev main_v71 : Ref sig .tc := ⟨.hbm, 89, rfl⟩
abbrev main_v72 : Ref sig .tc := ⟨.hbm, 90, rfl⟩
abbrev main_cst_10 : Ref sig .tc := ⟨.hbm, 91, rfl⟩
abbrev main_v73 : Ref sig .tc := ⟨.hbm, 92, rfl⟩
abbrev main_v74 : Ref sig .tc := ⟨.hbm, 93, rfl⟩
abbrev main_cst_11 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_12 : Ref sig .tc := ⟨.hbm, 100, rfl⟩
abbrev main_v80 : Ref sig .tc := ⟨.hbm, 101, rfl⟩
abbrev main_v81 : Ref sig .tc := ⟨.hbm, 102, rfl⟩
abbrev main_cst_13 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_cst_14 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩

abbrev nD : Nat := 1
abbrev τ : Topo := Topo.v7x

variable {F : FTy → Type} [FloatOps F]
-- ==== Proof.Ffn.Rows.lean ====
module

public import Idealize.ShloMosaic.Lib.Pointwise
public import Idealize.ShloMosaic.Lib.Pipeline.ValueKit

@[expose] public section

noncomputable section
open Idealize.ShloMosaic
/-! The rows of the tokens, as one array: 8192 of the prompt, 8 of the tokens decoded, and 120 of zeros. -/

namespace Cert.Ffn

/-- Entry `k` of row `n`. -/
def row {K : ℕ} (p : (⟨3, ![4, 2048, K]⟩ : Shape).Idx → EReal) (s : (⟨3, ![8, 1, K]⟩ : Shape).Idx → EReal) (n : ℕ) (k : Fin K) : EReal :=
  if h : n < 8192 then p (ix3 ⟨n / 2048, by omega⟩ ⟨n % 2048, by omega⟩ k)
  else if h' : n - 8192 < 8 then s (ix3 ⟨n - 8192, by omega⟩ 0 k) else 0

/-- Row `n` of the down projection, added with the weight of a half to the block's input. -/
def down (xp : (⟨3, ![4, 2048, 4096]⟩ : Shape).Idx → EReal) (xs : (⟨3, ![8, 1, 4096]⟩ : Shape).Idx → EReal)
    (up : (⟨3, ![4, 2048, 11008]⟩ : Shape).Idx → EReal) (us : (⟨3, ![8, 1, 11008]⟩ : Shape).Idx → EReal)
    (w : (⟨2, ![11008, 4096]⟩ : Shape).Idx → EReal) (n : ℕ) (j : Fin 4096) : EReal :=
  row xp xs n j + Ideal.ofBits .f32 0x3F000000#32 * ∑ k : Fin 11008, row up us n k * w (ix2 k j)

/-- The factor of the norm, of a row's sum of squares. -/
def rs (q : EReal) : EReal := Ideal.rsqrt (q * Ideal.ofBits .f32 0x39800000#32 + Ideal.ofBits .f32 0x358637BD#32)

/-- A hidden unit, of the two products before the norm's factor. -/
def act (a b r : EReal) : EReal := a * r * Ideal.logistic (a * r) * (b * r)

/-- The sum of the squares of row `n`. -/
def ssq (xp : (⟨3, ![4, 2048, 4096]⟩ : Shape).Idx → EReal) (xs : (⟨3, ![8, 1, 4096]⟩ : Shape).Idx → EReal) (n : ℕ) : EReal :=
  ∑ k : Fin 4096, row xp xs n k * row xp xs n k

/-- Row `n`, weighted by the norm's gain, times column `j` of the first layer's matrix. -/
def prod (xp : (⟨3, ![4, 2048, 4096]⟩ : Shape).Idx → EReal) (xs : (⟨3, ![8, 1, 4096]⟩ : Shape).Idx → EReal)
    (g : (⟨2, ![2, 4096]⟩ : Shape).Idx → EReal) (w : (⟨3, ![2, 4096, 11008]⟩ : Shape).Idx → EReal) (n : ℕ) (j : Fin 11008) : EReal :=
  ∑ k : Fin 4096, row xp xs n k * g (ix2 0 k) * w (ix3 0 k j)

/-- Hidden unit `j` of row `n`. -/
def hid (xp : (⟨3, ![4, 2048, 4096]⟩ : Shape).Idx → EReal) (xs : (⟨3, ![8, 1, 4096]⟩ : Shape).Idx → EReal)
    (g : (⟨2, ![2, 4096]⟩ : Shape).Idx → EReal) (a b : (⟨3, ![2, 4096, 11008]⟩ : Shape).Idx → EReal) (n : ℕ) (j : Fin 11008) : EReal :=
  act (prod xp xs g a n j) (prod xp xs g b n j) (rs (ssq xp xs n))

/-- The factor of the norm of a sum of squares is not negative and not infinite. -/
theorem rs_fin (q : EReal) (hq : 0 ≤ q) : 0 ≤ rs q ∧ rs q ≠ ⊤ := by
  have h1 : Ideal.ofBits .f32 0x39800000#32 = ((1 / 4096 : ℝ) : EReal) := by
    simp [Ideal.ofBits, Ideal.ieee, -EReal.coe_mul]; norm_num
  have h2 : Ideal.ofBits .f32 0x358637BD#32 = ((8796093 / 8796093022208 : ℝ) : EReal) := by
    simp [Ideal.ofBits, Ideal.ieee, -EReal.coe_mul]; norm_num
  unfold rs
  rw [h1, h2]
  induction q with
  | bot => simp at hq
  | top =>
    rw [EReal.top_mul_coe_of_pos (by norm_num), EReal.top_add_coe]
    exact ⟨le_refl _, by decide⟩
  | coe r =>
    have hr : 0 ≤ r := by exact_mod_cast hq
    rw [← EReal.coe_mul, ← EReal.coe_add]
    have hp : 0 < r * (1 / 4096) + 8796093 / 8796093022208 := by positivity
    change 0 ≤ (if _ then _ else if _ then _ else _ : EReal) ∧ (if _ then _ else if _ then _ else _ : EReal) ≠ ⊤
    rw [if_neg (not_lt.mpr hp.le), if_neg hp.ne']
    exact ⟨by exact_mod_cast (by positivity), EReal.coe_ne_top _⟩

theorem ssq_nonneg (xp xs) (n : ℕ) : 0 ≤ ssq xp xs n :=
  Finset.sum_nonneg fun k _ => by
    rcases le_total 0 (row xp xs n k) with h | h
    · exact mul_nonneg h h
    · rw [← neg_mul_neg]
      exact mul_nonneg (EReal.neg_nonneg.mpr h) (EReal.neg_nonneg.mpr h)

/-- The norm's factor taken out of a row's product. -/
theorem sum_mul_factor {K : ℕ} (f : Fin K → EReal) (r : EReal) (h0 : 0 ≤ r) (h1 : r ≠ ⊤) : ∑ k, f k * r = (∑ k, f k) * r := by
  have : ∀ s : Finset (Fin K), ∑ k ∈ s, f k * r = (∑ k ∈ s, f k) * r := by
    intro s
    induction s using Finset.induction_on with
    | empty => simp
    | insert a s ha ih => rw [Finset.sum_insert ha, Finset.sum_insert ha, ih, EReal.right_distrib_of_nonneg_of_ne_top h0 h1]
  exact this _

theorem prod_norm (xp xs g w) (n : ℕ) (j : Fin 11008) :
    ∑ k : Fin 4096, row xp xs n k * rs (ssq xp xs n) * g (ix2 0 k) * w (ix3 0 k j) = prod xp xs g w n j * rs (ssq xp xs n) := by
  obtain ⟨h0, h1⟩ := rs_fin _ (ssq_nonneg xp xs n)
  rw [prod, ← sum_mul_factor _ _ h0 h1]
  refine Finset.sum_congr rfl fun k _ => ?_
  ac_rfl

/-- A row of zeros has no hidden units. -/
theorem hid_zero (xp xs g a b) (n : ℕ) (hn : 8200 ≤ n) (j : Fin 11008) : hid xp xs g a b n j = 0 := by
  have hr : ∀ k, row xp xs n k = 0 := fun k => by rw [row, dif_neg (by omega), dif_neg (by omega)]
  simp [hid, act, prod, hr]

end Cert.Ffn
-- ==== Proof.Ffn.Up.lean ====
module

public import proofs.«01_k».proof.Proof.Gen.UpIdeal.Frame
public import proofs.«01_k».proof.Proof.Ffn.Rows
public import Idealize.ShloMosaic.Lib.Pipeline.ValueKit
public import Idealize.ShloMosaic.Lib.Pipeline.Value
public import Idealize.ShloMosaic.Lib.Pipeline.ReadBack
public import Idealize.ShloMosaic.Lib.Claim
public import Idealize.ShloMosaic.Lib.StableHlo.RunRead

@[expose] public section

set_option maxRecDepth 16384
noncomputable section
open Idealize.ShloMosaic Idealize.ShloMosaic.TcCoe Idealize.SL.Sem
open Idealize.ShloMosaic.Pipeline (Dat)
namespace Cert.UpIdeal.Value
open Cert.UpIdeal Cert.UpIdeal.Gen Cert.Ffn
variable (m : (ℓ : Loc nD τ sig) → Buf (Elt Ideal) ℓ) (ρ : Dev nD → PrngReg) (c : Dev nD)

abbrev Xp : (⟨3, ![4, 2048, 4096]⟩ : Shape).Idx → EReal := m ((c : Thread nD τ).loc main_arg0)
abbrev Xs : (⟨3, ![8, 1, 4096]⟩ : Shape).Idx → EReal := m ((c : Thread nD τ).loc main_arg1)
abbrev Gn : (⟨2, ![2, 4096]⟩ : Shape).Idx → EReal := m ((c : Thread nD τ).loc main_arg2)
abbrev Wa : (⟨3, ![2, 4096, 11008]⟩ : Shape).Idx → EReal := m ((c : Thread nD τ).loc main_arg3)
abbrev Wb : (⟨3, ![2, 4096, 11008]⟩ : Shape).Idx → EReal := m ((c : Thread nD τ).loc main_arg4)
abbrev Wd : (⟨3, ![2, 11008, 4096]⟩ : Shape).Idx → EReal := m ((c : Thread nD τ).loc main_arg5)

theorem pay2 (x : FVec Ideal S416x4096 .f32) (g : FVec Ideal S1x1x4096 .f32) (n : Fin 416) (k : Fin 4096) :
    k0_pay2 (F := Ideal) x g (ix2 n k) = x (ix2 n k) * g (ix3 0 0 k) := by
  pointwise [k0_pay2, k0_pay1]

theorem pay3 (x : FVec Ideal S416x4096 .f32) (n : Fin 416) (l : Fin 128) :
    k0_pay3 (F := Ideal) x (ix2 n l) = ∑ k : Fin 4096, x (ix2 n k) * x (ix2 n k) := by
  pointwise [k0_pay3, k0_pay1]

theorem pay1 (w : FVec Ideal S1x64x4096 .f32) (n : Fin 64) (j : Fin 4096) : k1_pay1 (F := Ideal) w (ix2 n j) = w (ix3 0 n j) := by
  pointwise [k1_pay1]

theorem pay4 (x : FVec Ideal S2080x4096 .bf16) (a b : FVec Ideal S1x4096x256 .f32) (q : FVec Ideal S2080x1 .f32) (n : Fin 2080) (j : Fin 256) :
    k1_pay2 (F := Ideal) x a b q (ix2 n j) = act (∑ k : Fin 4096, x (ix2 n k) * a (ix3 0 k j)) (∑ k : Fin 4096, x (ix2 n k) * b (ix3 0 k j)) (rs (q (ix2 n 0))) := by
  pointwise [k1_pay2]
  rfl

theorem v3 (n : Fin 8320) (j : Fin 4096) : V1 m ρ c main_v3 (ix2 n j) = row (Xp m c) (Xs m c) n.val j := by
  unfold_abbrev_sides
  after_reads_simp
  try dsimp only [Matrix.cons_val]
  try after_reads_simp
  pointwise
  rfl

theorem v4 (k : Fin 4096) : V1 m ρ c main_v4 (ix3 0 0 k) = Gn m c (ix2 0 k) := by
  unfold_abbrev_sides
  after_reads_simp
  pointwise

/-- The blocks of a grid point of the first call. -/
theorem idx0 : ∀ t : Fin cfg0.N, win0_0.index t = ![t.val, 0] ∧ win0_1.index t = ![0, 0, 0]
    ∧ win0_2.index t = ![t.val, 0] ∧ win0_3.index t = ![t.val, 0] ∧ t.val < 20 :=
  (by decide +kernel : ∀ t : Fin grid0.N, _)

/-- The blocks of a grid point of the second call. -/
theorem idx1 : ∀ t : Fin cfg1.N, win1_0.index t = ![t.val / 43, 0] ∧ win1_1.index t = ![0, 0, t.val % 43]
    ∧ win1_2.index t = ![0, 0, t.val % 43] ∧ win1_3.index t = ![t.val / 43, 0] ∧ win1_4.index t = ![0, t.val, 0]
    ∧ win1_5.index t = ![t.val / 43, t.val % 43] ∧ win1_6.index t = ![t.val, 0] ∧ t.val < 172 :=
  (by decide +kernel : ∀ t : Fin grid1.N, _)

section first
theorem a0 (t : Fin cfg0.N) (r : Fin 416) (k : Fin 4096) (n : Fin 8320) (hn : n.val = t.val * 416 + r.val) :
    iblk0 (V1 m ρ) c 0 t (ix2 r k) = row (Xp m c) (Xs m c) n.val k := by
  rw [← v3 m ρ c n k]
  have e := (idx0 t).1
  unfold iblk0
  blk_point [e]

theorem a1 (t : Fin cfg0.N) (k : Fin 4096) : iblk0 (V1 m ρ) c 1 t (ix3 0 0 k) = Gn m c (ix2 0 k) := by
  rw [← v4 m ρ c k]
  have e := (idx0 t).2.1
  unfold iblk0
  blk_point [e]

/-- The rows weighted by the norm's gain. -/
theorem fin2 : (dat0 (V1 m ρ) c).arrAt 2 cfg0.N = fun y => row (Xp m c) (Xs m c) (y 0).val (y 1) * Gn m c (ix2 0 (y 1)) := by
  refine (dat0 (V1 m ρ) c).arrAt_eq_of_covers 2 _ (by decide +kernel) fun t hf y => ?_
  have i2 := (idx0 t).2.2.1
  have hN := (idx0 t).2.2.2.2
  blk_simp
  rw [after0_2]
  frame_out
  have y0 : (y 0).val < 416 := (y 0).isLt
  have y1 : (y 1).val < 4096 := (y 1).isLt
  have e0 : win0_2.index t 0 * 416 + (y 0).val = t.val * 416 + (y 0).val := by rw [i2]; rfl
  have e1 : (((View.whole main_v5_0).slice (win0_2.rect t)).emb y 1) = (⟨(y 1).val, y1⟩ : Fin 4096) := by
    apply Fin.ext
    blk_simp [i2]
  rw [e1]
  refine (congrArg (k0_pay2 (F := Ideal) (iblk0 (V1 m ρ) c 0 t) (iblk0 (V1 m ρ) c 1 t)) (show y = ix2 ⟨(y 0).val, y0⟩ ⟨(y 1).val, y1⟩ from ?_)).trans ?_
  · funext a; match a with | 0 => rfl | 1 => rfl
  · rw [pay2, a0 m ρ c t ⟨(y 0).val, y0⟩ _ ⟨win0_2.index t 0 * 416 + (y 0).val, by omega⟩ e0, a1]

/-- The sums of the squares of the rows. -/
theorem fin3 : (dat0 (V1 m ρ) c).arrAt 3 cfg0.N = fun y => ssq (Xp m c) (Xs m c) (y 0).val := by
  refine (dat0 (V1 m ρ) c).arrAt_eq_of_covers 3 _ (by decide +kernel) fun t hf y => ?_
  have i2 := (idx0 t).2.2.2.1
  have hN := (idx0 t).2.2.2.2
  blk_simp
  rw [after0_3]
  frame_out
  have y0 : (y 0).val < 416 := (y 0).isLt
  have y1 : (y 1).val < 128 := (y 1).isLt
  have e0 : win0_3.index t 0 * 416 + (y 0).val = t.val * 416 + (y 0).val := by rw [i2]; rfl
  refine (congrArg (k0_pay3 (F := Ideal) (iblk0 (V1 m ρ) c 0 t)) (show y = ix2 ⟨(y 0).val, y0⟩ ⟨(y 1).val, y1⟩ from ?_)).trans ?_
  · funext a; match a with | 0 => rfl | 1 => rfl
  · rw [pay3]
    exact Finset.sum_congr rfl fun k _ => by rw [a0 m ρ c t ⟨(y 0).val, y0⟩ _ ⟨win0_3.index t 0 * 416 + (y 0).val, by omega⟩ e0]
end first

section second
variable (V : (c : Dev nD) → (b : Ref sig .tc) → Buf (Elt Ideal) ((c : Thread nD τ).loc b))

theorem b0 (t : Fin cfg1.N) (r : Fin 2080) (k : Fin 4096) (n : Fin 8320) (hn : n.val = t.val / 43 * 2080 + r.val) :
    iblk1 V c 0 t (ix2 r k) = V c main_v5_0 (ix2 n k) := by
  have e := (idx1 t).1
  unfold iblk1
  blk_point [e]

theorem b1 (t : Fin cfg1.N) (k : Fin 4096) (j : Fin 256) (l : Fin 11008) (hl : l.val = t.val % 43 * 256 + j.val) :
    iblk1 V c 1 t (ix3 0 k j) = V c main_arg3 (ix3 0 k l) := by
  have e := (idx1 t).2.1
  unfold iblk1
  blk_point [e]

theorem b2 (t : Fin cfg1.N) (k : Fin 4096) (j : Fin 256) (l : Fin 11008) (hl : l.val = t.val % 43 * 256 + j.val) :
    iblk1 V c 2 t (ix3 0 k j) = V c main_arg4 (ix3 0 k l) := by
  have e := (idx1 t).2.2.1
  unfold iblk1
  blk_point [e]

theorem b3 (t : Fin cfg1.N) (r : Fin 2080) (k : Fin 128) (n : Fin 8320) (hn : n.val = t.val / 43 * 2080 + r.val) :
    iblk1 V c 3 t (ix2 r k) = V c main_v5_1 (ix2 n k) := by
  have e := (idx1 t).2.2.2.1
  unfold iblk1
  blk_point [e]

/-- The column a grid point loads. -/
theorem col (x : S2080x128.Idx → Elt Ideal .f32) (r : Fin 2080) : View.ld x r1_4 (ix2 r (0 : Fin 1)) = x (ix2 r 0) :=
  congrArg x (funext fun a => match a with | 0 => Fin.ext (by simp [r1_4]) | 1 => Fin.ext (by simp [r1_4]))

theorem b4 (t : Fin cfg1.N) (r : Fin 64) (k : Fin 4096) (n : Fin 11008) (hn : n.val = t.val * 64 + r.val) :
    iblk1 V c 4 t (ix3 0 r k) = V c main_arg5 (ix3 0 n k) := by
  have e := (idx1 t).2.2.2.2.1
  unfold iblk1
  blk_point [e]

theorem in0 (n : Fin 8320) (k : Fin 4096) : V2 m ρ c main_v5_0 (ix2 n k) = row (Xp m c) (Xs m c) n.val k * Gn m c (ix2 0 k) :=
  congrFun ((hF0 m ρ c 2).symm.trans (fin2 m ρ c)) (ix2 n k)

theorem in1 (n : Fin 8320) (k : Fin 128) : V2 m ρ c main_v5_1 (ix2 n k) = ssq (Xp m c) (Xs m c) n.val :=
  congrFun ((hF0 m ρ c 3).symm.trans (fin3 m ρ c)) (ix2 n k)

theorem in2 : V2 m ρ c main_arg3 = Wa m c := W2_args m ρ c main_arg3 (by decide)
theorem in3 : V2 m ρ c main_arg4 = Wb m c := W2_args m ρ c main_arg4 (by decide)
theorem in4 : V2 m ρ c main_arg5 = Wd m c := W2_args m ρ c main_arg5 (by decide)

/-- The hidden units a grid point stores, of the arguments. -/
theorem point (t : Fin cfg1.N) (r : Fin 2080) (j : Fin 256) (n : Fin 8320) (l : Fin 11008) (hn : n.val = t.val / 43 * 2080 + r.val)
    (hl : l.val = t.val % 43 * 256 + j.val) (q : FVec Ideal S2080x1 .f32) (hq : q (ix2 r 0) = ssq (Xp m c) (Xs m c) n.val) :
    k1_pay2 (F := Ideal) (iblk1 (V2 m ρ) c 0 t) (iblk1 (V2 m ρ) c 1 t) (iblk1 (V2 m ρ) c 2 t) q (ix2 r j)
      = hid (Xp m c) (Xs m c) (Gn m c) (Wa m c) (Wb m c) n.val l := by
  have hs : ∀ (x : FVec Ideal S2080x4096 .bf16) (w : FVec Ideal S1x4096x256 .f32) (W : (⟨3, ![2, 4096, 11008]⟩ : Shape).Idx → EReal),
      (∀ k, x (ix2 r k) = row (Xp m c) (Xs m c) n.val k * Gn m c (ix2 0 k)) → (∀ k, w (ix3 0 k j) = W (ix3 0 k l)) →
      ∑ k : Fin 4096, x (ix2 r k) * w (ix3 0 k j) = prod (Xp m c) (Xs m c) (Gn m c) W n.val l :=
    fun x w W hx hw => Finset.sum_congr rfl fun k _ => by rw [hx, hw]
  have h0 : ∀ k, iblk1 (V2 m ρ) c 0 t (ix2 r k) = row (Xp m c) (Xs m c) n.val k * Gn m c (ix2 0 k) :=
    fun k => (b0 c (V2 m ρ) t r k n hn).trans (in0 m ρ c n k)
  rw [pay4, hq, hs _ _ (Wa m c) h0 fun k => (b1 c (V2 m ρ) t k j l hl).trans (by rw [in2]),
    hs _ _ (Wb m c) h0 fun k => (b2 c (V2 m ρ) t k j l hl).trans (by rw [in3])]
  rfl

/-- The hidden units. -/
theorem fin5 : (dat1 (V2 m ρ) c).arrAt 5 cfg1.N = fun y => hid (Xp m c) (Xs m c) (Gn m c) (Wa m c) (Wb m c) (y 0).val (y 1) := by
  refine (dat1 (V2 m ρ) c).arrAt_eq_of_covers 5 _ (by decide +kernel) fun t hf y => ?_
  have i3 := (idx1 t).2.2.2.2.2.1
  have hN := (idx1 t).2.2.2.2.2.2.2
  blk_simp
  rw [after1_5]
  frame_out
  have y0 : (y 0).val < 2080 := (y 0).isLt
  have y1 : (y 1).val < 256 := (y 1).isLt
  have e0 : win1_5.index t 0 * 2080 + (y 0).val = t.val / 43 * 2080 + (y 0).val := by rw [i3]; rfl
  have e1 : (((View.whole main_v6_0).slice (win1_5.rect t)).emb y 1).val = t.val % 43 * 256 + (y 1).val := by blk_simp [i3]
  refine (congrArg (k1_pay2 (F := Ideal) (iblk1 (V2 m ρ) c 0 t) (iblk1 (V2 m ρ) c 1 t) (iblk1 (V2 m ρ) c 2 t) _)
    (show y = ix2 ⟨(y 0).val, y0⟩ ⟨(y 1).val, y1⟩ from ?_)).trans ?_
  · funext a; match a with | 0 => rfl | 1 => rfl
  · exact point m ρ c t ⟨(y 0).val, y0⟩ ⟨(y 1).val, y1⟩ ⟨win1_5.index t 0 * 2080 + (y 0).val, by omega⟩ _ e0 e1 _
      ((col _ _).trans ((b3 c (V2 m ρ) t ⟨(y 0).val, y0⟩ 0 ⟨win1_5.index t 0 * 2080 + (y 0).val, by omega⟩ e0).trans (in1 m ρ c _ 0)))

/-- The cast second weight. -/
theorem fin6 : (dat1 (V2 m ρ) c).arrAt 6 cfg1.N = fun y => Wd m c (ix3 0 (y 0) (y 1)) := by
  refine (dat1 (V2 m ρ) c).arrAt_eq_of_covers 6 _ (by decide +kernel) fun t hf y => ?_
  have i3 := (idx1 t).2.2.2.2.2.2.1
  have hN := (idx1 t).2.2.2.2.2.2.2
  blk_simp
  rw [after1_6]
  frame_out
  have y0 : (y 0).val < 64 := (y 0).isLt
  have y1 : (y 1).val < 4096 := (y 1).isLt
  have e0 : (((View.whole main_v6_1).slice (win1_6.rect t)).emb y 0).val = t.val * 64 + (y 0).val := by blk_simp [i3]
  have e1 : (((View.whole main_v6_1).slice (win1_6.rect t)).emb y 1) = (⟨(y 1).val, y1⟩ : Fin 4096) := by
    apply Fin.ext
    blk_simp [i3]
  rw [e1]
  refine (congrArg (k1_pay1 (F := Ideal) (iblk1 (V2 m ρ) c 4 t)) (show y = ix2 ⟨(y 0).val, y0⟩ ⟨(y 1).val, y1⟩ from ?_)).trans ?_
  · funext a; match a with | 0 => rfl | 1 => rfl
  · exact (pay1 _ _ _).trans ((b4 c (V2 m ρ) t ⟨(y 0).val, y0⟩ ⟨(y 1).val, y1⟩ _ e0).trans (by rw [in4]))
end second

open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.Pipeline (Dat Cfg Window BodyObligation cellOf)
local notation "𝕄" => MT nD τ sig Unit (Elt Ideal) ℕ (UR sig nD τ) ℕ

/-- The run: the two results, and the arguments unchanged. -/
theorem run : θ_run defs (onTc (τ := τ) (main (F := Ideal))) ⟨m, fun _ => 0, ρ⟩ (fun r => ∀ c : Dev nD,
      r.2.mem ((c.tc : Thread nD τ).loc main_v6_0) = (dat1 (V2 m ρ) c).arrAt 5 cfg1.N
      ∧ r.2.mem ((c.tc : Thread nD τ).loc main_v6_1) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz c =>
      ⟨(h c _ (mem_uc main_v6_0 (by decide))).trans (W3_arr m ρ c 5),
       (h c _ (mem_uc main_v6_1 (by decide))).trans (W3_arr m ρ c 6),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.UpIdeal.Value
-- ==== Proof.Ffn.UpRef.lean ====
module

public import proofs.«01_k».proof.Proof.Gen.UpReferenceIdeal.Run
public import proofs.«01_k».proof.Proof.Ffn.Rows
public import Idealize.ShloMosaic.Lib.Claim

@[expose] public section

set_option maxRecDepth 16384
noncomputable section
open Idealize.ShloMosaic Idealize.ShloMosaic.TcCoe Idealize.SL.Sem
namespace Cert.UpReferenceIdeal.Value
open Cert.UpReferenceIdeal Cert.UpReferenceIdeal.Gen Cert.Ffn

/-- The gain of the first layer's norm. -/
def gain (g : FVec Ideal S2x4096 .f32) : FVec Ideal S1x1x4096 .f32 :=
  broadcastInDim S1x1x4096 ![2] bcast_S4096_S1x1x4096_2 (shapeCast _ (extractStridedSlice S1x4096 ![0, 0] g slices_S2x4096_S1x4096_0_0) shapeCasts_S1x4096_S4096)

/-- The first layer's matrix. -/
def mat (w : FVec Ideal S2x4096x11008 .f32) : FVec Ideal S4096x11008 .f32 :=
  shapeCast _ (extractStridedSlice S1x4096x11008 ![0, 0, 0] w slices_S2x4096x11008_S1x4096x11008_0_0_0) shapeCasts_S1x4096x11008_S4096x11008

theorem gain_at (g : FVec Ideal S2x4096 .f32) (k : Fin 4096) : gain g (ix3 0 0 k) = g (ix2 0 k) := by
  unfold gain
  pointwise

theorem mat_at (w : FVec Ideal S2x4096x11008 .f32) (k : Fin 4096) (j : Fin 11008) : mat w (ix2 k j) = w (ix3 0 k j) := by
  unfold mat
  pointwise

theorem div_lit (q : EReal) : Ideal.div q (Ideal.ofBits .f32 0x45800000#32) = q * Ideal.ofBits .f32 0x39800000#32 := by
  have h1 : Ideal.ofBits .f32 0x39800000#32 = ((1 / 4096 : ℝ) : EReal) := by
    simp [Ideal.ofBits, Ideal.ieee, -EReal.coe_mul]; norm_num
  have h2 : Ideal.ofBits .f32 0x45800000#32 = ((4096 : ℝ) : EReal) := by
    simp [Ideal.ofBits, Ideal.ieee, -EReal.coe_mul]; norm_num
  rw [h1, h2, Ideal.div_coe (by norm_num)]

/-- The norm's factors of the prompt rows. -/
def invP (x : FVec Ideal S4x2048x4096 .f32) : FVec Ideal S4x2048x1 .f32 :=
  Host.rsqrt (addf (Host.divf (broadcastInDim S4x2048x1 ![0, 1] bcast_S4x2048_S4x2048x1_0_1 (Host.reduceAdd (mulf x x) (constant S_ .f32 0x00000000#32)
    reducesTo_S4x2048x4096_S4x2048_d2 h_S_)) (broadcastInDim S4x2048x1 ![] bcast_S_S4x2048x1 (constant S_ .f32 0x45800000#32)))
    (broadcastInDim S4x2048x1 ![] bcast_S_S4x2048x1 (constant S_ .f32 0x358637BD#32)))

/-- The normed prompt rows. -/
def nrmP (x : FVec Ideal S4x2048x4096 .f32) (g : FVec Ideal S2x4096 .f32) : FVec Ideal S4x2048x4096 .f32 :=
  mulf (mulf x (broadcastInDim S4x2048x4096 ![0, 1, 2] bcast_S4x2048x1_S4x2048x4096_0_1_2 (invP x)))
    (broadcastInDim S4x2048x4096 ![0, 1, 2] bcast_S1x1x4096_S4x2048x4096_0_1_2 (gain g))

/-- The normed prompt rows times a matrix. -/
def mulP (x : FVec Ideal S4x2048x4096 .f32) (g : FVec Ideal S2x4096 .f32) (w : FVec Ideal S2x4096x11008 .f32) : FVec Ideal S4x2048x11008 .f32 :=
  Host.dotGeneral dot_S4x2048x4096_S4096x11008_S4x2048x11008_2_0_01_1_n_n none (nrmP x g) (mat w)

/-- The hidden units of the prompt rows. -/
def hidP (x : FVec Ideal S4x2048x4096 .f32) (g : FVec Ideal S2x4096 .f32) (a b : FVec Ideal S2x4096x11008 .f32) : FVec Ideal S4x2048x11008 .bf16 :=
  truncf .bf16 (mulf (mulf (mulP x g a) (Host.divf (broadcastInDim S4x2048x11008 ![] bcast_S_S4x2048x11008 (constant S_ .f32 0x3F800000#32))
    (addf (broadcastInDim S4x2048x11008 ![] bcast_S_S4x2048x11008 (constant S_ .f32 0x3F800000#32)) (Host.exp (Host.negf (mulP x g a))))))
    (mulP x g b)) bitsLt_bf16_f32

theorem invP_at (x : FVec Ideal S4x2048x4096 .f32) (i : Fin 4) (s : Fin 2048) : invP x (ix3 i s 0) = rs (∑ k : Fin 4096, x (ix3 i s k) * x (ix3 i s k)) := by
  rw [rs, ← div_lit]
  unfold invP
  pointwise

theorem mulP_at (x : FVec Ideal S4x2048x4096 .f32) (g : FVec Ideal S2x4096 .f32) (w : FVec Ideal S2x4096x11008 .f32) (i : Fin 4) (s : Fin 2048) (j : Fin 11008) :
    mulP x g w (ix3 i s j) = ∑ k : Fin 4096, x (ix3 i s k) * rs (∑ k : Fin 4096, x (ix3 i s k) * x (ix3 i s k)) * g (ix2 0 k) * w (ix3 0 k j) := by
  rw [← invP_at]
  unfold mulP nrmP
  pointwise [gain_at, mat_at]

theorem hidP_at (x : FVec Ideal S4x2048x4096 .f32) (g : FVec Ideal S2x4096 .f32) (a b : FVec Ideal S2x4096x11008 .f32) (i : Fin 4) (s : Fin 2048) (j : Fin 11008) :
    hidP x g a b (ix3 i s j) = mulP x g a (ix3 i s j) * Ideal.logistic (mulP x g a (ix3 i s j)) * mulP x g b (ix3 i s j) := by
  unfold hidP
  pointwise
  rfl

/-- The norm's factors of the sample rows. -/
def invS (x : FVec Ideal S8x1x4096 .f32) : FVec Ideal S8x1x1 .f32 :=
  Host.rsqrt (addf (Host.divf (broadcastInDim S8x1x1 ![0, 1] bcast_S8x1_S8x1x1_0_1 (Host.reduceAdd (mulf x x) (constant S_ .f32 0x00000000#32)
    reducesTo_S8x1x4096_S8x1_d2 h_S_)) (broadcastInDim S8x1x1 ![] bcast_S_S8x1x1 (constant S_ .f32 0x45800000#32)))
    (broadcastInDim S8x1x1 ![] bcast_S_S8x1x1 (constant S_ .f32 0x358637BD#32)))

/-- The normed sample rows. -/
def nrmS (x : FVec Ideal S8x1x4096 .f32) (g : FVec Ideal S2x4096 .f32) : FVec Ideal S8x1x4096 .f32 :=
  mulf (mulf x (broadcastInDim S8x1x4096 ![0, 1, 2] bcast_S8x1x1_S8x1x4096_0_1_2 (invS x)))
    (broadcastInDim S8x1x4096 ![0, 1, 2] bcast_S1x1x4096_S8x1x4096_0_1_2 (gain g))

/-- The normed sample rows times a matrix. -/
def mulS (x : FVec Ideal S8x1x4096 .f32) (g : FVec Ideal S2x4096 .f32) (w : FVec Ideal S2x4096x11008 .f32) : FVec Ideal S8x1x11008 .f32 :=
  Host.dotGeneral dot_S8x1x4096_S4096x11008_S8x1x11008_2_0_01_1_n_n none (nrmS x g) (mat w)

/-- The hidden units of the sample rows. -/
def hidS (x : FVec Ideal S8x1x4096 .f32) (g : FVec Ideal S2x4096 .f32) (a b : FVec Ideal S2x4096x11008 .f32) : FVec Ideal S8x1x11008 .bf16 :=
  truncf .bf16 (mulf (mulf (mulS x g a) (Host.divf (broadcastInDim S8x1x11008 ![] bcast_S_S8x1x11008 (constant S_ .f32 0x3F800000#32))
    (addf (broadcastInDim S8x1x11008 ![] bcast_S_S8x1x11008 (constant S_ .f32 0x3F800000#32)) (Host.exp (Host.negf (mulS x g a))))))
    (mulS x g b)) bitsLt_bf16_f32

theorem invS_at (x : FVec Ideal S8x1x4096 .f32) (i : Fin 8) (s : Fin 1) : invS x (ix3 i s 0) = rs (∑ k : Fin 4096, x (ix3 i s k) * x (ix3 i s k)) := by
  obtain rfl : s = 0 := Subsingleton.elim _ _
  rw [rs, ← div_lit]
  unfold invS
  pointwise

theorem mulS_at (x : FVec Ideal S8x1x4096 .f32) (g : FVec Ideal S2x4096 .f32) (w : FVec Ideal S2x4096x11008 .f32) (i : Fin 8) (s : Fin 1) (j : Fin 11008) :
    mulS x g w (ix3 i s j) = ∑ k : Fin 4096, x (ix3 i s k) * rs (∑ k : Fin 4096, x (ix3 i s k) * x (ix3 i s k)) * g (ix2 0 k) * w (ix3 0 k j) := by
  obtain rfl : s = 0 := Subsingleton.elim _ _
  rw [← invS_at]
  unfold mulS nrmS
  pointwise [gain_at, mat_at]

theorem hidS_at (x : FVec Ideal S8x1x4096 .f32) (g : FVec Ideal S2x4096 .f32) (a b : FVec Ideal S2x4096x11008 .f32) (i : Fin 8) (s : Fin 1) (j : Fin 11008) :
    hidS x g a b (ix3 i s j) = mulS x g a (ix3 i s j) * Ideal.logistic (mulS x g a (ix3 i s j)) * mulS x g b (ix3 i s j) := by
  unfold hidS
  pointwise
  rfl

/-- The reference's array, as the composition of its operations. -/
def res (xp : FVec Ideal S4x2048x4096 .f32) (xs : FVec Ideal S8x1x4096 .f32) (g : FVec Ideal S2x4096 .f32)
    (a b : FVec Ideal S2x4096x11008 .f32) : FVec Ideal S8320x11008 .bf16 :=
  concatenate S8320x11008 0
    [⟨S8192x11008, shapeCast _ (hidP xp g a b) shapeCasts_S4x2048x11008_S8192x11008⟩,
     ⟨S8x11008, shapeCast _ (hidS xs g a b) shapeCasts_S8x1x11008_S8x11008⟩,
     ⟨S120x11008, broadcastInDim S120x11008 ![] bcast_S_S120x11008 (constant S_ .bf16 0x0000#16)⟩]
    concatenates_S8192x11008_S8x11008_S120x11008_S8320x11008_d0

theorem res_eq (xp : FVec Ideal S4x2048x4096 .f32) (xs : FVec Ideal S8x1x4096 .f32) (g : FVec Ideal S2x4096 .f32)
    (a b : FVec Ideal S2x4096x11008 .f32) : res xp xs g a b = fun y => hid xp xs g a b (y 0).val (y 1) := by
  have h : ∀ (n : Fin 8320) (j : Fin 11008), res xp xs g a b (ix2 n j) = hid xp xs g a b n.val j := by
    intro n j
    unfold res
    pointwise
    split
    · next hn =>
      have hr : ∀ k, row xp xs n.val k = xp (ix3 ⟨n.val / 2048, by omega⟩ ⟨n.val % 2048, by omega⟩ k) := fun k => by rw [row, dif_pos hn]
      rw [hidP_at]
      simp only [mulP_at, ← hr]
      unfold hid act
      simp only [← prod_norm]
      rfl
    · next hn =>
      split
      · next hs =>
        have hr : ∀ k, row xp xs n.val k = xs (ix3 ⟨n.val - 8192, hs⟩ 0 k) := fun k => by rw [row, dif_neg hn, dif_pos hs]
        rw [hidS_at]
        simp only [mulS_at, ← hr]
        unfold hid act
        simp only [← prod_norm]
        rfl
      · next hs => exact (hid_zero xp xs g a b n.val (by omega) j).symm
  funext y
  exact (congrArg (res xp xs g a b) (show y = ix2 (y 0) (y 1) from funext fun a => match a with | 0 => rfl | 1 => rfl)).trans (h _ _)

theorem out0 (m : (ℓ : Loc nD τ sig) → Buf (Elt Ideal) ℓ) (c : Dev nD) : res_main_v51 m c =
    res (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-- The cast second weight. -/
theorem out1 (w : FVec Ideal S2x11008x4096 .f32) : (truncf .bf16 (shapeCast S11008x4096 (extractStridedSlice S1x11008x4096 ![0, 0, 0] w
    slices_S2x11008x4096_S1x11008x4096_0_0_0) shapeCasts_S1x11008x4096_S11008x4096) bitsLt_bf16_f32 : FVec Ideal S11008x4096 .bf16)
      = fun y => w (ix3 0 (y 0) (y 1)) := by
  funext y
  pointwise

end Cert.UpReferenceIdeal.Value
-- ==== Proof.Ffn.Down.lean ====
module

public import proofs.«01_k».proof.Proof.Gen.DownIdeal.Value
public import proofs.«01_k».proof.Proof.Ffn.Rows
public import Idealize.ShloMosaic.Lib.Pipeline.ValueKit
public import Idealize.ShloMosaic.Lib.Pipeline.ReadBack
public import Idealize.ShloMosaic.Lib.Claim
public import Idealize.ShloMosaic.Lib.StableHlo.RunRead

@[expose] public section

set_option maxRecDepth 16384
noncomputable section
open Idealize.ShloMosaic Idealize.ShloMosaic.TcCoe Idealize.SL.Sem
open Idealize.ShloMosaic.Pipeline (Dat)
namespace Cert.DownIdeal.Value
open Cert.DownIdeal Cert.DownIdeal.Gen Cert.Ffn
variable (m : (ℓ : Loc nD τ sig) → Buf (Elt Ideal) ℓ) (c : Dev nD)

abbrev Xp : (⟨3, ![4, 2048, 4096]⟩ : Shape).Idx → EReal := m ((c : Thread nD τ).loc main_arg0)
abbrev Xs : (⟨3, ![8, 1, 4096]⟩ : Shape).Idx → EReal := m ((c : Thread nD τ).loc main_arg1)
abbrev Up : (⟨3, ![4, 2048, 11008]⟩ : Shape).Idx → EReal := m ((c : Thread nD τ).loc main_arg2)
abbrev Us : (⟨3, ![8, 1, 11008]⟩ : Shape).Idx → EReal := m ((c : Thread nD τ).loc main_arg3)
abbrev W2 : (⟨2, ![11008, 4096]⟩ : Shape).Idx → EReal := m ((c : Thread nD τ).loc main_arg4)

/-- What a grid point stores, of the blocks it reads. -/
theorem pay (x : FVec Ideal S1040x11008 .bf16) (w : FVec Ideal S1x11008x256 .bf16) (r : FVec Ideal S1040x256 .f32) (n : Fin 1040) (j : Fin 256) :
    k0_pay1 x w r (ix2 n j) = r (ix2 n j) + Ideal.ofBits .f32 0x3F000000#32 * ∑ k : Fin 11008, x (ix2 n k) * w (ix3 0 k j) := by
  pointwise [k0_pay1]

theorem v3 (n : Fin 8320) (j : Fin 4096) : V m c main_v3 (ix2 n j) = row (Xp m c) (Xs m c) n.val j := by
  unfold_abbrev_sides
  after_reads_simp
  try dsimp only [Matrix.cons_val]
  try after_reads_simp
  pointwise
  rfl

theorem v7 (n : Fin 8320) (k : Fin 11008) : V m c main_v7 (ix2 n k) = row (Up m c) (Us m c) n.val k := by
  unfold_abbrev_sides
  after_reads_simp
  try dsimp only [Matrix.cons_val]
  try after_reads_simp
  pointwise
  rfl

theorem v8 (k : Fin 11008) (j : Fin 4096) : V m c main_v8 (ix3 0 k j) = W2 m c (ix2 k j) := by
  unfold_abbrev_sides
  after_reads_simp
  pointwise

/-- The blocks of a grid point. -/
theorem idx : ∀ t : Fin cfg0.N, win0_0.index t = ![t.val / 16, 0] ∧ win0_1.index t = ![0, 0, t.val % 16]
    ∧ win0_2.index t = ![t.val / 16, t.val % 16] ∧ win0_3.index t = ![t.val / 16, t.val % 16] ∧ t.val < 128 :=
  (by decide +kernel : ∀ t : Fin grid0.N, _)

theorem b0 (t : Fin cfg0.N) (r : Fin 1040) (k : Fin 11008) (n : Fin 8320) (hn : n.val = t.val / 16 * 1040 + r.val) :
    iblk m c 0 t (ix2 r k) = row (Up m c) (Us m c) n.val k := by
  rw [← v7 m c n k]
  have e := (idx t).1
  unfold iblk
  blk_point [e]

theorem b1 (t : Fin cfg0.N) (k : Fin 11008) (j : Fin 256) (n : Fin 4096) (hn : n.val = t.val % 16 * 256 + j.val) :
    iblk m c 1 t (ix3 0 k j) = W2 m c (ix2 k n) := by
  rw [← v8 m c k n]
  have e := (idx t).2.1
  unfold iblk
  blk_point [e]

theorem b2 (t : Fin cfg0.N) (r : Fin 1040) (j : Fin 256) (n : Fin 8320) (l : Fin 4096) (hn : n.val = t.val / 16 * 1040 + r.val)
    (hl : l.val = t.val % 16 * 256 + j.val) : iblk m c 2 t (ix2 r j) = row (Xp m c) (Xs m c) n.val l := by
  rw [← v3 m c n l]
  have e := (idx t).2.2.1
  unfold iblk
  blk_point [e]

/-- What a grid point stores, of the arguments. -/
theorem point (t : Fin cfg0.N) (r : Fin 1040) (j : Fin 256) (n : Fin 8320) (l : Fin 4096) (hn : n.val = t.val / 16 * 1040 + r.val)
    (hl : l.val = t.val % 16 * 256 + j.val) :
    k0_pay1 (iblk m c 0 t) (iblk m c 1 t) (iblk m c 2 t) (ix2 r j) = down (Xp m c) (Xs m c) (Up m c) (Us m c) (W2 m c) n.val l := by
  have hs : ∀ (x : FVec Ideal S1040x11008 .bf16) (w : FVec Ideal S1x11008x256 .bf16), (∀ k, x (ix2 r k) = row (Up m c) (Us m c) n.val k) →
      (∀ k, w (ix3 0 k j) = W2 m c (ix2 k l)) →
      ∑ k : Fin 11008, x (ix2 r k) * w (ix3 0 k j) = ∑ k : Fin 11008, row (Up m c) (Us m c) n.val k * W2 m c (ix2 k l) :=
    fun x w hx hw => Finset.sum_congr rfl fun k _ => by rw [hx, hw]
  rw [pay, b2 m c t r j n l hn hl, hs _ _ (fun k => b0 m c t r k n hn) (fun k => b1 m c t k j l hl)]
  rfl

/-- The array after the run. -/
theorem final : (dats m 0 c).arrAt 3 cfg0.N = fun y => down (Xp m c) (Xs m c) (Up m c) (Us m c) (W2 m c) (y 0).val (y 1) := by
  refine (dats m 0 c).arrAt_eq_of_covers 3 _ (by decide +kernel) fun t hf y => ?_
  have i3 := (idx t).2.2.2.1
  have hN := (idx t).2.2.2.2
  blk_simp
  rw [after0_3]
  frame_out
  have y0 : (y 0).val < 1040 := (y 0).isLt
  have y1 : (y 1).val < 256 := (y 1).isLt
  have e0 : win0_3.index t 0 * 1040 + (y 0).val = t.val / 16 * 1040 + (y 0).val := by rw [i3]; rfl
  have e1 : ((win0_3.blk t).view.emb y 1).val = t.val % 16 * 256 + (y 1).val := by blk_simp [i3]
  refine (congrArg (k0_pay1 (iblk m c 0 t) (iblk m c 1 t) (iblk m c 2 t)) (show y = ix2 ⟨(y 0).val, y0⟩ ⟨(y 1).val, y1⟩ from ?_)).trans ?_
  · funext a; match a with | 0 => rfl | 1 => rfl
  · exact point m c t ⟨(y 0).val, y0⟩ ⟨(y 1).val, y1⟩ ⟨win0_3.index t 0 * 1040 + (y 0).val, by omega⟩ ((win0_3.blk t).view.emb y 1) e0 e1

end Cert.DownIdeal.Value
-- ==== Proof.Ffn.DownRef.lean ====
module

public import proofs.«01_k».proof.Proof.Gen.DownReferenceIdeal.Run
public import proofs.«01_k».proof.Proof.Ffn.Rows
public import Idealize.ShloMosaic.Lib.Claim

@[expose] public section

set_option maxRecDepth 16384
noncomputable section
open Idealize.ShloMosaic Idealize.ShloMosaic.TcCoe Idealize.SL.Sem
namespace Cert.DownReferenceIdeal.Value
open Cert.DownReferenceIdeal Cert.DownReferenceIdeal.Gen Cert.Ffn

/-- The reference's array, as the composition of its operations. -/
def res (xp : FVec Ideal S4x2048x4096 .f32) (xs : FVec Ideal S8x1x4096 .f32) (up : FVec Ideal S4x2048x11008 .bf16) (us : FVec Ideal S8x1x11008 .bf16)
    (w : FVec Ideal S11008x4096 .bf16) : FVec Ideal S8320x4096 .f32 :=
  concatenate S8320x4096 0
    [⟨S8192x4096, shapeCast _ (addf xp (mulf (broadcastInDim S4x2048x4096 ![] bcast_S_S4x2048x4096 (constant S_ .f32 0x3F000000#32))
        (Host.dotGeneral dot_S4x2048x11008_S11008x4096_S4x2048x4096_2_0_01_1_n_n none (extf .f32 up bitsLt_bf16_f32) (extf .f32 w bitsLt_bf16_f32))))
        shapeCasts_S4x2048x4096_S8192x4096⟩,
     ⟨S8x4096, shapeCast _ (addf xs (mulf (broadcastInDim S8x1x4096 ![] bcast_S_S8x1x4096 (constant S_ .f32 0x3F000000#32))
        (Host.dotGeneral dot_S8x1x11008_S11008x4096_S8x1x4096_2_0_01_1_n_n none (extf .f32 us bitsLt_bf16_f32) (extf .f32 w bitsLt_bf16_f32))))
        shapeCasts_S8x1x4096_S8x4096⟩,
     ⟨S120x4096, broadcastInDim S120x4096 ![] bcast_S_S120x4096 (constant S_ .f32 0x00000000#32)⟩]
    concatenates_S8192x4096_S8x4096_S120x4096_S8320x4096_d0

theorem res_eq (xp : FVec Ideal S4x2048x4096 .f32) (xs : FVec Ideal S8x1x4096 .f32) (up : FVec Ideal S4x2048x11008 .bf16)
    (us : FVec Ideal S8x1x11008 .bf16) (w : FVec Ideal S11008x4096 .bf16) :
    res xp xs up us w = fun y => down xp xs up us w (y 0).val (y 1) := by
  have h : ∀ (n : Fin 8320) (j : Fin 4096), res xp xs up us w (ix2 n j) = down xp xs up us w n.val j := by
    intro n j
    unfold res
    pointwise
    unfold down row
    split
    · simp only [*, dif_pos]
    · split
      · simp only [*, dif_neg, dif_pos, not_false_eq_true]
      · simp [*]
  funext y
  exact (congrArg (res xp xs up us w) (show y = ix2 (y 0) (y 1) from funext fun a => match a with | 0 => rfl | 1 => rfl)).trans (h _ _)

end Cert.DownReferenceIdeal.Value
-- ==== Proof.Ffn.Claims.lean ====
module

public import proofs.«01_k».proof.Defs
public import proofs.«01_k».proof.Proof.Gen.Up.Frame
public import proofs.«01_k».proof.Proof.Gen.UpIdeal.Frame
public import proofs.«01_k».proof.Proof.Gen.UpReferenceIdeal.Run
public import proofs.«01_k».proof.Proof.Gen.Down.Frame
public import proofs.«01_k».proof.Proof.Gen.DownIdeal.Frame
public import proofs.«01_k».proof.Proof.Gen.DownIdeal.Value
public import proofs.«01_k».proof.Proof.Gen.DownReferenceIdeal.Run
public import proofs.«01_k».proof.Proof.Ffn.Up
public import proofs.«01_k».proof.Proof.Ffn.UpRef
public import proofs.«01_k».proof.Proof.Ffn.Down
public import proofs.«01_k».proof.Proof.Ffn.DownRef
public import Idealize.ShloMosaic.Lib.Quiescent

@[expose] public section

set_option maxRecDepth 16384
noncomputable section
open Idealize.ShloMosaic Idealize.ShloMosaic.TcCoe Idealize.SL.Sem
namespace Cert.Ffn

theorem up_frameP : Cert.quiescent_Up := fun m g _ => Cert.Up.Gen.frame m g
theorem up_framePI : Cert.quiescent_UpIdeal := fun m g _ => Cert.UpIdeal.Gen.frame m g
theorem up_frameRI : Cert.quiescent_UpReferenceIdeal := fun m g _ =>
  (θ_run Cert.UpReferenceIdeal.defs _ _).mono (fun r h => ⟨fun c => (h c).2.2, sem_eq_zero_of_no_sems (by decide) r.2⟩)
    (Cert.UpReferenceIdeal.Value.run m g)
theorem up_preserves : Cert.preserves_Up_UpIdeal := trivial

theorem down_frameP : Cert.quiescent_Down := fun m g _ => Cert.Down.Gen.frame m g
theorem down_framePI : Cert.quiescent_DownIdeal := fun m g _ => Cert.DownIdeal.Gen.frame m g
theorem down_frameRI : Cert.quiescent_DownReferenceIdeal := fun m g _ =>
  (θ_run Cert.DownReferenceIdeal.defs _ _).mono (fun r h => ⟨fun c => (h c).2, sem_eq_zero_of_no_sems (by decide) r.2⟩)
    (Cert.DownReferenceIdeal.Value.run m g)
theorem down_preserves : Cert.preserves_Down_DownIdeal := trivial

theorem up_algebraic : Cert.algebraic_UpIdeal_UpReferenceIdeal := by
  intro m g m' g' _ hm
  refine ⟨fun c y => hid (Cert.UpIdeal.Value.Xp m c) (Cert.UpIdeal.Value.Xs m c) (Cert.UpIdeal.Value.Gn m c) (Cert.UpIdeal.Value.Wa m c)
      (Cert.UpIdeal.Value.Wb m c) (y 0).val (y 1), fun c y => Cert.UpIdeal.Value.Wd m c (ix3 0 (y 0) (y 1)), ?_, ?_⟩
  · refine (θ_run Cert.UpIdeal.defs _ _).mono (fun r h c => ?_) (Cert.UpIdeal.Value.run m g)
    obtain ⟨h0, h1, hargs⟩ := h c
    exact ⟨h0.trans (Cert.UpIdeal.Value.fin5 m g c), h1.trans (Cert.UpIdeal.Value.fin6 m g c), hargs⟩
  · refine (θ_run Cert.UpReferenceIdeal.defs _ _).mono (fun r h c => ?_) (Cert.UpReferenceIdeal.Value.run m' g')
    obtain ⟨h0, h1, hargs⟩ := h c
    obtain ⟨e0, e1, e2, e3, e4, e5⟩ := hm c
    refine ⟨h0.trans ?_, h1.trans ?_, hargs⟩
    · rw [Cert.UpReferenceIdeal.Value.out0, Cert.UpReferenceIdeal.Value.res_eq, e0, e1, e2, e3, e4]
      rfl
    · rw [e5]
      exact Cert.UpReferenceIdeal.Value.out1 _

theorem down_algebraic : Cert.algebraic_DownIdeal_DownReferenceIdeal := by
  intro m g m' g' _ hm
  refine ⟨fun c y => down (Cert.DownIdeal.Value.Xp m c) (Cert.DownIdeal.Value.Xs m c) (Cert.DownIdeal.Value.Up m c) (Cert.DownIdeal.Value.Us m c)
      (Cert.DownIdeal.Value.W2 m c) (y 0).val (y 1), ?_, ?_⟩
  · refine (θ_run Cert.DownIdeal.defs _ _).mono (fun r h c => ?_) (Cert.DownIdeal.Value.run_blocks m g)
    obtain ⟨h0, hargs⟩ := h c
    exact ⟨h0.trans (Cert.DownIdeal.Value.final m c), hargs⟩
  · refine (θ_run Cert.DownReferenceIdeal.defs _ _).mono (fun r h c => ?_) (Cert.DownReferenceIdeal.Value.run m' g')
    obtain ⟨h0, hargs⟩ := h c
    obtain ⟨e0, e1, e2, e3, e4⟩ := hm c
    refine ⟨h0.trans ?_, hargs⟩
    rw [e0, e1, e2, e3, e4]
    exact Cert.DownReferenceIdeal.Value.res_eq _ _ _ _ _

end Cert.Ffn
-- ==== Proof.Mix.Rows.lean ====
module

public import proofs.«01_k».proof.Proof.Ffn.Rows

@[expose] public section

noncomputable section
open Idealize.ShloMosaic
/-! The product of the normed rows and the mixer's matrix, its columns as the kernel orders them. -/

namespace Cert.Ffn

/-- Where column `l` of the result lies in the matrix. -/
def colOf (l : ℕ) : ℕ :=
  if l < 12288 then l + 11920 else if l < 14336 then l - 12288 + 5632 else if l < 19456 then l - 14336
    else if l < 23552 then l - 19456 + 7824 else if l < 24064 then l - 23552 + 5120 else l - 24064 + 7680

theorem colOf_lt (l : ℕ) (hl : l < 24320) : colOf l < 24208 := by
  unfold colOf
  repeat' split
  all_goals omega

/-- The columns of a block follow one another in the matrix. -/
theorem colOf_add (t j : ℕ) (ht : t < 95) (hj : j < 256) : colOf (t * 256 + j) = colOf (t * 256) + j := by
  unfold colOf
  repeat' split
  all_goals omega

/-- Row `n` of the normed tokens times column `l` of the first layer's matrix. -/
def proj (xp : (⟨3, ![4, 2048, 4096]⟩ : Shape).Idx → EReal) (xs : (⟨3, ![8, 1, 4096]⟩ : Shape).Idx → EReal)
    (g : (⟨2, ![2, 4096]⟩ : Shape).Idx → EReal) (w : (⟨3, ![2, 4096, 24208]⟩ : Shape).Idx → EReal) (n : ℕ) (l : Fin 24208) : EReal :=
  (∑ k : Fin 4096, row xp xs n k * g (ix2 0 k) * w (ix3 0 k l)) * rs (ssq xp xs n)

theorem proj_norm (xp xs g w) (n : ℕ) (l : Fin 24208) :
    ∑ k : Fin 4096, row xp xs n k * rs (ssq xp xs n) * g (ix2 0 k) * w (ix3 0 k l) = proj xp xs g w n l := by
  obtain ⟨h0, h1⟩ := rs_fin _ (ssq_nonneg xp xs n)
  rw [proj, ← sum_mul_factor _ _ h0 h1]
  refine Finset.sum_congr rfl fun k _ => ?_
  ac_rfl

/-- A row of zeros has a product of zero. -/
theorem proj_zero (xp xs g w) (n : ℕ) (hn : 8200 ≤ n) (l : Fin 24208) : proj xp xs g w n l = 0 := by
  have hr : ∀ k, row xp xs n k = 0 := fun k => by rw [row, dif_neg (by omega), dif_neg (by omega)]
  simp [proj, hr]

end Cert.Ffn
-- ==== Proof.Mix.Proj.lean ====
module

public import proofs.«01_k».proof.Proof.Gen.ProjIdeal.Frame
public import proofs.«01_k».proof.Proof.Mix.Rows
public import Idealize.ShloMosaic.Lib.Pipeline.ValueKit
public import Idealize.ShloMosaic.Lib.Pipeline.Value
public import Idealize.ShloMosaic.Lib.Pipeline.ReadBack
public import Idealize.ShloMosaic.Lib.Claim
public import Idealize.ShloMosaic.Lib.StableHlo.RunRead

@[expose] public section

set_option maxRecDepth 16384
noncomputable section
open Idealize.ShloMosaic Idealize.ShloMosaic.TcCoe Idealize.SL.Sem
open Idealize.ShloMosaic.Pipeline (Dat)
namespace Cert.ProjIdeal.Value
open Cert.ProjIdeal Cert.ProjIdeal.Gen Cert.Ffn

/-- The table the program writes: the first column of each block of the matrix, in eights. -/
def table : pre0.Contents (Elt Ideal) := fun j => match j with | ⟨0, _⟩ => fun i => lit0 (S95.rowMajor i)

theorem tbl_eq (m : (ℓ : Loc nD τ sig) → Buf (Elt Ideal) ℓ) : tbl m = table := by
  funext j
  obtain rfl : j = 0 := Subsingleton.elim _ _
  unfold tbl
  show V m 0 main_c = _
  unfold_abbrev_sides
  after_reads_simp
  rfl

theorem at_table : ∀ i : grid0.Coords, cc0_transform_1 k0_off1_inb numel1_S1 table i = ![0, colOf ((i 1).val * 256), 0] := by
  decide +kernel

theorem ok (m : (ℓ : Loc nD τ sig) → Buf (Elt Ideal) ℓ) : Ok m := by
  unfold Ok
  rw [tbl_eq]
  refine ⟨?_, ?_⟩
  · decide +kernel
  · intro i
    refine ⟨?_, .inl rfl⟩
    rw [at_table]
    revert i
    decide +kernel

variable (m : (ℓ : Loc nD τ sig) → Buf (Elt Ideal) ℓ) (ρ : Dev nD → PrngReg) (c : Dev nD)

abbrev Xp : (⟨3, ![4, 2048, 4096]⟩ : Shape).Idx → EReal := m ((c : Thread nD τ).loc main_arg0)
abbrev Xs : (⟨3, ![8, 1, 4096]⟩ : Shape).Idx → EReal := m ((c : Thread nD τ).loc main_arg1)
abbrev Gn : (⟨2, ![2, 4096]⟩ : Shape).Idx → EReal := m ((c : Thread nD τ).loc main_arg2)
abbrev Wi : (⟨3, ![2, 4096, 24208]⟩ : Shape).Idx → EReal := m ((c : Thread nD τ).loc main_arg3)

theorem pay (w : FVec Ideal S1x256x4096 .f32) (x : FVec Ideal S2080x4096 .bf16) (q : FVec Ideal S2080x1 .f32) (n : Fin 2080) (j : Fin 256) :
    k0_pay1 (F := Ideal) w x q (ix2 n j) = (∑ k : Fin 4096, x (ix2 n k) * w (ix3 0 j k)) * rs (q (ix2 n 0)) := by
  pointwise [k0_pay1]
  rfl

theorem v3 (n : Fin 8320) (k : Fin 4096) : V m c main_v3 (ix2 n k) = row (Xp m c) (Xs m c) n.val k := by
  unfold_abbrev_sides
  after_reads_simp
  try dsimp only [Matrix.cons_val]
  try after_reads_simp
  pointwise
  rfl

theorem v9 (n : Fin 8320) (k : Fin 4096) : V m c main_v9 (ix2 n k) = row (Xp m c) (Xs m c) n.val k * Gn m c (ix2 0 k) := by
  unfold row
  unfold_abbrev_sides
  after_reads_simp
  try dsimp only [Matrix.cons_val]
  try after_reads_simp
  pointwise
  after_reads_simp
  pointwise
  rfl

theorem v13 (n : Fin 8320) (l : Fin 128) : V m c main_v13 (ix2 n l) = ssq (Xp m c) (Xs m c) n.val := by
  unfold ssq row
  unfold_abbrev_sides
  after_reads_simp
  try dsimp only [Matrix.cons_val]
  try after_reads_simp
  pointwise
  after_reads_simp
  pointwise

theorem v14 (l : Fin 24208) (k : Fin 4096) : V m c main_v14 (ix3 0 l k) = Wi m c (ix3 0 k l) := by
  unfold_abbrev_sides
  after_reads_simp
  pointwise

/-- The blocks of a grid point. -/
theorem idx : ∀ t : Fin grid0.N, cc0_transform_0 (grid0.coords t) = ![t.val / 95, 0] ∧ cc0_transform_2 (grid0.coords t) = ![t.val / 95, 0]
    ∧ cc0_transform_3 (grid0.coords t) = ![t.val / 95, t.val % 95] ∧ (grid0.coords t 1).val = t.val % 95 ∧ t.val < 380 := by
  decide +kernel

/-- The blocks the body reads at a grid point. -/
def b0 (t : Fin (cfgM m (ok m)).N) : FVec Ideal S2080x4096 .bf16 := iblk m (ok m) c 0 t
def b1 (t : Fin (cfgM m (ok m)).N) : FVec Ideal S1x256x4096 .f32 := iblk m (ok m) c 1 t
def b2 (t : Fin (cfgM m (ok m)).N) : FVec Ideal S2080x128 .f32 := iblk m (ok m) c 2 t

theorem a0 (t : Fin (cfgM m (ok m)).N) (r : Fin 2080) (k : Fin 4096) (n : Fin 8320) (hn : n.val = t.val / 95 * 2080 + r.val) :
    b0 m c t (ix2 r k) = row (Xp m c) (Xs m c) n.val k * Gn m c (ix2 0 k) := by
  rw [← v9 m c n k]
  have e : ((cfgM m (ok m)).win 0).index t = ![t.val / 95, 0] := (idx t).1
  unfold b0 iblk
  blk_point [e]

theorem a2 (t : Fin (cfgM m (ok m)).N) (r : Fin 2080) (k : Fin 128) (n : Fin 8320) (hn : n.val = t.val / 95 * 2080 + r.val) :
    b2 m c t (ix2 r k) = ssq (Xp m c) (Xs m c) n.val := by
  rw [← v13 m c n k]
  have e : ((cfgM m (ok m)).win 2).index t = ![t.val / 95, 0] := (idx t).2.1
  unfold b2 iblk
  blk_point [e]

/-- The second block's place in the matrix. -/
def place (t : Fin (cfgM m (ok m)).N) (y : S1x256x4096.Idx) : S2x24208x4096.Idx := (((cfgM m (ok m)).win 1).rect t).emb y

theorem place_val (t : Fin (cfgM m (ok m)).N) (y : S1x256x4096.Idx) (a : Fin 3) :
    (place m t y a).val = (![0, colOf (t.val % 95 * 256), 0] : Fin 3 → ℕ) a + (y a).val := by
  have e : ((cfgM m (ok m)).win 1).index t = ![0, colOf (t.val % 95 * 256), 0] := by
    rw [← (idx t).2.2.2.1, ← at_table, ← tbl_eq m]
    rfl
  exact (((cfgM m (ok m)).win 1).rect_emb_val_off t y a).trans (by rw [e]; rfl)

theorem a1 (t : Fin (cfgM m (ok m)).N) (j : Fin 256) (k : Fin 4096) (l : Fin 24208) (hl : l.val = colOf (t.val % 95 * 256) + j.val) :
    b1 m c t (ix3 0 j k) = Wi m c (ix3 0 k l) := by
  rw [← v14 m c l k]
  have p : place m t (ix3 0 j k) = ix3 0 l k := funext fun a => match a with
    | ⟨0, _⟩ => Fin.ext (place_val m t (ix3 0 j k) 0)
    | ⟨1, _⟩ => Fin.ext ((place_val m t (ix3 0 j k) 1).trans hl.symm)
    | ⟨2, _⟩ => Fin.ext ((place_val m t (ix3 0 j k) 2).trans (Nat.zero_add _))
  rw [← p]
  rfl

/-- The elements a grid point stores, of the arguments. -/
theorem point (t : Fin (cfgM m (ok m)).N) (r : Fin 2080) (j : Fin 256) (n : Fin 8320) (l : Fin 24208) (hn : n.val = t.val / 95 * 2080 + r.val)
    (hl : l.val = colOf (t.val % 95 * 256) + j.val) (q : FVec Ideal S2080x1 .f32) (hq : q (ix2 r 0) = ssq (Xp m c) (Xs m c) n.val) :
    k0_pay1 (F := Ideal) (b1 m c t) (b0 m c t) q (ix2 r j) = proj (Xp m c) (Xs m c) (Gn m c) (Wi m c) n.val l := by
  rw [pay, hq, proj]
  exact congrArg (· * rs (ssq (Xp m c) (Xs m c) n.val))
    (Finset.sum_congr rfl fun k _ => congrArg₂ (· * ·) (a0 m c t r k n hn) (a1 m c t j k l hl))

/-- The result. -/
def out (m : (ℓ : Loc nD τ sig) → Buf (Elt Ideal) ℓ) (c : Dev nD) : S8320x24320.Idx → EReal :=
  fun y => proj (Xp m c) (Xs m c) (Gn m c) (Wi m c) (y 0).val ⟨colOf (y 1).val, colOf_lt _ (y 1).isLt⟩

/-- The blocks written cover the result. -/
theorem covers : ((cfgM m (ok m)).win 3).Covers := by
  refine ⟨fun a => match a with | ⟨0, _⟩ => (show 0 < 2080 by decide) | ⟨1, _⟩ => (show 0 < 256 by decide), fun β => ?_⟩
  have n0 : ((cfgM m (ok m)).win 3).nblk (0 : Fin 2) = 4 := by show (8320 + 2080 - 1) / 2080 = 4; rfl
  have n1 : ((cfgM m (ok m)).win 3).nblk (1 : Fin 2) = 95 := by show (24320 + 256 - 1) / 256 = 95; rfl
  have h0 : (β (0 : Fin 2)).val < 4 := n0 ▸ (β (0 : Fin 2)).isLt
  have h1 : (β (1 : Fin 2)).val < 95 := n1 ▸ (β (1 : Fin 2)).isLt
  have ht : (β (0 : Fin 2)).val * 95 + (β (1 : Fin 2)).val < grid0.N := by
    rw [show grid0.N = 380 from by decide]
    omega
  have e : ((cfgM m (ok m)).win 3).index ⟨_, ht⟩ = _ := (idx ⟨_, ht⟩).2.2.1
  refine ⟨⟨_, ht⟩, flush0_3 _ _, fun a => ?_⟩
  match a with
  | ⟨0, _⟩ => exact ⟨(congrFun e (0 : Fin 2)).trans (by show ((β (0 : Fin 2)).val * 95 + (β (1 : Fin 2)).val) / 95 = (β (0 : Fin 2)).val; omega), .inl rfl⟩
  | ⟨1, _⟩ => exact ⟨(congrFun e (1 : Fin 2)).trans (by show ((β (0 : Fin 2)).val * 95 + (β (1 : Fin 2)).val) % 95 = (β (1 : Fin 2)).val; omega), .inl rfl⟩

/-- The first column of a block, read at a row. -/
theorem col (x : FVec Ideal S2080x128 .f32) (r : Fin 2080) :
    View.ld (Val := Elt Ideal) (e' := .f32) x (Rect.unit (s := S2080x128) ![0, 0] ![2080, 1] inb_S2080x128_S2080x1_0_0) (ix2 r (0 : Fin 1)) = x (ix2 r 0) :=
  congrArg x (funext fun a => Fin.ext (by revert a; simp [Fin.forall_fin_two]))

theorem out_at (z : S8320x24320.Idx) (n : ℕ) (l : Fin 24208) (h0 : (z 0).val = n) (h1 : colOf (z 1).val = l.val) :
    proj (Xp m c) (Xs m c) (Gn m c) (Wi m c) n l = out m c z := by
  subst h0
  exact congrArg (proj (Xp m c) (Xs m c) (Gn m c) (Wi m c) (z 0).val) (Fin.ext h1.symm)

theorem fin : (dats m (ok m) 0 c).arrAt 3 (cfgM m (ok m)).N = out m c := by
  refine (dats m (ok m) 0 c).arrAt_eq_of_covers 3 _ (covers m) fun t hf y => ?_
  have i3 : ((cfgM m (ok m)).win 3).index t = ![t.val / 95, t.val % 95] := (idx t).2.2.1
  have hN := (idx t).2.2.2.2
  have y0 : (y (0 : Fin 2)).val < 2080 := (y (0 : Fin 2)).isLt
  have y1 : (y (1 : Fin 2)).val < 256 := (y (1 : Fin 2)).isLt
  have e0 : ((((cfgM m (ok m)).win 3).rect t).emb y (0 : Fin 2)).val = t.val / 95 * 2080 + (y (0 : Fin 2)).val :=
    (((cfgM m (ok m)).win 3).rect_emb_val_off t y (0 : Fin 2)).trans (by rw [i3]; rfl)
  have e1 : ((((cfgM m (ok m)).win 3).rect t).emb y (1 : Fin 2)).val = t.val % 95 * 256 + (y (1 : Fin 2)).val :=
    (((cfgM m (ok m)).win 3).rect_emb_val_off t y (1 : Fin 2)).trans (by rw [i3]; rfl)
  blk_simp
  rw [after0_3]
  unfold outsAt0
  frame_out
  show k0_pay1 (F := Ideal) ((ms0_1 m (ok m) t).view.read (Elt Ideal) ((hs0_1 m (ok m) t).unread (b1 m c t)))
    ((ms0_0 m (ok m) t).view.read (Elt Ideal) ((hs0_0 m (ok m) t).unread (b0 m c t)))
    (View.ld ((ms0_2 m (ok m) t).view.read (Elt Ideal) ((hs0_2 m (ok m) t).unread (b2 m c t))) (Rect.unit ![0, 0] ![2080, 1] inb_S2080x128_S2080x1_0_0)) y = _
  rw [Memref.IsWhole.read_unread, Memref.IsWhole.read_unread, Memref.IsWhole.read_unread]
  refine (congrArg (k0_pay1 (F := Ideal) (b1 m c t) (b0 m c t) _)
    (show y = (ix2 ⟨(y (0 : Fin 2)).val, y0⟩ ⟨(y (1 : Fin 2)).val, y1⟩ : S2080x256.Idx) from funext fun a => match a with | ⟨0, _⟩ => rfl | ⟨1, _⟩ => rfl)).trans ?_
  have hl : colOf (t.val % 95 * 256) + (y (1 : Fin 2)).val < 24208 := by
    rw [← colOf_add _ _ (by omega) y1]
    exact colOf_lt _ (by omega)
  have hn : t.val / 95 * 2080 + (y (0 : Fin 2)).val < 8320 := by omega
  refine (point m c t ⟨(y (0 : Fin 2)).val, y0⟩ ⟨(y (1 : Fin 2)).val, y1⟩ ⟨_, hn⟩ ⟨_, hl⟩ rfl rfl _ ?_).trans ?_
  · exact (col _ _).trans (a2 m c t ⟨(y (0 : Fin 2)).val, y0⟩ 0 ⟨_, hn⟩ rfl)
  · refine out_at m c _ _ _ e0 ?_
    exact (congrArg colOf e1).trans (colOf_add _ _ (by omega) y1)

/-- The run: the result, and the arguments unchanged. -/
theorem run : θ_run defs (onTc (τ := τ) (main (F := Ideal))) ⟨m, fun _ => 0, ρ⟩ (fun r => ∀ c : Dev nD,
      r.2.mem ((c.tc : Thread nD τ).loc main_v15) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 3).trans (fin m c), h.2 c⟩)
    (θ_run_and (run_main m ρ (ok m)) (unchanged m ρ (ok m)))

end Cert.ProjIdeal.Value
-- ==== Proof.Mix.ProjTable.lean ====
module

public import proofs.«01_k».proof.Proof.Gen.Proj.Frame
public import proofs.«01_k».proof.Proof.Mix.Rows
public import Idealize.ShloMosaic.Lib.Pipeline.ValueKit
public import Idealize.ShloMosaic.Lib.Pipeline.Value
public import Idealize.ShloMosaic.Lib.Pipeline.ReadBack
public import Idealize.ShloMosaic.Lib.Claim
public import Idealize.ShloMosaic.Lib.StableHlo.RunRead

@[expose] public section

set_option maxRecDepth 16384
noncomputable section
open Idealize.ShloMosaic Idealize.ShloMosaic.TcCoe Idealize.SL.Sem
open Idealize.ShloMosaic.Pipeline (Dat)
namespace Cert.Proj.Value
open Cert.Proj Cert.Proj.Gen Cert.Ffn

/-- The table the program writes: the first column of each block of the matrix, in eights. -/
def table : pre0.Contents (Elt Bits) := fun j => match j with | ⟨0, _⟩ => fun i => lit0 (S95.rowMajor i)

theorem tbl_eq (m : (ℓ : Loc nD τ sig) → Buf (Elt Bits) ℓ) : tbl m = table := by
  funext j
  obtain rfl : j = 0 := Subsingleton.elim _ _
  unfold tbl
  show V m 0 main_c = _
  unfold_abbrev_sides
  after_reads_simp
  rfl

theorem at_table : ∀ i : grid0.Coords, cc0_transform_1 k0_off1_inb numel1_S1 table i = ![0, colOf ((i 1).val * 256), 0] := by
  decide +kernel

theorem ok (m : (ℓ : Loc nD τ sig) → Buf (Elt Bits) ℓ) : Ok m := by
  unfold Ok
  rw [tbl_eq]
  refine ⟨?_, ?_⟩
  · decide +kernel
  · intro i
    refine ⟨?_, .inl rfl⟩
    rw [at_table]
    revert i
    decide +kernel

end Cert.Proj.Value
-- ==== Proof.Mix.ProjRef.lean ====
module

public import proofs.«01_k».proof.Proof.Gen.ProjReferenceIdeal.Run
public import proofs.«01_k».proof.Proof.Mix.Rows
public import Idealize.ShloMosaic.Lib.Claim

@[expose] public section

set_option maxRecDepth 16384
noncomputable section
open Idealize.ShloMosaic Idealize.ShloMosaic.TcCoe Idealize.SL.Sem
namespace Cert.ProjReferenceIdeal.Value
open Cert.ProjReferenceIdeal Cert.ProjReferenceIdeal.Gen Cert.Ffn

/-- The gain of the first layer's norm. -/
def gain (g : FVec Ideal S2x4096 .f32) : FVec Ideal S1x1x4096 .f32 :=
  broadcastInDim S1x1x4096 ![2] bcast_S4096_S1x1x4096_2 (shapeCast _ (extractStridedSlice S1x4096 ![0, 0] g slices_S2x4096_S1x4096_0_0) shapeCasts_S1x4096_S4096)

/-- The first layer's matrix. -/
def mat (w : FVec Ideal S2x4096x24208 .f32) : FVec Ideal S4096x24208 .f32 :=
  shapeCast _ (extractStridedSlice S1x4096x24208 ![0, 0, 0] w slices_S2x4096x24208_S1x4096x24208_0_0_0) shapeCasts_S1x4096x24208_S4096x24208

theorem gain_at (g : FVec Ideal S2x4096 .f32) (k : Fin 4096) : gain g (ix3 0 0 k) = g (ix2 0 k) := by
  unfold gain
  pointwise

theorem mat_at (w : FVec Ideal S2x4096x24208 .f32) (k : Fin 4096) (j : Fin 24208) : mat w (ix2 k j) = w (ix3 0 k j) := by
  unfold mat
  pointwise

theorem div_lit (q : EReal) : Ideal.div q (Ideal.ofBits .f32 0x45800000#32) = q * Ideal.ofBits .f32 0x39800000#32 := by
  have h1 : Ideal.ofBits .f32 0x39800000#32 = ((1 / 4096 : ℝ) : EReal) := by
    simp [Ideal.ofBits, Ideal.ieee, -EReal.coe_mul]; norm_num
  have h2 : Ideal.ofBits .f32 0x45800000#32 = ((4096 : ℝ) : EReal) := by
    simp [Ideal.ofBits, Ideal.ieee, -EReal.coe_mul]; norm_num
  rw [h1, h2, Ideal.div_coe (by norm_num)]

/-- The norm's factors of the prompt rows. -/
def invP (x : FVec Ideal S4x2048x4096 .f32) : FVec Ideal S4x2048x1 .f32 :=
  Host.rsqrt (addf (Host.divf (broadcastInDim S4x2048x1 ![0, 1] bcast_S4x2048_S4x2048x1_0_1 (Host.reduceAdd (mulf x x) (constant S_ .f32 0x00000000#32)
    reducesTo_S4x2048x4096_S4x2048_d2 h_S_)) (broadcastInDim S4x2048x1 ![] bcast_S_S4x2048x1 (constant S_ .f32 0x45800000#32)))
    (broadcastInDim S4x2048x1 ![] bcast_S_S4x2048x1 (constant S_ .f32 0x358637BD#32)))

/-- The normed prompt rows. -/
def nrmP (x : FVec Ideal S4x2048x4096 .f32) (g : FVec Ideal S2x4096 .f32) : FVec Ideal S4x2048x4096 .f32 :=
  mulf (mulf x (broadcastInDim S4x2048x4096 ![0, 1, 2] bcast_S4x2048x1_S4x2048x4096_0_1_2 (invP x)))
    (broadcastInDim S4x2048x4096 ![0, 1, 2] bcast_S1x1x4096_S4x2048x4096_0_1_2 (gain g))

/-- The normed prompt rows times a matrix. -/
def mulP (x : FVec Ideal S4x2048x4096 .f32) (g : FVec Ideal S2x4096 .f32) (w : FVec Ideal S2x4096x24208 .f32) : FVec Ideal S4x2048x24208 .f32 :=
  Host.dotGeneral dot_S4x2048x4096_S4096x24208_S4x2048x24208_2_0_01_1_n_n none (nrmP x g) (mat w)

theorem invP_at (x : FVec Ideal S4x2048x4096 .f32) (i : Fin 4) (s : Fin 2048) : invP x (ix3 i s 0) = rs (∑ k : Fin 4096, x (ix3 i s k) * x (ix3 i s k)) := by
  rw [rs, ← div_lit]
  unfold invP
  pointwise

theorem mulP_at (x : FVec Ideal S4x2048x4096 .f32) (g : FVec Ideal S2x4096 .f32) (w : FVec Ideal S2x4096x24208 .f32) (i : Fin 4) (s : Fin 2048) (j : Fin 24208) :
    mulP x g w (ix3 i s j) = ∑ k : Fin 4096, x (ix3 i s k) * rs (∑ k : Fin 4096, x (ix3 i s k) * x (ix3 i s k)) * g (ix2 0 k) * w (ix3 0 k j) := by
  rw [← invP_at]
  unfold mulP nrmP
  pointwise [gain_at, mat_at]

/-- The norm's factors of the sample rows. -/
def invS (x : FVec Ideal S8x1x4096 .f32) : FVec Ideal S8x1x1 .f32 :=
  Host.rsqrt (addf (Host.divf (broadcastInDim S8x1x1 ![0, 1] bcast_S8x1_S8x1x1_0_1 (Host.reduceAdd (mulf x x) (constant S_ .f32 0x00000000#32)
    reducesTo_S8x1x4096_S8x1_d2 h_S_)) (broadcastInDim S8x1x1 ![] bcast_S_S8x1x1 (constant S_ .f32 0x45800000#32)))
    (broadcastInDim S8x1x1 ![] bcast_S_S8x1x1 (constant S_ .f32 0x358637BD#32)))

/-- The normed sample rows. -/
def nrmS (x : FVec Ideal S8x1x4096 .f32) (g : FVec Ideal S2x4096 .f32) : FVec Ideal S8x1x4096 .f32 :=
  mulf (mulf x (broadcastInDim S8x1x4096 ![0, 1, 2] bcast_S8x1x1_S8x1x4096_0_1_2 (invS x)))
    (broadcastInDim S8x1x4096 ![0, 1, 2] bcast_S1x1x4096_S8x1x4096_0_1_2 (gain g))

/-- The normed sample rows times a matrix. -/
def mulS (x : FVec Ideal S8x1x4096 .f32) (g : FVec Ideal S2x4096 .f32) (w : FVec Ideal S2x4096x24208 .f32) : FVec Ideal S8x1x24208 .f32 :=
  Host.dotGeneral dot_S8x1x4096_S4096x24208_S8x1x24208_2_0_01_1_n_n none (nrmS x g) (mat w)

theorem invS_at (x : FVec Ideal S8x1x4096 .f32) (i : Fin 8) (s : Fin 1) : invS x (ix3 i s 0) = rs (∑ k : Fin 4096, x (ix3 i s k) * x (ix3 i s k)) := by
  obtain rfl : s = 0 := Subsingleton.elim _ _
  rw [rs, ← div_lit]
  unfold invS
  pointwise

theorem mulS_at (x : FVec Ideal S8x1x4096 .f32) (g : FVec Ideal S2x4096 .f32) (w : FVec Ideal S2x4096x24208 .f32) (i : Fin 8) (s : Fin 1) (j : Fin 24208) :
    mulS x g w (ix3 i s j) = ∑ k : Fin 4096, x (ix3 i s k) * rs (∑ k : Fin 4096, x (ix3 i s k) * x (ix3 i s k)) * g (ix2 0 k) * w (ix3 0 k j) := by
  obtain rfl : s = 0 := Subsingleton.elim _ _
  rw [← invS_at]
  unfold mulS nrmS
  pointwise [gain_at, mat_at]

/-- The rows' products, as one array. -/
def zz (xp : FVec Ideal S4x2048x4096 .f32) (xs : FVec Ideal S8x1x4096 .f32) (g : FVec Ideal S2x4096 .f32)
    (w : FVec Ideal S2x4096x24208 .f32) : FVec Ideal S8320x24208 .f32 :=
  concatenate S8320x24208 0
    [⟨S8192x24208, shapeCast _ (mulP xp g w) shapeCasts_S4x2048x24208_S8192x24208⟩,
     ⟨S8x24208, shapeCast _ (mulS xs g w) shapeCasts_S8x1x24208_S8x24208⟩,
     ⟨S120x24208, broadcastInDim S120x24208 ![] bcast_S_S120x24208 (constant S_ .f32 0x00000000#32)⟩]
    concatenates_S8192x24208_S8x24208_S120x24208_S8320x24208_d0

theorem zz_at (xp : FVec Ideal S4x2048x4096 .f32) (xs : FVec Ideal S8x1x4096 .f32) (g : FVec Ideal S2x4096 .f32)
    (w : FVec Ideal S2x4096x24208 .f32) (n : Fin 8320) (l : Fin 24208) : zz xp xs g w (ix2 n l) = proj xp xs g w n.val l := by
  unfold zz
  pointwise
  split
  · next hn =>
    have hr : ∀ k, row xp xs n.val k = xp (ix3 ⟨n.val / 2048, by omega⟩ ⟨n.val % 2048, by omega⟩ k) := fun k => by rw [row, dif_pos hn]
    rw [mulP_at, ← proj_norm]
    unfold ssq
    simp only [hr]
  · next hn =>
    split
    · next hs =>
      have hr : ∀ k, row xp xs n.val k = xs (ix3 ⟨n.val - 8192, hs⟩ 0 k) := fun k => by rw [row, dif_neg hn, dif_pos hs]
      rw [mulS_at, ← proj_norm]
      unfold ssq
      simp only [hr]
    · next hs => exact (proj_zero xp xs g w n.val (by omega) l).symm

/-- The columns of the products, in the kernel's order. -/
def cols (z : FVec Ideal S8320x24208 .f32) : FVec Ideal S8320x24320 .f32 :=
  concatenate S8320x24320 1
    [⟨S8320x12288, extractStridedSlice S8320x12288 ![0, 11920] z slices_S8320x24208_S8320x12288_0_11920⟩,
     ⟨S8320x2048, extractStridedSlice S8320x2048 ![0, 5632] z slices_S8320x24208_S8320x2048_0_5632⟩,
     ⟨S8320x5120, extractStridedSlice S8320x5120 ![0, 0] z slices_S8320x24208_S8320x5120_0_0⟩,
     ⟨S8320x4096, extractStridedSlice S8320x4096 ![0, 7824] z slices_S8320x24208_S8320x4096_0_7824⟩,
     ⟨S8320x512, extractStridedSlice S8320x512 ![0, 5120] z slices_S8320x24208_S8320x512_0_5120⟩,
     ⟨S8320x256, extractStridedSlice S8320x256 ![0, 7680] z slices_S8320x24208_S8320x256_0_7680⟩]
    concatenates_S8320x12288_S8320x2048_S8320x5120_S8320x4096_S8320x512_S8320x256_S8320x24320_d1

theorem cols_at (z : FVec Ideal S8320x24208 .f32) (n : Fin 8320) (l : Fin 24320) :
    cols z (ix2 n l) = z (ix2 n ⟨colOf l.val, colOf_lt _ l.isLt⟩) := by
  unfold cols
  pointwise
  have key : ∀ (k : ℕ) (hk : k < 24208), k = colOf l.val → z (ix2 n ⟨k, hk⟩) = z (ix2 n ⟨colOf l.val, colOf_lt _ l.isLt⟩) :=
    fun k hk e => by subst e; rfl
  have hl := l.isLt
  repeat' split
  all_goals
    refine key _ _ ?_
    unfold colOf
    repeat' split
    all_goals omega

/-- The reference's array, as the composition of its operations. -/
def res (xp : FVec Ideal S4x2048x4096 .f32) (xs : FVec Ideal S8x1x4096 .f32) (g : FVec Ideal S2x4096 .f32)
    (w : FVec Ideal S2x4096x24208 .f32) : FVec Ideal S8320x24320 .f32 := cols (zz xp xs g w)

theorem res_eq (xp : FVec Ideal S4x2048x4096 .f32) (xs : FVec Ideal S8x1x4096 .f32) (g : FVec Ideal S2x4096 .f32)
    (w : FVec Ideal S2x4096x24208 .f32) : res xp xs g w = fun y => proj xp xs g w (y 0).val ⟨colOf (y 1).val, colOf_lt _ (y 1).isLt⟩ := by
  funext y
  exact (congrArg (res xp xs g w) (show y = ix2 (y 0) (y 1) from funext fun a => match a with | 0 => rfl | 1 => rfl)).trans
    ((cols_at _ _ _).trans (zz_at xp xs g w _ _))

theorem out0 (m : (ℓ : Loc nD τ sig) → Buf (Elt Ideal) ℓ) (c : Dev nD) : res_main_v46 m c =
    res (m ((c.tc : Thread nD τ).loc main_arg0)) (m ((c.tc : Thread nD τ).loc main_arg1)) (m ((c.tc : Thread nD τ).loc main_arg2))
      (m ((c.tc : Thread nD τ).loc main_arg3)) := rfl

end Cert.ProjReferenceIdeal.Value
-- ==== Proof.Mix.MergeRows.lean ====
module

public import proofs.«01_k».proof.Proof.Ffn.Rows

@[expose] public section

noncomputable section
open Idealize.ShloMosaic
/-! The gated sum of the three branches, of their rows. -/

namespace Cert.Ffn

/-- Row `n` of a branch times column `j` of the first layer's matrix. -/
def branch (xp : (⟨3, ![4, 2048, 1024]⟩ : Shape).Idx → EReal) (xs : (⟨3, ![8, 1, 1024]⟩ : Shape).Idx → EReal)
    (w : (⟨3, ![2, 1024, 4096]⟩ : Shape).Idx → EReal) (n : ℕ) (j : Fin 4096) : EReal :=
  ∑ k : Fin 1024, row xp xs n k * w (ix3 0 k j)

/-- That product weighted by its gate. -/
def gated (xp : (⟨3, ![4, 2048, 1024]⟩ : Shape).Idx → EReal) (xs : (⟨3, ![8, 1, 1024]⟩ : Shape).Idx → EReal)
    (zp : (⟨3, ![4, 2048, 4096]⟩ : Shape).Idx → EReal) (zs : (⟨3, ![8, 1, 4096]⟩ : Shape).Idx → EReal)
    (w : (⟨3, ![2, 1024, 4096]⟩ : Shape).Idx → EReal) (n : ℕ) (j : Fin 4096) : EReal :=
  Ideal.logistic (row zp zs n j) * branch xp xs w n j

theorem gated_zero (xp xs zp zs w) (n : ℕ) (hn : 8200 ≤ n) (j : Fin 4096) : gated xp xs zp zs w n j = 0 := by
  have hr : ∀ k, row xp xs n k = 0 := fun k => by rw [row, dif_neg (by omega), dif_neg (by omega)]
  simp [gated, branch, hr]

end Cert.Ffn
-- ==== Proof.Mix.Merge.lean ====
module

public import proofs.«01_k».proof.Proof.Gen.MergeIdeal.Value
public import proofs.«01_k».proof.Proof.Mix.MergeRows
public import Idealize.ShloMosaic.Lib.Pipeline.ValueKit
public import Idealize.ShloMosaic.Lib.Pipeline.ReadBack
public import Idealize.ShloMosaic.Lib.Claim
public import Idealize.ShloMosaic.Lib.StableHlo.RunRead

@[expose] public section

set_option maxRecDepth 16384
noncomputable section
open Idealize.ShloMosaic Idealize.ShloMosaic.TcCoe Idealize.SL.Sem
open Idealize.ShloMosaic.Pipeline (Dat)
namespace Cert.MergeIdeal.Value
open Cert.MergeIdeal Cert.MergeIdeal.Gen Cert.Ffn
variable (m : (ℓ : Loc nD τ sig) → Buf (Elt Ideal) ℓ) (c : Dev nD)

abbrev Rp : (⟨3, ![4, 2048, 1024]⟩ : Shape).Idx → EReal := m ((c : Thread nD τ).loc main_arg0)
abbrev Rs : (⟨3, ![8, 1, 1024]⟩ : Shape).Idx → EReal := m ((c : Thread nD τ).loc main_arg1)
abbrev Ap : (⟨3, ![4, 2048, 1024]⟩ : Shape).Idx → EReal := m ((c : Thread nD τ).loc main_arg2)
abbrev As : (⟨3, ![8, 1, 1024]⟩ : Shape).Idx → EReal := m ((c : Thread nD τ).loc main_arg3)
abbrev Hp : (⟨3, ![4, 2048, 1024]⟩ : Shape).Idx → EReal := m ((c : Thread nD τ).loc main_arg4)
abbrev Hs : (⟨3, ![8, 1, 1024]⟩ : Shape).Idx → EReal := m ((c : Thread nD τ).loc main_arg5)
abbrev Grp : (⟨3, ![4, 2048, 4096]⟩ : Shape).Idx → EReal := m ((c : Thread nD τ).loc main_arg6)
abbrev Grs : (⟨3, ![8, 1, 4096]⟩ : Shape).Idx → EReal := m ((c : Thread nD τ).loc main_arg7)
abbrev Gap : (⟨3, ![4, 2048, 4096]⟩ : Shape).Idx → EReal := m ((c : Thread nD τ).loc main_arg8)
abbrev Gas : (⟨3, ![8, 1, 4096]⟩ : Shape).Idx → EReal := m ((c : Thread nD τ).loc main_arg9)
abbrev Ghp : (⟨3, ![4, 2048, 4096]⟩ : Shape).Idx → EReal := m ((c : Thread nD τ).loc main_arg10)
abbrev Ghs : (⟨3, ![8, 1, 4096]⟩ : Shape).Idx → EReal := m ((c : Thread nD τ).loc main_arg11)
abbrev Wr : (⟨3, ![2, 1024, 4096]⟩ : Shape).Idx → EReal := m ((c : Thread nD τ).loc main_arg12)
abbrev Wa : (⟨3, ![2, 1024, 4096]⟩ : Shape).Idx → EReal := m ((c : Thread nD τ).loc main_arg13)
abbrev Wh : (⟨3, ![2, 1024, 4096]⟩ : Shape).Idx → EReal := m ((c : Thread nD τ).loc main_arg14)

/-- Row `n` of the sum of the gated branches. -/
def merged (n : ℕ) (j : Fin 4096) : EReal :=
  gated (Rp m c) (Rs m c) (Grp m c) (Grs m c) (Wr m c) n j + gated (Ap m c) (As m c) (Gap m c) (Gas m c) (Wa m c) n j
    + gated (Hp m c) (Hs m c) (Ghp m c) (Ghs m c) (Wh m c) n j

/-- What a grid point stores, of the blocks it reads. -/
theorem pay (a : FVec Ideal S1040x1024 .bf16) (u : FVec Ideal S1x1024x256 .bf16) (b : FVec Ideal S1040x1024 .bf16) (v : FVec Ideal S1x1024x256 .bf16)
    (d : FVec Ideal S1040x1024 .bf16) (w : FVec Ideal S1x1024x256 .bf16) (x y z : FVec Ideal S1040x256 .f32) (n : Fin 1040) (j : Fin 256) :
    k0_pay1 (F := Ideal) a u b v d w x y z (ix2 n j) = Ideal.logistic (x (ix2 n j)) * (∑ k : Fin 1024, a (ix2 n k) * u (ix3 0 k j))
      + Ideal.logistic (y (ix2 n j)) * (∑ k : Fin 1024, b (ix2 n k) * v (ix3 0 k j))
      + Ideal.logistic (z (ix2 n j)) * (∑ k : Fin 1024, d (ix2 n k) * w (ix3 0 k j)) := by
  pointwise [k0_pay1]

theorem v3 (n : Fin 8320) (k : Fin 1024) : V m c main_v3 (ix2 n k) = row (Rp m c) (Rs m c) n.val k := by
  unfold_abbrev_sides
  after_reads_simp
  try dsimp only [Matrix.cons_val]
  try after_reads_simp
  pointwise
  rfl

theorem v7 (n : Fin 8320) (k : Fin 1024) : V m c main_v7 (ix2 n k) = row (Ap m c) (As m c) n.val k := by
  unfold_abbrev_sides
  after_reads_simp
  try dsimp only [Matrix.cons_val]
  try after_reads_simp
  pointwise
  rfl

theorem v11 (n : Fin 8320) (k : Fin 1024) : V m c main_v11 (ix2 n k) = row (Hp m c) (Hs m c) n.val k := by
  unfold_abbrev_sides
  after_reads_simp
  try dsimp only [Matrix.cons_val]
  try after_reads_simp
  pointwise
  rfl

theorem v26 (k : Fin 1024) (j : Fin 4096) : V m c main_v26 (ix3 0 k j) = Wr m c (ix3 0 k j) := by
  unfold_abbrev_sides
  after_reads_simp
  pointwise

theorem v27 (k : Fin 1024) (j : Fin 4096) : V m c main_v27 (ix3 0 k j) = Wa m c (ix3 0 k j) := by
  unfold_abbrev_sides
  after_reads_simp
  pointwise

theorem v28 (k : Fin 1024) (j : Fin 4096) : V m c main_v28 (ix3 0 k j) = Wh m c (ix3 0 k j) := by
  unfold_abbrev_sides
  after_reads_simp
  pointwise

theorem z0 (n : Fin 8320) (j : Fin 24320) (l : Fin 4096) (hl : j.val = 0 + l.val) : V m c main_v25 (ix2 n j) = row (Grp m c) (Grs m c) n.val l := by
  obtain ⟨j, hj⟩ := j
  dsimp only at hl
  subst hl
  unfold row
  unfold_abbrev_sides
  after_reads_simp
  try dsimp only [Matrix.cons_val]
  try after_reads_simp
  pointwise
  after_reads_simp
  pointwise

theorem z1 (n : Fin 8320) (j : Fin 24320) (l : Fin 4096) (hl : j.val = 4096 + l.val) : V m c main_v25 (ix2 n j) = row (Gap m c) (Gas m c) n.val l := by
  obtain ⟨j, hj⟩ := j
  dsimp only at hl
  subst hl
  unfold row
  unfold_abbrev_sides
  after_reads_simp
  try dsimp only [Matrix.cons_val]
  try after_reads_simp
  pointwise
  after_reads_simp
  pointwise

theorem z2 (n : Fin 8320) (j : Fin 24320) (l : Fin 4096) (hl : j.val = 8192 + l.val) : V m c main_v25 (ix2 n j) = row (Ghp m c) (Ghs m c) n.val l := by
  obtain ⟨j, hj⟩ := j
  dsimp only at hl
  subst hl
  unfold row
  unfold_abbrev_sides
  after_reads_simp
  try dsimp only [Matrix.cons_val]
  try after_reads_simp
  pointwise
  after_reads_simp
  pointwise
  rw [dif_neg (by omega), dif_neg (by omega), dif_pos (by omega)]
  have e : ∀ h, (⟨8192 + l.val - 4096 - 4096, h⟩ : Fin 4096) = l := fun h => Fin.ext (by dsimp only; omega)
  simp only [e]

/-- The blocks of a grid point. -/
theorem idx : ∀ t : Fin cfg0.N, win0_0.index t = ![t.val / 16, 0] ∧ win0_1.index t = ![t.val / 16, 0] ∧ win0_2.index t = ![t.val / 16, 0]
    ∧ win0_3.index t = ![0, 0, t.val % 16] ∧ win0_4.index t = ![0, 0, t.val % 16] ∧ win0_5.index t = ![0, 0, t.val % 16]
    ∧ win0_6.index t = ![t.val / 16, t.val % 16] ∧ win0_7.index t = ![t.val / 16, 16 + t.val % 16] ∧ win0_8.index t = ![t.val / 16, 32 + t.val % 16]
    ∧ win0_9.index t = ![t.val / 16, t.val % 16] ∧ t.val < 128 :=
  (by decide +kernel : ∀ t : Fin grid0.N, _)

theorem b0 (t : Fin cfg0.N) (r : Fin 1040) (k : Fin 1024) (n : Fin 8320) (hn : n.val = t.val / 16 * 1040 + r.val) :
    iblk m c 0 t (ix2 r k) = row (Rp m c) (Rs m c) n.val k := by
  rw [← v3 m c n k]
  have e := (idx t).1
  unfold iblk
  blk_point [e]

theorem b1 (t : Fin cfg0.N) (r : Fin 1040) (k : Fin 1024) (n : Fin 8320) (hn : n.val = t.val / 16 * 1040 + r.val) :
    iblk m c 1 t (ix2 r k) = row (Ap m c) (As m c) n.val k := by
  rw [← v7 m c n k]
  have e := (idx t).2.1
  unfold iblk
  blk_point [e]

theorem b2 (t : Fin cfg0.N) (r : Fin 1040) (k : Fin 1024) (n : Fin 8320) (hn : n.val = t.val / 16 * 1040 + r.val) :
    iblk m c 2 t (ix2 r k) = row (Hp m c) (Hs m c) n.val k := by
  rw [← v11 m c n k]
  have e := (idx t).2.2.1
  unfold iblk
  blk_point [e]

theorem b3 (t : Fin cfg0.N) (k : Fin 1024) (j : Fin 256) (l : Fin 4096) (hl : l.val = t.val % 16 * 256 + j.val) :
    iblk m c 3 t (ix3 0 k j) = Wr m c (ix3 0 k l) := by
  rw [← v26 m c k l]
  have e := (idx t).2.2.2.1
  unfold iblk
  blk_point [e]

theorem b4 (t : Fin cfg0.N) (k : Fin 1024) (j : Fin 256) (l : Fin 4096) (hl : l.val = t.val % 16 * 256 + j.val) :
    iblk m c 4 t (ix3 0 k j) = Wa m c (ix3 0 k l) := by
  rw [← v27 m c k l]
  have e := (idx t).2.2.2.2.1
  unfold iblk
  blk_point [e]

theorem b5 (t : Fin cfg0.N) (k : Fin 1024) (j : Fin 256) (l : Fin 4096) (hl : l.val = t.val % 16 * 256 + j.val) :
    iblk m c 5 t (ix3 0 k j) = Wh m c (ix3 0 k l) := by
  rw [← v28 m c k l]
  have e := (idx t).2.2.2.2.2.1
  unfold iblk
  blk_point [e]

theorem b6 (t : Fin cfg0.N) (r : Fin 1040) (j : Fin 256) (n : Fin 8320) (l : Fin 4096) (hn : n.val = t.val / 16 * 1040 + r.val)
    (hl : l.val = t.val % 16 * 256 + j.val) : iblk m c 6 t (ix2 r j) = row (Grp m c) (Grs m c) n.val l := by
  rw [← z0 m c n ⟨0 + l.val, by omega⟩ l rfl]
  have e := (idx t).2.2.2.2.2.2.1
  unfold iblk
  blk_point [e]

theorem b7 (t : Fin cfg0.N) (r : Fin 1040) (j : Fin 256) (n : Fin 8320) (l : Fin 4096) (hn : n.val = t.val / 16 * 1040 + r.val)
    (hl : l.val = t.val % 16 * 256 + j.val) : iblk m c 7 t (ix2 r j) = row (Gap m c) (Gas m c) n.val l := by
  rw [← z1 m c n ⟨4096 + l.val, by omega⟩ l rfl]
  have e := (idx t).2.2.2.2.2.2.2.1
  unfold iblk
  blk_point [e]

theorem b8 (t : Fin cfg0.N) (r : Fin 1040) (j : Fin 256) (n : Fin 8320) (l : Fin 4096) (hn : n.val = t.val / 16 * 1040 + r.val)
    (hl : l.val = t.val % 16 * 256 + j.val) : iblk m c 8 t (ix2 r j) = row (Ghp m c) (Ghs m c) n.val l := by
  rw [← z2 m c n ⟨8192 + l.val, by omega⟩ l rfl]
  have e := (idx t).2.2.2.2.2.2.2.2.1
  unfold iblk
  blk_point [e]

/-- What a grid point stores, of the arguments. -/
theorem point (t : Fin cfg0.N) (r : Fin 1040) (j : Fin 256) (n : Fin 8320) (l : Fin 4096) (hn : n.val = t.val / 16 * 1040 + r.val)
    (hl : l.val = t.val % 16 * 256 + j.val) :
    k0_pay1 (F := Ideal) (iblk m c 0 t) (iblk m c 3 t) (iblk m c 1 t) (iblk m c 4 t) (iblk m c 2 t) (iblk m c 5 t) (iblk m c 6 t) (iblk m c 7 t) (iblk m c 8 t) (ix2 r j) = merged m c n.val l := by
  have hs : ∀ (x : FVec Ideal S1040x1024 .bf16) (w : FVec Ideal S1x1024x256 .bf16) (p : (⟨3, ![4, 2048, 1024]⟩ : Shape).Idx → EReal)
      (s : (⟨3, ![8, 1, 1024]⟩ : Shape).Idx → EReal) (u : (⟨3, ![2, 1024, 4096]⟩ : Shape).Idx → EReal), (∀ k, x (ix2 r k) = row p s n.val k) →
      (∀ k, w (ix3 0 k j) = u (ix3 0 k l)) → ∑ k : Fin 1024, x (ix2 r k) * w (ix3 0 k j) = branch p s u n.val l :=
    fun x w p s u hx hw => Finset.sum_congr rfl fun k _ => by rw [hx, hw]
  rw [pay, b6 m c t r j n l hn hl, b7 m c t r j n l hn hl, b8 m c t r j n l hn hl,
    hs _ _ _ _ _ (fun k => b0 m c t r k n hn) (fun k => b3 m c t k j l hl), hs _ _ _ _ _ (fun k => b1 m c t r k n hn) (fun k => b4 m c t k j l hl),
    hs _ _ _ _ _ (fun k => b2 m c t r k n hn) (fun k => b5 m c t k j l hl)]
  rfl

/-- The array after the run. -/
theorem final : (dats m 0 c).arrAt 9 cfg0.N = fun y => merged m c (y 0).val (y 1) := by
  refine (dats m 0 c).arrAt_eq_of_covers 9 _ (by decide +kernel) fun t hf y => ?_
  have i9 := (idx t).2.2.2.2.2.2.2.2.2.1
  have hN := (idx t).2.2.2.2.2.2.2.2.2.2
  blk_simp
  rw [after0_9]
  frame_out
  have y0 : (y 0).val < 1040 := (y 0).isLt
  have y1 : (y 1).val < 256 := (y 1).isLt
  have e0 : win0_9.index t 0 * 1040 + (y 0).val = t.val / 16 * 1040 + (y 0).val := by rw [i9]; rfl
  have e1 : ((win0_9.blk t).view.emb y 1).val = t.val % 16 * 256 + (y 1).val := by blk_simp [i9]
  refine (congrArg (k0_pay1 (F := Ideal) (iblk m c 0 t) (iblk m c 3 t) (iblk m c 1 t) (iblk m c 4 t) (iblk m c 2 t) (iblk m c 5 t) (iblk m c 6 t) (iblk m c 7 t) (iblk m c 8 t))
    (show y = ix2 ⟨(y 0).val, y0⟩ ⟨(y 1).val, y1⟩ from ?_)).trans ?_
  · funext a; match a with | 0 => rfl | 1 => rfl
  · exact point m c t ⟨(y 0).val, y0⟩ ⟨(y 1).val, y1⟩ ⟨win0_9.index t 0 * 1040 + (y 0).val, by omega⟩ ((win0_9.blk t).view.emb y 1) e0 e1

end Cert.MergeIdeal.Value
-- ==== Proof.Mix.MergeRef.lean ====
module

public import proofs.«01_k».proof.Proof.Gen.MergeReferenceIdeal.Run
public import proofs.«01_k».proof.Proof.Mix.MergeRows
public import Idealize.ShloMosaic.Lib.Claim

@[expose] public section

set_option maxRecDepth 16384
noncomputable section
open Idealize.ShloMosaic Idealize.ShloMosaic.TcCoe Idealize.SL.Sem
namespace Cert.MergeReferenceIdeal.Value
open Cert.MergeReferenceIdeal Cert.MergeReferenceIdeal.Gen Cert.Ffn

/-- The first layer's matrix. -/
def mat (w : FVec Ideal S2x1024x4096 .f32) : FVec Ideal S1024x4096 .f32 :=
  shapeCast _ (extractStridedSlice S1x1024x4096 ![0, 0, 0] w slices_S2x1024x4096_S1x1024x4096_0_0_0) shapeCasts_S1x1024x4096_S1024x4096

theorem mat_at (w : FVec Ideal S2x1024x4096 .f32) (k : Fin 1024) (j : Fin 4096) : mat w (ix2 k j) = w (ix3 0 k j) := by
  unfold mat
  pointwise

/-- A gated branch of the prompt. -/
def gateP (x : FVec Ideal S4x2048x1024 .bf16) (z : FVec Ideal S4x2048x4096 .f32) (w : FVec Ideal S2x1024x4096 .f32) : FVec Ideal S4x2048x4096 .f32 :=
  mulf (Host.divf (broadcastInDim S4x2048x4096 ![] bcast_S_S4x2048x4096 (constant S_ .f32 0x3F800000#32))
      (addf (broadcastInDim S4x2048x4096 ![] bcast_S_S4x2048x4096 (constant S_ .f32 0x3F800000#32)) (Host.exp (Host.negf z))))
    (Host.dotGeneral dot_S4x2048x1024_S1024x4096_S4x2048x4096_2_0_01_1_n_n none (extf .f32 x bitsLt_bf16_f32) (mat w))

/-- A gated branch of the sample. -/
def gateS (x : FVec Ideal S8x1x1024 .bf16) (z : FVec Ideal S8x1x4096 .f32) (w : FVec Ideal S2x1024x4096 .f32) : FVec Ideal S8x1x4096 .f32 :=
  mulf (Host.divf (broadcastInDim S8x1x4096 ![] bcast_S_S8x1x4096 (constant S_ .f32 0x3F800000#32))
      (addf (broadcastInDim S8x1x4096 ![] bcast_S_S8x1x4096 (constant S_ .f32 0x3F800000#32)) (Host.exp (Host.negf z))))
    (Host.dotGeneral dot_S8x1x1024_S1024x4096_S8x1x4096_2_0_01_1_n_n none (extf .f32 x bitsLt_bf16_f32) (mat w))

theorem one : Ideal.ofBits .f32 0x3F800000#32 = 1 := by
  simp [Ideal.ofBits, Ideal.ieee, -EReal.coe_mul]; norm_num

theorem gateP_at (x : FVec Ideal S4x2048x1024 .bf16) (z : FVec Ideal S4x2048x4096 .f32) (w : FVec Ideal S2x1024x4096 .f32) (i : Fin 4) (s : Fin 2048) (j : Fin 4096) :
    gateP x z w (ix3 i s j) = Ideal.logistic (z (ix3 i s j)) * ∑ k : Fin 1024, x (ix3 i s k) * w (ix3 0 k j) := by
  unfold gateP
  pointwise [mat_at]
  rfl

theorem gateS_at (x : FVec Ideal S8x1x1024 .bf16) (z : FVec Ideal S8x1x4096 .f32) (w : FVec Ideal S2x1024x4096 .f32) (i : Fin 8) (j : Fin 4096) :
    gateS x z w (ix3 i 0 j) = Ideal.logistic (z (ix3 i 0 j)) * ∑ k : Fin 1024, x (ix3 i 0 k) * w (ix3 0 k j) := by
  unfold gateS
  pointwise [mat_at]
  rfl

variable (m : (ℓ : Loc nD τ sig) → Buf (Elt Ideal) ℓ) (c : Dev nD)

/-- The reference's array, az the composition of its operations. -/
def res (rp : FVec Ideal S4x2048x1024 .bf16) (rs : FVec Ideal S8x1x1024 .bf16) (ap : FVec Ideal S4x2048x1024 .bf16) (az : FVec Ideal S8x1x1024 .bf16)
    (hp : FVec Ideal S4x2048x1024 .bf16) (hs : FVec Ideal S8x1x1024 .bf16) (grp : FVec Ideal S4x2048x4096 .f32) (grs : FVec Ideal S8x1x4096 .f32)
    (gap : FVec Ideal S4x2048x4096 .f32) (gas : FVec Ideal S8x1x4096 .f32) (ghp : FVec Ideal S4x2048x4096 .f32) (ghs : FVec Ideal S8x1x4096 .f32)
    (wr wa wh : FVec Ideal S2x1024x4096 .f32) : FVec Ideal S8320x4096 .bf16 :=
  concatenate S8320x4096 0
    [⟨S8192x4096, shapeCast _ (truncf .bf16 (addf (addf (gateP rp grp wr) (gateP ap gap wa)) (gateP hp ghp wh)) bitsLt_bf16_f32) shapeCasts_S4x2048x4096_S8192x4096⟩,
     ⟨S8x4096, shapeCast _ (truncf .bf16 (addf (addf (gateS rs grs wr) (gateS az gas wa)) (gateS hs ghs wh)) bitsLt_bf16_f32) shapeCasts_S8x1x4096_S8x4096⟩,
     ⟨S120x4096, broadcastInDim S120x4096 ![] bcast_S_S120x4096 (constant S_ .bf16 0x0000#16)⟩]
    concatenates_S8192x4096_S8x4096_S120x4096_S8320x4096_d0

theorem out0 : res_main_v75 m c = res (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))
    (m ((c.tc : Thread nD τ).loc main_arg14)) := rfl

theorem res_eq (rp rs ap az hp hs grp grs gap gas ghp ghs wr wa wh) :
    res rp rs ap az hp hs grp grs gap gas ghp ghs wr wa wh = fun y => gated rp rs grp grs wr (y 0).val (y 1) + gated ap az gap gas wa (y 0).val (y 1)
      + gated hp hs ghp ghs wh (y 0).val (y 1) := by
  have h : ∀ (n : Fin 8320) (j : Fin 4096), res rp rs ap az hp hs grp grs gap gas ghp ghs wr wa wh (ix2 n j)
      = gated rp rs grp grs wr n.val j + gated ap az gap gas wa n.val j + gated hp hs ghp ghs wh n.val j := by
    intro n j
    unfold res
    pointwise
    split
    · next hn =>
      rw [gateP_at, gateP_at, gateP_at]
      unfold gated branch row
      simp only [hn, dif_pos]
    · next hn =>
      split
      · next hs' =>
        rw [gateS_at, gateS_at, gateS_at]
        unfold gated branch row
        simp only [hn, hs', dif_neg, dif_pos, not_false_eq_true]
      · next hs' =>
        rw [gated_zero _ _ _ _ _ _ (by omega), gated_zero _ _ _ _ _ _ (by omega), gated_zero _ _ _ _ _ _ (by omega)]
        simp
  funext y
  exact (congrArg (res rp rs ap az hp hs grp grs gap gas ghp ghs wr wa wh)
    (show y = ix2 (y 0) (y 1) from funext fun a => match a with | 0 => rfl | 1 => rfl)).trans (h _ _)

end Cert.MergeReferenceIdeal.Value
-- ==== Proof.Mix.ResidRows.lean ====
module

public import proofs.«01_k».proof.Proof.Ffn.Rows

@[expose] public section

noncomputable section
open Idealize.ShloMosaic
/-! A projection added to the residual stream, and the two parts of the norm after it. -/

namespace Cert.Ffn

section
variable {K : ℕ} (s : EReal) (xp : (⟨3, ![4, 2048, 4096]⟩ : Shape).Idx → EReal) (xs : (⟨3, ![8, 1, 4096]⟩ : Shape).Idx → EReal)
  (up : (⟨3, ![4, 2048, K]⟩ : Shape).Idx → EReal) (us : (⟨3, ![8, 1, K]⟩ : Shape).Idx → EReal) (w : Fin K → Fin 4096 → EReal)
  (g : (⟨2, ![2, 4096]⟩ : Shape).Idx → EReal)

/-- Row `n` of a projection, added with the weight `s` to the stream. -/
def resid (n : ℕ) (j : Fin 4096) : EReal := row xp xs n j + s * ∑ k : Fin K, row up us n k * w k j

/-- The same, times the gain of the norm after it. -/
def residN (n : ℕ) (j : Fin 4096) : EReal := resid s xp xs up us w n j * g (ix2 0 j)

/-- The sum of the squares of row `n`. -/
def residS (n : ℕ) : EReal := ∑ j : Fin 4096, resid s xp xs up us w n j * resid s xp xs up us w n j

/-- The square at column `j`, zero past the columns. -/
def sqAt (n j : ℕ) : EReal := if h : j < 4096 then resid s xp xs up us w n ⟨j, h⟩ * resid s xp xs up us w n ⟨j, h⟩ else 0

/-- The sum of the squares of the first `q` tiles of columns. -/
def sqs (n q : ℕ) : EReal := ∑ j ∈ Finset.range (q * 256), sqAt s xp xs up us w n j

theorem sqs_succ (n q : ℕ) : sqs s xp xs up us w n (q + 1) = sqs s xp xs up us w n q + ∑ j : Fin 256, sqAt s xp xs up us w n (q * 256 + j.val) := by
  unfold sqs
  rw [Nat.add_mul, Nat.one_mul, Finset.sum_range_add, Finset.sum_range (fun x => sqAt s xp xs up us w n (q * 256 + x))]

theorem sqs_zero (n : ℕ) : sqs s xp xs up us w n 0 = 0 := by simp [sqs]

theorem sqs_all (n : ℕ) : sqs s xp xs up us w n 16 = residS s xp xs up us w n := by
  unfold sqs residS
  rw [Finset.sum_range]
  exact Finset.sum_congr rfl fun j _ => dif_pos j.isLt

theorem resid_zero (n : ℕ) (hn : 8200 ≤ n) (j : Fin 4096) : resid s xp xs up us w n j = 0 := by
  have h : ∀ {L : ℕ} (p : (⟨3, ![4, 2048, L]⟩ : Shape).Idx → EReal) (q : (⟨3, ![8, 1, L]⟩ : Shape).Idx → EReal) (k : Fin L), row p q n k = 0 :=
    fun p q k => by rw [row, dif_neg (by omega), dif_neg (by omega)]
  simp [resid, h]

end

end Cert.Ffn
-- ==== Proof.Mix.Out.lean ====
module

public import proofs.«01_k».proof.Proof.Gen.OutIdeal.Value
public import proofs.«01_k».proof.Proof.Mix.ResidRows
public import Idealize.ShloMosaic.Lib.Pipeline.ValueKit
public import Idealize.ShloMosaic.Lib.Pipeline.ReadBack
public import Idealize.ShloMosaic.Lib.Claim
public import Idealize.ShloMosaic.Lib.StableHlo.RunRead

@[expose] public section

set_option maxRecDepth 16384
noncomputable section
open Idealize.ShloMosaic Idealize.ShloMosaic.TcCoe Idealize.SL.Sem
open Idealize.ShloMosaic.Pipeline (Dat)
namespace Cert.OutIdeal.Value
open Cert.OutIdeal Cert.OutIdeal.Gen Cert.Ffn
variable (m : (ℓ : Loc nD τ sig) → Buf (Elt Ideal) ℓ) (c : Dev nD)

abbrev Xp : (⟨3, ![4, 2048, 4096]⟩ : Shape).Idx → EReal := m ((c : Thread nD τ).loc main_arg0)
abbrev Xs : (⟨3, ![8, 1, 4096]⟩ : Shape).Idx → EReal := m ((c : Thread nD τ).loc main_arg1)
abbrev Mp : (⟨3, ![4, 2048, 4096]⟩ : Shape).Idx → EReal := m ((c : Thread nD τ).loc main_arg2)
abbrev Ms : (⟨3, ![8, 1, 4096]⟩ : Shape).Idx → EReal := m ((c : Thread nD τ).loc main_arg3)
abbrev Wo : (⟨3, ![2, 4096, 4096]⟩ : Shape).Idx → EReal := m ((c : Thread nD τ).loc main_arg4)
abbrev Gn : (⟨2, ![2, 4096]⟩ : Shape).Idx → EReal := m ((c : Thread nD τ).loc main_arg5)

/-- The rows of the stream after the projection. -/
def y0 (n : ℕ) (j : Fin 4096) : EReal := resid (Ideal.ofBits .f32 0x3F800000#32) (Xp m c) (Xs m c) (Mp m c) (Ms m c) (fun k j => Wo m c (ix3 0 k j)) n j

/-- What a grid point stores, of the blocks it reads. -/
theorem pay1 (x : FVec Ideal S1040x4096 .bf16) (w : FVec Ideal S1x4096x256 .bf16) (r : FVec Ideal S1040x256 .f32) (n : Fin 1040) (j : Fin 256) :
    k0_pay1 (F := Ideal) x w r (ix2 n j) = r (ix2 n j) + Ideal.ofBits .f32 0x3F800000#32 * ∑ k : Fin 4096, x (ix2 n k) * w (ix3 0 k j) := by
  pointwise [k0_pay1]

theorem pay2 (x : FVec Ideal S1040x4096 .bf16) (w : FVec Ideal S1x4096x256 .bf16) (r : FVec Ideal S1040x256 .f32) (g : FVec Ideal S1x1x256 .f32)
    (n : Fin 1040) (j : Fin 256) : k0_pay2 (F := Ideal) x w r g (ix2 n j) = k0_pay1 (F := Ideal) x w r (ix2 n j) * g (ix3 0 0 j) := by
  pointwise [k0_pay2]

theorem pay3 (x : FVec Ideal S1040x4096 .bf16) (w : FVec Ideal S1x4096x256 .bf16) (r : FVec Ideal S1040x256 .f32) (n : Fin 1040) (l : Fin 128) :
    k0_pay3 (F := Ideal) x w r (ix2 n l) = ∑ j : Fin 256, k0_pay1 (F := Ideal) x w r (ix2 n j) * k0_pay1 (F := Ideal) x w r (ix2 n j) := by
  pointwise [k0_pay3]

theorem pay4 (x : FVec Ideal S1040x4096 .bf16) (w : FVec Ideal S1x4096x256 .bf16) (r : FVec Ideal S1040x256 .f32) (a : FVec Ideal S1040x128 .f32)
    (n : Fin 1040) (l : Fin 128) : k0_pay4 (F := Ideal) x w r a (ix2 n l) = a (ix2 n l) + k0_pay3 (F := Ideal) x w r (ix2 n l) := by
  pointwise [k0_pay4]

theorem v3 (n : Fin 8320) (j : Fin 4096) : V m c main_v3 (ix2 n j) = row (Xp m c) (Xs m c) n.val j := by
  unfold_abbrev_sides
  after_reads_simp
  try dsimp only [Matrix.cons_val]
  try after_reads_simp
  pointwise
  rfl

theorem v7 (n : Fin 8320) (k : Fin 4096) : V m c main_v7 (ix2 n k) = row (Mp m c) (Ms m c) n.val k := by
  unfold_abbrev_sides
  after_reads_simp
  try dsimp only [Matrix.cons_val]
  try after_reads_simp
  pointwise
  rfl

theorem v8 (k : Fin 4096) (j : Fin 4096) : V m c main_v8 (ix3 0 k j) = Wo m c (ix3 0 k j) := by
  unfold_abbrev_sides
  after_reads_simp
  pointwise

theorem v9 (j : Fin 4096) : V m c main_v9 (ix3 0 0 j) = Gn m c (ix2 0 j) := by
  unfold_abbrev_sides
  after_reads_simp
  pointwise

/-- The blocks of a grid point. -/
theorem idx : ∀ t : Fin cfg0.N, win0_0.index t = ![t.val / 16, 0] ∧ win0_1.index t = ![0, 0, t.val % 16]
    ∧ win0_2.index t = ![t.val / 16, t.val % 16] ∧ win0_3.index t = ![0, 0, t.val % 16] ∧ win0_4.index t = ![t.val / 16, t.val % 16]
    ∧ win0_5.index t = ![t.val / 16, t.val % 16] ∧ win0_6.index t = ![t.val / 16, 0] ∧ t.val < 128 :=
  (by decide +kernel : ∀ t : Fin grid0.N, _)

theorem b0 (t : Fin cfg0.N) (r : Fin 1040) (k : Fin 4096) (n : Fin 8320) (hn : n.val = t.val / 16 * 1040 + r.val) :
    iblk m c 0 t (ix2 r k) = row (Mp m c) (Ms m c) n.val k := by
  rw [← v7 m c n k]
  have e := (idx t).1
  unfold iblk
  blk_point [e]

theorem b1 (t : Fin cfg0.N) (k : Fin 4096) (j : Fin 256) (n : Fin 4096) (hn : n.val = t.val % 16 * 256 + j.val) :
    iblk m c 1 t (ix3 0 k j) = Wo m c (ix3 0 k n) := by
  rw [← v8 m c k n]
  have e := (idx t).2.1
  unfold iblk
  blk_point [e]

theorem b2 (t : Fin cfg0.N) (r : Fin 1040) (j : Fin 256) (n : Fin 8320) (l : Fin 4096) (hn : n.val = t.val / 16 * 1040 + r.val)
    (hl : l.val = t.val % 16 * 256 + j.val) : iblk m c 2 t (ix2 r j) = row (Xp m c) (Xs m c) n.val l := by
  rw [← v3 m c n l]
  have e := (idx t).2.2.1
  unfold iblk
  blk_point [e]

theorem b3 (t : Fin cfg0.N) (j : Fin 256) (n : Fin 4096) (hn : n.val = t.val % 16 * 256 + j.val) :
    iblk m c 3 t (ix3 0 0 j) = Gn m c (ix2 0 n) := by
  rw [← v9 m c n]
  have e := (idx t).2.2.2.1
  unfold iblk
  blk_point [e]

/-- What a grid point stores, of the arguments. -/
theorem point1 (t : Fin cfg0.N) (r : Fin 1040) (j : Fin 256) (n : Fin 8320) (l : Fin 4096) (hn : n.val = t.val / 16 * 1040 + r.val)
    (hl : l.val = t.val % 16 * 256 + j.val) :
    k0_pay1 (F := Ideal) (iblk m c 0 t) (iblk m c 1 t) (iblk m c 2 t) (ix2 r j) = y0 m c n.val l := by
  have hs : ∀ (x : FVec Ideal S1040x4096 .bf16) (w : FVec Ideal S1x4096x256 .bf16), (∀ k, x (ix2 r k) = row (Mp m c) (Ms m c) n.val k) →
      (∀ k, w (ix3 0 k j) = Wo m c (ix3 0 k l)) →
      ∑ k : Fin 4096, x (ix2 r k) * w (ix3 0 k j) = ∑ k : Fin 4096, row (Mp m c) (Ms m c) n.val k * Wo m c (ix3 0 k l) :=
    fun x w hx hw => Finset.sum_congr rfl fun k _ => by rw [hx, hw]
  rw [pay1, b2 m c t r j n l hn hl, hs _ _ (fun k => b0 m c t r k n hn) (fun k => b1 m c t k j l hl)]
  rfl

theorem point2 (t : Fin cfg0.N) (r : Fin 1040) (j : Fin 256) (n : Fin 8320) (l : Fin 4096) (hn : n.val = t.val / 16 * 1040 + r.val)
    (hl : l.val = t.val % 16 * 256 + j.val) :
    k0_pay2 (F := Ideal) (iblk m c 0 t) (iblk m c 1 t) (iblk m c 2 t) (iblk m c 3 t) (ix2 r j) = y0 m c n.val l * Gn m c (ix2 0 l) := by
  rw [pay2, point1 m c t r j n l hn hl, b3 m c t j l hl]

theorem point3 (t : Fin cfg0.N) (r : Fin 1040) (n : Fin 8320) (l : Fin 128) (hn : n.val = t.val / 16 * 1040 + r.val) :
    k0_pay3 (F := Ideal) (iblk m c 0 t) (iblk m c 1 t) (iblk m c 2 t) (ix2 r l)
      = ∑ j : Fin 256, sqAt (Ideal.ofBits .f32 0x3F800000#32) (Xp m c) (Xs m c) (Mp m c) (Ms m c) (fun k j => Wo m c (ix3 0 k j)) n.val (t.val % 16 * 256 + j.val) := by
  rw [pay3]
  refine Finset.sum_congr rfl fun j _ => ?_
  have hl : t.val % 16 * 256 + j.val < 4096 := by omega
  rw [point1 m c t r j n ⟨_, hl⟩ hn rfl, sqAt, dif_pos hl]
  rfl

theorem out1 (t : Fin cfg0.N) : (outsAt0 m c t.val t.isLt).1 = k0_pay1 (F := Ideal) (iblk m c 0 t) (iblk m c 1 t) (iblk m c 2 t) := by
  by_cases h : t.val % 16 = 0
  · rw [outsAt0_A m c t h (by omega)]; frame_out
  · rw [outsAt0_B m c t h (by omega)]; frame_out

theorem out2 (t : Fin cfg0.N) : (outsAt0 m c t.val t.isLt).2.1 = k0_pay2 (F := Ideal) (iblk m c 0 t) (iblk m c 1 t) (iblk m c 2 t) (iblk m c 3 t) := by
  by_cases h : t.val % 16 = 0
  · rw [outsAt0_A m c t h (by omega)]; frame_out
  · rw [outsAt0_B m c t h (by omega)]; frame_out

theorem out3A (t : Fin cfg0.N) (h : t.val % 16 = 0) :
    (outsAt0 m c t.val t.isLt).2.2 = k0_pay3 (F := Ideal) (iblk m c 0 t) (iblk m c 1 t) (iblk m c 2 t) := by
  rw [outsAt0_A m c t h (by omega)]; frame_out

theorem out3B (t : Fin cfg0.N) (h : ¬t.val % 16 = 0) :
    (outsAt0 m c t.val t.isLt).2.2 = k0_pay4 (F := Ideal) (iblk m c 0 t) (iblk m c 1 t) (iblk m c 2 t)
      (outsAt0 m c (t.val - 1) (Nat.lt_of_le_of_lt (Nat.sub_le _ _) t.isLt)).2.2 := by
  rw [outsAt0_B m c t h (by omega)]; frame_out

/-- The third output after a point: the sums of the squares of the columns so far. -/
theorem acc (q : ℕ) : ∀ (t : Fin cfg0.N) (hq : t.val % 16 = q) (r : Fin 1040) (n : Fin 8320) (l : Fin 128) (hn : n.val = t.val / 16 * 1040 + r.val),
    (outsAt0 m c t.val t.isLt).2.2 (ix2 r l) = sqs (Ideal.ofBits .f32 0x3F800000#32) (Xp m c) (Xs m c) (Mp m c) (Ms m c) (fun k j => Wo m c (ix3 0 k j)) n.val (q + 1) := by
  induction q with
  | zero =>
    intro t hq r n l hn
    rw [out3A m c t hq, point3 m c t r n l hn, sqs_succ, sqs_zero, zero_add, hq]
  | succ q ih =>
    intro t hq r n l hn
    rw [out3B m c t (by omega), pay4, point3 m c t r n l hn, sqs_succ, hq]
    have ht : t.val - 1 < cfg0.N := Nat.lt_of_le_of_lt (Nat.sub_le _ _) t.isLt
    exact congrArg (· + _) (ih ⟨t.val - 1, ht⟩ (by dsimp only; omega) r n l (by dsimp only; omega))

/-- The arrays after the run. -/
theorem final0 : (dats m 0 c).arrAt 4 cfg0.N = fun y => resid (Ideal.ofBits .f32 0x3F800000#32) (Xp m c) (Xs m c) (Mp m c) (Ms m c) (fun k j => Wo m c (ix3 0 k j)) (y 0).val (y 1) := by
  refine (dats m 0 c).arrAt_eq_of_covers 4 _ (by decide +kernel) fun t hf y => ?_
  have i4 := (idx t).2.2.2.2.1
  have hN := (idx t).2.2.2.2.2.2.2
  blk_simp
  rw [after0_4, out1]
  have y0 : (y 0).val < 1040 := (y 0).isLt
  have y1 : (y 1).val < 256 := (y 1).isLt
  have e0 : win0_4.index t 0 * 1040 + (y 0).val = t.val / 16 * 1040 + (y 0).val := by rw [i4]; rfl
  have e1 : ((win0_4.blk t).view.emb y 1).val = t.val % 16 * 256 + (y 1).val := by blk_simp [i4]
  refine (congrArg (k0_pay1 (F := Ideal) (iblk m c 0 t) (iblk m c 1 t) (iblk m c 2 t)) (show y = ix2 ⟨(y 0).val, y0⟩ ⟨(y 1).val, y1⟩ from ?_)).trans ?_
  · funext a; match a with | 0 => rfl | 1 => rfl
  · exact point1 m c t ⟨(y 0).val, y0⟩ ⟨(y 1).val, y1⟩ ⟨win0_4.index t 0 * 1040 + (y 0).val, by omega⟩ ((win0_4.blk t).view.emb y 1) e0 e1

theorem final1 : (dats m 0 c).arrAt 5 cfg0.N = fun y => residN (Ideal.ofBits .f32 0x3F800000#32) (Xp m c) (Xs m c) (Mp m c) (Ms m c) (fun k j => Wo m c (ix3 0 k j)) (Gn m c) (y 0).val (y 1) := by
  refine (dats m 0 c).arrAt_eq_of_covers 5 _ (by decide +kernel) fun t hf y => ?_
  have i5 := (idx t).2.2.2.2.2.1
  have hN := (idx t).2.2.2.2.2.2.2
  blk_simp
  rw [after0_5, out2]
  have y0 : (y 0).val < 1040 := (y 0).isLt
  have y1 : (y 1).val < 256 := (y 1).isLt
  have e0 : win0_5.index t 0 * 1040 + (y 0).val = t.val / 16 * 1040 + (y 0).val := by rw [i5]; rfl
  have e1 : ((win0_5.blk t).view.emb y 1).val = t.val % 16 * 256 + (y 1).val := by blk_simp [i5]
  refine (congrArg (k0_pay2 (F := Ideal) (iblk m c 0 t) (iblk m c 1 t) (iblk m c 2 t) (iblk m c 3 t))
    (show y = ix2 ⟨(y 0).val, y0⟩ ⟨(y 1).val, y1⟩ from ?_)).trans ?_
  · funext a; match a with | 0 => rfl | 1 => rfl
  · exact point2 m c t ⟨(y 0).val, y0⟩ ⟨(y 1).val, y1⟩ ⟨win0_5.index t 0 * 1040 + (y 0).val, by omega⟩ ((win0_5.blk t).view.emb y 1) e0 e1

theorem last : ∀ t : Fin cfg0.N, (cfg0.win 6).flush t = true → t.val % 16 = 15 :=
  (by decide +kernel : ∀ t : Fin grid0.N, _)

theorem final2 : (dats m 0 c).arrAt 6 cfg0.N = fun y => residS (Ideal.ofBits .f32 0x3F800000#32) (Xp m c) (Xs m c) (Mp m c) (Ms m c) (fun k j => Wo m c (ix3 0 k j)) (y 0).val := by
  refine (dats m 0 c).arrAt_eq_of_covers 6 _ (by decide +kernel) fun t hf y => ?_
  have i6 := (idx t).2.2.2.2.2.2.1
  have hN := (idx t).2.2.2.2.2.2.2
  have h15 := last t hf
  blk_simp
  rw [after0_6]
  have y0 : (y 0).val < 1040 := (y 0).isLt
  have y1 : (y 1).val < 128 := (y 1).isLt
  have e0 : win0_6.index t 0 * 1040 + (y 0).val = t.val / 16 * 1040 + (y 0).val := by rw [i6]; rfl
  refine (congrArg (outsAt0 m c t.val t.isLt).2.2 (show y = ix2 ⟨(y 0).val, y0⟩ ⟨(y 1).val, y1⟩ from ?_)).trans ?_
  · funext a; match a with | 0 => rfl | 1 => rfl
  · rw [← sqs_all]
    exact acc m c 15 t h15 ⟨(y 0).val, y0⟩ ⟨win0_6.index t 0 * 1040 + (y 0).val, by omega⟩ ⟨(y 1).val, y1⟩ e0

end Cert.OutIdeal.Value
-- ==== Proof.Mix.OutRef.lean ====
module

public import proofs.«01_k».proof.Proof.Gen.OutReferenceIdeal.Run
public import proofs.«01_k».proof.Proof.Mix.ResidRows
public import Idealize.ShloMosaic.Lib.Claim

@[expose] public section

set_option maxRecDepth 16384
noncomputable section
open Idealize.ShloMosaic Idealize.ShloMosaic.TcCoe Idealize.SL.Sem
namespace Cert.OutReferenceIdeal.Value
open Cert.OutReferenceIdeal Cert.OutReferenceIdeal.Gen Cert.Ffn

/-- The gain of the first layer's norm. -/
def gain (g : FVec Ideal S2x4096 .f32) : FVec Ideal S1x1x4096 .f32 :=
  broadcastInDim S1x1x4096 ![2] bcast_S4096_S1x1x4096_2 (shapeCast _ (extractStridedSlice S1x4096 ![0, 0] g slices_S2x4096_S1x4096_0_0) shapeCasts_S1x4096_S4096)

/-- The matrix. -/
def mat (w : FVec Ideal S2x4096x4096 .f32) : FVec Ideal S4096x4096 .f32 := shapeCast S4096x4096 (extractStridedSlice S1x4096x4096 ![0, 0, 0] w slices_S2x4096x4096_S1x4096x4096_0_0_0) shapeCasts_S1x4096x4096_S4096x4096

theorem gain_at (g : FVec Ideal S2x4096 .f32) (k : Fin 4096) : gain g (ix3 0 0 k) = g (ix2 0 k) := by
  unfold gain
  pointwise

theorem mat_at (w : FVec Ideal S2x4096x4096 .f32) (k : Fin 4096) (j : Fin 4096) : mat w (ix2 k j) = w (ix3 0 k j) := by
  unfold mat
  pointwise

theorem one : Ideal.ofBits .f32 0x3F800000#32 = 1 := by
  simp [Ideal.ofBits, Ideal.ieee, -EReal.coe_mul]; norm_num

/-- The stream's prompt rows after the projection. -/
def strP (x : FVec Ideal S4x2048x4096 .f32) (u : FVec Ideal S4x2048x4096 .bf16) (w : FVec Ideal S2x4096x4096 .f32) : FVec Ideal S4x2048x4096 .f32 :=
  addf x (Host.dotGeneral dot_S4x2048x4096_S4096x4096_S4x2048x4096_2_0_01_1_n_n none (extf .f32 u bitsLt_bf16_f32) (mat w))

/-- The stream's sample rows after the projection. -/
def strS (x : FVec Ideal S8x1x4096 .f32) (u : FVec Ideal S8x1x4096 .bf16) (w : FVec Ideal S2x4096x4096 .f32) : FVec Ideal S8x1x4096 .f32 :=
  addf x (Host.dotGeneral dot_S8x1x4096_S4096x4096_S8x1x4096_2_0_01_1_n_n none (extf .f32 u bitsLt_bf16_f32) (mat w))

theorem strP_at (x : FVec Ideal S4x2048x4096 .f32) (u : FVec Ideal S4x2048x4096 .bf16) (w : FVec Ideal S2x4096x4096 .f32) (i : Fin 4) (s : Fin 2048) (j : Fin 4096) :
    strP x u w (ix3 i s j) = x (ix3 i s j) + 1 * ∑ k : Fin 4096, u (ix3 i s k) * w (ix3 0 k j) := by
  rw [one_mul]
  unfold strP
  pointwise [mat_at]

theorem strS_at (x : FVec Ideal S8x1x4096 .f32) (u : FVec Ideal S8x1x4096 .bf16) (w : FVec Ideal S2x4096x4096 .f32) (i : Fin 8) (j : Fin 4096) :
    strS x u w (ix3 i 0 j) = x (ix3 i 0 j) + 1 * ∑ k : Fin 4096, u (ix3 i 0 k) * w (ix3 0 k j) := by
  rw [one_mul]
  unfold strS
  pointwise [mat_at]

theorem resid_P (xp : FVec Ideal S4x2048x4096 .f32) (xs : FVec Ideal S8x1x4096 .f32) (up : FVec Ideal S4x2048x4096 .bf16)
    (us : FVec Ideal S8x1x4096 .bf16) (w : FVec Ideal S2x4096x4096 .f32)
    (n : ℕ) (hn : n < 8192) (j : Fin 4096) : strP xp up w (ix3 ⟨n / 2048, by omega⟩ ⟨n % 2048, by omega⟩ j) = resid 1 xp xs up us (fun k j => w (ix3 0 k j)) n j := by
  rw [strP_at]
  unfold resid row
  simp only [hn, dif_pos]

theorem resid_S (xp : FVec Ideal S4x2048x4096 .f32) (xs : FVec Ideal S8x1x4096 .f32) (up : FVec Ideal S4x2048x4096 .bf16)
    (us : FVec Ideal S8x1x4096 .bf16) (w : FVec Ideal S2x4096x4096 .f32)
    (n : ℕ) (hn : ¬n < 8192) (hs : n - 8192 < 8) (j : Fin 4096) : strS xs us w (ix3 ⟨n - 8192, hs⟩ 0 j) = resid 1 xp xs up us (fun k j => w (ix3 0 k j)) n j := by
  rw [strS_at]
  unfold resid row
  simp only [hn, hs, dif_neg, dif_pos, not_false_eq_true]

/-- The reference's arrays, as compositions of its operations. -/
def res0 (xp : FVec Ideal S4x2048x4096 .f32) (xs : FVec Ideal S8x1x4096 .f32) (up : FVec Ideal S4x2048x4096 .bf16)
    (us : FVec Ideal S8x1x4096 .bf16) (w : FVec Ideal S2x4096x4096 .f32) : FVec Ideal S8320x4096 .f32 :=
  concatenate S8320x4096 0
    [⟨S8192x4096, shapeCast _ (strP xp up w) shapeCasts_S4x2048x4096_S8192x4096⟩,
     ⟨S8x4096, shapeCast _ (strS xs us w) shapeCasts_S8x1x4096_S8x4096⟩,
     ⟨S120x4096, broadcastInDim S120x4096 ![] bcast_S_S120x4096 (constant S_ .f32 0x00000000#32)⟩]
    concatenates_S8192x4096_S8x4096_S120x4096_S8320x4096_d0

def res1 (xp : FVec Ideal S4x2048x4096 .f32) (xs : FVec Ideal S8x1x4096 .f32) (up : FVec Ideal S4x2048x4096 .bf16)
    (us : FVec Ideal S8x1x4096 .bf16) (w : FVec Ideal S2x4096x4096 .f32) (g : FVec Ideal S2x4096 .f32) : FVec Ideal S8320x4096 .bf16 :=
  concatenate S8320x4096 0
    [⟨S8192x4096, shapeCast _ (truncf .bf16 (mulf (strP xp up w) (broadcastInDim S4x2048x4096 ![0, 1, 2] bcast_S1x1x4096_S4x2048x4096_0_1_2 (gain g)))
        bitsLt_bf16_f32) shapeCasts_S4x2048x4096_S8192x4096⟩,
     ⟨S8x4096, shapeCast _ (truncf .bf16 (mulf (strS xs us w) (broadcastInDim S8x1x4096 ![0, 1, 2] bcast_S1x1x4096_S8x1x4096_0_1_2 (gain g)))
        bitsLt_bf16_f32) shapeCasts_S8x1x4096_S8x4096⟩,
     ⟨S120x4096, broadcastInDim S120x4096 ![] bcast_S_S120x4096 (constant S_ .bf16 0x0000#16)⟩]
    concatenates_S8192x4096_S8x4096_S120x4096_S8320x4096_d0

/-- The sums of the squares of the prompt rows and of the sample rows. -/
def ssP (y : FVec Ideal S4x2048x4096 .f32) : FVec Ideal S4x2048x1 .f32 :=
  broadcastInDim S4x2048x1 ![0, 1] bcast_S4x2048_S4x2048x1_0_1 (Host.reduceAdd (mulf y y) (constant S_ .f32 0x00000000#32)
    reducesTo_S4x2048x4096_S4x2048_d2 h_S_)

def ssS (y : FVec Ideal S8x1x4096 .f32) : FVec Ideal S8x1x1 .f32 :=
  broadcastInDim S8x1x1 ![0, 1] bcast_S8x1_S8x1x1_0_1 (Host.reduceAdd (mulf y y) (constant S_ .f32 0x00000000#32)
    reducesTo_S8x1x4096_S8x1_d2 h_S_)

theorem ssP_at (y : FVec Ideal S4x2048x4096 .f32) (i : Fin 4) (s : Fin 2048) : ssP y (ix3 i s 0) = ∑ k : Fin 4096, y (ix3 i s k) * y (ix3 i s k) := by
  unfold ssP
  pointwise

theorem ssS_at (y : FVec Ideal S8x1x4096 .f32) (i : Fin 8) : ssS y (ix3 i 0 0) = ∑ k : Fin 4096, y (ix3 i 0 k) * y (ix3 i 0 k) := by
  unfold ssS
  pointwise

def res2 (xp : FVec Ideal S4x2048x4096 .f32) (xs : FVec Ideal S8x1x4096 .f32) (up : FVec Ideal S4x2048x4096 .bf16)
    (us : FVec Ideal S8x1x4096 .bf16) (w : FVec Ideal S2x4096x4096 .f32) : FVec Ideal S8320x128 .f32 :=
  broadcastInDim S8320x128 ![0, 1] bcast_S8320x1_S8320x128_0_1 (concatenate S8320x1 0
    [⟨S8192x1, shapeCast _ (ssP (strP xp up w)) shapeCasts_S4x2048x1_S8192x1⟩,
     ⟨S8x1, shapeCast _ (ssS (strS xs us w)) shapeCasts_S8x1x1_S8x1⟩,
     ⟨S120x1, broadcastInDim S120x1 ![] bcast_S_S120x1 (constant S_ .f32 0x00000000#32)⟩]
    concatenates_S8192x1_S8x1_S120x1_S8320x1_d0)

theorem res0_eq (xp : FVec Ideal S4x2048x4096 .f32) (xs : FVec Ideal S8x1x4096 .f32) (up : FVec Ideal S4x2048x4096 .bf16)
    (us : FVec Ideal S8x1x4096 .bf16) (w : FVec Ideal S2x4096x4096 .f32) :
    res0 xp xs up us w = fun y => resid 1 xp xs up us (fun k j => w (ix3 0 k j)) (y 0).val (y 1) := by
  have h : ∀ (n : Fin 8320) (j : Fin 4096), res0 xp xs up us w (ix2 n j) = resid 1 xp xs up us (fun k j => w (ix3 0 k j)) n.val j := by
    intro n j
    unfold res0
    pointwise
    split
    · next hn => exact resid_P xp xs up us w n.val hn j
    · next hn =>
      split
      · next hs => exact resid_S xp xs up us w n.val hn hs j
      · next hs => exact (resid_zero _ _ _ _ _ _ _ (by omega) _).symm
  funext y
  exact (congrArg (res0 xp xs up us w) (show y = ix2 (y 0) (y 1) from funext fun a => match a with | 0 => rfl | 1 => rfl)).trans (h _ _)

theorem res1_eq (xp : FVec Ideal S4x2048x4096 .f32) (xs : FVec Ideal S8x1x4096 .f32) (up : FVec Ideal S4x2048x4096 .bf16)
    (us : FVec Ideal S8x1x4096 .bf16) (w : FVec Ideal S2x4096x4096 .f32) (g : FVec Ideal S2x4096 .f32) :
    res1 xp xs up us w g = fun y => residN 1 xp xs up us (fun k j => w (ix3 0 k j)) g (y 0).val (y 1) := by
  have h : ∀ (n : Fin 8320) (j : Fin 4096), res1 xp xs up us w g (ix2 n j) = residN 1 xp xs up us (fun k j => w (ix3 0 k j)) g n.val j := by
    intro n j
    unfold res1 residN
    pointwise [gain_at]
    split
    · next hn => rw [resid_P xp xs up us w n.val hn j]
    · next hn =>
      split
      · next hs => rw [resid_S xp xs up us w n.val hn hs j]
      · next hs => rw [resid_zero _ _ _ _ _ _ _ (by omega), zero_mul]
  funext y
  exact (congrArg (res1 xp xs up us w g) (show y = ix2 (y 0) (y 1) from funext fun a => match a with | 0 => rfl | 1 => rfl)).trans (h _ _)

theorem res2_eq (xp : FVec Ideal S4x2048x4096 .f32) (xs : FVec Ideal S8x1x4096 .f32) (up : FVec Ideal S4x2048x4096 .bf16)
    (us : FVec Ideal S8x1x4096 .bf16) (w : FVec Ideal S2x4096x4096 .f32) :
    res2 xp xs up us w = fun y => residS 1 xp xs up us (fun k j => w (ix3 0 k j)) (y 0).val := by
  have h : ∀ (n : Fin 8320) (l : Fin 128), res2 xp xs up us w (ix2 n l) = residS 1 xp xs up us (fun k j => w (ix3 0 k j)) n.val := by
    intro n l
    unfold res2 residS
    pointwise
    split
    · next hn =>
      rw [ssP_at]
      exact Finset.sum_congr rfl fun j _ => by rw [resid_P xp xs up us w n.val hn j]
    · next hn =>
      split
      · next hs =>
        rw [ssS_at]
        exact Finset.sum_congr rfl fun j _ => by rw [resid_S xp xs up us w n.val hn hs j]
      · next hs => exact (Finset.sum_eq_zero fun j _ => by rw [resid_zero _ _ _ _ _ _ _ (by omega), zero_mul]).symm
  funext y
  exact (congrArg (res2 xp xs up us w) (show y = ix2 (y 0) (y 1) from funext fun a => match a with | 0 => rfl | 1 => rfl)).trans (h _ _)

/-! The same, the weight one as the kernel writes it. -/

theorem res0_one (xp : FVec Ideal S4x2048x4096 .f32) (xs : FVec Ideal S8x1x4096 .f32) (up : FVec Ideal S4x2048x4096 .bf16)
    (us : FVec Ideal S8x1x4096 .bf16) (w : FVec Ideal S2x4096x4096 .f32) : res0 xp xs up us w = fun y => resid (Ideal.ofBits .f32 0x3F800000#32) xp xs up us (fun k j => w (ix3 0 k j)) (y 0).val (y 1) := by
  rw [one]
  exact res0_eq xp xs up us w

theorem res1_one (xp : FVec Ideal S4x2048x4096 .f32) (xs : FVec Ideal S8x1x4096 .f32) (up : FVec Ideal S4x2048x4096 .bf16)
    (us : FVec Ideal S8x1x4096 .bf16) (w : FVec Ideal S2x4096x4096 .f32) (g : FVec Ideal S2x4096 .f32) : res1 xp xs up us w g = fun y => residN (Ideal.ofBits .f32 0x3F800000#32) xp xs up us (fun k j => w (ix3 0 k j)) g (y 0).val (y 1) := by
  rw [one]
  exact res1_eq xp xs up us w g

theorem res2_one (xp : FVec Ideal S4x2048x4096 .f32) (xs : FVec Ideal S8x1x4096 .f32) (up : FVec Ideal S4x2048x4096 .bf16)
    (us : FVec Ideal S8x1x4096 .bf16) (w : FVec Ideal S2x4096x4096 .f32) : res2 xp xs up us w = fun y => residS (Ideal.ofBits .f32 0x3F800000#32) xp xs up us (fun k j => w (ix3 0 k j)) (y 0).val := by
  rw [one]
  exact res2_eq xp xs up us w

end Cert.OutReferenceIdeal.Value
-- ==== Proof.Mix.Feed.lean ====
module

public import proofs.«01_k».proof.Proof.Gen.FeedIdeal.Value
public import proofs.«01_k».proof.Proof.Mix.ResidRows
public import Idealize.ShloMosaic.Lib.Pipeline.ValueKit
public import Idealize.ShloMosaic.Lib.Pipeline.ReadBack
public import Idealize.ShloMosaic.Lib.Claim
public import Idealize.ShloMosaic.Lib.StableHlo.RunRead

@[expose] public section

set_option maxRecDepth 16384
noncomputable section
open Idealize.ShloMosaic Idealize.ShloMosaic.TcCoe Idealize.SL.Sem
open Idealize.ShloMosaic.Pipeline (Dat)
namespace Cert.FeedIdeal.Value
open Cert.FeedIdeal Cert.FeedIdeal.Gen Cert.Ffn
variable (m : (ℓ : Loc nD τ sig) → Buf (Elt Ideal) ℓ) (c : Dev nD)

abbrev Xp : (⟨3, ![4, 2048, 4096]⟩ : Shape).Idx → EReal := m ((c : Thread nD τ).loc main_arg0)
abbrev Xs : (⟨3, ![8, 1, 4096]⟩ : Shape).Idx → EReal := m ((c : Thread nD τ).loc main_arg1)
abbrev Mp : (⟨3, ![4, 2048, 11008]⟩ : Shape).Idx → EReal := m ((c : Thread nD τ).loc main_arg2)
abbrev Ms : (⟨3, ![8, 1, 11008]⟩ : Shape).Idx → EReal := m ((c : Thread nD τ).loc main_arg3)
abbrev W2 : (⟨2, ![11008, 4096]⟩ : Shape).Idx → EReal := m ((c : Thread nD τ).loc main_arg4)
abbrev Gn : (⟨2, ![2, 4096]⟩ : Shape).Idx → EReal := m ((c : Thread nD τ).loc main_arg5)

/-- The rows of the stream after the projection. -/
def y0 (n : ℕ) (j : Fin 4096) : EReal := resid (Ideal.ofBits .f32 0x3F000000#32) (Xp m c) (Xs m c) (Mp m c) (Ms m c) (fun k j => W2 m c (ix2 k j)) n j

/-- What a grid point stores, of the blocks it reads. -/
theorem pay1 (x : FVec Ideal S1040x11008 .bf16) (w : FVec Ideal S1x11008x256 .bf16) (r : FVec Ideal S1040x256 .f32) (n : Fin 1040) (j : Fin 256) :
    k0_pay1 (F := Ideal) x w r (ix2 n j) = r (ix2 n j) + Ideal.ofBits .f32 0x3F000000#32 * ∑ k : Fin 11008, x (ix2 n k) * w (ix3 0 k j) := by
  pointwise [k0_pay1]

theorem pay2 (x : FVec Ideal S1040x11008 .bf16) (w : FVec Ideal S1x11008x256 .bf16) (r : FVec Ideal S1040x256 .f32) (g : FVec Ideal S1x1x256 .f32)
    (n : Fin 1040) (j : Fin 256) : k0_pay2 (F := Ideal) x w r g (ix2 n j) = k0_pay1 (F := Ideal) x w r (ix2 n j) * g (ix3 0 0 j) := by
  pointwise [k0_pay2]

theorem pay3 (x : FVec Ideal S1040x11008 .bf16) (w : FVec Ideal S1x11008x256 .bf16) (r : FVec Ideal S1040x256 .f32) (n : Fin 1040) (l : Fin 128) :
    k0_pay3 (F := Ideal) x w r (ix2 n l) = ∑ j : Fin 256, k0_pay1 (F := Ideal) x w r (ix2 n j) * k0_pay1 (F := Ideal) x w r (ix2 n j) := by
  pointwise [k0_pay3]

theorem pay4 (x : FVec Ideal S1040x11008 .bf16) (w : FVec Ideal S1x11008x256 .bf16) (r : FVec Ideal S1040x256 .f32) (a : FVec Ideal S1040x128 .f32)
    (n : Fin 1040) (l : Fin 128) : k0_pay4 (F := Ideal) x w r a (ix2 n l) = a (ix2 n l) + k0_pay3 (F := Ideal) x w r (ix2 n l) := by
  pointwise [k0_pay4]

theorem v3 (n : Fin 8320) (j : Fin 4096) : V m c main_v3 (ix2 n j) = row (Xp m c) (Xs m c) n.val j := by
  unfold_abbrev_sides
  after_reads_simp
  try dsimp only [Matrix.cons_val]
  try after_reads_simp
  pointwise
  rfl

theorem v7 (n : Fin 8320) (k : Fin 11008) : V m c main_v7 (ix2 n k) = row (Mp m c) (Ms m c) n.val k := by
  unfold_abbrev_sides
  after_reads_simp
  try dsimp only [Matrix.cons_val]
  try after_reads_simp
  pointwise
  rfl

theorem v8 (k : Fin 11008) (j : Fin 4096) : V m c main_v8 (ix3 0 k j) = W2 m c (ix2 k j) := by
  unfold_abbrev_sides
  after_reads_simp
  pointwise

theorem v9 (j : Fin 4096) : V m c main_v9 (ix3 0 0 j) = Gn m c (ix2 0 j) := by
  unfold_abbrev_sides
  after_reads_simp
  pointwise

/-- The blocks of a grid point. -/
theorem idx : ∀ t : Fin cfg0.N, win0_0.index t = ![t.val / 16, 0] ∧ win0_1.index t = ![0, 0, t.val % 16]
    ∧ win0_2.index t = ![t.val / 16, t.val % 16] ∧ win0_3.index t = ![0, 0, t.val % 16] ∧ win0_4.index t = ![t.val / 16, t.val % 16]
    ∧ win0_5.index t = ![t.val / 16, t.val % 16] ∧ win0_6.index t = ![t.val / 16, 0] ∧ t.val < 128 :=
  (by decide +kernel : ∀ t : Fin grid0.N, _)

theorem b0 (t : Fin cfg0.N) (r : Fin 1040) (k : Fin 11008) (n : Fin 8320) (hn : n.val = t.val / 16 * 1040 + r.val) :
    iblk m c 0 t (ix2 r k) = row (Mp m c) (Ms m c) n.val k := by
  rw [← v7 m c n k]
  have e := (idx t).1
  unfold iblk
  blk_point [e]

theorem b1 (t : Fin cfg0.N) (k : Fin 11008) (j : Fin 256) (n : Fin 4096) (hn : n.val = t.val % 16 * 256 + j.val) :
    iblk m c 1 t (ix3 0 k j) = W2 m c (ix2 k n) := by
  rw [← v8 m c k n]
  have e := (idx t).2.1
  unfold iblk
  blk_point [e]

theorem b2 (t : Fin cfg0.N) (r : Fin 1040) (j : Fin 256) (n : Fin 8320) (l : Fin 4096) (hn : n.val = t.val / 16 * 1040 + r.val)
    (hl : l.val = t.val % 16 * 256 + j.val) : iblk m c 2 t (ix2 r j) = row (Xp m c) (Xs m c) n.val l := by
  rw [← v3 m c n l]
  have e := (idx t).2.2.1
  unfold iblk
  blk_point [e]

theorem b3 (t : Fin cfg0.N) (j : Fin 256) (n : Fin 4096) (hn : n.val = t.val % 16 * 256 + j.val) :
    iblk m c 3 t (ix3 0 0 j) = Gn m c (ix2 0 n) := by
  rw [← v9 m c n]
  have e := (idx t).2.2.2.1
  unfold iblk
  blk_point [e]

/-- What a grid point stores, of the arguments. -/
theorem point1 (t : Fin cfg0.N) (r : Fin 1040) (j : Fin 256) (n : Fin 8320) (l : Fin 4096) (hn : n.val = t.val / 16 * 1040 + r.val)
    (hl : l.val = t.val % 16 * 256 + j.val) :
    k0_pay1 (F := Ideal) (iblk m c 0 t) (iblk m c 1 t) (iblk m c 2 t) (ix2 r j) = y0 m c n.val l := by
  have hs : ∀ (x : FVec Ideal S1040x11008 .bf16) (w : FVec Ideal S1x11008x256 .bf16), (∀ k, x (ix2 r k) = row (Mp m c) (Ms m c) n.val k) →
      (∀ k, w (ix3 0 k j) = W2 m c (ix2 k l)) →
      ∑ k : Fin 11008, x (ix2 r k) * w (ix3 0 k j) = ∑ k : Fin 11008, row (Mp m c) (Ms m c) n.val k * W2 m c (ix2 k l) :=
    fun x w hx hw => Finset.sum_congr rfl fun k _ => by rw [hx, hw]
  rw [pay1, b2 m c t r j n l hn hl, hs _ _ (fun k => b0 m c t r k n hn) (fun k => b1 m c t k j l hl)]
  rfl

theorem point2 (t : Fin cfg0.N) (r : Fin 1040) (j : Fin 256) (n : Fin 8320) (l : Fin 4096) (hn : n.val = t.val / 16 * 1040 + r.val)
    (hl : l.val = t.val % 16 * 256 + j.val) :
    k0_pay2 (F := Ideal) (iblk m c 0 t) (iblk m c 1 t) (iblk m c 2 t) (iblk m c 3 t) (ix2 r j) = y0 m c n.val l * Gn m c (ix2 0 l) := by
  rw [pay2, point1 m c t r j n l hn hl, b3 m c t j l hl]

theorem point3 (t : Fin cfg0.N) (r : Fin 1040) (n : Fin 8320) (l : Fin 128) (hn : n.val = t.val / 16 * 1040 + r.val) :
    k0_pay3 (F := Ideal) (iblk m c 0 t) (iblk m c 1 t) (iblk m c 2 t) (ix2 r l)
      = ∑ j : Fin 256, sqAt (Ideal.ofBits .f32 0x3F000000#32) (Xp m c) (Xs m c) (Mp m c) (Ms m c) (fun k j => W2 m c (ix2 k j)) n.val (t.val % 16 * 256 + j.val) := by
  rw [pay3]
  refine Finset.sum_congr rfl fun j _ => ?_
  have hl : t.val % 16 * 256 + j.val < 4096 := by omega
  rw [point1 m c t r j n ⟨_, hl⟩ hn rfl, sqAt, dif_pos hl]
  rfl

theorem out1 (t : Fin cfg0.N) : (outsAt0 m c t.val t.isLt).1 = k0_pay1 (F := Ideal) (iblk m c 0 t) (iblk m c 1 t) (iblk m c 2 t) := by
  by_cases h : t.val % 16 = 0
  · rw [outsAt0_A m c t h (by omega)]; frame_out
  · rw [outsAt0_B m c t h (by omega)]; frame_out

theorem out2 (t : Fin cfg0.N) : (outsAt0 m c t.val t.isLt).2.1 = k0_pay2 (F := Ideal) (iblk m c 0 t) (iblk m c 1 t) (iblk m c 2 t) (iblk m c 3 t) := by
  by_cases h : t.val % 16 = 0
  · rw [outsAt0_A m c t h (by omega)]; frame_out
  · rw [outsAt0_B m c t h (by omega)]; frame_out

theorem out3A (t : Fin cfg0.N) (h : t.val % 16 = 0) :
    (outsAt0 m c t.val t.isLt).2.2 = k0_pay3 (F := Ideal) (iblk m c 0 t) (iblk m c 1 t) (iblk m c 2 t) := by
  rw [outsAt0_A m c t h (by omega)]; frame_out

theorem out3B (t : Fin cfg0.N) (h : ¬t.val % 16 = 0) :
    (outsAt0 m c t.val t.isLt).2.2 = k0_pay4 (F := Ideal) (iblk m c 0 t) (iblk m c 1 t) (iblk m c 2 t)
      (outsAt0 m c (t.val - 1) (Nat.lt_of_le_of_lt (Nat.sub_le _ _) t.isLt)).2.2 := by
  rw [outsAt0_B m c t h (by omega)]; frame_out

/-- The third output after a point: the sums of the squares of the columns so far. -/
theorem acc (q : ℕ) : ∀ (t : Fin cfg0.N) (hq : t.val % 16 = q) (r : Fin 1040) (n : Fin 8320) (l : Fin 128) (hn : n.val = t.val / 16 * 1040 + r.val),
    (outsAt0 m c t.val t.isLt).2.2 (ix2 r l) = sqs (Ideal.ofBits .f32 0x3F000000#32) (Xp m c) (Xs m c) (Mp m c) (Ms m c) (fun k j => W2 m c (ix2 k j)) n.val (q + 1) := by
  induction q with
  | zero =>
    intro t hq r n l hn
    rw [out3A m c t hq, point3 m c t r n l hn, sqs_succ, sqs_zero, zero_add, hq]
  | succ q ih =>
    intro t hq r n l hn
    rw [out3B m c t (by omega), pay4, point3 m c t r n l hn, sqs_succ, hq]
    have ht : t.val - 1 < cfg0.N := Nat.lt_of_le_of_lt (Nat.sub_le _ _) t.isLt
    exact congrArg (· + _) (ih ⟨t.val - 1, ht⟩ (by dsimp only; omega) r n l (by dsimp only; omega))

/-- The arrays after the run. -/
theorem final0 : (dats m 0 c).arrAt 4 cfg0.N = fun y => resid (Ideal.ofBits .f32 0x3F000000#32) (Xp m c) (Xs m c) (Mp m c) (Ms m c) (fun k j => W2 m c (ix2 k j)) (y 0).val (y 1) := by
  refine (dats m 0 c).arrAt_eq_of_covers 4 _ (by decide +kernel) fun t hf y => ?_
  have i4 := (idx t).2.2.2.2.1
  have hN := (idx t).2.2.2.2.2.2.2
  blk_simp
  rw [after0_4, out1]
  have y0 : (y 0).val < 1040 := (y 0).isLt
  have y1 : (y 1).val < 256 := (y 1).isLt
  have e0 : win0_4.index t 0 * 1040 + (y 0).val = t.val / 16 * 1040 + (y 0).val := by rw [i4]; rfl
  have e1 : ((win0_4.blk t).view.emb y 1).val = t.val % 16 * 256 + (y 1).val := by blk_simp [i4]
  refine (congrArg (k0_pay1 (F := Ideal) (iblk m c 0 t) (iblk m c 1 t) (iblk m c 2 t)) (show y = ix2 ⟨(y 0).val, y0⟩ ⟨(y 1).val, y1⟩ from ?_)).trans ?_
  · funext a; match a with | 0 => rfl | 1 => rfl
  · exact point1 m c t ⟨(y 0).val, y0⟩ ⟨(y 1).val, y1⟩ ⟨win0_4.index t 0 * 1040 + (y 0).val, by omega⟩ ((win0_4.blk t).view.emb y 1) e0 e1

theorem final1 : (dats m 0 c).arrAt 5 cfg0.N = fun y => residN (Ideal.ofBits .f32 0x3F000000#32) (Xp m c) (Xs m c) (Mp m c) (Ms m c) (fun k j => W2 m c (ix2 k j)) (Gn m c) (y 0).val (y 1) := by
  refine (dats m 0 c).arrAt_eq_of_covers 5 _ (by decide +kernel) fun t hf y => ?_
  have i5 := (idx t).2.2.2.2.2.1
  have hN := (idx t).2.2.2.2.2.2.2
  blk_simp
  rw [after0_5, out2]
  have y0 : (y 0).val < 1040 := (y 0).isLt
  have y1 : (y 1).val < 256 := (y 1).isLt
  have e0 : win0_5.index t 0 * 1040 + (y 0).val = t.val / 16 * 1040 + (y 0).val := by rw [i5]; rfl
  have e1 : ((win0_5.blk t).view.emb y 1).val = t.val % 16 * 256 + (y 1).val := by blk_simp [i5]
  refine (congrArg (k0_pay2 (F := Ideal) (iblk m c 0 t) (iblk m c 1 t) (iblk m c 2 t) (iblk m c 3 t))
    (show y = ix2 ⟨(y 0).val, y0⟩ ⟨(y 1).val, y1⟩ from ?_)).trans ?_
  · funext a; match a with | 0 => rfl | 1 => rfl
  · exact point2 m c t ⟨(y 0).val, y0⟩ ⟨(y 1).val, y1⟩ ⟨win0_5.index t 0 * 1040 + (y 0).val, by omega⟩ ((win0_5.blk t).view.emb y 1) e0 e1

theorem last : ∀ t : Fin cfg0.N, (cfg0.win 6).flush t = true → t.val % 16 = 15 :=
  (by decide +kernel : ∀ t : Fin grid0.N, _)

theorem final2 : (dats m 0 c).arrAt 6 cfg0.N = fun y => residS (Ideal.ofBits .f32 0x3F000000#32) (Xp m c) (Xs m c) (Mp m c) (Ms m c) (fun k j => W2 m c (ix2 k j)) (y 0).val := by
  refine (dats m 0 c).arrAt_eq_of_covers 6 _ (by decide +kernel) fun t hf y => ?_
  have i6 := (idx t).2.2.2.2.2.2.1
  have hN := (idx t).2.2.2.2.2.2.2
  have h15 := last t hf
  blk_simp
  rw [after0_6]
  have y0 : (y 0).val < 1040 := (y 0).isLt
  have y1 : (y 1).val < 128 := (y 1).isLt
  have e0 : win0_6.index t 0 * 1040 + (y 0).val = t.val / 16 * 1040 + (y 0).val := by rw [i6]; rfl
  refine (congrArg (outsAt0 m c t.val t.isLt).2.2 (show y = ix2 ⟨(y 0).val, y0⟩ ⟨(y 1).val, y1⟩ from ?_)).trans ?_
  · funext a; match a with | 0 => rfl | 1 => rfl
  · rw [← sqs_all]
    exact acc m c 15 t h15 ⟨(y 0).val, y0⟩ ⟨win0_6.index t 0 * 1040 + (y 0).val, by omega⟩ ⟨(y 1).val, y1⟩ e0

end Cert.FeedIdeal.Value
-- ==== Proof.Mix.FeedRef.lean ====
module

public import proofs.«01_k».proof.Proof.Gen.FeedReferenceIdeal.Run
public import proofs.«01_k».proof.Proof.Mix.ResidRows
public import Idealize.ShloMosaic.Lib.Claim

@[expose] public section

set_option maxRecDepth 16384
noncomputable section
open Idealize.ShloMosaic Idealize.ShloMosaic.TcCoe Idealize.SL.Sem
namespace Cert.FeedReferenceIdeal.Value
open Cert.FeedReferenceIdeal Cert.FeedReferenceIdeal.Gen Cert.Ffn

/-- The gain of the first layer's norm. -/
def gain (g : FVec Ideal S2x4096 .f32) : FVec Ideal S1x1x4096 .f32 :=
  broadcastInDim S1x1x4096 ![2] bcast_S4096_S1x1x4096_2 (shapeCast _ (extractStridedSlice S1x4096 ![0, 0] g slices_S2x4096_S1x4096_0_0) shapeCasts_S1x4096_S4096)

/-- The matrix. -/
def mat (w : FVec Ideal S11008x4096 .bf16) : FVec Ideal S11008x4096 .f32 := extf .f32 w bitsLt_bf16_f32

theorem gain_at (g : FVec Ideal S2x4096 .f32) (k : Fin 4096) : gain g (ix3 0 0 k) = g (ix2 0 k) := by
  unfold gain
  pointwise

theorem mat_at (w : FVec Ideal S11008x4096 .bf16) (k : Fin 11008) (j : Fin 4096) : mat w (ix2 k j) = w (ix2 k j) := by
  unfold mat
  pointwise

/-- The stream's prompt rows after the projection. -/
def strP (x : FVec Ideal S4x2048x4096 .f32) (u : FVec Ideal S4x2048x11008 .bf16) (w : FVec Ideal S11008x4096 .bf16) : FVec Ideal S4x2048x4096 .f32 :=
  addf x (mulf (broadcastInDim S4x2048x4096 ![] bcast_S_S4x2048x4096 (constant S_ .f32 0x3F000000#32)) (Host.dotGeneral dot_S4x2048x11008_S11008x4096_S4x2048x4096_2_0_01_1_n_n none (extf .f32 u bitsLt_bf16_f32) (mat w)))

/-- The stream's sample rows after the projection. -/
def strS (x : FVec Ideal S8x1x4096 .f32) (u : FVec Ideal S8x1x11008 .bf16) (w : FVec Ideal S11008x4096 .bf16) : FVec Ideal S8x1x4096 .f32 :=
  addf x (mulf (broadcastInDim S8x1x4096 ![] bcast_S_S8x1x4096 (constant S_ .f32 0x3F000000#32)) (Host.dotGeneral dot_S8x1x11008_S11008x4096_S8x1x4096_2_0_01_1_n_n none (extf .f32 u bitsLt_bf16_f32) (mat w)))

theorem strP_at (x : FVec Ideal S4x2048x4096 .f32) (u : FVec Ideal S4x2048x11008 .bf16) (w : FVec Ideal S11008x4096 .bf16) (i : Fin 4) (s : Fin 2048) (j : Fin 4096) :
    strP x u w (ix3 i s j) = x (ix3 i s j) + (Ideal.ofBits .f32 0x3F000000#32) * ∑ k : Fin 11008, u (ix3 i s k) * w (ix2 k j) := by
  unfold strP
  pointwise [mat_at]

theorem strS_at (x : FVec Ideal S8x1x4096 .f32) (u : FVec Ideal S8x1x11008 .bf16) (w : FVec Ideal S11008x4096 .bf16) (i : Fin 8) (j : Fin 4096) :
    strS x u w (ix3 i 0 j) = x (ix3 i 0 j) + (Ideal.ofBits .f32 0x3F000000#32) * ∑ k : Fin 11008, u (ix3 i 0 k) * w (ix2 k j) := by
  unfold strS
  pointwise [mat_at]

theorem resid_P (xp : FVec Ideal S4x2048x4096 .f32) (xs : FVec Ideal S8x1x4096 .f32) (up : FVec Ideal S4x2048x11008 .bf16)
    (us : FVec Ideal S8x1x11008 .bf16) (w : FVec Ideal S11008x4096 .bf16)
    (n : ℕ) (hn : n < 8192) (j : Fin 4096) : strP xp up w (ix3 ⟨n / 2048, by omega⟩ ⟨n % 2048, by omega⟩ j) = resid (Ideal.ofBits .f32 0x3F000000#32) xp xs up us (fun k j => w (ix2 k j)) n j := by
  rw [strP_at]
  unfold resid row
  simp only [hn, dif_pos]

theorem resid_S (xp : FVec Ideal S4x2048x4096 .f32) (xs : FVec Ideal S8x1x4096 .f32) (up : FVec Ideal S4x2048x11008 .bf16)
    (us : FVec Ideal S8x1x11008 .bf16) (w : FVec Ideal S11008x4096 .bf16)
    (n : ℕ) (hn : ¬n < 8192) (hs : n - 8192 < 8) (j : Fin 4096) : strS xs us w (ix3 ⟨n - 8192, hs⟩ 0 j) = resid (Ideal.ofBits .f32 0x3F000000#32) xp xs up us (fun k j => w (ix2 k j)) n j := by
  rw [strS_at]
  unfold resid row
  simp only [hn, hs, dif_neg, dif_pos, not_false_eq_true]

/-- The reference's arrays, as compositions of its operations. -/
def res0 (xp : FVec Ideal S4x2048x4096 .f32) (xs : FVec Ideal S8x1x4096 .f32) (up : FVec Ideal S4x2048x11008 .bf16)
    (us : FVec Ideal S8x1x11008 .bf16) (w : FVec Ideal S11008x4096 .bf16) : FVec Ideal S8320x4096 .f32 :=
  concatenate S8320x4096 0
    [⟨S8192x4096, shapeCast _ (strP xp up w) shapeCasts_S4x2048x4096_S8192x4096⟩,
     ⟨S8x4096, shapeCast _ (strS xs us w) shapeCasts_S8x1x4096_S8x4096⟩,
     ⟨S120x4096, broadcastInDim S120x4096 ![] bcast_S_S120x4096 (constant S_ .f32 0x00000000#32)⟩]
    concatenates_S8192x4096_S8x4096_S120x4096_S8320x4096_d0

def res1 (xp : FVec Ideal S4x2048x4096 .f32) (xs : FVec Ideal S8x1x4096 .f32) (up : FVec Ideal S4x2048x11008 .bf16)
    (us : FVec Ideal S8x1x11008 .bf16) (w : FVec Ideal S11008x4096 .bf16) (g : FVec Ideal S2x4096 .f32) : FVec Ideal S8320x4096 .bf16 :=
  concatenate S8320x4096 0
    [⟨S8192x4096, shapeCast _ (truncf .bf16 (mulf (strP xp up w) (broadcastInDim S4x2048x4096 ![0, 1, 2] bcast_S1x1x4096_S4x2048x4096_0_1_2 (gain g)))
        bitsLt_bf16_f32) shapeCasts_S4x2048x4096_S8192x4096⟩,
     ⟨S8x4096, shapeCast _ (truncf .bf16 (mulf (strS xs us w) (broadcastInDim S8x1x4096 ![0, 1, 2] bcast_S1x1x4096_S8x1x4096_0_1_2 (gain g)))
        bitsLt_bf16_f32) shapeCasts_S8x1x4096_S8x4096⟩,
     ⟨S120x4096, broadcastInDim S120x4096 ![] bcast_S_S120x4096 (constant S_ .bf16 0x0000#16)⟩]
    concatenates_S8192x4096_S8x4096_S120x4096_S8320x4096_d0

/-- The sums of the squares of the prompt rows and of the sample rows. -/
def ssP (y : FVec Ideal S4x2048x4096 .f32) : FVec Ideal S4x2048x1 .f32 :=
  broadcastInDim S4x2048x1 ![0, 1] bcast_S4x2048_S4x2048x1_0_1 (Host.reduceAdd (mulf y y) (constant S_ .f32 0x00000000#32)
    reducesTo_S4x2048x4096_S4x2048_d2 h_S_)

def ssS (y : FVec Ideal S8x1x4096 .f32) : FVec Ideal S8x1x1 .f32 :=
  broadcastInDim S8x1x1 ![0, 1] bcast_S8x1_S8x1x1_0_1 (Host.reduceAdd (mulf y y) (constant S_ .f32 0x00000000#32)
    reducesTo_S8x1x4096_S8x1_d2 h_S_)

theorem ssP_at (y : FVec Ideal S4x2048x4096 .f32) (i : Fin 4) (s : Fin 2048) : ssP y (ix3 i s 0) = ∑ k : Fin 4096, y (ix3 i s k) * y (ix3 i s k) := by
  unfold ssP
  pointwise

theorem ssS_at (y : FVec Ideal S8x1x4096 .f32) (i : Fin 8) : ssS y (ix3 i 0 0) = ∑ k : Fin 4096, y (ix3 i 0 k) * y (ix3 i 0 k) := by
  unfold ssS
  pointwise

def res2 (xp : FVec Ideal S4x2048x4096 .f32) (xs : FVec Ideal S8x1x4096 .f32) (up : FVec Ideal S4x2048x11008 .bf16)
    (us : FVec Ideal S8x1x11008 .bf16) (w : FVec Ideal S11008x4096 .bf16) : FVec Ideal S8320x128 .f32 :=
  broadcastInDim S8320x128 ![0, 1] bcast_S8320x1_S8320x128_0_1 (concatenate S8320x1 0
    [⟨S8192x1, shapeCast _ (ssP (strP xp up w)) shapeCasts_S4x2048x1_S8192x1⟩,
     ⟨S8x1, shapeCast _ (ssS (strS xs us w)) shapeCasts_S8x1x1_S8x1⟩,
     ⟨S120x1, broadcastInDim S120x1 ![] bcast_S_S120x1 (constant S_ .f32 0x00000000#32)⟩]
    concatenates_S8192x1_S8x1_S120x1_S8320x1_d0)

theorem res0_eq (xp : FVec Ideal S4x2048x4096 .f32) (xs : FVec Ideal S8x1x4096 .f32) (up : FVec Ideal S4x2048x11008 .bf16)
    (us : FVec Ideal S8x1x11008 .bf16) (w : FVec Ideal S11008x4096 .bf16) :
    res0 xp xs up us w = fun y => resid (Ideal.ofBits .f32 0x3F000000#32) xp xs up us (fun k j => w (ix2 k j)) (y 0).val (y 1) := by
  have h : ∀ (n : Fin 8320) (j : Fin 4096), res0 xp xs up us w (ix2 n j) = resid (Ideal.ofBits .f32 0x3F000000#32) xp xs up us (fun k j => w (ix2 k j)) n.val j := by
    intro n j
    unfold res0
    pointwise
    split
    · next hn => exact resid_P xp xs up us w n.val hn j
    · next hn =>
      split
      · next hs => exact resid_S xp xs up us w n.val hn hs j
      · next hs => exact (resid_zero _ _ _ _ _ _ _ (by omega) _).symm
  funext y
  exact (congrArg (res0 xp xs up us w) (show y = ix2 (y 0) (y 1) from funext fun a => match a with | 0 => rfl | 1 => rfl)).trans (h _ _)

theorem res1_eq (xp : FVec Ideal S4x2048x4096 .f32) (xs : FVec Ideal S8x1x4096 .f32) (up : FVec Ideal S4x2048x11008 .bf16)
    (us : FVec Ideal S8x1x11008 .bf16) (w : FVec Ideal S11008x4096 .bf16) (g : FVec Ideal S2x4096 .f32) :
    res1 xp xs up us w g = fun y => residN (Ideal.ofBits .f32 0x3F000000#32) xp xs up us (fun k j => w (ix2 k j)) g (y 0).val (y 1) := by
  have h : ∀ (n : Fin 8320) (j : Fin 4096), res1 xp xs up us w g (ix2 n j) = residN (Ideal.ofBits .f32 0x3F000000#32) xp xs up us (fun k j => w (ix2 k j)) g n.val j := by
    intro n j
    unfold res1 residN
    pointwise [gain_at]
    split
    · next hn => rw [resid_P xp xs up us w n.val hn j]
    · next hn =>
      split
      · next hs => rw [resid_S xp xs up us w n.val hn hs j]
      · next hs => rw [resid_zero _ _ _ _ _ _ _ (by omega), zero_mul]
  funext y
  exact (congrArg (res1 xp xs up us w g) (show y = ix2 (y 0) (y 1) from funext fun a => match a with | 0 => rfl | 1 => rfl)).trans (h _ _)

theorem res2_eq (xp : FVec Ideal S4x2048x4096 .f32) (xs : FVec Ideal S8x1x4096 .f32) (up : FVec Ideal S4x2048x11008 .bf16)
    (us : FVec Ideal S8x1x11008 .bf16) (w : FVec Ideal S11008x4096 .bf16) :
    res2 xp xs up us w = fun y => residS (Ideal.ofBits .f32 0x3F000000#32) xp xs up us (fun k j => w (ix2 k j)) (y 0).val := by
  have h : ∀ (n : Fin 8320) (l : Fin 128), res2 xp xs up us w (ix2 n l) = residS (Ideal.ofBits .f32 0x3F000000#32) xp xs up us (fun k j => w (ix2 k j)) n.val := by
    intro n l
    unfold res2 residS
    pointwise
    split
    · next hn =>
      rw [ssP_at]
      exact Finset.sum_congr rfl fun j _ => by rw [resid_P xp xs up us w n.val hn j]
    · next hn =>
      split
      · next hs =>
        rw [ssS_at]
        exact Finset.sum_congr rfl fun j _ => by rw [resid_S xp xs up us w n.val hn hs j]
      · next hs => exact (Finset.sum_eq_zero fun j _ => by rw [resid_zero _ _ _ _ _ _ _ (by omega), zero_mul]).symm
  funext y
  exact (congrArg (res2 xp xs up us w) (show y = ix2 (y 0) (y 1) from funext fun a => match a with | 0 => rfl | 1 => rfl)).trans (h _ _)

end Cert.FeedReferenceIdeal.Value
-- ==== Proof.Mix.Claims.lean ====
module

public import proofs.«01_k».proof.Defs
public import proofs.«01_k».proof.Proof.Gen.Proj.Frame
public import proofs.«01_k».proof.Proof.Gen.ProjIdeal.Frame
public import proofs.«01_k».proof.Proof.Gen.ProjReferenceIdeal.Run
public import proofs.«01_k».proof.Proof.Gen.Out.Frame
public import proofs.«01_k».proof.Proof.Gen.OutIdeal.Frame
public import proofs.«01_k».proof.Proof.Gen.OutIdeal.Value
public import proofs.«01_k».proof.Proof.Gen.OutReferenceIdeal.Run
public import proofs.«01_k».proof.Proof.Gen.Merge.Frame
public import proofs.«01_k».proof.Proof.Gen.MergeIdeal.Frame
public import proofs.«01_k».proof.Proof.Gen.MergeIdeal.Value
public import proofs.«01_k».proof.Proof.Gen.MergeReferenceIdeal.Run
public import proofs.«01_k».proof.Proof.Gen.Feed.Frame
public import proofs.«01_k».proof.Proof.Gen.FeedIdeal.Frame
public import proofs.«01_k».proof.Proof.Gen.FeedIdeal.Value
public import proofs.«01_k».proof.Proof.Gen.FeedReferenceIdeal.Run
public import proofs.«01_k».proof.Proof.Mix.Proj
public import proofs.«01_k».proof.Proof.Mix.ProjTable
public import proofs.«01_k».proof.Proof.Mix.ProjRef
public import proofs.«01_k».proof.Proof.Mix.Merge
public import proofs.«01_k».proof.Proof.Mix.MergeRef
public import proofs.«01_k».proof.Proof.Mix.Out
public import proofs.«01_k».proof.Proof.Mix.OutRef
public import proofs.«01_k».proof.Proof.Mix.Feed
public import proofs.«01_k».proof.Proof.Mix.FeedRef
public import Idealize.ShloMosaic.Lib.Quiescent

@[expose] public section

set_option maxRecDepth 16384
noncomputable section
open Idealize.ShloMosaic Idealize.ShloMosaic.TcCoe Idealize.SL.Sem
open Cert.Ffn
namespace Cert.Mix

theorem proj_frameP : Cert.quiescent_Proj := fun m g _ => Cert.Proj.Gen.frame m g (Cert.Proj.Value.ok m)
theorem proj_framePI : Cert.quiescent_ProjIdeal := fun m g _ => Cert.ProjIdeal.Gen.frame m g (Cert.ProjIdeal.Value.ok m)
theorem proj_frameRI : Cert.quiescent_ProjReferenceIdeal := fun m g _ =>
  (θ_run Cert.ProjReferenceIdeal.defs _ _).mono (fun r h => ⟨fun c => (h c).2, sem_eq_zero_of_no_sems (by decide) r.2⟩)
    (Cert.ProjReferenceIdeal.Value.run m g)
theorem proj_preserves : Cert.preserves_Proj_ProjIdeal := trivial

theorem proj_algebraic : Cert.algebraic_ProjIdeal_ProjReferenceIdeal := by
  intro m g m' g' _ hm
  refine ⟨fun c => Cert.ProjIdeal.Value.out m c, ?_, ?_⟩
  · exact Cert.ProjIdeal.Value.run m g
  · refine (θ_run Cert.ProjReferenceIdeal.defs _ _).mono (fun r h c => ?_) (Cert.ProjReferenceIdeal.Value.run m' g')
    obtain ⟨h0, hargs⟩ := h c
    obtain ⟨e0, e1, e2, e3⟩ := hm c
    refine ⟨h0.trans ?_, hargs⟩
    rw [Cert.ProjReferenceIdeal.Value.out0, Cert.ProjReferenceIdeal.Value.res_eq, e0, e1, e2, e3]
    rfl

theorem feed_frameP : Cert.quiescent_Feed := fun m g _ => Cert.Feed.Gen.frame m g
theorem feed_framePI : Cert.quiescent_FeedIdeal := fun m g _ => Cert.FeedIdeal.Gen.frame m g
theorem feed_frameRI : Cert.quiescent_FeedReferenceIdeal := fun m g _ =>
  (θ_run Cert.FeedReferenceIdeal.defs _ _).mono (fun r h => ⟨fun c => (h c).2.2.2, sem_eq_zero_of_no_sems (by decide) r.2⟩)
    (Cert.FeedReferenceIdeal.Value.run m g)
theorem feed_preserves : Cert.preserves_Feed_FeedIdeal := trivial

theorem merge_frameP : Cert.quiescent_Merge := fun m g _ => Cert.Merge.Gen.frame m g
theorem merge_framePI : Cert.quiescent_MergeIdeal := fun m g _ => Cert.MergeIdeal.Gen.frame m g
theorem merge_frameRI : Cert.quiescent_MergeReferenceIdeal := fun m g _ =>
  (θ_run Cert.MergeReferenceIdeal.defs _ _).mono (fun r h => ⟨fun c => (h c).2, sem_eq_zero_of_no_sems (by decide) r.2⟩)
    (Cert.MergeReferenceIdeal.Value.run m g)
theorem merge_preserves : Cert.preserves_Merge_MergeIdeal := trivial

theorem out_frameP : Cert.quiescent_Out := fun m g _ => Cert.Out.Gen.frame m g
theorem out_framePI : Cert.quiescent_OutIdeal := fun m g _ => Cert.OutIdeal.Gen.frame m g
theorem out_frameRI : Cert.quiescent_OutReferenceIdeal := fun m g _ =>
  (θ_run Cert.OutReferenceIdeal.defs _ _).mono (fun r h => ⟨fun c => (h c).2.2.2, sem_eq_zero_of_no_sems (by decide) r.2⟩)
    (Cert.OutReferenceIdeal.Value.run m g)
theorem out_preserves : Cert.preserves_Out_OutIdeal := trivial

theorem merge_algebraic : Cert.algebraic_MergeIdeal_MergeReferenceIdeal := by
  intro m g m' g' _ hm
  refine ⟨fun c y => Cert.MergeIdeal.Value.merged m c (y 0).val (y 1), ?_, ?_⟩
  · refine (θ_run Cert.MergeIdeal.defs _ _).mono (fun r h c => ?_) (Cert.MergeIdeal.Value.run_blocks m g)
    obtain ⟨h0, hargs⟩ := h c
    exact ⟨h0.trans (Cert.MergeIdeal.Value.final m c), hargs⟩
  · refine (θ_run Cert.MergeReferenceIdeal.defs _ _).mono (fun r h c => ?_) (Cert.MergeReferenceIdeal.Value.run m' g')
    obtain ⟨h0, hargs⟩ := h c
    obtain ⟨e0, e1, e2, e3, e4, e5, e6, e7, e8, e9, e10, e11, e12, e13, e14⟩ := hm c
    refine ⟨h0.trans ?_, hargs⟩
    rw [Cert.MergeReferenceIdeal.Value.out0, Cert.MergeReferenceIdeal.Value.res_eq, e0, e1, e2, e3, e4, e5, e6, e7, e8, e9, e10, e11, e12, e13, e14]
    rfl

theorem out_algebraic : Cert.algebraic_OutIdeal_OutReferenceIdeal := by
  intro m g m' g' _ hm
  refine ⟨fun c y => resid (Ideal.ofBits .f32 0x3F800000#32) (Cert.OutIdeal.Value.Xp m c) (Cert.OutIdeal.Value.Xs m c) (Cert.OutIdeal.Value.Mp m c) (Cert.OutIdeal.Value.Ms m c) (fun k j => Cert.OutIdeal.Value.Wo m c (ix3 0 k j)) (y 0).val (y 1),
    fun c y => residN (Ideal.ofBits .f32 0x3F800000#32) (Cert.OutIdeal.Value.Xp m c) (Cert.OutIdeal.Value.Xs m c) (Cert.OutIdeal.Value.Mp m c) (Cert.OutIdeal.Value.Ms m c) (fun k j => Cert.OutIdeal.Value.Wo m c (ix3 0 k j)) (Cert.OutIdeal.Value.Gn m c) (y 0).val (y 1),
    fun c y => residS (Ideal.ofBits .f32 0x3F800000#32) (Cert.OutIdeal.Value.Xp m c) (Cert.OutIdeal.Value.Xs m c) (Cert.OutIdeal.Value.Mp m c) (Cert.OutIdeal.Value.Ms m c) (fun k j => Cert.OutIdeal.Value.Wo m c (ix3 0 k j)) (y 0).val, ?_, ?_⟩
  · refine (θ_run Cert.OutIdeal.defs _ _).mono (fun r h c => ?_) (Cert.OutIdeal.Value.run_blocks m g)
    obtain ⟨h0, h1, h2, hargs⟩ := h c
    exact ⟨h0.trans (Cert.OutIdeal.Value.final0 m c), h1.trans (Cert.OutIdeal.Value.final1 m c), h2.trans (Cert.OutIdeal.Value.final2 m c), hargs⟩
  · refine (θ_run Cert.OutReferenceIdeal.defs _ _).mono (fun r h c => ?_) (Cert.OutReferenceIdeal.Value.run m' g')
    obtain ⟨h0, h1, h2, hargs⟩ := h c
    obtain ⟨e0, e1, e2, e3, e4, e5⟩ := hm c
    refine ⟨h0.trans ?_, h1.trans ?_, h2.trans ?_, hargs⟩
    · rw [e0, e1, e2, e3, e4]
      exact Cert.OutReferenceIdeal.Value.res0_one _ _ _ _ _
    · rw [e0, e1, e2, e3, e4, e5]
      exact Cert.OutReferenceIdeal.Value.res1_one _ _ _ _ _ _
    · rw [e0, e1, e2, e3, e4]
      exact Cert.OutReferenceIdeal.Value.res2_one _ _ _ _ _

theorem feed_algebraic : Cert.algebraic_FeedIdeal_FeedReferenceIdeal := by
  intro m g m' g' _ hm
  refine ⟨fun c y => resid (Ideal.ofBits .f32 0x3F000000#32) (Cert.FeedIdeal.Value.Xp m c) (Cert.FeedIdeal.Value.Xs m c) (Cert.FeedIdeal.Value.Mp m c) (Cert.FeedIdeal.Value.Ms m c) (fun k j => Cert.FeedIdeal.Value.W2 m c (ix2 k j)) (y 0).val (y 1),
    fun c y => residN (Ideal.ofBits .f32 0x3F000000#32) (Cert.FeedIdeal.Value.Xp m c) (Cert.FeedIdeal.Value.Xs m c) (Cert.FeedIdeal.Value.Mp m c) (Cert.FeedIdeal.Value.Ms m c) (fun k j => Cert.FeedIdeal.Value.W2 m c (ix2 k j)) (Cert.FeedIdeal.Value.Gn m c) (y 0).val (y 1),
    fun c y => residS (Ideal.ofBits .f32 0x3F000000#32) (Cert.FeedIdeal.Value.Xp m c) (Cert.FeedIdeal.Value.Xs m c) (Cert.FeedIdeal.Value.Mp m c) (Cert.FeedIdeal.Value.Ms m c) (fun k j => Cert.FeedIdeal.Value.W2 m c (ix2 k j)) (y 0).val, ?_, ?_⟩
  · refine (θ_run Cert.FeedIdeal.defs _ _).mono (fun r h c => ?_) (Cert.FeedIdeal.Value.run_blocks m g)
    obtain ⟨h0, h1, h2, hargs⟩ := h c
    exact ⟨h0.trans (Cert.FeedIdeal.Value.final0 m c), h1.trans (Cert.FeedIdeal.Value.final1 m c), h2.trans (Cert.FeedIdeal.Value.final2 m c), hargs⟩
  · refine (θ_run Cert.FeedReferenceIdeal.defs _ _).mono (fun r h c => ?_) (Cert.FeedReferenceIdeal.Value.run m' g')
    obtain ⟨h0, h1, h2, hargs⟩ := h c
    obtain ⟨e0, e1, e2, e3, e4, e5⟩ := hm c
    refine ⟨h0.trans ?_, h1.trans ?_, h2.trans ?_, hargs⟩
    · rw [e0, e1, e2, e3, e4]
      exact Cert.FeedReferenceIdeal.Value.res0_eq _ _ _ _ _
    · rw [e0, e1, e2, e3, e4, e5]
      exact Cert.FeedReferenceIdeal.Value.res1_eq _ _ _ _ _ _
    · rw [e0, e1, e2, e3, e4]
      exact Cert.FeedReferenceIdeal.Value.res2_eq _ _ _ _ _

end Cert.Mix
-- ==== Proof.Mix.KeysRun.lean ====
module

public import proofs.«01_k».proof.Proof.Gen.KeysIdeal.Frame.Runs

@[expose] public section

set_option maxRecDepth 16384

noncomputable section

namespace Cert.KeysIdeal.Run

open Cert.KeysIdeal Cert.KeysIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave in each output, last store first, and that the body, run from its inputs, leaves it there. -/
noncomputable def kernelRun0_A (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) :
    Σ' (L14 : List (View.Piece (Elt F) S256x1024 .bf16)), Σ' (L15 : List (View.Piece (Elt F) S256x256 .f32)), Σ' (L16 : List (View.Piece (Elt F) S256x256 .f32)), Σ' (L17 : List (View.Piece (Elt F) S256x256 .bf16)), Σ' (L18 : List (View.Piece (Elt F) S256x256 .bf16)), Σ' (L19 : List (View.Piece (Elt F) S256x2048 .bf16)), Σ' (L20 : List (View.Piece (Elt F) S256x128 .f32)), Σ' (L21 : List (View.Piece (Elt F) S256x128 .bf16)), { L22 : List (View.Piece (Elt F) S256x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22)) -∗ K ⟨⟩))
          ⊢ wp frame (wpE (defs₀ (F := F)) Variants.none c none) E (cc0_attn_prelude i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, fun E K => ?run⟩
  case run =>
    simp only [cc0_attn_prelude_eq_skeleton]; unfold cc0_attn_prelude_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22

end Cert.KeysIdeal.Run

end
-- ==== Proof.Mix.KeysFrame.lean ====
module

public import proofs.«01_k».proof.Proof.Mix.KeysRun
public import Idealize.ShloMosaic.Lib.Claim

@[expose] public section

set_option maxRecDepth 16384

noncomputable section

namespace Cert.KeysIdeal.Run

open Cert.KeysIdeal Cert.KeysIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores into output 14 tile its block, so they cover it. -/
theorem cover0_A_14 (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).1 S256x128.size (by sl_kernel_rfl) y

/-- What the run leaves of output 14. -/
def out0_A_14 (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) : Vec F S256x1024 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).1)

/-- The stores into output 15 tile its block, so they cover it. -/
theorem cover0_A_15 (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) (y : S256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.1 S256x128.size (by sl_kernel_rfl) y

/-- What the run leaves of output 15. -/
def out0_A_15 (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) : Vec F S256x256 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.1)

/-- The stores into output 16 tile its block, so they cover it. -/
theorem cover0_A_16 (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) (y : S256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.1 S256x256.size (by sl_kernel_rfl) y

/-- What the run leaves of output 16. -/
def out0_A_16 (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) : Vec F S256x256 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.1)

/-- The stores into output 17 tile its block, so they cover it. -/
theorem cover0_A_17 (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) (y : S256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.1 S256x128.size (by sl_kernel_rfl) y

/-- What the run leaves of output 17. -/
def out0_A_17 (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) : Vec F S256x256 .bf16 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.1)

/-- The stores into output 18 tile its block, so they cover it. -/
theorem cover0_A_18 (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) (y : S256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.1 S256x256.size (by sl_kernel_rfl) y

/-- What the run leaves of output 18. -/
def out0_A_18 (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) : Vec F S256x256 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.1)

/-- The stores into output 19 tile its block, so they cover it. -/
theorem cover0_A_19 (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) (y : S256x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.1 S256x128.size (by sl_kernel_rfl) y

/-- What the run leaves of output 19. -/
def out0_A_19 (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) : Vec F S256x2048 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.1)

/-- The stores into output 20 tile its block, so they cover it. -/
theorem cover0_A_20 (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.1 S256x128.size (by sl_kernel_rfl) y

/-- What the run leaves of output 20. -/
def out0_A_20 (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) : Vec F S256x128 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.1)

/-- The stores into output 21 tile its block, so they cover it. -/
theorem cover0_A_21 (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.1 S256x128.size (by sl_kernel_rfl) y

/-- What the run leaves of output 21. -/
def out0_A_21 (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) : Vec F S256x128 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.1)

/-- The stores into output 22 tile its block, so they cover it. -/
theorem cover0_A_22 (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) (y : S256x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.2.1 S256x128.size (by sl_kernel_rfl) y

/-- What the run leaves of output 22. -/
def out0_A_22 (c : Dev nD) (i : grid0.Coords) (arg1 : Memref sig .tc .vmem S256x1024 .f32) (harg1 : arg1.IsWhole) (arg2 : Memref sig .tc .vmem S256x256 .f32) (harg2 : arg2.IsWhole) (arg3 : Memref sig .tc .vmem S256x256 .f32) (harg3 : arg3.IsWhole) (arg4 : Memref sig .tc .vmem S256x2048 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S256x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S256x1024 .bf16) (harg15 : arg15.IsWhole) (arg16 : Memref sig .tc .vmem S256x256 .f32) (harg16 : arg16.IsWhole) (arg17 : Memref sig .tc .vmem S256x256 .f32) (harg17 : arg17.IsWhole) (arg18 : Memref sig .tc .vmem S256x256 .bf16) (harg18 : arg18.IsWhole) (arg19 : Memref sig .tc .vmem S256x256 .bf16) (harg19 : arg19.IsWhole) (arg20 : Memref sig .tc .vmem S256x2048 .bf16) (harg20 : arg20.IsWhole) (arg21 : Memref sig .tc .vmem S256x128 .f32) (harg21 : arg21.IsWhole) (arg22 : Memref sig .tc .vmem S256x128 .bf16) (harg22 : arg22.IsWhole) (arg23 : Memref sig .tc .vmem S256x128 .f32) (harg23 : arg23.IsWhole)
    (x0 : Vec F S256x1024 .f32) (x1 : Vec F S256x256 .f32) (x2 : Vec F S256x256 .f32) (x3 : Vec F S256x2048 .f32) (x4 : Vec F S256x128 .f32) (x5 : Vec F S256x128 .f32) (x6 : Vec F S256x128 .f32) (x7 : Vec F S256x128 .f32) (x8 : Vec F S256x128 .f32) (x9 : Vec F S256x128 .f32) (x10 : Vec F S1x1x128 .f32) (x11 : Vec F S1x1x128 .f32) (x12 : Vec F S1x1x128 .f32) (x13 : Vec F S1x1x128 .f32) : Vec F S256x128 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.2.1)

/-! ## What the outputs hold after each point -/

/-- What the outputs hold after the body at point `t`, one after the other. -/
def outsAt0 (c : Dev nD) (t : Fin cfg0.N) : Vec F S256x1024 .bf16 × Vec F S256x256 .f32 × Vec F S256x256 .f32 × Vec F S256x256 .bf16 × Vec F S256x256 .bf16 × Vec F S256x2048 .bf16 × Vec F S256x128 .f32 × Vec F S256x128 .bf16 × Vec F S256x128 .f32 :=
  (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t))

/-! ## The pipeline's proof data -/

/-- What the run on core `c` is to keep: the arrays as it finds them; after the body at a point, each input's block and each output's contents; nothing owed. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => X0_4 m c t
    | ⟨5, _⟩ => X0_5 m c t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t).1
    | ⟨15, _⟩ => (outsAt0 m c t).2.1
    | ⟨16, _⟩ => (outsAt0 m c t).2.2.1
    | ⟨17, _⟩ => (outsAt0 m c t).2.2.2.1
    | ⟨18, _⟩ => (outsAt0 m c t).2.2.2.2.1
    | ⟨19, _⟩ => (outsAt0 m c t).2.2.2.2.2.1
    | ⟨20, _⟩ => (outsAt0 m c t).2.2.2.2.2.2.1
    | ⟨21, _⟩ => (outsAt0 m c t).2.2.2.2.2.2.2.1
    | ⟨22, _⟩ => (outsAt0 m c t).2.2.2.2.2.2.2.2
    | ⟨_ + 23, h⟩ => absurd h (Nat.not_lt.2 (Nat.le_add_left _ _))
  Φ _ := Pipeline.ΦA spec0 c
  q w := Pipeline.shareOf spec0 w
  owed _ := 0

/-- The arrays are those the run finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t).1 := by dsimp only [dats]
theorem after0_15 (c : Dev nD) (t : Fin cfg0.N) : (dats m 0 c).after 15 t = (outsAt0 m c t).2.1 := by dsimp only [dats]
theorem after0_16 (c : Dev nD) (t : Fin cfg0.N) : (dats m 0 c).after 16 t = (outsAt0 m c t).2.2.1 := by dsimp only [dats]
theorem after0_17 (c : Dev nD) (t : Fin cfg0.N) : (dats m 0 c).after 17 t = (outsAt0 m c t).2.2.2.1 := by dsimp only [dats]
theorem after0_18 (c : Dev nD) (t : Fin cfg0.N) : (dats m 0 c).after 18 t = (outsAt0 m c t).2.2.2.2.1 := by dsimp only [dats]
theorem after0_19 (c : Dev nD) (t : Fin cfg0.N) : (dats m 0 c).after 19 t = (outsAt0 m c t).2.2.2.2.2.1 := by dsimp only [dats]
theorem after0_20 (c : Dev nD) (t : Fin cfg0.N) : (dats m 0 c).after 20 t = (outsAt0 m c t).2.2.2.2.2.2.1 := by dsimp only [dats]
theorem after0_21 (c : Dev nD) (t : Fin cfg0.N) : (dats m 0 c).after 21 t = (outsAt0 m c t).2.2.2.2.2.2.2.1 := by dsimp only [dats]
theorem after0_22 (c : Dev nD) (t : Fin cfg0.N) : (dats m 0 c).after 22 t = (outsAt0 m c t).2.2.2.2.2.2.2.2 := by dsimp only [dats]

/-- Each input holds its block at every point. -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2000000 in
/-- The body at any point: its inputs hold their blocks, and it leaves its outputs as stated. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  unfold outsAt0
  unfold out0_A_14 out0_A_15 out0_A_16 out0_A_17 out0_A_18 out0_A_19 out0_A_20 out0_A_21 out0_A_22; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ (X0_0 m c t) (X0_1 m c t) (X0_2 m c t) (X0_3 m c t) (X0_4 m c t) (X0_5 m c t) (iblk m c 6 t) (iblk m c 7 t) (iblk m c 8 t) (iblk m c 9 t) (iblk m c 10 t) (iblk m c 11 t) (iblk m c 12 t) (iblk m c 13 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body at point `t`, as it is called. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The body keeps what it is to keep, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run ends with the arrays as stated and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- From any memory with zero counters the run ends, the outputs' arrays as stated and every other array as found. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The run ends, its argument arrays unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KeysIdeal.Run

end
-- ==== Proof.Mix.Rope.lean ====
module

public import Idealize.ShloMosaic.Lib.Claim
public import Idealize.ShloMosaic.Lib.Pointwise

@[expose] public section

noncomputable section
open Idealize.ShloMosaic
/-! The rotary embedding, the norm of a key and the layer norm of an indexer key, over rows of extended reals. -/

namespace Cert.Mix

/-- The angle of lane `d` at position `s`, for a rotation of `2 * half` lanes whose count is the float `w`. -/
def ang (w : BitVec 32) (s d : ℕ) : EReal :=
  FloatOps.sitofp (F := Ideal) FTy.f32 (BitVec.ofNat 32 s) *
    Ideal.pow (Ideal.ofBits .f32 0x461C4000#32)
      (Ideal.div (-(Ideal.ofBits .f32 0x40000000#32 * FloatOps.sitofp (F := Ideal) FTy.f32 (BitVec.ofNat 32 d))) (Ideal.ofBits .f32 w))

/-- The root mean square norm of a row with its weights. -/
def rms (x g : Fin 128 → EReal) (d : Fin 128) : EReal :=
  x d * Ideal.rsqrt (Ideal.div (∑ e, x e * x e) (Ideal.ofBits .f32 0x43000000#32) + Ideal.ofBits .f32 0x358637BD#32) * g d

/-- A row's mean. -/
def mean (x : Fin 128 → EReal) : EReal := Ideal.div (∑ e, x e) (Ideal.ofBits .f32 0x43000000#32)

/-- The layer norm of a row with its weights and offsets. -/
def lnorm (x g b : Fin 128 → EReal) (d : Fin 128) : EReal :=
  (x d - mean x) *
    Ideal.rsqrt (Ideal.div (∑ e, (x e - mean x) * (x e - mean x)) (Ideal.ofBits .f32 0x43000000#32) + Ideal.ofBits .f32 0x358637BD#32) * g d + b d

/-- The rotation of all 128 lanes of a row at position `s`. -/
def ropeA (x : Fin 128 → EReal) (s : ℕ) (d : Fin 128) : EReal :=
  if h : d.val < 64 then
    x d * Ideal.cos (ang 0x43000000#32 s d.val) - x ⟨d.val + 64, by omega⟩ * Ideal.sin (ang 0x43000000#32 s d.val)
  else
    x d * Ideal.cos (ang 0x43000000#32 s (d.val - 64)) + x ⟨d.val - 64, by omega⟩ * Ideal.sin (ang 0x43000000#32 s (d.val - 64))

/-- The rotation of the first 64 of 128 lanes of a row at position `s`. -/
def ropeI (x : Fin 128 → EReal) (s : ℕ) (d : Fin 128) : EReal :=
  if h : d.val < 32 then
    x d * Ideal.cos (ang 0x42800000#32 s d.val) - x ⟨d.val + 32, by omega⟩ * Ideal.sin (ang 0x42800000#32 s d.val)
  else if d.val < 64 then
    x d * Ideal.cos (ang 0x42800000#32 s (d.val - 32)) + x ⟨d.val - 32, by omega⟩ * Ideal.sin (ang 0x42800000#32 s (d.val - 32))
  else x d

/-- The two tables of the full rotation. -/
def cosA (s d : ℕ) : EReal := Ideal.cos (ang 0x43000000#32 s (if d < 64 then d else d - 64))
@[inherit_doc cosA]
def sinA (s d : ℕ) : EReal :=
  if d < 64 then -Ideal.sin (ang 0x43000000#32 s d) else Ideal.sin (ang 0x43000000#32 s (d - 64))
/-- The two tables of the half rotation. -/
def cosI (s d : ℕ) : EReal :=
  if d < 32 then Ideal.cos (ang 0x42800000#32 s d) else if d < 64 then Ideal.cos (ang 0x42800000#32 s (d - 32)) else 1
@[inherit_doc cosI]
def sinI (s d : ℕ) : EReal :=
  if d < 32 then -Ideal.sin (ang 0x42800000#32 s d) else if d < 64 then Ideal.sin (ang 0x42800000#32 s (d - 32)) else 0

/-- The full rotation by its tables: every lane and its partner 64 lanes away. -/
theorem ropeA_eq (x : Fin 128 → EReal) (s : ℕ) (d : Fin 128) (j : ℕ) (hj : j < 128) (h : j = (d.val + 64) % 128) :
    x d * cosA s d.val + x ⟨j, hj⟩ * sinA s d.val = ropeA x s d := by
  subst h
  unfold cosA sinA ropeA
  split
  · rename_i h
    have e : (⟨(d.val + 64) % 128, hj⟩ : Fin 128) = ⟨d.val + 64, by omega⟩ := Fin.ext (by simp only; omega)
    rw [e, mul_neg, ← sub_eq_add_neg]
  · have e : (⟨(d.val + 64) % 128, hj⟩ : Fin 128) = ⟨d.val - 64, by omega⟩ := Fin.ext (by simp only; omega)
    rw [e]

/-- The half rotation by its tables: every lane and its partner 32 lanes above or below. -/
theorem ropeI_eq (x : Fin 128 → EReal) (s : ℕ) (d : Fin 128) (j : ℕ) (hj : j < 128)
    (h : j = if d.val < 32 then (d.val + 32) % 128 else (d.val + 96) % 128) :
    x d * cosI s d.val + x ⟨j, hj⟩ * sinI s d.val = ropeI x s d := by
  unfold cosI sinI ropeI
  have := d.isLt
  split
  · rename_i h'
    rw [if_pos h'] at h
    have e : (⟨j, hj⟩ : Fin 128) = ⟨d.val + 32, by omega⟩ := Fin.ext (by simp only; omega)
    rw [e, mul_neg, ← sub_eq_add_neg]
  · rename_i h'
    rw [if_neg h'] at h
    split
    · have e : (⟨j, hj⟩ : Fin 128) = ⟨d.val - 32, by omega⟩ := Fin.ext (by simp only; omega)
      rw [e]
    · rw [mul_one, mul_zero, add_zero]

/-- A token's two keys in one row: each head's norm, then the rotation at position `s`. -/
def keyRow (x : Fin 256 → EReal) (g : Fin 128 → EReal) (s : ℕ) (j : Fin 256) : EReal :=
  ropeA (rms (fun e => x ⟨j.val / 128 * 128 + e.val, by omega⟩) g) s ⟨j.val % 128, Nat.mod_lt _ (by decide)⟩

/-- The comparison of a lane's number with 32, read off. -/
theorem select_lane (d : Fin 128) (a b : EReal) :
    Scalar.select (α := EReal) (IntOp.cmpi CmpIPredicate.slt (BitVec.ofNat 32 d.val) 32#32) a b = if d.val < 32 then a else b := by
  have h : ∀ d : Fin 128, IntOp.cmpi CmpIPredicate.slt (BitVec.ofNat 32 d.val) 32#32 = if d.val < 32 then 1#1 else 0#1 := by decide
  rw [h d]
  split <;> rfl

end Cert.Mix
-- ==== Proof.Mix.KeysVal.lean ====
module

public import proofs.«01_k».proof.Proof.Mix.KeysFrame
public import proofs.«01_k».proof.Proof.Mix.Rope
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead

@[expose] public section

set_option maxRecDepth 16384
noncomputable section
open Idealize.ShloMosaic Idealize.ShloMosaic.TcCoe Idealize.SL.Sem
open Idealize.ShloMosaic.Pipeline (Dat)
/-! The prompt's keys, values and indexer keys: the arguments of the call, what its step stores, and the three arrays it leaves. -/

namespace Cert.KeysIdeal.Run
open Cert.KeysIdeal Cert.KeysIdeal.Gen Cert.Mix
variable (m : (ℓ : Loc nD τ sig) → Buf (Elt Ideal) ℓ)

/-- A key of the first head. -/
theorem pay_k0 (ca sa x : Vec Ideal S256x128 .f32) (g : Vec Ideal S1x1x128 .f32) (r : Fin 256) (d : Fin 128) :
    k0_pay25 (F := Ideal) (k0_pay2 ca) (k0_pay3 sa) (k0_pay21 x) (k0_pay22 g) (k0_pay23 x) k0_pay24 (ix2 r d) =
      rms (fun e => x (ix2 r e)) (fun e => g (ix3 0 0 e)) d * ca (ix2 r d) +
        rms (fun e => x (ix2 r e)) (fun e => g (ix3 0 0 e)) ⟨(d.val + 64) % 128, Nat.mod_lt _ (by decide)⟩ * sa (ix2 r d) := by
  pointwise [k0_pay25, k0_pay2, k0_pay3, k0_pay21, k0_pay22, k0_pay23, k0_pay24]
  rfl

/-- A key of the second head. -/
theorem pay_k1 (ca sa x : Vec Ideal S256x128 .f32) (g : Vec Ideal S1x1x128 .f32) (r : Fin 256) (d : Fin 128) :
    k0_pay31 (F := Ideal) (k0_pay3 sa) (k0_pay28 x g) (k0_pay29 x g) (iota Kind.tc S256x128 32 [1] iota_S256x128_d1_w32)
        (k0_pay30 (k0_pay2 ca) x g) (ix2 r d) =
      rms (fun e => x (ix2 r e)) (fun e => g (ix3 0 0 e)) d * ca (ix2 r d) +
        rms (fun e => x (ix2 r e)) (fun e => g (ix3 0 0 e)) ⟨(d.val + 64) % 128, Nat.mod_lt _ (by decide)⟩ * sa (ix2 r d) := by
  pointwise [k0_pay31, k0_pay2, k0_pay3, k0_pay26, k0_pay27, k0_pay28, k0_pay29, k0_pay30]
  rfl

/-- A value is its column. -/
theorem pay_v (x : Vec Ideal S256x256 .f32) (r : Fin 256) (j : Fin 256) : k0_pay33 (F := Ideal) x (ix2 r j) = x (ix2 r j) := by
  pointwise [k0_pay33]

/-- An indexer key. -/
theorem pay_i (ci si x : Vec Ideal S256x128 .f32) (g b : Vec Ideal S1x1x128 .f32) (r : Fin 256) (d : Fin 128) :
    k0_pay62 (F := Ideal) (k0_pay4 ci) (k0_pay5 si) (k0_pay60 x) (k0_pay61 x) (FloatOps.ofBits FTy.f32 1124073472#32) g b (ix2 r d) =
      lnorm (fun e => x (ix2 r e)) (fun e => g (ix3 0 0 e)) (fun e => b (ix3 0 0 e)) d * ci (ix2 r d) +
        lnorm (fun e => x (ix2 r e)) (fun e => g (ix3 0 0 e)) (fun e => b (ix3 0 0 e))
          ⟨if d.val < 32 then (d.val + 128 - 96) % 128 else (d.val + 128 - 32) % 128, by split <;> exact Nat.mod_lt _ (by decide)⟩ * si (ix2 r d) := by
  pointwise [k0_pay62, k0_pay4, k0_pay5, k0_pay60, k0_pay61]
  rw [select_lane]
  by_cases h : d.val < 32
  · simp only [if_pos h]; rfl
  · simp only [if_neg h]; rfl

/-- A load of one head's columns, at an index. -/
theorem ld1 (X : Vec Ideal S256x256 .f32) (r : Fin 256) (e : Fin 128) :
    View.ld X (Rect.unit ![0, 128] ![256, 128] inb_S256x256_S256x128_0_128) (ix2 r e) = X (ix2 r ⟨128 + e.val, by omega⟩) := by pointwise
@[inherit_doc ld1]
theorem ld0 (X : Vec Ideal S256x256 .f32) (r : Fin 256) (e : Fin 128) :
    View.ld X (Rect.unit ![0, 0] ![256, 128] inb_S256x256_S256x128_0_0) (ix2 r e) = X (ix2 r ⟨e.val, by omega⟩) := by pointwise

theorem v31 (c : Dev nD) (s : Fin 2048) (d : Fin 128) : V m c main_v31 (ix2 s d) = cosA s.val d.val := by
  unfold_abbrev_sides
  after_reads_simp
  try dsimp only [Matrix.cons_val]
  try after_reads_simp
  pointwise
  have := d.isLt
  unfold cosA
  split
  · rfl
  · rw [dif_pos (by omega)]; rfl

theorem v33 (c : Dev nD) (s : Fin 2048) (d : Fin 128) : V m c main_v33 (ix2 s d) = sinA s.val d.val := by
  unfold_abbrev_sides
  after_reads_simp
  try dsimp only [Matrix.cons_val]
  try after_reads_simp
  pointwise
  have := d.isLt
  unfold sinA
  split
  · rfl
  · rw [dif_pos (by omega)]; rfl

theorem v44 (c : Dev nD) (s : Fin 2048) (d : Fin 128) : V m c main_v44 (ix2 s d) = cosI s.val d.val := by
  unfold_abbrev_sides
  after_reads_simp
  try dsimp only [Matrix.cons_val]
  try after_reads_simp
  pointwise
  unfold cosI
  split
  · rfl
  · split
    · rw [if_pos (by omega)]; rfl
    · rw [if_neg (by omega)]

theorem v46 (c : Dev nD) (s : Fin 2048) (d : Fin 128) : V m c main_v46 (ix2 s d) = sinI s.val d.val := by
  unfold_abbrev_sides
  after_reads_simp
  try dsimp only [Matrix.cons_val]
  try after_reads_simp
  pointwise
  unfold sinI
  split
  · rfl
  · split
    · rw [if_pos (by omega)]; rfl
    · rw [if_neg (by omega)]

theorem vk (c : Dev nD) (j : Fin 128) : V m c main_v59 (ix3 0 0 j) = m ((c : Thread nD τ).loc main_arg3) (ix2 0 j) := by
  unfold_abbrev_sides
  after_reads_simp
  pointwise
theorem vg (c : Dev nD) (j : Fin 128) : V m c main_v60 (ix3 0 0 j) = m ((c : Thread nD τ).loc main_arg4) (ix2 0 j) := by
  unfold_abbrev_sides
  after_reads_simp
  pointwise
theorem vb (c : Dev nD) (j : Fin 128) : V m c main_v61 (ix3 0 0 j) = m ((c : Thread nD τ).loc main_arg5) (ix2 0 j) := by
  unfold_abbrev_sides
  after_reads_simp
  pointwise

/-- The prompt's rows of the projection, before their columns are put in the kernel's order. -/
theorem u47 (c : Dev nD) (b : Fin 4) (s : Fin 2048) (k : Fin 8192) (l l' : Fin 24208) (hk : k.val = 2048 * b.val + s.val) (hl : l.val = l'.val) :
    StableHlo.upto hostOps0 (fun b => m (c, b)) 63 (Proc.tc.devRef main_v47) (ix2 k l) = m ((c : Thread nD τ).loc main_arg0) (ix3 b s l') := by
  obtain rfl : l = l' := Fin.ext hl
  obtain ⟨k, hk'⟩ := k
  obtain rfl : k = _ := hk
  after_reads_simp
  pointwise

theorem zk (c : Dev nD) (b : Fin 4) (s : Fin 2048) (j : Fin 256) (k : Fin 8320) (l : Fin 24320) (hk : k.val = 2048 * b.val + s.val)
    (hl : l.val = 23552 + j.val) : V m c main_v57 (ix2 k l) = m ((c : Thread nD τ).loc main_arg0) (ix3 b s ⟨5120 + j.val, by omega⟩) := by
  obtain ⟨l, hl'⟩ := l
  obtain rfl : l = _ := hl
  obtain ⟨k, hk'⟩ := k
  obtain rfl : k = _ := hk
  unfold_abbrev_sides
  after_reads_simp
  try dsimp only [Matrix.cons_val]
  pointwise
  repeat (first | rw [dif_neg (by omega)] | rw [dif_pos (by omega)])
  after_reads_simp
  try dsimp only [Matrix.cons_val]
  pointwise
  rw [dif_pos (by omega)]
  exact u47 m c b s _ _ _ rfl (by simp only; omega)

theorem zv (c : Dev nD) (b : Fin 4) (s : Fin 2048) (j : Fin 256) (k : Fin 8320) (l : Fin 24320) (hk : k.val = 2048 * b.val + s.val)
    (hl : l.val = 23808 + j.val) : V m c main_v57 (ix2 k l) = m ((c : Thread nD τ).loc main_arg0) (ix3 b s ⟨5376 + j.val, by omega⟩) := by
  obtain ⟨l, hl'⟩ := l
  obtain rfl : l = _ := hl
  obtain ⟨k, hk'⟩ := k
  obtain rfl : k = _ := hk
  unfold_abbrev_sides
  after_reads_simp
  try dsimp only [Matrix.cons_val]
  pointwise
  repeat (first | rw [dif_neg (by omega)] | rw [dif_pos (by omega)])
  after_reads_simp
  try dsimp only [Matrix.cons_val]
  pointwise
  rw [dif_pos (by omega)]
  exact u47 m c b s _ _ _ rfl (by simp only; omega)

theorem zi (c : Dev nD) (b : Fin 4) (s : Fin 2048) (j : Fin 128) (k : Fin 8320) (l : Fin 24320) (hk : k.val = 2048 * b.val + s.val)
    (hl : l.val = 24064 + j.val) : V m c main_v57 (ix2 k l) = m ((c : Thread nD τ).loc main_arg0) (ix3 b s ⟨7680 + j.val, by omega⟩) := by
  obtain ⟨l, hl'⟩ := l
  obtain rfl : l = _ := hl
  obtain ⟨k, hk'⟩ := k
  obtain rfl : k = _ := hk
  unfold_abbrev_sides
  after_reads_simp
  try dsimp only [Matrix.cons_val]
  pointwise
  repeat (first | rw [dif_neg (by omega)] | rw [dif_pos (by omega)])
  after_reads_simp
  try dsimp only [Matrix.cons_val]
  pointwise
  rw [dif_pos (by omega)]
  exact u47 m c b s _ _ _ rfl (by simp only; omega)

/-- A prompt token's row of the projection, from column `o` on. -/
abbrev Zr (c : Dev nD) (b : Fin 4) (s : Fin 2048) (o : ℕ) (ho : o + 256 ≤ 24208) (e : Fin 256) : EReal :=
  m ((c : Thread nD τ).loc main_arg0) (ix3 b s ⟨o + e.val, by omega⟩)
/-- The first layer's key norm, indexer weights and indexer offsets. -/
abbrev Kn (c : Dev nD) (e : Fin 128) : EReal := m ((c : Thread nD τ).loc main_arg3) (ix2 0 e)
@[inherit_doc Kn] abbrev Gi (c : Dev nD) (e : Fin 128) : EReal := m ((c : Thread nD τ).loc main_arg4) (ix2 0 e)
@[inherit_doc Kn] abbrev Bi (c : Dev nD) (e : Fin 128) : EReal := m ((c : Thread nD τ).loc main_arg5) (ix2 0 e)

theorem idx : ∀ t : Fin cfg0.N, win0_1.index t = ![t.val, 92] ∧ win0_2.index t = ![t.val, 93] ∧ win0_4.index t = ![t.val, 188] ∧
    win0_6.index t = ![t.val % 8, 0] ∧ win0_7.index t = ![t.val % 8, 0] ∧ win0_8.index t = ![t.val % 8, 0] ∧ win0_9.index t = ![t.val % 8, 0] ∧
    win0_11.index t = ![0, 0, 0] ∧ win0_12.index t = ![0, 0, 0] ∧ win0_13.index t = ![0, 0, 0] ∧
    win0_15.index t = ![t.val, 0] ∧ win0_16.index t = ![t.val, 0] ∧ win0_20.index t = ![t.val, 0] ∧ t.val < 32 :=
  (by decide +kernel : ∀ t : Fin grid0.N, _)

/-- A row's position in its sequence and the sequence's place in the batch. -/
abbrev bt (n : Fin 8192) : Fin 4 := ⟨n.val / 2048, by omega⟩
@[inherit_doc bt] abbrev st (n : Fin 8192) : Fin 2048 := ⟨n.val % 2048, Nat.mod_lt _ (by decide)⟩

variable (c : Dev nD) (t : Fin cfg0.N)

theorem b1 (r : Fin 256) (n : Fin 8192) (j : Fin 256) (hn : n.val = t.val * 256 + r.val) :
    X0_1 m c t (ix2 r j) = Zr m c (bt n) (st n) 5120 (by decide) j := by
  refine Eq.trans ?_ (zk m c (bt n) (st n) j ⟨n.val, by omega⟩ ⟨23552 + j.val, by omega⟩ (by simp only [bt, st]; omega) rfl)
  have h : ∀ (g : ((cfg0.win 1).xblock (cfg0.grid.coords t)).Idx → EReal) d, (cfg0.win 1).fill (cfg0.grid.coords t) d g (ix2 r j) =
      g (fun a => ⟨((ix2 r j : (cfg0.win 1).block.Idx) a).val, ((cfg0.win 1).moved_iff _ _).mp (moved0_1 t (ix2 r j)) a⟩) := by
    intro g d
    unfold Pipeline.Window.fill; rw [dif_pos (moved0_1 t (ix2 r j))]
  refine Eq.trans (h _ _) ?_
  have e := (idx t).1
  unfold iblk
  blk_point [e]

theorem b2 (r : Fin 256) (n : Fin 8192) (j : Fin 256) (hn : n.val = t.val * 256 + r.val) :
    X0_2 m c t (ix2 r j) = Zr m c (bt n) (st n) 5376 (by decide) j := by
  refine Eq.trans ?_ (zv m c (bt n) (st n) j ⟨n.val, by omega⟩ ⟨23808 + j.val, by omega⟩ (by simp only [bt, st]; omega) rfl)
  have h : ∀ (g : ((cfg0.win 2).xblock (cfg0.grid.coords t)).Idx → EReal) d, (cfg0.win 2).fill (cfg0.grid.coords t) d g (ix2 r j) =
      g (fun a => ⟨((ix2 r j : (cfg0.win 2).block.Idx) a).val, ((cfg0.win 2).moved_iff _ _).mp (moved0_2 t (ix2 r j)) a⟩) := by
    intro g d
    unfold Pipeline.Window.fill; rw [dif_pos (moved0_2 t (ix2 r j))]
  refine Eq.trans (h _ _) ?_
  have e := (idx t).2.1
  unfold iblk
  blk_point [e]

theorem b4 (r : Fin 256) (n : Fin 8192) (j : Fin 128) (hn : n.val = t.val * 256 + r.val) :
    X0_4 m c t (ix2 r j) = m ((c : Thread nD τ).loc main_arg0) (ix3 (bt n) (st n) ⟨7680 + j.val, by omega⟩) := by
  refine Eq.trans ?_ (zi m c (bt n) (st n) j ⟨n.val, by omega⟩ ⟨24064 + j.val, by omega⟩ (by simp only [bt, st]; omega) rfl)
  have h : ∀ (g : ((cfg0.win 4).xblock (cfg0.grid.coords t)).Idx → EReal) d, (cfg0.win 4).fill (cfg0.grid.coords t) d g (ix2 r j) =
      g (fun a => ⟨((ix2 r j : (cfg0.win 4).block.Idx) a).val, ((cfg0.win 4).moved_iff _ _).mp (moved0_4 t (ix2 r j)) a⟩) := by
    intro g d
    unfold Pipeline.Window.fill; rw [dif_pos (moved0_4 t (ix2 r j))]
  refine Eq.trans (h _ _) ?_
  have e := (idx t).2.2.1
  unfold iblk
  blk_point [e]

theorem b6 (r : Fin 256) (d : Fin 128) (s : Fin 2048) (hs : s.val = t.val % 8 * 256 + r.val) : iblk m c 6 t (ix2 r d) = cosA s.val d.val := by
  rw [← v31 m c s d]
  have e := (idx t).2.2.2.1
  unfold iblk
  blk_point [e]
theorem b7 (r : Fin 256) (d : Fin 128) (s : Fin 2048) (hs : s.val = t.val % 8 * 256 + r.val) : iblk m c 7 t (ix2 r d) = sinA s.val d.val := by
  rw [← v33 m c s d]
  have e := (idx t).2.2.2.2.1
  unfold iblk
  blk_point [e]
theorem b8 (r : Fin 256) (d : Fin 128) (s : Fin 2048) (hs : s.val = t.val % 8 * 256 + r.val) : iblk m c 8 t (ix2 r d) = cosI s.val d.val := by
  rw [← v44 m c s d]
  have e := (idx t).2.2.2.2.2.1
  unfold iblk
  blk_point [e]
theorem b9 (r : Fin 256) (d : Fin 128) (s : Fin 2048) (hs : s.val = t.val % 8 * 256 + r.val) : iblk m c 9 t (ix2 r d) = sinI s.val d.val := by
  rw [← v46 m c s d]
  have e := (idx t).2.2.2.2.2.2.1
  unfold iblk
  blk_point [e]
theorem b11 (d : Fin 128) : iblk m c 11 t (ix3 0 0 d) = Kn m c d := by
  unfold Kn
  rw [← vk m c d]
  have e := (idx t).2.2.2.2.2.2.2.1
  unfold iblk
  blk_point [e]
theorem b12 (d : Fin 128) : iblk m c 12 t (ix3 0 0 d) = Gi m c d := by
  unfold Gi
  rw [← vg m c d]
  have e := (idx t).2.2.2.2.2.2.2.2.1
  unfold iblk
  blk_point [e]
theorem b13 (d : Fin 128) : iblk m c 13 t (ix3 0 0 d) = Bi m c d := by
  unfold Bi
  rw [← vb m c d]
  have e := (idx t).2.2.2.2.2.2.2.2.2.1
  unfold iblk
  blk_point [e]

/-- A row's position is its number within the sequence. -/
theorem st_eq (r : Fin 256) (n : Fin 8192) (hn : n.val = t.val * 256 + r.val) : (st n).val = t.val % 8 * 256 + r.val := by
  have := (idx t).2.2.2.2.2.2.2.2.2.2.2.2.2
  simp only [st]
  omega

/-- The first head's keys a step stores, where `x` is the head's columns of the step's rows. -/
theorem key0 (x : Vec Ideal S256x128 .f32) (r : Fin 256) (n : Fin 8192) (d : Fin 128) (j : Fin 256) (hn : n.val = t.val * 256 + r.val) (hj : j.val = d.val)
    (hx : ∀ e : Fin 128, x (ix2 r e) = Zr m c (bt n) (st n) 5120 (by decide) ⟨e.val, by omega⟩) :
    k0_pay25 (F := Ideal) (k0_pay2 (iblk m c 6 t)) (k0_pay3 (iblk m c 7 t)) (k0_pay21 x) (k0_pay22 (iblk m c 11 t)) (k0_pay23 x) k0_pay24 (ix2 r d) =
      keyRow (Zr m c (bt n) (st n) 5120 (by decide)) (Kn m c) (st n).val j := by
  rw [pay_k0, b6 m c t r d (st n) (st_eq t r n hn), b7 m c t r d (st n) (st_eq t r n hn), ropeA_eq _ _ _ _ _ rfl]
  have q : j.val / 128 = 0 := by omega
  have q' : (⟨j.val % 128, Nat.mod_lt _ (by decide)⟩ : Fin 128) = d := Fin.ext (by simp only; omega)
  simp only [keyRow, hx, b11, q, q', Nat.zero_mul, Nat.zero_add]

/-- The second head's. -/
theorem key1 (x : Vec Ideal S256x128 .f32) (r : Fin 256) (n : Fin 8192) (d : Fin 128) (j : Fin 256) (hn : n.val = t.val * 256 + r.val) (hj : j.val = 128 + d.val)
    (hx : ∀ e : Fin 128, x (ix2 r e) = Zr m c (bt n) (st n) 5120 (by decide) ⟨128 + e.val, by omega⟩) :
    k0_pay31 (F := Ideal) (k0_pay3 (iblk m c 7 t)) (k0_pay28 x (iblk m c 11 t)) (k0_pay29 x (iblk m c 11 t))
        (iota Kind.tc S256x128 32 [1] iota_S256x128_d1_w32) (k0_pay30 (k0_pay2 (iblk m c 6 t)) x (iblk m c 11 t)) (ix2 r d) =
      keyRow (Zr m c (bt n) (st n) 5120 (by decide)) (Kn m c) (st n).val j := by
  rw [pay_k1, b6 m c t r d (st n) (st_eq t r n hn), b7 m c t r d (st n) (st_eq t r n hn), ropeA_eq _ _ _ _ _ rfl]
  have q : j.val / 128 = 1 := by omega
  have q' : (⟨j.val % 128, Nat.mod_lt _ (by decide)⟩ : Fin 128) = d := Fin.ext (by simp only; omega)
  simp only [keyRow, hx, b11, q, q', Nat.one_mul]

/-- The indexer keys a step stores. -/
theorem keyI (r : Fin 256) (n : Fin 8192) (d j : Fin 128) (hn : n.val = t.val * 256 + r.val) (hj : j.val = d.val) :
    k0_pay62 (F := Ideal) (k0_pay4 (iblk m c 8 t)) (k0_pay5 (iblk m c 9 t)) (k0_pay60 (X0_4 m c t)) (k0_pay61 (X0_4 m c t))
        (FloatOps.ofBits FTy.f32 1124073472#32) (iblk m c 12 t) (iblk m c 13 t) (ix2 r d) =
      ropeI (lnorm (fun e => m ((c : Thread nD τ).loc main_arg0) (ix3 (bt n) (st n) ⟨7680 + e.val, by omega⟩)) (Gi m c) (Bi m c)) (st n).val j := by
  obtain rfl : j = d := Fin.ext hj
  rw [pay_i, b8 m c t r j (st n) (st_eq t r n hn), b9 m c t r j (st n) (st_eq t r n hn), ropeI_eq _ _ _ _ _ (by split <;> omega)]
  simp only [b4 m c t r n _ hn, b12, b13]

set_option maxHeartbeats 1600000 in
theorem final15 : (dats m 0 c).arrAt 15 cfg0.N =
    fun y => keyRow (Zr m c (bt (y 0)) (st (y 0)) 5120 (by decide)) (Kn m c) (st (y 0)).val (y 1) := by
  refine (dats m 0 c).arrAt_eq_of_covers 15 _ (by decide +kernel) fun t hf y => ?_
  blk_simp
  rw [after0_15]
  unfold outsAt0
  frame_out
  have e0 : ((win0_15.blk t).view.emb y 0).val = t.val * 256 + (y 0).val := by blk_simp [(idx t).2.2.2.2.2.2.2.2.2.2.1]
  have e1 : ((win0_15.blk t).view.emb y 1).val = (y 1).val := by blk_simp [(idx t).2.2.2.2.2.2.2.2.2.2.1]
  canon_tiles x h
  case piece0 =>
    idx_vars x
    have e2 := e0.trans (congrArg (t.val * 256 + ·) h0)
    refine key1 m c t _ x0 _ x1 _ e2 (e1.trans h1) fun e => ?_
    refine Eq.trans ?_ (b1 m c t x0 _ ⟨128 + e.val, by omega⟩ e2)
    exact ld1 _ _ _
  case piece1 =>
    idx_vars x
    have e2 := e0.trans (congrArg (t.val * 256 + ·) h0)
    refine key0 m c t _ x0 _ x1 _ e2 (e1.trans h1) fun e => ?_
    refine Eq.trans ?_ (b1 m c t x0 _ ⟨e.val, by omega⟩ e2)
    exact ld0 _ _ _

theorem final16 : (dats m 0 c).arrAt 16 cfg0.N = fun y => Zr m c (bt (y 0)) (st (y 0)) 5376 (by decide) (y 1) := by
  refine (dats m 0 c).arrAt_eq_of_covers 16 _ (by decide +kernel) fun t hf y => ?_
  blk_simp
  rw [after0_16]
  unfold outsAt0
  frame_out
  have e0 : ((win0_16.blk t).view.emb y 0).val = t.val * 256 + (y 0).val := by blk_simp [(idx t).2.2.2.2.2.2.2.2.2.2.2.1]
  have e1 : ((win0_16.blk t).view.emb y 1).val = (y 1).val := by blk_simp [(idx t).2.2.2.2.2.2.2.2.2.2.2.1]
  have y0 : (y 0).val < 256 := (y 0).isLt
  have y1 : (y 1).val < 256 := (y 1).isLt
  refine (congrArg (k0_pay33 (F := Ideal) (X0_2 m c t)) (show y = ix2 ⟨(y 0).val, y0⟩ ⟨(y 1).val, y1⟩ from ?_)).trans ?_
  · funext a; match a with | 0 => rfl | 1 => rfl
  · refine (pay_v _ _ _).trans ((b2 m c t ⟨(y 0).val, y0⟩ ((win0_16.blk t).view.emb y 0) ⟨(y 1).val, y1⟩ e0).trans ?_)
    exact congrArg (Zr m c (bt ((win0_16.blk t).view.emb y 0)) (st ((win0_16.blk t).view.emb y 0)) 5376 (by decide)) (Fin.ext e1.symm)

theorem final20 : (dats m 0 c).arrAt 20 cfg0.N =
    fun y => ropeI (lnorm (fun e => m ((c : Thread nD τ).loc main_arg0) (ix3 (bt (y 0)) (st (y 0)) ⟨7680 + e.val, by omega⟩)) (Gi m c) (Bi m c)) (st (y 0)).val (y 1) := by
  refine (dats m 0 c).arrAt_eq_of_covers 20 _ (by decide +kernel) fun t hf y => ?_
  blk_simp
  rw [after0_20]
  unfold outsAt0
  frame_out
  have e0 : ((win0_20.blk t).view.emb y 0).val = t.val * 256 + (y 0).val := by blk_simp [(idx t).2.2.2.2.2.2.2.2.2.2.2.2.1]
  have e1 : ((win0_20.blk t).view.emb y 1).val = (y 1).val := by blk_simp [(idx t).2.2.2.2.2.2.2.2.2.2.2.2.1]
  have y0 : (y 0).val < 256 := (y 0).isLt
  have y1 : (y 1).val < 128 := (y 1).isLt
  refine (congrArg (k0_pay62 (F := Ideal) (k0_pay4 (iblk m c 8 t)) (k0_pay5 (iblk m c 9 t)) (k0_pay60 (X0_4 m c t)) (k0_pay61 (X0_4 m c t))
    (FloatOps.ofBits FTy.f32 1124073472#32) (iblk m c 12 t) (iblk m c 13 t)) (show y = ix2 ⟨(y 0).val, y0⟩ ⟨(y 1).val, y1⟩ from ?_)).trans ?_
  · funext a; match a with | 0 => rfl | 1 => rfl
  · exact keyI m c t ⟨(y 0).val, y0⟩ ((win0_20.blk t).view.emb y 0) ⟨(y 1).val, y1⟩ ((win0_20.blk t).view.emb y 1) e0 e1

end Cert.KeysIdeal.Run
-- ==== Proof.Mix.KeysRef.lean ====
module

public import proofs.«01_k».proof.Proof.Gen.KeysReferenceIdeal.Run
public import proofs.«01_k».proof.Proof.Mix.Rope
public import Idealize.ShloMosaic.Lib.Claim
public import Idealize.ShloMosaic.Lib.Pointwise
public import Idealize.ShloMosaic.Lib.StableHlo.RunRead

@[expose] public section

set_option maxRecDepth 16384
noncomputable section
open Idealize.ShloMosaic Idealize.ShloMosaic.TcCoe Idealize.SL.Sem Idealize.ShloMosaic.StableHlo
/-! The reference's keys and indexer keys of the prompt, read at an index. -/

namespace Cert.KeysReferenceIdeal.Value
open Cert.KeysReferenceIdeal Cert.Mix
variable (m : (ℓ : Loc nD τ sig) → Buf (Elt Ideal) ℓ)

set_option maxHeartbeats 2000000 in
/-- The reference's keys, entry by entry. -/
theorem ak (c : Dev nD) (b : Fin 4) (s : Fin 2048) (n : Fin 8192) (hn : n.val = 2048 * b.val + s.val) (j : Fin 256) :
    res_out0 m c (ix2 n j) =
      keyRow (fun e => m ((c : Thread nD τ).loc main_arg0) (ix3 b s ⟨5120 + e.val, by omega⟩))
        (fun e => m ((c : Thread nD τ).loc main_arg3) (ix2 0 e)) s.val j := by
  obtain ⟨n, hn'⟩ := n
  obtain rfl : n = _ := hn
  unfold res_out0 res_main_v128
  pointwise
  have e2 : j.val / 128 * 128 + j.val % 128 = j.val := by omega
  by_cases h : j.val % 128 < 64
  · simp only [keyRow, ropeA, rms, ang, h, ↓reduceDIte, e2, Nat.add_comm 64 (j.val % 128)]
  · have e : 64 + (j.val % 128 - 64) = j.val % 128 := by omega
    simp only [keyRow, ropeA, rms, ang, h, ↓reduceDIte, e, e2]

set_option maxHeartbeats 2000000 in
/-- The reference's indexer keys, entry by entry. -/
theorem ik (c : Dev nD) (b : Fin 4) (s : Fin 2048) (n : Fin 8192) (hn : n.val = 2048 * b.val + s.val) (d : Fin 128) :
    res_out2 m c (ix2 n d) =
      ropeI (lnorm (fun e => m ((c : Thread nD τ).loc main_arg0) (ix3 b s ⟨7680 + e.val, by omega⟩))
        (fun e => m ((c : Thread nD τ).loc main_arg4) (ix2 0 e)) (fun e => m ((c : Thread nD τ).loc main_arg5) (ix2 0 e))) s.val d := by
  obtain ⟨n, hn'⟩ := n
  obtain rfl : n = _ := hn
  unfold res_out2 res_main_v130
  pointwise
  unfold ropeI
  by_cases h : d.val < 64
  · by_cases h' : d.val < 32
    · simp only [h, h', ↓reduceDIte, ↓reduceIte, Nat.add_comm 32 d.val]
      rfl
    · have e : 32 + (d.val - 32) = d.val := by omega
      simp only [h, h', ↓reduceDIte, ↓reduceIte, e]
      rfl
  · have e : 64 + (d.val - 64) = d.val := by omega
    have h' : ¬ d.val < 32 := by omega
    simp only [h, h', ↓reduceDIte, ↓reduceIte, e]
    rfl

/-- The values are the row's columns as they stand. -/
theorem av (z : Vec Ideal S4x2048x24208 .f32) (h : S4x2048x24208.Slices ![0, 0, 5376] S4x2048x256)
    (h' : S4x2048x256.ShapeCasts S4x2048x2x128) (h'' : S4x2048x2x128.ShapeCasts S8192x256) (b : Fin 4) (s : Fin 2048) (n : Fin 8192) (hn : n.val = 2048 * b.val + s.val) (j : Fin 256) :
    shapeCast S8192x256 (shapeCast S4x2048x2x128 (extractStridedSlice S4x2048x256 ![0, 0, 5376] z h) h') h'' (ix2 n j) = z (ix3 b s ⟨5376 + j.val, by omega⟩) := by
  obtain ⟨n, hn'⟩ := n
  obtain rfl : n = _ := hn
  pointwise

end Cert.KeysReferenceIdeal.Value
-- ==== Proof.Mix.KeysSampleFrame.lean ====
module

public import proofs.«01_k».proof.Proof.Gen.KeysSampleIdeal.Frame.RunA
public import Idealize.ShloMosaic.Lib.Claim

@[expose] public section

set_option maxRecDepth 16384

noncomputable section

namespace Cert.KeysSampleIdeal.Run

open Cert.KeysSampleIdeal Cert.KeysSampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores into output 14 tile its block, so they cover it. -/
theorem cover0_A_14 (c : Dev nD) (i : grid0.Coords) (arg1 : Memref sig .tc .vmem S8x1024 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x2048 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S8x1024 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x2048 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole)
    (x0 : Vec F S8x1024 .f32) (x1 : Vec F S8x256 .f32) (x2 : Vec F S8x256 .f32) (x3 : Vec F S8x2048 .f32) (x4 : Vec F S8x128 .f32) (x5 : Vec F S8x128 .f32) (x6 : Vec F S8x128 .f32) (x7 : Vec F S8x128 .f32) (x8 : Vec F S8x128 .f32) (x9 : Vec F S8x128 .f32) (x10 : Vec F S1x1x128 .f32) (x11 : Vec F S1x1x128 .f32) (x12 : Vec F S1x1x128 .f32) (x13 : Vec F S1x1x128 .f32) (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).1 S8x128.size (by sl_kernel_rfl) y

/-- What the run leaves of output 14. -/
def out0_A_14 (c : Dev nD) (i : grid0.Coords) (arg1 : Memref sig .tc .vmem S8x1024 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x2048 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S8x1024 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x2048 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole)
    (x0 : Vec F S8x1024 .f32) (x1 : Vec F S8x256 .f32) (x2 : Vec F S8x256 .f32) (x3 : Vec F S8x2048 .f32) (x4 : Vec F S8x128 .f32) (x5 : Vec F S8x128 .f32) (x6 : Vec F S8x128 .f32) (x7 : Vec F S8x128 .f32) (x8 : Vec F S8x128 .f32) (x9 : Vec F S8x128 .f32) (x10 : Vec F S1x1x128 .f32) (x11 : Vec F S1x1x128 .f32) (x12 : Vec F S1x1x128 .f32) (x13 : Vec F S1x1x128 .f32) : Vec F S8x1024 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).1)

/-- The stores into output 15 tile its block, so they cover it. -/
theorem cover0_A_15 (c : Dev nD) (i : grid0.Coords) (arg1 : Memref sig .tc .vmem S8x1024 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x2048 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S8x1024 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x2048 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole)
    (x0 : Vec F S8x1024 .f32) (x1 : Vec F S8x256 .f32) (x2 : Vec F S8x256 .f32) (x3 : Vec F S8x2048 .f32) (x4 : Vec F S8x128 .f32) (x5 : Vec F S8x128 .f32) (x6 : Vec F S8x128 .f32) (x7 : Vec F S8x128 .f32) (x8 : Vec F S8x128 .f32) (x9 : Vec F S8x128 .f32) (x10 : Vec F S1x1x128 .f32) (x11 : Vec F S1x1x128 .f32) (x12 : Vec F S1x1x128 .f32) (x13 : Vec F S1x1x128 .f32) (y : S8x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.1 S8x128.size (by sl_kernel_rfl) y

/-- What the run leaves of output 15. -/
def out0_A_15 (c : Dev nD) (i : grid0.Coords) (arg1 : Memref sig .tc .vmem S8x1024 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x2048 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S8x1024 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x2048 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole)
    (x0 : Vec F S8x1024 .f32) (x1 : Vec F S8x256 .f32) (x2 : Vec F S8x256 .f32) (x3 : Vec F S8x2048 .f32) (x4 : Vec F S8x128 .f32) (x5 : Vec F S8x128 .f32) (x6 : Vec F S8x128 .f32) (x7 : Vec F S8x128 .f32) (x8 : Vec F S8x128 .f32) (x9 : Vec F S8x128 .f32) (x10 : Vec F S1x1x128 .f32) (x11 : Vec F S1x1x128 .f32) (x12 : Vec F S1x1x128 .f32) (x13 : Vec F S1x1x128 .f32) : Vec F S8x256 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.1)

/-- The stores into output 16 tile its block, so they cover it. -/
theorem cover0_A_16 (c : Dev nD) (i : grid0.Coords) (arg1 : Memref sig .tc .vmem S8x1024 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x2048 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S8x1024 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x2048 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole)
    (x0 : Vec F S8x1024 .f32) (x1 : Vec F S8x256 .f32) (x2 : Vec F S8x256 .f32) (x3 : Vec F S8x2048 .f32) (x4 : Vec F S8x128 .f32) (x5 : Vec F S8x128 .f32) (x6 : Vec F S8x128 .f32) (x7 : Vec F S8x128 .f32) (x8 : Vec F S8x128 .f32) (x9 : Vec F S8x128 .f32) (x10 : Vec F S1x1x128 .f32) (x11 : Vec F S1x1x128 .f32) (x12 : Vec F S1x1x128 .f32) (x13 : Vec F S1x1x128 .f32) (y : S8x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.1 S8x256.size (by sl_kernel_rfl) y

/-- What the run leaves of output 16. -/
def out0_A_16 (c : Dev nD) (i : grid0.Coords) (arg1 : Memref sig .tc .vmem S8x1024 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x2048 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S8x1024 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x2048 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole)
    (x0 : Vec F S8x1024 .f32) (x1 : Vec F S8x256 .f32) (x2 : Vec F S8x256 .f32) (x3 : Vec F S8x2048 .f32) (x4 : Vec F S8x128 .f32) (x5 : Vec F S8x128 .f32) (x6 : Vec F S8x128 .f32) (x7 : Vec F S8x128 .f32) (x8 : Vec F S8x128 .f32) (x9 : Vec F S8x128 .f32) (x10 : Vec F S1x1x128 .f32) (x11 : Vec F S1x1x128 .f32) (x12 : Vec F S1x1x128 .f32) (x13 : Vec F S1x1x128 .f32) : Vec F S8x256 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.1)

/-- The stores into output 17 tile its block, so they cover it. -/
theorem cover0_A_17 (c : Dev nD) (i : grid0.Coords) (arg1 : Memref sig .tc .vmem S8x1024 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x2048 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S8x1024 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x2048 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole)
    (x0 : Vec F S8x1024 .f32) (x1 : Vec F S8x256 .f32) (x2 : Vec F S8x256 .f32) (x3 : Vec F S8x2048 .f32) (x4 : Vec F S8x128 .f32) (x5 : Vec F S8x128 .f32) (x6 : Vec F S8x128 .f32) (x7 : Vec F S8x128 .f32) (x8 : Vec F S8x128 .f32) (x9 : Vec F S8x128 .f32) (x10 : Vec F S1x1x128 .f32) (x11 : Vec F S1x1x128 .f32) (x12 : Vec F S1x1x128 .f32) (x13 : Vec F S1x1x128 .f32) (y : S8x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.1 S8x128.size (by sl_kernel_rfl) y

/-- What the run leaves of output 17. -/
def out0_A_17 (c : Dev nD) (i : grid0.Coords) (arg1 : Memref sig .tc .vmem S8x1024 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x2048 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S8x1024 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x2048 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole)
    (x0 : Vec F S8x1024 .f32) (x1 : Vec F S8x256 .f32) (x2 : Vec F S8x256 .f32) (x3 : Vec F S8x2048 .f32) (x4 : Vec F S8x128 .f32) (x5 : Vec F S8x128 .f32) (x6 : Vec F S8x128 .f32) (x7 : Vec F S8x128 .f32) (x8 : Vec F S8x128 .f32) (x9 : Vec F S8x128 .f32) (x10 : Vec F S1x1x128 .f32) (x11 : Vec F S1x1x128 .f32) (x12 : Vec F S1x1x128 .f32) (x13 : Vec F S1x1x128 .f32) : Vec F S8x256 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.1)

/-- The stores into output 18 tile its block, so they cover it. -/
theorem cover0_A_18 (c : Dev nD) (i : grid0.Coords) (arg1 : Memref sig .tc .vmem S8x1024 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x2048 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S8x1024 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x2048 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole)
    (x0 : Vec F S8x1024 .f32) (x1 : Vec F S8x256 .f32) (x2 : Vec F S8x256 .f32) (x3 : Vec F S8x2048 .f32) (x4 : Vec F S8x128 .f32) (x5 : Vec F S8x128 .f32) (x6 : Vec F S8x128 .f32) (x7 : Vec F S8x128 .f32) (x8 : Vec F S8x128 .f32) (x9 : Vec F S8x128 .f32) (x10 : Vec F S1x1x128 .f32) (x11 : Vec F S1x1x128 .f32) (x12 : Vec F S1x1x128 .f32) (x13 : Vec F S1x1x128 .f32) (y : S8x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.1 S8x256.size (by sl_kernel_rfl) y

/-- What the run leaves of output 18. -/
def out0_A_18 (c : Dev nD) (i : grid0.Coords) (arg1 : Memref sig .tc .vmem S8x1024 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x2048 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S8x1024 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x2048 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole)
    (x0 : Vec F S8x1024 .f32) (x1 : Vec F S8x256 .f32) (x2 : Vec F S8x256 .f32) (x3 : Vec F S8x2048 .f32) (x4 : Vec F S8x128 .f32) (x5 : Vec F S8x128 .f32) (x6 : Vec F S8x128 .f32) (x7 : Vec F S8x128 .f32) (x8 : Vec F S8x128 .f32) (x9 : Vec F S8x128 .f32) (x10 : Vec F S1x1x128 .f32) (x11 : Vec F S1x1x128 .f32) (x12 : Vec F S1x1x128 .f32) (x13 : Vec F S1x1x128 .f32) : Vec F S8x256 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.1)

/-- The stores into output 19 tile its block, so they cover it. -/
theorem cover0_A_19 (c : Dev nD) (i : grid0.Coords) (arg1 : Memref sig .tc .vmem S8x1024 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x2048 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S8x1024 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x2048 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole)
    (x0 : Vec F S8x1024 .f32) (x1 : Vec F S8x256 .f32) (x2 : Vec F S8x256 .f32) (x3 : Vec F S8x2048 .f32) (x4 : Vec F S8x128 .f32) (x5 : Vec F S8x128 .f32) (x6 : Vec F S8x128 .f32) (x7 : Vec F S8x128 .f32) (x8 : Vec F S8x128 .f32) (x9 : Vec F S8x128 .f32) (x10 : Vec F S1x1x128 .f32) (x11 : Vec F S1x1x128 .f32) (x12 : Vec F S1x1x128 .f32) (x13 : Vec F S1x1x128 .f32) (y : S8x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.1 S8x128.size (by sl_kernel_rfl) y

/-- What the run leaves of output 19. -/
def out0_A_19 (c : Dev nD) (i : grid0.Coords) (arg1 : Memref sig .tc .vmem S8x1024 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x2048 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S8x1024 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x2048 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole)
    (x0 : Vec F S8x1024 .f32) (x1 : Vec F S8x256 .f32) (x2 : Vec F S8x256 .f32) (x3 : Vec F S8x2048 .f32) (x4 : Vec F S8x128 .f32) (x5 : Vec F S8x128 .f32) (x6 : Vec F S8x128 .f32) (x7 : Vec F S8x128 .f32) (x8 : Vec F S8x128 .f32) (x9 : Vec F S8x128 .f32) (x10 : Vec F S1x1x128 .f32) (x11 : Vec F S1x1x128 .f32) (x12 : Vec F S1x1x128 .f32) (x13 : Vec F S1x1x128 .f32) : Vec F S8x2048 .f32 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.1)

/-- The stores into output 20 tile its block, so they cover it. -/
theorem cover0_A_20 (c : Dev nD) (i : grid0.Coords) (arg1 : Memref sig .tc .vmem S8x1024 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x2048 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S8x1024 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x2048 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole)
    (x0 : Vec F S8x1024 .f32) (x1 : Vec F S8x256 .f32) (x2 : Vec F S8x256 .f32) (x3 : Vec F S8x2048 .f32) (x4 : Vec F S8x128 .f32) (x5 : Vec F S8x128 .f32) (x6 : Vec F S8x128 .f32) (x7 : Vec F S8x128 .f32) (x8 : Vec F S8x128 .f32) (x9 : Vec F S8x128 .f32) (x10 : Vec F S1x1x128 .f32) (x11 : Vec F S1x1x128 .f32) (x12 : Vec F S1x1x128 .f32) (x13 : Vec F S1x1x128 .f32) (y : S8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.1 S8x128.size (by sl_kernel_rfl) y

/-- What the run leaves of output 20. -/
def out0_A_20 (c : Dev nD) (i : grid0.Coords) (arg1 : Memref sig .tc .vmem S8x1024 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x2048 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S8x1024 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x2048 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole)
    (x0 : Vec F S8x1024 .f32) (x1 : Vec F S8x256 .f32) (x2 : Vec F S8x256 .f32) (x3 : Vec F S8x2048 .f32) (x4 : Vec F S8x128 .f32) (x5 : Vec F S8x128 .f32) (x6 : Vec F S8x128 .f32) (x7 : Vec F S8x128 .f32) (x8 : Vec F S8x128 .f32) (x9 : Vec F S8x128 .f32) (x10 : Vec F S1x1x128 .f32) (x11 : Vec F S1x1x128 .f32) (x12 : Vec F S1x1x128 .f32) (x13 : Vec F S1x1x128 .f32) : Vec F S8x128 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.1)

/-- The stores into output 21 tile its block, so they cover it. -/
theorem cover0_A_21 (c : Dev nD) (i : grid0.Coords) (arg1 : Memref sig .tc .vmem S8x1024 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x2048 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S8x1024 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x2048 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole)
    (x0 : Vec F S8x1024 .f32) (x1 : Vec F S8x256 .f32) (x2 : Vec F S8x256 .f32) (x3 : Vec F S8x2048 .f32) (x4 : Vec F S8x128 .f32) (x5 : Vec F S8x128 .f32) (x6 : Vec F S8x128 .f32) (x7 : Vec F S8x128 .f32) (x8 : Vec F S8x128 .f32) (x9 : Vec F S8x128 .f32) (x10 : Vec F S1x1x128 .f32) (x11 : Vec F S1x1x128 .f32) (x12 : Vec F S1x1x128 .f32) (x13 : Vec F S1x1x128 .f32) (y : S8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.1 S8x128.size (by sl_kernel_rfl) y

/-- What the run leaves of output 21. -/
def out0_A_21 (c : Dev nD) (i : grid0.Coords) (arg1 : Memref sig .tc .vmem S8x1024 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x2048 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S8x1024 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x2048 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole)
    (x0 : Vec F S8x1024 .f32) (x1 : Vec F S8x256 .f32) (x2 : Vec F S8x256 .f32) (x3 : Vec F S8x2048 .f32) (x4 : Vec F S8x128 .f32) (x5 : Vec F S8x128 .f32) (x6 : Vec F S8x128 .f32) (x7 : Vec F S8x128 .f32) (x8 : Vec F S8x128 .f32) (x9 : Vec F S8x128 .f32) (x10 : Vec F S1x1x128 .f32) (x11 : Vec F S1x1x128 .f32) (x12 : Vec F S1x1x128 .f32) (x13 : Vec F S1x1x128 .f32) : Vec F S8x128 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.1)

/-- The stores into output 22 tile its block, so they cover it. -/
theorem cover0_A_22 (c : Dev nD) (i : grid0.Coords) (arg1 : Memref sig .tc .vmem S8x1024 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x2048 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S8x1024 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x2048 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole)
    (x0 : Vec F S8x1024 .f32) (x1 : Vec F S8x256 .f32) (x2 : Vec F S8x256 .f32) (x3 : Vec F S8x2048 .f32) (x4 : Vec F S8x128 .f32) (x5 : Vec F S8x128 .f32) (x6 : Vec F S8x128 .f32) (x7 : Vec F S8x128 .f32) (x8 : Vec F S8x128 .f32) (x9 : Vec F S8x128 .f32) (x10 : Vec F S1x1x128 .f32) (x11 : Vec F S1x1x128 .f32) (x12 : Vec F S1x1x128 .f32) (x13 : Vec F S1x1x128 .f32) (y : S8x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.2.1 S8x128.size (by sl_kernel_rfl) y

/-- What the run leaves of output 22. -/
def out0_A_22 (c : Dev nD) (i : grid0.Coords) (arg1 : Memref sig .tc .vmem S8x1024 .f32) (harg1 : arg1.IsWhole) (arg2 : Memref sig .tc .vmem S8x256 .f32) (harg2 : arg2.IsWhole) (arg3 : Memref sig .tc .vmem S8x256 .f32) (harg3 : arg3.IsWhole) (arg4 : Memref sig .tc .vmem S8x2048 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S1x1x128 .f32) (harg11 : arg11.IsWhole) (arg12 : Memref sig .tc .vmem S1x1x128 .f32) (harg12 : arg12.IsWhole) (arg13 : Memref sig .tc .vmem S1x1x128 .f32) (harg13 : arg13.IsWhole) (arg14 : Memref sig .tc .vmem S1x1x128 .f32) (harg14 : arg14.IsWhole) (arg15 : Memref sig .tc .vmem S8x1024 .f32) (harg15 : arg15.IsWhole) (arg16 : Memref sig .tc .vmem S8x256 .f32) (harg16 : arg16.IsWhole) (arg17 : Memref sig .tc .vmem S8x256 .f32) (harg17 : arg17.IsWhole) (arg18 : Memref sig .tc .vmem S8x256 .f32) (harg18 : arg18.IsWhole) (arg19 : Memref sig .tc .vmem S8x256 .f32) (harg19 : arg19.IsWhole) (arg20 : Memref sig .tc .vmem S8x2048 .f32) (harg20 : arg20.IsWhole) (arg21 : Memref sig .tc .vmem S8x128 .f32) (harg21 : arg21.IsWhole) (arg22 : Memref sig .tc .vmem S8x128 .f32) (harg22 : arg22.IsWhole) (arg23 : Memref sig .tc .vmem S8x128 .f32) (harg23 : arg23.IsWhole)
    (x0 : Vec F S8x1024 .f32) (x1 : Vec F S8x256 .f32) (x2 : Vec F S8x256 .f32) (x3 : Vec F S8x2048 .f32) (x4 : Vec F S8x128 .f32) (x5 : Vec F S8x128 .f32) (x6 : Vec F S8x128 .f32) (x7 : Vec F S8x128 .f32) (x8 : Vec F S8x128 .f32) (x9 : Vec F S8x128 .f32) (x10 : Vec F S1x1x128 .f32) (x11 : Vec F S1x1x128 .f32) (x12 : Vec F S1x1x128 .f32) (x13 : Vec F S1x1x128 .f32) : Vec F S8x128 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.2.1)

/-! ## What the outputs hold after each point -/

/-- What the outputs hold after the body at point `t`, one after the other. -/
def outsAt0 (c : Dev nD) (t : Fin cfg0.N) : Vec F S8x1024 .f32 × Vec F S8x256 .f32 × Vec F S8x256 .f32 × Vec F S8x256 .f32 × Vec F S8x256 .f32 × Vec F S8x2048 .f32 × Vec F S8x128 .f32 × Vec F S8x128 .f32 × Vec F S8x128 .f32 :=
  (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t))

/-! ## The pipeline's proof data -/

/-- What the run on core `c` is to keep: the arrays as it finds them; after the body at a point, each input's block and each output's contents; nothing owed. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t).1
    | ⟨15, _⟩ => (outsAt0 m c t).2.1
    | ⟨16, _⟩ => (outsAt0 m c t).2.2.1
    | ⟨17, _⟩ => (outsAt0 m c t).2.2.2.1
    | ⟨18, _⟩ => (outsAt0 m c t).2.2.2.2.1
    | ⟨19, _⟩ => (outsAt0 m c t).2.2.2.2.2.1
    | ⟨20, _⟩ => (outsAt0 m c t).2.2.2.2.2.2.1
    | ⟨21, _⟩ => (outsAt0 m c t).2.2.2.2.2.2.2.1
    | ⟨22, _⟩ => (outsAt0 m c t).2.2.2.2.2.2.2.2
    | ⟨_ + 23, h⟩ => absurd h (Nat.not_lt.2 (Nat.le_add_left _ _))
  Φ _ := Pipeline.ΦA spec0 c
  q w := Pipeline.shareOf spec0 w
  owed _ := 0

/-- The arrays are those the run finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t).1 := by dsimp only [dats]
theorem after0_15 (c : Dev nD) (t : Fin cfg0.N) : (dats m 0 c).after 15 t = (outsAt0 m c t).2.1 := by dsimp only [dats]
theorem after0_16 (c : Dev nD) (t : Fin cfg0.N) : (dats m 0 c).after 16 t = (outsAt0 m c t).2.2.1 := by dsimp only [dats]
theorem after0_17 (c : Dev nD) (t : Fin cfg0.N) : (dats m 0 c).after 17 t = (outsAt0 m c t).2.2.2.1 := by dsimp only [dats]
theorem after0_18 (c : Dev nD) (t : Fin cfg0.N) : (dats m 0 c).after 18 t = (outsAt0 m c t).2.2.2.2.1 := by dsimp only [dats]
theorem after0_19 (c : Dev nD) (t : Fin cfg0.N) : (dats m 0 c).after 19 t = (outsAt0 m c t).2.2.2.2.2.1 := by dsimp only [dats]
theorem after0_20 (c : Dev nD) (t : Fin cfg0.N) : (dats m 0 c).after 20 t = (outsAt0 m c t).2.2.2.2.2.2.1 := by dsimp only [dats]
theorem after0_21 (c : Dev nD) (t : Fin cfg0.N) : (dats m 0 c).after 21 t = (outsAt0 m c t).2.2.2.2.2.2.2.1 := by dsimp only [dats]
theorem after0_22 (c : Dev nD) (t : Fin cfg0.N) : (dats m 0 c).after 22 t = (outsAt0 m c t).2.2.2.2.2.2.2.2 := by dsimp only [dats]

/-- Each input holds its block at every point. -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2000000 in
/-- The body at any point: its inputs hold their blocks, and it leaves its outputs as stated. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  unfold outsAt0
  unfold out0_A_14 out0_A_15 out0_A_16 out0_A_17 out0_A_18 out0_A_19 out0_A_20 out0_A_21 out0_A_22; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ (X0_0 m c t) (iblk m c 1 t) (iblk m c 2 t) (X0_3 m c t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body at point `t`, as it is called. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The body keeps what it is to keep, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run ends with the arrays as stated and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- From any memory with zero counters the run ends, the outputs' arrays as stated and every other array as found. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The run ends, its argument arrays unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KeysSampleIdeal.Run

end
-- ==== Proof.Mix.KeysSample.lean ====
module

public import proofs.«01_k».proof.Proof.Mix.KeysSampleFrame
public import proofs.«01_k».proof.Proof.Mix.Rope
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.RunRead

@[expose] public section

set_option maxRecDepth 16384
noncomputable section
open Idealize.ShloMosaic Idealize.ShloMosaic.TcCoe Idealize.SL.Sem
open Idealize.ShloMosaic.Pipeline (Dat)
/-! The decoded tokens' keys, values and indexer keys: the arguments of the call, what its step stores, and the three arrays it leaves. -/

namespace Cert.KeysSampleIdeal.Run
open Cert.KeysSampleIdeal Cert.KeysSampleIdeal.Gen Cert.Mix
variable (m : (ℓ : Loc nD τ sig) → Buf (Elt Ideal) ℓ)

/-- A key of the first head. -/
theorem pay_k0 (ca sa x : Vec Ideal S8x128 .f32) (g : Vec Ideal S1x1x128 .f32) (r : Fin 8) (d : Fin 128) :
    k0_pay21 (F := Ideal) (k0_pay3 ca) (k0_pay4 sa) (k0_pay19 x) (k0_pay20 g) (ix2 r d) =
      rms (fun e => x (ix2 r e)) (fun e => g (ix3 0 0 e)) d * ca (ix2 r d) +
        rms (fun e => x (ix2 r e)) (fun e => g (ix3 0 0 e)) ⟨(d.val + 64) % 128, Nat.mod_lt _ (by decide)⟩ * sa (ix2 r d) := by
  pointwise [k0_pay21, k0_pay3, k0_pay4, k0_pay19, k0_pay20]
  rfl

/-- A key of the second head. -/
theorem pay_k1 (ca sa x : Vec Ideal S8x128 .f32) (g : Vec Ideal S1x1x128 .f32) (r : Fin 8) (d : Fin 128) :
    k0_pay22 (F := Ideal) (k0_pay3 ca) (k0_pay4 sa) x g (ix2 r d) =
      rms (fun e => x (ix2 r e)) (fun e => g (ix3 0 0 e)) d * ca (ix2 r d) +
        rms (fun e => x (ix2 r e)) (fun e => g (ix3 0 0 e)) ⟨(d.val + 64) % 128, Nat.mod_lt _ (by decide)⟩ * sa (ix2 r d) := by
  pointwise [k0_pay22, k0_pay3, k0_pay4]
  rfl

/-- A value is its column. -/
theorem pay_v (x : Vec Ideal S8x256 .f32) (r : Fin 8) (j : Fin 256) : k0_pay23 (F := Ideal) x (ix2 r j) = x (ix2 r j) := by
  pointwise [k0_pay23]

/-- An indexer key. -/
theorem pay_i (ci si x : Vec Ideal S8x128 .f32) (g b : Vec Ideal S1x1x128 .f32) (r : Fin 8) (d : Fin 128) :
    k0_pay1 (F := Ideal) (k0_pay5 ci) (k0_pay6 si) (k0_pay47 x g) b (ix2 r d) =
      lnorm (fun e => x (ix2 r e)) (fun e => g (ix3 0 0 e)) (fun e => b (ix3 0 0 e)) d * ci (ix2 r d) +
        lnorm (fun e => x (ix2 r e)) (fun e => g (ix3 0 0 e)) (fun e => b (ix3 0 0 e))
          ⟨if d.val < 32 then (d.val + 128 - 96) % 128 else (d.val + 128 - 32) % 128, by split <;> exact Nat.mod_lt _ (by decide)⟩ * si (ix2 r d) := by
  pointwise [k0_pay1, k0_pay5, k0_pay6, k0_pay47]
  rw [select_lane]
  by_cases h : d.val < 32
  · simp only [if_pos h]; rfl
  · simp only [if_neg h]; rfl

/-- A load of one head's columns, at an index. -/
theorem ld1 (X : Vec Ideal S8x256 .f32) (r : Fin 8) (e : Fin 128) :
    View.ld X (Rect.unit ![0, 128] ![8, 128] inb_S8x256_S8x128_0_128) (ix2 r e) = X (ix2 r ⟨128 + e.val, by omega⟩) := by pointwise
@[inherit_doc ld1]
theorem ld0 (X : Vec Ideal S8x256 .f32) (r : Fin 8) (e : Fin 128) :
    View.ld X (Rect.unit ![0, 0] ![8, 128] inb_S8x256_S8x128_0_0) (ix2 r e) = X (ix2 r ⟨e.val, by omega⟩) := by pointwise

theorem v31 (c : Dev nD) (s : Fin 8) (d : Fin 128) : V m c main_v31 (ix2 s d) = cosA 16384 d.val := by
  unfold_abbrev_sides
  after_reads_simp
  try dsimp only [Matrix.cons_val]
  try after_reads_simp
  pointwise
  have := d.isLt
  unfold cosA
  split
  · rfl
  · rw [dif_pos (by omega)]; rfl

theorem v33 (c : Dev nD) (s : Fin 8) (d : Fin 128) : V m c main_v33 (ix2 s d) = sinA 16384 d.val := by
  unfold_abbrev_sides
  after_reads_simp
  try dsimp only [Matrix.cons_val]
  try after_reads_simp
  pointwise
  have := d.isLt
  unfold sinA
  split
  · rfl
  · rw [dif_pos (by omega)]; rfl

theorem v44 (c : Dev nD) (s : Fin 8) (d : Fin 128) : V m c main_v44 (ix2 s d) = cosI 16384 d.val := by
  unfold_abbrev_sides
  after_reads_simp
  try dsimp only [Matrix.cons_val]
  try after_reads_simp
  pointwise
  unfold cosI
  split
  · rfl
  · split
    · rw [if_pos (by omega)]; rfl
    · rw [if_neg (by omega)]

theorem v46 (c : Dev nD) (s : Fin 8) (d : Fin 128) : V m c main_v46 (ix2 s d) = sinI 16384 d.val := by
  unfold_abbrev_sides
  after_reads_simp
  try dsimp only [Matrix.cons_val]
  try after_reads_simp
  pointwise
  unfold sinI
  split
  · rfl
  · split
    · rw [if_pos (by omega)]; rfl
    · rw [if_neg (by omega)]

theorem vk (c : Dev nD) (j : Fin 128) : V m c main_v60 (ix3 0 0 j) = m ((c : Thread nD τ).loc main_arg3) (ix2 0 j) := by
  unfold_abbrev_sides
  after_reads_simp
  pointwise
theorem vg (c : Dev nD) (j : Fin 128) : V m c main_v61 (ix3 0 0 j) = m ((c : Thread nD τ).loc main_arg4) (ix2 0 j) := by
  unfold_abbrev_sides
  after_reads_simp
  pointwise
theorem vb (c : Dev nD) (j : Fin 128) : V m c main_v62 (ix3 0 0 j) = m ((c : Thread nD τ).loc main_arg5) (ix2 0 j) := by
  unfold_abbrev_sides
  after_reads_simp
  pointwise

theorem zk (c : Dev nD) (r : Fin 8) (j : Fin 256) (l : Fin 24320) (hl : l.val = 23552 + j.val) :
    V m c main_v58 (ix2 r l) = m ((c : Thread nD τ).loc main_arg1) (ix3 r 0 ⟨5120 + j.val, by omega⟩) := by
  obtain ⟨l, hl'⟩ := l
  obtain rfl : l = _ := hl
  unfold_abbrev_sides
  after_reads_simp
  try dsimp only [Matrix.cons_val]
  try after_reads_simp
  pointwise
  repeat (first | rw [dif_neg (by omega)] | rw [dif_pos (by omega)])
  after_reads_simp
  pointwise
  after_reads_simp
  pointwise
  have e : 5120 + (23552 + j.val - 12288 - 2048 - 5120 - 4096) = 5120 + j.val := by omega
  simp only [e]

theorem zv (c : Dev nD) (r : Fin 8) (j : Fin 256) (l : Fin 24320) (hl : l.val = 23808 + j.val) :
    V m c main_v58 (ix2 r l) = m ((c : Thread nD τ).loc main_arg1) (ix3 r 0 ⟨5376 + j.val, by omega⟩) := by
  obtain ⟨l, hl'⟩ := l
  obtain rfl : l = _ := hl
  unfold_abbrev_sides
  after_reads_simp
  try dsimp only [Matrix.cons_val]
  try after_reads_simp
  pointwise
  repeat (first | rw [dif_neg (by omega)] | rw [dif_pos (by omega)])
  after_reads_simp
  pointwise
  after_reads_simp
  pointwise
  have e : 5120 + (23808 + j.val - 12288 - 2048 - 5120 - 4096) = 5376 + j.val := by omega
  simp only [e]

theorem zi (c : Dev nD) (r : Fin 8) (j : Fin 128) (l : Fin 24320) (hl : l.val = 24064 + j.val) :
    V m c main_v58 (ix2 r l) = m ((c : Thread nD τ).loc main_arg1) (ix3 r 0 ⟨7680 + j.val, by omega⟩) := by
  obtain ⟨l, hl'⟩ := l
  obtain rfl : l = _ := hl
  unfold_abbrev_sides
  after_reads_simp
  try dsimp only [Matrix.cons_val]
  try after_reads_simp
  pointwise
  repeat (first | rw [dif_neg (by omega)] | rw [dif_pos (by omega)])
  after_reads_simp
  pointwise
  after_reads_simp
  pointwise
  have e : 7680 + (24064 + j.val - 12288 - 2048 - 5120 - 4096 - 512) = 7680 + j.val := by omega
  simp only [e]

/-- A decoded token's row of the projection, from column `o` on. -/
abbrev Zs (c : Dev nD) (r : Fin 8) (o : ℕ) (ho : o + 256 ≤ 24208) (e : Fin 256) : EReal :=
  m ((c : Thread nD τ).loc main_arg1) (ix3 r 0 ⟨o + e.val, by omega⟩)
/-- The first layer's key norm, indexer weights and indexer offsets. -/
abbrev Kn (c : Dev nD) (e : Fin 128) : EReal := m ((c : Thread nD τ).loc main_arg3) (ix2 0 e)
@[inherit_doc Kn] abbrev Gi (c : Dev nD) (e : Fin 128) : EReal := m ((c : Thread nD τ).loc main_arg4) (ix2 0 e)
@[inherit_doc Kn] abbrev Bi (c : Dev nD) (e : Fin 128) : EReal := m ((c : Thread nD τ).loc main_arg5) (ix2 0 e)

theorem idx : ∀ t : Fin cfg0.N, win0_1.index t = ![0, 92] ∧ win0_2.index t = ![0, 93] ∧ win0_4.index t = ![0, 188] ∧
    win0_6.index t = ![0, 0] ∧ win0_7.index t = ![0, 0] ∧ win0_8.index t = ![0, 0] ∧ win0_9.index t = ![0, 0] ∧
    win0_11.index t = ![0, 0, 0] ∧ win0_12.index t = ![0, 0, 0] ∧ win0_13.index t = ![0, 0, 0] ∧
    win0_15.index t = ![0, 0] ∧ win0_16.index t = ![0, 0] ∧ win0_20.index t = ![0, 0] :=
  (by decide +kernel : ∀ t : Fin grid0.N, _)

variable (c : Dev nD) (t : Fin cfg0.N)

theorem b1 (r n : Fin 8) (j : Fin 256) (hn : n.val = r.val) : iblk m c 1 t (ix2 r j) = Zs m c n 5120 (by decide) j := by
  unfold Zs
  rw [← zk m c n j ⟨23552 + j.val, by omega⟩ rfl]
  have e := (idx t).1
  unfold iblk
  blk_point [e]
theorem b2 (r n : Fin 8) (j : Fin 256) (hn : n.val = r.val) : iblk m c 2 t (ix2 r j) = Zs m c n 5376 (by decide) j := by
  unfold Zs
  rw [← zv m c n j ⟨23808 + j.val, by omega⟩ rfl]
  have e := (idx t).2.1
  unfold iblk
  blk_point [e]
theorem b4 (r n : Fin 8) (j : Fin 128) (hn : n.val = r.val) :
    iblk m c 4 t (ix2 r j) = m ((c : Thread nD τ).loc main_arg1) (ix3 n 0 ⟨7680 + j.val, by omega⟩) := by
  rw [← zi m c n j ⟨24064 + j.val, by omega⟩ rfl]
  have e := (idx t).2.2.1
  unfold iblk
  blk_point [e]
theorem b6 (r : Fin 8) (d : Fin 128) : iblk m c 6 t (ix2 r d) = cosA 16384 d.val := by
  rw [← v31 m c r d]
  have e := (idx t).2.2.2.1
  unfold iblk
  blk_point [e]
theorem b7 (r : Fin 8) (d : Fin 128) : iblk m c 7 t (ix2 r d) = sinA 16384 d.val := by
  rw [← v33 m c r d]
  have e := (idx t).2.2.2.2.1
  unfold iblk
  blk_point [e]
theorem b8 (r : Fin 8) (d : Fin 128) : iblk m c 8 t (ix2 r d) = cosI 16384 d.val := by
  rw [← v44 m c r d]
  have e := (idx t).2.2.2.2.2.1
  unfold iblk
  blk_point [e]
theorem b9 (r : Fin 8) (d : Fin 128) : iblk m c 9 t (ix2 r d) = sinI 16384 d.val := by
  rw [← v46 m c r d]
  have e := (idx t).2.2.2.2.2.2.1
  unfold iblk
  blk_point [e]
theorem b11 (d : Fin 128) : iblk m c 11 t (ix3 0 0 d) = Kn m c d := by
  unfold Kn
  rw [← vk m c d]
  have e := (idx t).2.2.2.2.2.2.2.1
  unfold iblk
  blk_point [e]
theorem b12 (d : Fin 128) : iblk m c 12 t (ix3 0 0 d) = Gi m c d := by
  unfold Gi
  rw [← vg m c d]
  have e := (idx t).2.2.2.2.2.2.2.2.1
  unfold iblk
  blk_point [e]
theorem b13 (d : Fin 128) : iblk m c 13 t (ix3 0 0 d) = Bi m c d := by
  unfold Bi
  rw [← vb m c d]
  have e := (idx t).2.2.2.2.2.2.2.2.2.1
  unfold iblk
  blk_point [e]

/-- The first head's keys a step stores, where `x` is the head's columns of the step's rows. -/
theorem key0 (x : Vec Ideal S8x128 .f32) (r n : Fin 8) (d : Fin 128) (j : Fin 256) (hj : j.val = d.val)
    (hx : ∀ e : Fin 128, x (ix2 r e) = Zs m c n 5120 (by decide) ⟨e.val, by omega⟩) :
    k0_pay21 (F := Ideal) (k0_pay3 (iblk m c 6 t)) (k0_pay4 (iblk m c 7 t)) (k0_pay19 x) (k0_pay20 (iblk m c 11 t)) (ix2 r d) =
      keyRow (Zs m c n 5120 (by decide)) (Kn m c) 16384 j := by
  rw [pay_k0, b6, b7, ropeA_eq _ _ _ _ _ rfl]
  have q : j.val / 128 = 0 := by omega
  have q' : (⟨j.val % 128, Nat.mod_lt _ (by decide)⟩ : Fin 128) = d := Fin.ext (by simp only; omega)
  simp only [keyRow, hx, b11, q, q', Nat.zero_mul, Nat.zero_add]

/-- The second head's. -/
theorem key1 (x : Vec Ideal S8x128 .f32) (r n : Fin 8) (d : Fin 128) (j : Fin 256) (hj : j.val = 128 + d.val)
    (hx : ∀ e : Fin 128, x (ix2 r e) = Zs m c n 5120 (by decide) ⟨128 + e.val, by omega⟩) :
    k0_pay22 (F := Ideal) (k0_pay3 (iblk m c 6 t)) (k0_pay4 (iblk m c 7 t)) x (iblk m c 11 t) (ix2 r d) =
      keyRow (Zs m c n 5120 (by decide)) (Kn m c) 16384 j := by
  rw [pay_k1, b6, b7, ropeA_eq _ _ _ _ _ rfl]
  have q : j.val / 128 = 1 := by omega
  have q' : (⟨j.val % 128, Nat.mod_lt _ (by decide)⟩ : Fin 128) = d := Fin.ext (by simp only; omega)
  simp only [keyRow, hx, b11, q, q', Nat.one_mul]

/-- The indexer keys a step stores. -/
theorem keyI (r n : Fin 8) (d j : Fin 128) (hn : n.val = r.val) (hj : j.val = d.val) :
    k0_pay1 (F := Ideal) (k0_pay5 (iblk m c 8 t)) (k0_pay6 (iblk m c 9 t)) (k0_pay47 (iblk m c 4 t) (iblk m c 12 t)) (iblk m c 13 t) (ix2 r d) =
      ropeI (lnorm (fun e => m ((c : Thread nD τ).loc main_arg1) (ix3 n 0 ⟨7680 + e.val, by omega⟩)) (Gi m c) (Bi m c)) 16384 j := by
  obtain rfl : j = d := Fin.ext hj
  rw [pay_i, b8, b9, ropeI_eq _ _ _ _ _ (by split <;> omega)]
  simp only [b4 m c t r n _ hn, b12, b13]

theorem final15 : (dats m 0 c).arrAt 15 cfg0.N =
    fun y => keyRow (Zs m c (y 0) 5120 (by decide)) (Kn m c) 16384 (y 1) := by
  refine (dats m 0 c).arrAt_eq_of_covers 15 _ (by decide +kernel) fun t hf y => ?_
  blk_simp
  rw [after0_15]
  unfold outsAt0
  frame_out
  have e0 : ((win0_15.blk t).view.emb y 0).val = (y 0).val := by blk_simp [(idx t).2.2.2.2.2.2.2.2.2.2.1]
  have e1 : ((win0_15.blk t).view.emb y 1).val = (y 1).val := by blk_simp [(idx t).2.2.2.2.2.2.2.2.2.2.1]
  canon_tiles x h
  case piece0 =>
    idx_vars x
    refine key1 m c t _ x0 _ x1 _ (e1.trans h1) fun e => ?_
    refine Eq.trans ?_ (b1 m c t x0 _ ⟨128 + e.val, by omega⟩ (e0.trans h0))
    exact ld1 _ _ _
  case piece1 =>
    idx_vars x
    refine key0 m c t _ x0 _ x1 _ (e1.trans h1) fun e => ?_
    refine Eq.trans ?_ (b1 m c t x0 _ ⟨e.val, by omega⟩ (e0.trans h0))
    exact ld0 _ _ _

theorem final16 : (dats m 0 c).arrAt 16 cfg0.N = fun y => Zs m c (y 0) 5376 (by decide) (y 1) := by
  refine (dats m 0 c).arrAt_eq_of_covers 16 _ (by decide +kernel) fun t hf y => ?_
  blk_simp
  rw [after0_16]
  unfold outsAt0
  frame_out
  have e0 : ((win0_16.blk t).view.emb y 0).val = (y 0).val := by blk_simp [(idx t).2.2.2.2.2.2.2.2.2.2.2.1]
  have e1 : ((win0_16.blk t).view.emb y 1).val = (y 1).val := by blk_simp [(idx t).2.2.2.2.2.2.2.2.2.2.2.1]
  have y0 : (y 0).val < 8 := (y 0).isLt
  have y1 : (y 1).val < 256 := (y 1).isLt
  refine (congrArg (k0_pay23 (F := Ideal) (iblk m c 2 t)) (show y = ix2 ⟨(y 0).val, y0⟩ ⟨(y 1).val, y1⟩ from ?_)).trans ?_
  · funext a; match a with | 0 => rfl | 1 => rfl
  · refine (pay_v _ _ _).trans ((b2 m c t ⟨(y 0).val, y0⟩ ((win0_16.blk t).view.emb y 0) ⟨(y 1).val, y1⟩ e0).trans ?_)
    exact congrArg (Zs m c ((win0_16.blk t).view.emb y 0) 5376 (by decide)) (Fin.ext e1.symm)

theorem final20 : (dats m 0 c).arrAt 20 cfg0.N =
    fun y => ropeI (lnorm (fun e => m ((c : Thread nD τ).loc main_arg1) (ix3 (y 0) 0 ⟨7680 + e.val, by omega⟩)) (Gi m c) (Bi m c)) 16384 (y 1) := by
  refine (dats m 0 c).arrAt_eq_of_covers 20 _ (by decide +kernel) fun t hf y => ?_
  blk_simp
  rw [after0_20]
  unfold outsAt0
  frame_out
  have e0 : ((win0_20.blk t).view.emb y 0).val = (y 0).val := by blk_simp [(idx t).2.2.2.2.2.2.2.2.2.2.2.2]
  have e1 : ((win0_20.blk t).view.emb y 1).val = (y 1).val := by blk_simp [(idx t).2.2.2.2.2.2.2.2.2.2.2.2]
  have y0 : (y 0).val < 8 := (y 0).isLt
  have y1 : (y 1).val < 128 := (y 1).isLt
  refine (congrArg (k0_pay1 (F := Ideal) (k0_pay5 (iblk m c 8 t)) (k0_pay6 (iblk m c 9 t)) (k0_pay47 (iblk m c 4 t) (iblk m c 12 t)) (iblk m c 13 t))
    (show y = ix2 ⟨(y 0).val, y0⟩ ⟨(y 1).val, y1⟩ from ?_)).trans ?_
  · funext a; match a with | 0 => rfl | 1 => rfl
  · exact keyI m c t ⟨(y 0).val, y0⟩ ((win0_20.blk t).view.emb y 0) ⟨(y 1).val, y1⟩ ((win0_20.blk t).view.emb y 1) e0 e1

end Cert.KeysSampleIdeal.Run
-- ==== Proof.Mix.KeysSampleRef.lean ====
module

public import proofs.«01_k».proof.Proof.Gen.KeysSampleReferenceIdeal.Run
public import proofs.«01_k».proof.Proof.Mix.Rope
public import Idealize.ShloMosaic.Lib.Claim
public import Idealize.ShloMosaic.Lib.Pointwise
public import Idealize.ShloMosaic.Lib.StableHlo.RunRead

@[expose] public section

set_option maxRecDepth 16384
noncomputable section
open Idealize.ShloMosaic Idealize.ShloMosaic.TcCoe Idealize.SL.Sem Idealize.ShloMosaic.StableHlo
/-! The reference's keys and indexer keys of the decoded tokens, read at an index. -/

namespace Cert.KeysSampleReferenceIdeal.Value
open Cert.KeysSampleReferenceIdeal Cert.Mix
variable (m : (ℓ : Loc nD τ sig) → Buf (Elt Ideal) ℓ)

set_option maxHeartbeats 2000000 in
/-- The reference's keys, entry by entry. -/
theorem ak (c : Dev nD) (r : Fin 8) (j : Fin 256) :
    res_out0 m c (ix2 r j) =
      keyRow (fun e => m ((c : Thread nD τ).loc main_arg1) (ix3 r 0 ⟨5120 + e.val, by omega⟩))
        (fun e => m ((c : Thread nD τ).loc main_arg3) (ix2 0 e)) 16384 j := by
  unfold res_out0 res_main_v128
  pointwise
  have a : IntOp.addi 16384#32 0#32 = BitVec.ofNat 32 16384 := rfl
  have e2 : j.val / 128 * 128 + j.val % 128 = j.val := by omega
  by_cases h : j.val % 128 < 64
  · simp only [keyRow, ropeA, rms, ang, h, ↓reduceDIte, a, e2, Nat.add_comm 64 (j.val % 128)]
  · have e : 64 + (j.val % 128 - 64) = j.val % 128 := by omega
    simp only [keyRow, ropeA, rms, ang, h, ↓reduceDIte, a, e, e2]

set_option maxHeartbeats 2000000 in
/-- The reference's indexer keys, entry by entry. -/
theorem ik (c : Dev nD) (r : Fin 8) (d : Fin 128) :
    res_out2 m c (ix2 r d) =
      ropeI (lnorm (fun e => m ((c : Thread nD τ).loc main_arg1) (ix3 r 0 ⟨7680 + e.val, by omega⟩))
        (fun e => m ((c : Thread nD τ).loc main_arg4) (ix2 0 e)) (fun e => m ((c : Thread nD τ).loc main_arg5) (ix2 0 e))) 16384 d := by
  unfold res_out2 res_main_v130
  pointwise
  have a : IntOp.addi 16384#32 0#32 = BitVec.ofNat 32 16384 := rfl
  unfold ropeI
  by_cases h : d.val < 64
  · by_cases h' : d.val < 32
    · simp only [h, h', ↓reduceDIte, ↓reduceIte, a, Nat.add_comm 32 d.val]
      rfl
    · have e : 32 + (d.val - 32) = d.val := by omega
      simp only [h, h', ↓reduceDIte, ↓reduceIte, a, e]
      rfl
  · have e : 64 + (d.val - 64) = d.val := by omega
    have h' : ¬ d.val < 32 := by omega
    simp only [h, h', ↓reduceDIte, ↓reduceIte, e]
    rfl

/-- The values are the row's columns as they stand. -/
theorem av (z : Vec Ideal S8x1x24208 .f32) (h : S8x1x24208.Slices ![0, 0, 5376] S8x1x256) (h' : S8x1x256.ShapeCasts S8x1x2x128)
    (h'' : S8x1x2x128.ShapeCasts S8x256) (r : Fin 8) (j : Fin 256) :
    shapeCast S8x256 (shapeCast S8x1x2x128 (extractStridedSlice S8x1x256 ![0, 0, 5376] z h) h') h'' (ix2 r j) = z (ix3 r 0 ⟨5376 + j.val, by omega⟩) := by
  pointwise

end Cert.KeysSampleReferenceIdeal.Value
-- ==== Proof.Mix.KeysClaims.lean ====
module

public import proofs.«01_k».proof.Defs
public import proofs.«01_k».proof.Proof.Gen.Keys
public import proofs.«01_k».proof.Proof.Gen.KeysIdeal
public import proofs.«01_k».proof.Proof.Gen.KeysReferenceIdeal
public import proofs.«01_k».proof.Proof.Gen.KeysReferenceIdeal.Run
public import proofs.«01_k».proof.Proof.Mix.KeysVal
public import proofs.«01_k».proof.Proof.Mix.KeysRef
public import proofs.«01_k».proof.Proof.Gen.KeysSample
public import proofs.«01_k».proof.Proof.Gen.KeysSampleIdeal
public import proofs.«01_k».proof.Proof.Gen.KeysSampleReferenceIdeal
public import proofs.«01_k».proof.Proof.Gen.KeysSampleReferenceIdeal.Run
public import proofs.«01_k».proof.Proof.Mix.KeysSample
public import proofs.«01_k».proof.Proof.Mix.KeysSampleRef
public import Idealize.ShloMosaic.Lib.Quiescent

@[expose] public section

set_option maxRecDepth 16384
noncomputable section
open Idealize.ShloMosaic Idealize.ShloMosaic.TcCoe Idealize.SL.Sem
namespace Cert.Mix

set_option smartUnfolding false in
set_option maxHeartbeats 2000000 in
/-- The two programs have the same text, so the run of the one is the run of the other. -/
theorem keys_sample_frameP : Cert.quiescent_KeysSample := fun m g _ => by with_unfolding_all exact Cert.KeysSampleIdeal.Run.frame (F := Bits) m g
theorem keys_sample_framePI : Cert.quiescent_KeysSampleIdeal := fun m g _ => Cert.KeysSampleIdeal.Run.frame m g
theorem keys_sample_frameRI : Cert.quiescent_KeysSampleReferenceIdeal := fun m g _ =>
  (θ_run Cert.KeysSampleReferenceIdeal.defs _ _).mono (fun r h => ⟨fun c => (h c).2.2.2, sem_eq_zero_of_no_sems (by decide) r.2⟩)
    (Cert.KeysSampleReferenceIdeal.Value.run m g)
theorem keys_sample_preserves : Cert.preserves_KeysSample_KeysSampleIdeal := trivial

section
open Cert.KeysSampleIdeal Cert.KeysSampleIdeal.Gen Cert.KeysSampleIdeal.Run

/-- The kernel's results for the decoded tokens, and its inputs kept. -/
theorem keys_sample_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v63_1) = (fun y => keyRow (Zs m c (y 0) 5120 (by decide)) (Kn m c) 16384 (y 1))
      ∧ r.2.mem ((c.tc : Thread nD τ).loc main_v63_2) = (fun y => Zs m c (y 0) 5376 (by decide) (y 1))
      ∧ r.2.mem ((c.tc : Thread nD τ).loc main_v63_6) =
          (fun y => ropeI (lnorm (fun e => m ((c : Thread nD τ).loc main_arg1) (ix3 (y 0) 0 ⟨7680 + e.val, by omega⟩)) (Gi m c) (Bi m c)) 16384 (y 1))) :=
  (θ_run defs _ _).mono (fun r h c => ⟨((h c).1 15).trans (final15 m c), ((h c).1 16).trans (final16 m c), ((h c).1 20).trans (final20 m c)⟩) (run_main m g)
end

theorem keys_sample_algebraic : Cert.algebraic_KeysSampleIdeal_KeysSampleReferenceIdeal := by
  intro m g m' g' _ hm
  refine ⟨fun c y => keyRow (Cert.KeysSampleIdeal.Run.Zs m c (y 0) 5120 (by decide)) (Cert.KeysSampleIdeal.Run.Kn m c) 16384 (y 1),
    fun c y => Cert.KeysSampleIdeal.Run.Zs m c (y 0) 5376 (by decide) (y 1),
    fun c y => ropeI (lnorm (fun e => m ((c.tc : Thread Cert.KeysSampleIdeal.nD Cert.KeysSampleIdeal.τ).loc Cert.KeysSampleIdeal.main_arg1) (ix3 (y 0) 0 ⟨7680 + e.val, by omega⟩))
      (Cert.KeysSampleIdeal.Run.Gi m c) (Cert.KeysSampleIdeal.Run.Bi m c)) 16384 (y 1), ?_, ?_⟩
  · refine (θ_run Cert.KeysSampleIdeal.defs _ _).mono (fun r h c => ?_)
      (θ_run_and (keys_sample_run m g) (Cert.KeysSampleIdeal.Run.unchanged m g))
    exact ⟨(h.1 c).1, (h.1 c).2.1, (h.1 c).2.2, h.2 c⟩
  · refine (θ_run Cert.KeysSampleReferenceIdeal.defs _ _).mono (fun r h c => ?_) (Cert.KeysSampleReferenceIdeal.Value.run m' g')
    obtain ⟨h0, h1, h2, hargs⟩ := h c
    obtain ⟨e0, e1, e2, e3, e4, e5⟩ := hm c
    refine ⟨h0.trans ?_, h1.trans ?_, h2.trans ?_, hargs⟩
    · funext y
      obtain ⟨r, j, rfl⟩ : ∃ (r : Fin 8) (j : Fin 256), y = ix2 r j := ⟨y 0, y 1, by funext a; match a with | 0 => rfl | 1 => rfl⟩
      refine (Cert.KeysSampleReferenceIdeal.Value.ak m' c r j).trans ?_
      rw [e1, e3]
      rfl
    · funext y
      obtain ⟨r, j, rfl⟩ : ∃ (r : Fin 8) (j : Fin 256), y = ix2 r j := ⟨y 0, y 1, by funext a; match a with | 0 => rfl | 1 => rfl⟩
      rw [e1]
      exact Cert.KeysSampleReferenceIdeal.Value.av _ _ _ _ r j
    · funext y
      obtain ⟨r, j, rfl⟩ : ∃ (r : Fin 8) (j : Fin 128), y = ix2 r j := ⟨y 0, y 1, by funext a; match a with | 0 => rfl | 1 => rfl⟩
      refine (Cert.KeysSampleReferenceIdeal.Value.ik m' c r j).trans ?_
      rw [e1, e4, e5]
      rfl

set_option smartUnfolding false in
set_option maxHeartbeats 2000000 in
/-- The two programs have the same text, so the run of the one is the run of the other. -/
theorem keys_frameP : Cert.quiescent_Keys := fun m g _ => by with_unfolding_all exact Cert.KeysIdeal.Run.frame (F := Bits) m g
theorem keys_framePI : Cert.quiescent_KeysIdeal := fun m g _ => Cert.KeysIdeal.Run.frame m g
theorem keys_frameRI : Cert.quiescent_KeysReferenceIdeal := fun m g _ =>
  (θ_run Cert.KeysReferenceIdeal.defs _ _).mono (fun r h => ⟨fun c => (h c).2.2.2, sem_eq_zero_of_no_sems (by decide) r.2⟩)
    (Cert.KeysReferenceIdeal.Value.run m g)
theorem keys_preserves : Cert.preserves_Keys_KeysIdeal := trivial

section
open Cert.KeysIdeal Cert.KeysIdeal.Gen Cert.KeysIdeal.Run

/-- The kernel's results for the prompt, and its inputs kept. -/
theorem keys_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v62_1) = (fun y => keyRow (Zr m c (bt (y 0)) (st (y 0)) 5120 (by decide)) (Kn m c) (st (y 0)).val (y 1))
      ∧ r.2.mem ((c.tc : Thread nD τ).loc main_v62_2) = (fun y => Zr m c (bt (y 0)) (st (y 0)) 5376 (by decide) (y 1))
      ∧ r.2.mem ((c.tc : Thread nD τ).loc main_v62_6) =
          (fun y => ropeI (lnorm (fun e => m ((c : Thread nD τ).loc main_arg0) (ix3 (bt (y 0)) (st (y 0)) ⟨7680 + e.val, by omega⟩)) (Gi m c) (Bi m c)) (st (y 0)).val (y 1))) :=
  (θ_run defs _ _).mono (fun r h c => ⟨((h c).1 15).trans (final15 m c), ((h c).1 16).trans (final16 m c), ((h c).1 20).trans (final20 m c)⟩) (run_main m g)
end

theorem keys_algebraic : Cert.algebraic_KeysIdeal_KeysReferenceIdeal := by
  intro m g m' g' _ hm
  refine ⟨fun c y => keyRow (Cert.KeysIdeal.Run.Zr m c (Cert.KeysIdeal.Run.bt (y 0)) (Cert.KeysIdeal.Run.st (y 0)) 5120 (by decide)) (Cert.KeysIdeal.Run.Kn m c) (Cert.KeysIdeal.Run.st (y 0)).val (y 1),
    fun c y => Cert.KeysIdeal.Run.Zr m c (Cert.KeysIdeal.Run.bt (y 0)) (Cert.KeysIdeal.Run.st (y 0)) 5376 (by decide) (y 1),
    fun c y => ropeI (lnorm (fun e => m ((c.tc : Thread Cert.KeysIdeal.nD Cert.KeysIdeal.τ).loc Cert.KeysIdeal.main_arg0) (ix3 (Cert.KeysIdeal.Run.bt (y 0)) (Cert.KeysIdeal.Run.st (y 0)) ⟨7680 + e.val, by omega⟩))
      (Cert.KeysIdeal.Run.Gi m c) (Cert.KeysIdeal.Run.Bi m c)) (Cert.KeysIdeal.Run.st (y 0)).val (y 1), ?_, ?_⟩
  · refine (θ_run Cert.KeysIdeal.defs _ _).mono (fun r h c => ?_)
      (θ_run_and (keys_run m g) (Cert.KeysIdeal.Run.unchanged m g))
    exact ⟨(h.1 c).1, (h.1 c).2.1, (h.1 c).2.2, h.2 c⟩
  · refine (θ_run Cert.KeysReferenceIdeal.defs _ _).mono (fun r h c => ?_) (Cert.KeysReferenceIdeal.Value.run m' g')
    obtain ⟨h0, h1, h2, hargs⟩ := h c
    obtain ⟨e0, e1, e2, e3, e4, e5⟩ := hm c
    refine ⟨h0.trans ?_, h1.trans ?_, h2.trans ?_, hargs⟩
    · funext y
      obtain ⟨r, j, rfl⟩ : ∃ (r : Fin 8192) (j : Fin 256), y = ix2 r j := ⟨y 0, y 1, by funext a; match a with | 0 => rfl | 1 => rfl⟩
      refine (Cert.KeysReferenceIdeal.Value.ak m' c (Cert.KeysIdeal.Run.bt r) (Cert.KeysIdeal.Run.st r) r (by simp only [Cert.KeysIdeal.Run.bt, Cert.KeysIdeal.Run.st]; omega) j).trans ?_
      rw [e0, e3]
      rfl
    · funext y
      obtain ⟨r, j, rfl⟩ : ∃ (r : Fin 8192) (j : Fin 256), y = ix2 r j := ⟨y 0, y 1, by funext a; match a with | 0 => rfl | 1 => rfl⟩
      rw [e0]
      exact Cert.KeysReferenceIdeal.Value.av _ _ _ _ (Cert.KeysIdeal.Run.bt r) (Cert.KeysIdeal.Run.st r) r (by simp only [Cert.KeysIdeal.Run.bt, Cert.KeysIdeal.Run.st]; omega) j
    · funext y
      obtain ⟨r, j, rfl⟩ : ∃ (r : Fin 8192) (j : Fin 128), y = ix2 r j := ⟨y 0, y 1, by funext a; match a with | 0 => rfl | 1 => rfl⟩
      refine (Cert.KeysReferenceIdeal.Value.ik m' c (Cert.KeysIdeal.Run.bt r) (Cert.KeysIdeal.Run.st r) r (by simp only [Cert.KeysIdeal.Run.bt, Cert.KeysIdeal.Run.st]; omega) j).trans ?_
      rw [e0, e4, e5]
      rfl

end Cert.Mix

end
-- ==== Proof.Ret.Blocks.lean ====
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384
noncomputable section
open Idealize.ShloMosaic Idealize.ShloMosaic.TcCoe Idealize.SL.Sem
open Idealize.ShloMosaic.Pipeline (Dat)
/-! What one step of the retention kernel leaves in its two outputs and its four scratches, read at an index. -/

namespace Cert.KernelIdeal.Value
open Cert.KernelIdeal Cert.KernelIdeal.Gen
variable (m : (ℓ : Loc nD τ sig) → Buf (Elt Ideal) ℓ)

/-- The rotated key or query of head `hh` of a 512-column block. -/
def rotB (x : FVec Ideal S256x512 .f32) (co si : FVec Ideal S256x128 .f32) (hh : Fin 4) (r : Fin 256) (d : Fin 128) : EReal :=
  x (ix2 r ⟨128 * hh.val + d.val, by omega⟩) * co (ix2 r d) + x (ix2 r ⟨128 * hh.val + (d.val + 128 - 64) % 128, by omega⟩) * si (ix2 r d)

/-- The logarithm of the decay of head `hh` of a step, whose number along the grid's second axis is `a`. -/
def lgB (a : BitVec 32) (hh : Fin 4) : EReal :=
  match hh with
  | 0 => Scalar.select (Scalar.cmpi .eq a 0#32) (Named.named (F := Ideal) (φ := .f32) κ "lg0" 0xBD020AEC#32) (Named.named (F := Ideal) (φ := .f32) κ "lg4" 0xBB00200B#32)
  | 1 => Scalar.select (Scalar.cmpi .eq a 0#32) (Named.named (F := Ideal) (φ := .f32) κ "lg1" 0xBC8102B3#32) (Named.named (F := Ideal) (φ := .f32) κ "lg5" 0xBA801003#32)
  | 2 => Scalar.select (Scalar.cmpi .eq a 0#32) (Named.named (F := Ideal) (φ := .f32) κ "lg2" 0xBC0080AC#32) (Named.named (F := Ideal) (φ := .f32) κ "lg6" 0xBA000801#32)
  | 3 => Scalar.select (Scalar.cmpi .eq a 0#32) (Named.named (F := Ideal) (φ := .f32) κ "lg3" 0xBB80402B#32) (Named.named (F := Ideal) (φ := .f32) κ "lg7" 0xB9800400#32)

/-- The state after a chunk over the state before it. -/
def stB (a : BitVec 32) (k v : FVec Ideal S256x512 .f32) (co si : FVec Ideal S256x128 .f32) (s : FVec Ideal S4x128x128 .f32) (kd : FVec Ideal S4x256x128 .f32)
    (hh : Fin 4) (d e : Fin 128) : EReal :=
  s (ix3 hh d e) * Ideal.exp (lgB a hh * Ideal.ofBits .f32 0x43800000#32) +
    ∑ r : Fin 256, (rotB k co si hh r d * Ideal.ofBits .f32 0x3DB504F3#32 * kd (ix3 hh r d)) * v (ix2 r ⟨128 * hh.val + e.val, by omega⟩)

/-- A chunk's readout before the norm. -/
def oB (q k v : FVec Ideal S256x512 .f32) (co si : FVec Ideal S256x128 .f32) (s : FVec Ideal S4x128x128 .f32) (it : FVec Ideal S4x256x256 .f32)
    (qd : FVec Ideal S4x256x128 .f32) (hh : Fin 4) (r : Fin 256) (e : Fin 128) : EReal :=
  ∑ u : Fin 256, ((∑ d : Fin 128, rotB q co si hh r d * (rotB k co si hh u d * Ideal.ofBits .f32 0x3DB504F3#32)) * it (ix3 hh r u)) *
      v (ix2 u ⟨128 * hh.val + e.val, by omega⟩) +
    ∑ d : Fin 128, (rotB q co si hh r d * qd (ix3 hh r d)) * s (ix3 hh d e)

/-- A chunk's normed and gated readout. -/
def yB (q k v g : FVec Ideal S256x512 .f32) (co si : FVec Ideal S256x128 .f32) (nrm : FVec Ideal S1x1x512 .f32) (s : FVec Ideal S4x128x128 .f32)
    (it : FVec Ideal S4x256x256 .f32) (qd : FVec Ideal S4x256x128 .f32) (hh : Fin 4) (r : Fin 256) (e : Fin 128) : EReal :=
  oB q k v co si s it qd hh r e *
      Ideal.rsqrt (Ideal.div (∑ e' : Fin 128, oB q k v co si s it qd hh r e' * oB q k v co si s it qd hh r e') (Ideal.ofBits .f32 0x43000000#32) +
        Ideal.ofBits .f32 0x358637BD#32) *
    nrm (ix3 0 0 ⟨128 * hh.val + e.val, by omega⟩) *
    (g (ix2 r ⟨128 * hh.val + e.val, by omega⟩) * Ideal.logistic (g (ix2 r ⟨128 * hh.val + e.val, by omega⟩)))

/-- The decays written at the first chunk: towards the chunk's end, from the state before it, and between two tokens of it. -/
def kdB (a : BitVec 32) (hh : Fin 4) (r : Fin 256) : EReal :=
  Ideal.exp (lgB a hh * (Ideal.ofBits .f32 0x437F0000#32 - FloatOps.sitofp (F := Ideal) FTy.f32 (BitVec.ofNat 32 r.val)))

@[inherit_doc kdB]
def qdB (a : BitVec 32) (hh : Fin 4) (r : Fin 256) : EReal :=
  Ideal.exp (lgB a hh * (FloatOps.sitofp (F := Ideal) FTy.f32 (BitVec.ofNat 32 r.val) + 1))

@[inherit_doc kdB]
def itB (a : BitVec 32) (hh : Fin 4) (r u : Fin 256) : EReal :=
  if (0 : EReal) ≤ FloatOps.sitofp (F := Ideal) FTy.f32 (IntOp.subi (BitVec.ofNat 32 r.val) (BitVec.ofNat 32 u.val)) then
    Ideal.exp (lgB a hh * max (FloatOps.sitofp (F := Ideal) FTy.f32 (IntOp.subi (BitVec.ofNat 32 r.val) (BitVec.ofNat 32 u.val))) (0 : EReal)) else 0

/-- The state a step leaves. -/
theorem st_A (c : Dev nD) (t : Fin cfg0.N) (hA : t.val % 8 = 0) (hC : ¬t.val % 8 = 7) (y : S4x128x128.Idx) :
    (outsAt0 m c t.val t.isLt).2.2.1 y = stB (BitVec.ofNat 32 ↑(grid0.coords t 1)) (X0_1 m c t) (X0_2 m c t) (iblk m c 4 t) (iblk m c 5 t) (fun _ => 0) (fun i => kdB (BitVec.ofNat 32 ↑(grid0.coords t 1)) (i 0) (i 1)) (y 0) (y 1) (y 2) := by
  rw [outsAt0_A m c t hA hC]; frame_out
  simp (disch := decide) only [↓ View.readCov_skip, ↓ View.readCov_cons_toLoadRect, ↓ View.readCov_fill]
  refine View.canon_append_of_piecesOf (Val := Elt Ideal) (s := S4x128x128) (e := .f32) (fun y => stB (BitVec.ofNat 32 ↑(grid0.coords t 1)) (X0_1 m c t) (X0_2 m c t) (iblk m c 4 t) (iblk m c 5 t) (fun _ => 0) (fun i => kdB (BitVec.ofNat 32 ↑(grid0.coords t 1)) (i 0) (i 1)) (y 0) (y 1) (y 2)) [_] [_, _, _, _] ⟨?_, ?_, ?_, ?_, trivial⟩ y ?_
  case refine_5 => exact View.cover_of_tiledL _ ![1, 128, 128] rfl y
  case refine_1 =>
    intro x
    idx_vars x
    refine Eq.trans ?_ (congrArg (fun y => stB (BitVec.ofNat 32 ↑(grid0.coords t 1)) (X0_1 m c t) (X0_2 m c t) (iblk m c 4 t) (iblk m c 5 t) (fun _ => 0) (fun i => kdB (BitVec.ofNat 32 ↑(grid0.coords t 1)) (i 0) (i 1)) (y 0) (y 1) (y 2)) (show (ix3 3 x1 x2 : S4x128x128.Idx) = _ by blk_ext))
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, stB, rotB, lgB, kdB]
    try blk_point []
  case refine_2 =>
    intro x
    idx_vars x
    refine Eq.trans ?_ (congrArg (fun y => stB (BitVec.ofNat 32 ↑(grid0.coords t 1)) (X0_1 m c t) (X0_2 m c t) (iblk m c 4 t) (iblk m c 5 t) (fun _ => 0) (fun i => kdB (BitVec.ofNat 32 ↑(grid0.coords t 1)) (i 0) (i 1)) (y 0) (y 1) (y 2)) (show (ix3 2 x1 x2 : S4x128x128.Idx) = _ by blk_ext))
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, stB, rotB, lgB, kdB]
    try blk_point []
  case refine_3 =>
    intro x
    idx_vars x
    refine Eq.trans ?_ (congrArg (fun y => stB (BitVec.ofNat 32 ↑(grid0.coords t 1)) (X0_1 m c t) (X0_2 m c t) (iblk m c 4 t) (iblk m c 5 t) (fun _ => 0) (fun i => kdB (BitVec.ofNat 32 ↑(grid0.coords t 1)) (i 0) (i 1)) (y 0) (y 1) (y 2)) (show (ix3 1 x1 x2 : S4x128x128.Idx) = _ by blk_ext))
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, stB, rotB, lgB, kdB]
    try blk_point []
  case refine_4 =>
    intro x
    idx_vars x
    refine Eq.trans ?_ (congrArg (fun y => stB (BitVec.ofNat 32 ↑(grid0.coords t 1)) (X0_1 m c t) (X0_2 m c t) (iblk m c 4 t) (iblk m c 5 t) (fun _ => 0) (fun i => kdB (BitVec.ofNat 32 ↑(grid0.coords t 1)) (i 0) (i 1)) (y 0) (y 1) (y 2)) (show (ix3 0 x1 x2 : S4x128x128.Idx) = _ by blk_ext))
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, stB, rotB, lgB, kdB]
    try blk_point []

/-- The state a step leaves. -/
theorem st_B (c : Dev nD) (t : Fin cfg0.N) (hA : ¬t.val % 8 = 0) (hC : ¬t.val % 8 = 7) (y : S4x128x128.Idx) :
    (outsAt0 m c t.val t.isLt).2.2.1 y = stB (BitVec.ofNat 32 ↑(grid0.coords t 1)) (X0_1 m c t) (X0_2 m c t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.2.2 (y 0) (y 1) (y 2) := by
  rw [outsAt0_B m c t hA hC]; frame_out
  canon_tiles x h
  case piece0 =>
    idx_vars x
    obtain rfl : y = ix3 3 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, stB, rotB, lgB]
    simp only [read_unread_whole]
  case piece1 =>
    idx_vars x
    obtain rfl : y = ix3 2 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, stB, rotB, lgB]
    simp only [read_unread_whole]
  case piece2 =>
    idx_vars x
    obtain rfl : y = ix3 1 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, stB, rotB, lgB]
    simp only [read_unread_whole]
  case piece3 =>
    idx_vars x
    obtain rfl : y = ix3 0 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, stB, rotB, lgB]
    simp only [read_unread_whole]

/-- The state a step leaves. -/
theorem st_C (c : Dev nD) (t : Fin cfg0.N) (hA : ¬t.val % 8 = 0) (hC : t.val % 8 = 7) (y : S4x128x128.Idx) :
    (outsAt0 m c t.val t.isLt).2.2.1 y = stB (BitVec.ofNat 32 ↑(grid0.coords t 1)) (X0_1 m c t) (X0_2 m c t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.2.2 (y 0) (y 1) (y 2) := by
  rw [outsAt0_C m c t hA hC]; frame_out
  canon_tiles x h
  case piece0 =>
    idx_vars x
    obtain rfl : y = ix3 3 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, stB, rotB, lgB]
    simp only [read_unread_whole]
  case piece1 =>
    idx_vars x
    obtain rfl : y = ix3 2 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, stB, rotB, lgB]
    simp only [read_unread_whole]
  case piece2 =>
    idx_vars x
    obtain rfl : y = ix3 1 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, stB, rotB, lgB]
    simp only [read_unread_whole]
  case piece3 =>
    idx_vars x
    obtain rfl : y = ix3 0 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, stB, rotB, lgB]
    simp only [read_unread_whole]

/-- The decays the first chunk's step leaves. -/
theorem it_A (c : Dev nD) (t : Fin cfg0.N) (hA : t.val % 8 = 0) (hC : ¬t.val % 8 = 7) (y : S4x256x256.Idx) :
    (outsAt0 m c t.val t.isLt).2.2.2.1 y = itB (BitVec.ofNat 32 ↑(grid0.coords t 1)) (y 0) (y 1) (y 2) := by
  rw [outsAt0_A m c t hA hC]; frame_out
  canon_tiles x h
  case piece0 =>
    idx_vars x
    obtain rfl : y = ix3 3 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, itB, lgB]

  case piece1 =>
    idx_vars x
    obtain rfl : y = ix3 2 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, itB, lgB]

  case piece2 =>
    idx_vars x
    obtain rfl : y = ix3 1 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, itB, lgB]

  case piece3 =>
    idx_vars x
    obtain rfl : y = ix3 0 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, itB, lgB]

/-- The decays the first chunk's step leaves. -/
theorem qd_A (c : Dev nD) (t : Fin cfg0.N) (hA : t.val % 8 = 0) (hC : ¬t.val % 8 = 7) (y : S4x256x128.Idx) :
    (outsAt0 m c t.val t.isLt).2.2.2.2.1 y = qdB (BitVec.ofNat 32 ↑(grid0.coords t 1)) (y 0) (y 1) := by
  rw [outsAt0_A m c t hA hC]; frame_out
  canon_tiles x h
  case piece0 =>
    idx_vars x
    obtain rfl : y = ix3 3 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, qdB, lgB]

  case piece1 =>
    idx_vars x
    obtain rfl : y = ix3 2 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, qdB, lgB]

  case piece2 =>
    idx_vars x
    obtain rfl : y = ix3 1 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, qdB, lgB]

  case piece3 =>
    idx_vars x
    obtain rfl : y = ix3 0 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, qdB, lgB]

/-- The decays the first chunk's step leaves. -/
theorem kd_A (c : Dev nD) (t : Fin cfg0.N) (hA : t.val % 8 = 0) (hC : ¬t.val % 8 = 7) (y : S4x256x128.Idx) :
    (outsAt0 m c t.val t.isLt).2.2.2.2.2 y = kdB (BitVec.ofNat 32 ↑(grid0.coords t 1)) (y 0) (y 1) := by
  rw [outsAt0_A m c t hA hC]; frame_out
  canon_tiles x h
  case piece0 =>
    idx_vars x
    obtain rfl : y = ix3 3 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, kdB, lgB]

  case piece1 =>
    idx_vars x
    obtain rfl : y = ix3 2 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, kdB, lgB]

  case piece2 =>
    idx_vars x
    obtain rfl : y = ix3 1 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, kdB, lgB]

  case piece3 =>
    idx_vars x
    obtain rfl : y = ix3 0 x1 x2 := by blk_ext
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, kdB, lgB]

/-- A later chunk's step keeps the decays. -/
theorem it_B (c : Dev nD) (t : Fin cfg0.N) (hA : ¬t.val % 8 = 0) (hC : ¬t.val % 8 = 7) :
    (outsAt0 m c t.val t.isLt).2.2.2.1 = (outsAt0 m c (t.val - 1) (Nat.lt_of_le_of_lt (Nat.sub_le _ _) t.isLt)).2.2.2.1 := by
  rw [outsAt0_B m c t hA hC]; frame_out
  rfl
/-- A later chunk's step keeps the decays. -/
theorem qd_B (c : Dev nD) (t : Fin cfg0.N) (hA : ¬t.val % 8 = 0) (hC : ¬t.val % 8 = 7) :
    (outsAt0 m c t.val t.isLt).2.2.2.2.1 = (outsAt0 m c (t.val - 1) (Nat.lt_of_le_of_lt (Nat.sub_le _ _) t.isLt)).2.2.2.2.1 := by
  rw [outsAt0_B m c t hA hC]; frame_out
  rfl
/-- A later chunk's step keeps the decays. -/
theorem kd_B (c : Dev nD) (t : Fin cfg0.N) (hA : ¬t.val % 8 = 0) (hC : ¬t.val % 8 = 7) :
    (outsAt0 m c t.val t.isLt).2.2.2.2.2 = (outsAt0 m c (t.val - 1) (Nat.lt_of_le_of_lt (Nat.sub_le _ _) t.isLt)).2.2.2.2.2 := by
  rw [outsAt0_B m c t hA hC]; frame_out
  rfl

/-- A later chunk's step keeps the decays. -/
theorem it_C (c : Dev nD) (t : Fin cfg0.N) (hA : ¬t.val % 8 = 0) (hC : t.val % 8 = 7) :
    (outsAt0 m c t.val t.isLt).2.2.2.1 = (outsAt0 m c (t.val - 1) (Nat.lt_of_le_of_lt (Nat.sub_le _ _) t.isLt)).2.2.2.1 := by
  rw [outsAt0_C m c t hA hC]; frame_out
  rfl
/-- A later chunk's step keeps the decays. -/
theorem qd_C (c : Dev nD) (t : Fin cfg0.N) (hA : ¬t.val % 8 = 0) (hC : t.val % 8 = 7) :
    (outsAt0 m c t.val t.isLt).2.2.2.2.1 = (outsAt0 m c (t.val - 1) (Nat.lt_of_le_of_lt (Nat.sub_le _ _) t.isLt)).2.2.2.2.1 := by
  rw [outsAt0_C m c t hA hC]; frame_out
  rfl
/-- A later chunk's step keeps the decays. -/
theorem kd_C (c : Dev nD) (t : Fin cfg0.N) (hA : ¬t.val % 8 = 0) (hC : t.val % 8 = 7) :
    (outsAt0 m c t.val t.isLt).2.2.2.2.2 = (outsAt0 m c (t.val - 1) (Nat.lt_of_le_of_lt (Nat.sub_le _ _) t.isLt)).2.2.2.2.2 := by
  rw [outsAt0_C m c t hA hC]; frame_out
  rfl

/-- The readout a step leaves. -/
theorem out_A (c : Dev nD) (t : Fin cfg0.N) (hA : t.val % 8 = 0) (hC : ¬t.val % 8 = 7) (y : S256x512.Idx) (hh : Fin 4) (r : Fin 256) (e : Fin 128)
    (hr : (y 0).val = r.val) (he : (y 1).val = 128 * hh.val + e.val) :
    (outsAt0 m c t.val t.isLt).1 y = yB (X0_0 m c t) (X0_1 m c t) (X0_2 m c t) (X0_3 m c t) (iblk m c 4 t) (iblk m c 5 t) (iblk m c 6 t) (fun _ => 0) (fun i => itB (BitVec.ofNat 32 ↑(grid0.coords t 1)) (i 0) (i 1) (i 2)) (fun i => qdB (BitVec.ofNat 32 ↑(grid0.coords t 1)) (i 0) (i 1)) hh r e := by
  rw [outsAt0_A m c t hA hC]; frame_out
  simp (disch := decide) only [↓ View.readCov_skip, ↓ View.readCov_cons_toLoadRect, ↓ View.readCov_fill]
  canon_tiles x h
  case piece0 =>
    idx_vars x
    obtain rfl : hh = 3 := Fin.ext (by simp; omega)
    obtain rfl : r = x0 := Fin.ext (by omega)
    obtain rfl : e = x1 := Fin.ext (by simp at he; omega)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, yB, oB, rotB, lgB, itB, qdB]

  case piece1 =>
    idx_vars x
    obtain rfl : hh = 2 := Fin.ext (by simp; omega)
    obtain rfl : r = x0 := Fin.ext (by omega)
    obtain rfl : e = x1 := Fin.ext (by simp at he; omega)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, yB, oB, rotB, lgB, itB, qdB]

  case piece2 =>
    idx_vars x
    obtain rfl : hh = 1 := Fin.ext (by simp; omega)
    obtain rfl : r = x0 := Fin.ext (by omega)
    obtain rfl : e = x1 := Fin.ext (by simp at he; omega)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, yB, oB, rotB, lgB, itB, qdB]

  case piece3 =>
    idx_vars x
    obtain rfl : hh = 0 := Fin.ext (by simp; omega)
    obtain rfl : r = x0 := Fin.ext (by omega)
    obtain rfl : e = x1 := Fin.ext (by simp at he; omega)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, yB, oB, rotB, lgB, itB, qdB]

/-- The readout a step leaves. -/
theorem out_B (c : Dev nD) (t : Fin cfg0.N) (hA : ¬t.val % 8 = 0) (hC : ¬t.val % 8 = 7) (y : S256x512.Idx) (hh : Fin 4) (r : Fin 256) (e : Fin 128)
    (hr : (y 0).val = r.val) (he : (y 1).val = 128 * hh.val + e.val) :
    (outsAt0 m c t.val t.isLt).1 y = yB (X0_0 m c t) (X0_1 m c t) (X0_2 m c t) (X0_3 m c t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 hh r e := by
  rw [outsAt0_B m c t hA hC]; frame_out
  canon_tiles x h
  case piece0 =>
    idx_vars x
    obtain rfl : hh = 3 := Fin.ext (by simp; omega)
    obtain rfl : r = x0 := Fin.ext (by omega)
    obtain rfl : e = x1 := Fin.ext (by simp at he; omega)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, yB, oB, rotB, lgB]
    simp only [read_unread_whole]
  case piece1 =>
    idx_vars x
    obtain rfl : hh = 2 := Fin.ext (by simp; omega)
    obtain rfl : r = x0 := Fin.ext (by omega)
    obtain rfl : e = x1 := Fin.ext (by simp at he; omega)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, yB, oB, rotB, lgB]
    simp only [read_unread_whole]
  case piece2 =>
    idx_vars x
    obtain rfl : hh = 1 := Fin.ext (by simp; omega)
    obtain rfl : r = x0 := Fin.ext (by omega)
    obtain rfl : e = x1 := Fin.ext (by simp at he; omega)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, yB, oB, rotB, lgB]
    simp only [read_unread_whole]
  case piece3 =>
    idx_vars x
    obtain rfl : hh = 0 := Fin.ext (by simp; omega)
    obtain rfl : r = x0 := Fin.ext (by omega)
    obtain rfl : e = x1 := Fin.ext (by simp at he; omega)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, yB, oB, rotB, lgB]
    simp only [read_unread_whole]

/-- The readout a step leaves. -/
theorem out_C (c : Dev nD) (t : Fin cfg0.N) (hA : ¬t.val % 8 = 0) (hC : t.val % 8 = 7) (y : S256x512.Idx) (hh : Fin 4) (r : Fin 256) (e : Fin 128)
    (hr : (y 0).val = r.val) (he : (y 1).val = 128 * hh.val + e.val) :
    (outsAt0 m c t.val t.isLt).1 y = yB (X0_0 m c t) (X0_1 m c t) (X0_2 m c t) (X0_3 m c t) (iblk m c 4 t) (iblk m c 5 t) (iblk m c 6 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 hh r e := by
  rw [outsAt0_C m c t hA hC]; frame_out
  canon_tiles x h
  case piece0 =>
    idx_vars x
    obtain rfl : hh = 3 := Fin.ext (by simp; omega)
    obtain rfl : r = x0 := Fin.ext (by omega)
    obtain rfl : e = x1 := Fin.ext (by simp at he; omega)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, yB, oB, rotB, lgB]
    simp only [read_unread_whole]
  case piece1 =>
    idx_vars x
    obtain rfl : hh = 2 := Fin.ext (by simp; omega)
    obtain rfl : r = x0 := Fin.ext (by omega)
    obtain rfl : e = x1 := Fin.ext (by simp at he; omega)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, yB, oB, rotB, lgB]
    simp only [read_unread_whole]
  case piece2 =>
    idx_vars x
    obtain rfl : hh = 1 := Fin.ext (by simp; omega)
    obtain rfl : r = x0 := Fin.ext (by omega)
    obtain rfl : e = x1 := Fin.ext (by simp at he; omega)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, yB, oB, rotB, lgB]
    simp only [read_unread_whole]
  case piece3 =>
    idx_vars x
    obtain rfl : hh = 0 := Fin.ext (by simp; omega)
    obtain rfl : r = x0 := Fin.ext (by omega)
    obtain rfl : e = x1 := Fin.ext (by simp at he; omega)
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, yB, oB, rotB, lgB]
    simp only [read_unread_whole]

/-- The copy of the state into the last output reads it at the head, row and column. -/
theorem copy_at (L : List (View.Piece (Elt Ideal) S4x128x128 .f32)) (inb) (y : S1x4x128x128.Idx) :
    k0_pay1 ((View.whole cc0_scratch0).readCov L (Rect.unit (s := S4x128x128) ![0, 0, 0] ![4, 128, 128] inb).toLoadRect) y =
      View.canon L (ix3 (y 1) (y 2) (y 3)) := by
  rw [View.readCov_eq_canon']
  pointwise [k0_pay1]

/-- The last chunk's step writes its state out. -/
theorem out8_C (c : Dev nD) (t : Fin cfg0.N) (hA : ¬t.val % 8 = 0) (hC : t.val % 8 = 7) (y : S1x4x128x128.Idx) :
    (outsAt0 m c t.val t.isLt).2.1 y = (outsAt0 m c t.val t.isLt).2.2.1 (ix3 (y 1) (y 2) (y 3)) := by
  rw [outsAt0_C m c t hA hC]; frame_out
  exact copy_at _ _ y

end Cert.KernelIdeal.Value
-- ==== Proof.Ret.Real.lean ====
module

public import Idealize.ShloMosaic.Lib.Pointwise
public import Idealize.ShloMosaic.Lib.Pipeline.ValueKit

@[expose] public section

set_option maxRecDepth 16384
noncomputable section
open Idealize.ShloMosaic
namespace Cert.Ret

/-- The retention state of one head after `n` positions: every position's key and value, decayed to position `n - 1`. -/
def Sr (L : ℝ) (k v : ℕ → Fin 128 → ℝ) (n : ℕ) (d e : Fin 128) : ℝ :=
  ∑ s ∈ Finset.range n, Real.exp (L * ((n : ℝ) - 1 - s)) * k s d * v s e

/-- The retention output of one head at position `t`. -/
def Or (L : ℝ) (q k v : ℕ → Fin 128 → ℝ) (t : ℕ) (e : Fin 128) : ℝ :=
  ∑ s ∈ Finset.range (t + 1), Real.exp (L * ((t : ℝ) - s)) * (∑ d, q t d * k s d) * v s e

/-- A chunk of `C` positions carries the state from `n` to `n + C`. -/
theorem state_step (L : ℝ) (k v : ℕ → Fin 128 → ℝ) (n C : ℕ) (d e : Fin 128) :
    Sr L k v n d e * Real.exp (L * C) +
      ∑ r : Fin C, (k (n + r) d * Real.exp (L * ((C : ℝ) - 1 - r))) * v (n + r) e = Sr L k v (n + C) d e := by
  unfold Sr
  rw [Finset.sum_range_add, Finset.sum_mul, Finset.sum_range (fun x => Real.exp _ * k (n + x) d * v (n + x) e)]
  congr 1
  · refine Finset.sum_congr rfl fun s _ => ?_
    have : Real.exp (L * (((n + C : ℕ) : ℝ) - 1 - s)) = Real.exp (L * ((n : ℝ) - 1 - s)) * Real.exp (L * C) := by
      rw [← Real.exp_add]; congr 1; push_cast; ring
    rw [this]; ring
  · refine Finset.sum_congr rfl fun r _ => ?_
    have : L * (((n + C : ℕ) : ℝ) - 1 - ((n + r.val : ℕ) : ℝ)) = L * ((C : ℝ) - 1 - r) := by push_cast; ring
    rw [this]; ring

/-- The output at position `n + r` of a chunk that starts at `n`: the part within the chunk and the part the state carries. -/
theorem out_step (L : ℝ) (q k v : ℕ → Fin 128 → ℝ) (n C : ℕ) (r : Fin C) (e : Fin 128) :
    ∑ u : Fin C, ((∑ d, q (n + r) d * k (n + u) d) *
        (if u.val ≤ r.val then Real.exp (L * ((r.val : ℝ) - u.val)) else 0)) * v (n + u) e +
      ∑ d, (q (n + r) d * Real.exp (L * ((r.val : ℝ) + 1))) * Sr L k v n d e = Or L q k v (n + r) e := by
  unfold Or
  rw [show n + r.val + 1 = n + (r.val + 1) from by omega, Finset.sum_range_add, add_comm]
  congr 1
  · simp only [Sr, Finset.mul_sum, Finset.sum_mul]
    rw [Finset.sum_comm]
    refine Finset.sum_congr rfl fun s _ => Finset.sum_congr rfl fun d _ => ?_
    have : Real.exp (L * (((n + r.val : ℕ) : ℝ) - s)) = Real.exp (L * ((n : ℝ) - 1 - s)) * Real.exp (L * ((r.val : ℝ) + 1)) := by
      rw [← Real.exp_add]; congr 1; push_cast; ring
    rw [this]; ring
  · have hsub : Finset.range (r.val + 1) ⊆ Finset.range C := by
      intro x hx; simp only [Finset.mem_range] at hx ⊢; omega
    rw [← Finset.sum_range (fun u => ((∑ d, q (n + r) d * k (n + u) d) *
        (if u ≤ r.val then Real.exp (L * ((r.val : ℝ) - u)) else 0)) * v (n + u) e)]
    symm
    refine (Finset.sum_subset_zero_on_sdiff hsub ?_ ?_)
    · intro x hx
      simp only [Finset.mem_sdiff, Finset.mem_range] at hx
      rw [if_neg (by omega)]; ring
    · intro x hx
      simp only [Finset.mem_range] at hx
      rw [if_pos (by omega)]
      have : L * (((n + r.val : ℕ) : ℝ) - ((n + x : ℕ) : ℝ)) = L * ((r.val : ℝ) - x) := by push_cast; ring
      rw [this]; ring

/-- A sum of real numbers, read in the extended reals. -/
theorem coe_sum {ι : Type} (s : Finset ι) (f : ι → ℝ) : (((∑ i ∈ s, f i : ℝ)) : EReal) = ∑ i ∈ s, (f i : EReal) := by
  classical
  induction s using Finset.induction_on with
  | empty => simp
  | insert a s ha ih => rw [Finset.sum_insert ha, Finset.sum_insert ha, EReal.coe_add, ih]

/-- A small natural number as a signed word, converted. -/
theorem sitofp_nat (n : ℕ) (h : n < 2 ^ 31) :
    FloatOps.sitofp (F := Ideal) .f32 (BitVec.ofNat 32 n) = ((n : ℝ) : EReal) := by
  have : (BitVec.ofNat 32 n).toInt = n := by
    rw [BitVec.toInt_eq_toNat_of_lt] <;> rw [BitVec.toNat_ofNat, Nat.mod_eq_of_lt (by omega)]
    omega
  show (((BitVec.ofNat 32 n).toInt : ℝ) : EReal) = _
  rw [this]; norm_cast

/-- An integer difference of two small numbers as a signed word, converted. -/
theorem sitofp_sub (a b : ℕ) (ha : a < 2 ^ 30) (hb : b < 2 ^ 30) :
    FloatOps.sitofp (F := Ideal) .f32 (IntOp.subi (BitVec.ofNat 32 a) (BitVec.ofNat 32 b)) = (((a : ℝ) - b : ℝ) : EReal) := by
  have : (IntOp.subi (BitVec.ofNat 32 a) (BitVec.ofNat 32 b)).toInt = (a : ℤ) - b := by
    unfold IntOp.subi
    rw [BitVec.toInt_sub]
    have h1 : (BitVec.ofNat 32 a).toInt = a := by
      rw [BitVec.toInt_eq_toNat_of_lt] <;> rw [BitVec.toNat_ofNat, Nat.mod_eq_of_lt (by omega)]; omega
    have h2 : (BitVec.ofNat 32 b).toInt = b := by
      rw [BitVec.toInt_eq_toNat_of_lt] <;> rw [BitVec.toNat_ofNat, Nat.mod_eq_of_lt (by omega)]; omega
    rw [h1, h2, Int.bmod_eq_of_le] <;> omega
  show (((IntOp.subi (BitVec.ofNat 32 a) (BitVec.ofNat 32 b)).toInt : ℝ) : EReal) = _
  rw [this]; push_cast; rfl

theorem bits256 : Ideal.ofBits .f32 0x43800000#32 = ((256 : ℝ) : EReal) := by
  simp [Ideal.ofBits, Ideal.ieee, -EReal.coe_mul]; norm_num
theorem bits255 : Ideal.ofBits .f32 0x437F0000#32 = ((255 : ℝ) : EReal) := by
  simp [Ideal.ofBits, Ideal.ieee, -EReal.coe_mul]; norm_num
theorem bits128 : Ideal.ofBits .f32 0x43000000#32 = ((128 : ℝ) : EReal) := by
  simp [Ideal.ofBits, Ideal.ieee, -EReal.coe_mul]; norm_num
theorem bits64 : Ideal.ofBits .f32 0x42800000#32 = ((64 : ℝ) : EReal) := by
  simp [Ideal.ofBits, Ideal.ieee, -EReal.coe_mul]; norm_num
theorem bits63 : Ideal.ofBits .f32 0x427C0000#32 = ((63 : ℝ) : EReal) := by
  simp [Ideal.ofBits, Ideal.ieee, -EReal.coe_mul]; norm_num
theorem bits10000 : Ideal.ofBits .f32 0x461C4000#32 = ((10000 : ℝ) : EReal) := by
  simp [Ideal.ofBits, Ideal.ieee, -EReal.coe_mul]; norm_num

/-- The scale of the keys, as the word it is written with reads. -/
def kap : ℝ := (Ideal.ofBits .f32 0x3DB504F3#32).toReal
theorem bitsKap : Ideal.ofBits .f32 0x3DB504F3#32 = ((kap : ℝ) : EReal) := by
  unfold kap
  rw [EReal.coe_toReal]
  · simp [Ideal.ofBits, Ideal.ieee, -EReal.coe_mul]
  · simp [Ideal.ofBits, Ideal.ieee, -EReal.coe_mul]

/-- Entry `d` of the evenly spaced line from 0 to 1 with 64 points. -/
def lin (d : ℕ) : EReal :=
  if d < 63 then
    (0 : EReal) * (1 - Ideal.div (FloatOps.sitofp (F := Ideal) .f32 (BitVec.ofNat 32 d)) (Ideal.ofBits .f32 0x427C0000#32))
      + Ideal.div (FloatOps.sitofp (F := Ideal) .f32 (BitVec.ofNat 32 d)) (Ideal.ofBits .f32 0x427C0000#32)
  else 1

/-- Angle of position `s` at frequency `d`. -/
def angle (s d : ℕ) : EReal :=
  FloatOps.sitofp (F := Ideal) .f32 (BitVec.ofNat 32 s) *
    Ideal.div 1 (Ideal.pow (Ideal.ofBits .f32 0x461C4000#32) (lin d))
/-- Entry of the cosine table. -/
def cosT (s d : ℕ) : EReal := if d < 64 then Ideal.cos (angle s d) else Ideal.cos (angle s (d - 64))
/-- Entry of the sine table, with the sign of the rotation in its first half. -/
def sinT (s d : ℕ) : EReal := if d < 64 then -Ideal.sin (angle s d) else Ideal.sin (angle s (d - 64))

/-- The angle as a real number. -/
def theta (s d : ℕ) : ℝ :=
  (s : ℝ) * (1 / Real.rpow 10000 (if d < 63 then (d : ℝ) * (1 / 63) else 1))

theorem lin_coe (d : ℕ) (hd : d < 64) : lin d = ((if d < 63 then (d : ℝ) * (1 / 63) else 1 : ℝ) : EReal) := by
  unfold lin
  split
  · rw [sitofp_nat d (by omega), bits63, Ideal.div_coe (by norm_num), zero_mul, zero_add, ← EReal.coe_mul]
  · rfl

theorem angle_coe (s d : ℕ) (hs : s < 2048) (hd : d < 64) : angle s d = ((theta s d : ℝ) : EReal) := by
  unfold angle theta
  rw [sitofp_nat s (by omega), lin_coe d hd, bits10000, Ideal.pow_coe_coe,
    Ideal.div_coe (show Real.rpow 10000 (if d < 63 then (d : ℝ) * (1 / 63) else 1) ≠ 0 from (Real.rpow_pos_of_pos (by norm_num) _).ne'), one_mul, ← EReal.coe_mul]

/-- The entries of the two tables as real numbers. -/
def ct (s d : ℕ) : ℝ := if d < 64 then Real.cos (theta s d) else Real.cos (theta s (d - 64))
@[inherit_doc ct]
def sn (s d : ℕ) : ℝ := if d < 64 then -Real.sin (theta s d) else Real.sin (theta s (d - 64))

theorem cosT_coe (s d : ℕ) (hs : s < 2048) (hd : d < 128) : cosT s d = ((ct s d : ℝ) : EReal) := by
  unfold cosT ct
  split
  · rw [angle_coe s d hs (by omega), Ideal.cos_coe]
  · rw [angle_coe s _ hs (by omega), Ideal.cos_coe]
theorem sinT_coe (s d : ℕ) (hs : s < 2048) (hd : d < 128) : sinT s d = ((sn s d : ℝ) : EReal) := by
  unfold sinT sn
  split
  · rw [angle_coe s d hs (by omega), Ideal.sin_coe, EReal.coe_neg]
  · rw [angle_coe s _ hs (by omega), Ideal.sin_coe]

/-- An argument matrix read as real numbers. -/
def arr (X : (⟨3, ![4, 2048, 1024]⟩ : Shape).Idx → EReal) (b : Fin 4) (s n : ℕ) : ℝ :=
  if h : s < 2048 ∧ n < 1024 then (X (ix3 b ⟨s, h.1⟩ ⟨n, h.2⟩)).toReal else 0

theorem arr_coe (X : (⟨3, ![4, 2048, 1024]⟩ : Shape).Idx → EReal) (hX : ∀ i, max (X i) (-X i) < ⊤)
    (b : Fin 4) (s : Fin 2048) (n : Fin 1024) : X (ix3 b s n) = ((arr X b s.val n.val : ℝ) : EReal) := by
  unfold arr
  rw [dif_pos ⟨s.isLt, n.isLt⟩]
  have h := hX (ix3 b s n)
  generalize X (ix3 b s n) = x at h ⊢
  rw [EReal.coe_toReal]
  · rintro rfl; simp at h
  · rintro rfl; simp at h

/-- A head's rotated row. -/
def rotR (X : (⟨3, ![4, 2048, 1024]⟩ : Shape).Idx → EReal) (b : Fin 4) (h : ℕ) (s : ℕ) (d : Fin 128) : ℝ :=
  arr X b s (128 * h + d.val) * ct s d.val + arr X b s (128 * h + (d.val + 64) % 128) * sn s d.val
/-- A head's scaled and rotated row. -/
def rotK (X : (⟨3, ![4, 2048, 1024]⟩ : Shape).Idx → EReal) (b : Fin 4) (h : ℕ) (s : ℕ) (d : Fin 128) : ℝ :=
  rotR X b h s d * kap
/-- A head's row. -/
def row (X : (⟨3, ![4, 2048, 1024]⟩ : Shape).Idx → EReal) (b : Fin 4) (h : ℕ) (s : ℕ) (e : Fin 128) : ℝ :=
  arr X b s (128 * h + e.val)
/-- The logarithm of a head's decay. -/
def gam (h : ℕ) : ℝ := Real.log (((2 : ℝ) ^ (5 + h) - 1) / 2 ^ (5 + h))

/-- The normed and gated readout from the readout of a head. -/
def yR (o : Fin 128 → ℝ) (w g : EReal) (e : Fin 128) : EReal :=
  ((o e : ℝ) : EReal) * Ideal.rsqrt (Ideal.div (∑ e' : Fin 128, ((o e' : ℝ) : EReal) * ((o e' : ℝ) : EReal)) (Ideal.ofBits .f32 0x43000000#32) +
    Ideal.ofBits .f32 0x358637BD#32) * w * (g * Ideal.logistic g)

/-- The state after the prompt. -/
def stT (Xk Xv : (⟨3, ![4, 2048, 1024]⟩ : Shape).Idx → EReal) (b : Fin 4) (h : ℕ) (d e : Fin 128) : EReal :=
  ((Sr (gam h) (rotK Xk b h) (row Xv b h) 2048 d e : ℝ) : EReal)

/-- The normed and gated readout of the prompt, feature `128 * h + e` of position `s`. -/
def outT (Xq Xk Xv Xg : (⟨3, ![4, 2048, 1024]⟩ : Shape).Idx → EReal) (w : (⟨2, ![2, 1024]⟩ : Shape).Idx → EReal)
    (b : Fin 4) (s : Fin 2048) (h : Fin 8) (e : Fin 128) : EReal :=
  yR (Or (gam h.val) (rotR Xq b h.val) (rotK Xk b h.val) (row Xv b h.val) s.val) (w (ix2 0 ⟨128 * h.val + e.val, by omega⟩))
    (Xg (ix3 b s ⟨128 * h.val + e.val, by omega⟩)) e

end Cert.Ret
-- ==== Proof.Ret.Reads.lean ====
module

public import proofs.«01_k».proof.Proof.Ret.Blocks
public import proofs.«01_k».proof.Proof.Ret.Real
public import Idealize.ShloMosaic.Lib.Claim
public import Idealize.ShloMosaic.Lib.StableHlo.RunRead

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Ret
variable (m : (ℓ : Loc nD τ sig) → Buf (Elt Ideal) ℓ)

/-- The index maps of the nine windows. -/
theorem idx : ∀ t : Fin cfg0.N, win0_0.index t = ![t.val / 16 * 8 + t.val % 8, 28 + t.val / 8 % 2] ∧
   win0_1.index t = ![t.val / 16 * 8 + t.val % 8, 30 + t.val / 8 % 2] ∧
   win0_2.index t = ![t.val / 16 * 8 + t.val % 8, 32 + t.val / 8 % 2] ∧
   win0_3.index t = ![t.val / 16 * 8 + t.val % 8, 34 + t.val / 8 % 2] ∧
   win0_4.index t = ![t.val % 8, 0] ∧
   win0_5.index t = ![t.val % 8, 0] ∧
   win0_6.index t = ![0, 0, t.val / 8 % 2] ∧
   win0_7.index t = ![t.val / 16 * 8 + t.val % 8, t.val / 8 % 2] ∧
   win0_8.index t = ![t.val / 16, t.val / 8 % 2, 0, 0] ∧ (grid0.coords t 1).val = t.val / 8 % 2 ∧ t.val < 64 :=
  (by decide +kernel : ∀ t : Fin grid0.N, _)

/-- The argument matrices as the rows the stacked operand is built from. -/
theorem u1 (c : Dev nD) (b : Fin 4) (s : Fin 2048) (j : Fin 1024) :
    StableHlo.upto ([hostOps0, hostOps0_1, hostOps0_2].flatten) (fun b => m (c, b)) 8 (Proc.devRef .tc main_v1) (ix2 ⟨2048 * b.val + s.val, by omega⟩ j) =
      m ((c : Thread nD τ).loc main_arg0) (ix3 b s j) := by
  after_reads_simp
  pointwise

theorem u2 (c : Dev nD) (b : Fin 4) (s : Fin 2048) (j : Fin 1024) :
    StableHlo.upto ([hostOps0, hostOps0_1, hostOps0_2].flatten) (fun b => m (c, b)) 8 (Proc.devRef .tc main_v2) (ix2 ⟨2048 * b.val + s.val, by omega⟩ j) =
      m ((c : Thread nD τ).loc main_arg1) (ix3 b s j) := by
  after_reads_simp
  pointwise

theorem u3 (c : Dev nD) (b : Fin 4) (s : Fin 2048) (j : Fin 1024) :
    StableHlo.upto ([hostOps0, hostOps0_1, hostOps0_2].flatten) (fun b => m (c, b)) 8 (Proc.devRef .tc main_v3) (ix2 ⟨2048 * b.val + s.val, by omega⟩ j) =
      m ((c : Thread nD τ).loc main_arg2) (ix3 b s j) := by
  after_reads_simp
  pointwise

theorem u4 (c : Dev nD) (b : Fin 4) (s : Fin 2048) (j : Fin 1024) :
    StableHlo.upto ([hostOps0, hostOps0_1, hostOps0_2].flatten) (fun b => m (c, b)) 8 (Proc.devRef .tc main_v4) (ix2 ⟨2048 * b.val + s.val, by omega⟩ j) =
      m ((c : Thread nD τ).loc main_arg3) (ix3 b s j) := by
  after_reads_simp
  pointwise

/-- The entries of the evenly spaced line, its last one apart. -/
theorem l15 (c : Dev nD) (d : Fin 63) : StableHlo.upto ([hostOps0, hostOps0_1, hostOps0_2].flatten) (fun b => m (c, b)) 35 (Proc.devRef .tc main_call0_v15) (ix1 d) = lin d.val := by
  after_reads_simp
  simp only [StableHlo.TRef.toBuf, StableHlo.TRef.ofBuf, cast_eq, id_eq]
  pointwise [lin]
theorem l16 (c : Dev nD) (d : Fin 1) : StableHlo.upto ([hostOps0, hostOps0_1, hostOps0_2].flatten) (fun b => m (c, b)) 35 (Proc.devRef .tc main_call0_v16) (ix1 d) = (1 : EReal) := by
  after_reads_simp
  simp only [StableHlo.TRef.toBuf, StableHlo.TRef.ofBuf, cast_eq, id_eq]
  pointwise [lin]
/-- The evenly spaced line the frequencies are built from. -/
theorem v10 (c : Dev nD) (d : Fin 64) : V m c main_v10 (ix1 d) = lin d.val := by
  unfold_abbrev_sides
  after_reads_simp
  simp only [StableHlo.TRef.toBuf, StableHlo.TRef.ofBuf, cast_eq, id_eq]
  pointwise
  split
  · exact l15 m c _
  · rw [l16, lin, if_neg (by assumption)]

set_option maxHeartbeats 2000000 in
theorem v25 (c : Dev nD) (s : Fin 2048) (d : Fin 128) : V m c main_v25 (ix2 s d) = cosT s.val d.val := by
  unfold_abbrev_sides
  after_reads_simp
  try dsimp only [Matrix.cons_val]
  try after_reads_simp
  pointwise
  simp only [StableHlo.TRef.toBuf, StableHlo.TRef.ofBuf, cast_eq, id_eq]
  generalize hL : concatenate S64 0 _ _ = L
  have h : ∀ d : Fin 64, L (ix1 d) = lin d.val := by
    intro d
    rw [← hL]
    pointwise
    split
    · exact l15 m c _
    · rw [l16, lin, if_neg (by assumption)]
  simp only [h]
  have := d.isLt
  split
  · rw [cosT, if_pos (by assumption)]; rfl
  · rw [dif_pos (by omega), cosT, if_neg (by assumption)]; rfl

set_option maxHeartbeats 2000000 in
theorem v27 (c : Dev nD) (s : Fin 2048) (d : Fin 128) : V m c main_v27 (ix2 s d) = sinT s.val d.val := by
  unfold_abbrev_sides
  after_reads_simp
  try dsimp only [Matrix.cons_val]
  try after_reads_simp
  pointwise
  simp only [StableHlo.TRef.toBuf, StableHlo.TRef.ofBuf, cast_eq, id_eq]
  generalize hL : concatenate S64 0 _ _ = L
  have h : ∀ d : Fin 64, L (ix1 d) = lin d.val := by
    intro d
    rw [← hL]
    pointwise
    split
    · exact l15 m c _
    · rw [l16, lin, if_neg (by assumption)]
  simp only [h]
  have := d.isLt
  split
  · rw [sinT, if_pos (by assumption)]; rfl
  · rw [dif_pos (by omega), sinT, if_neg (by assumption)]; rfl

/-- The norm's weights are the first row of the argument. -/
theorem v28 (c : Dev nD) (j : Fin 1024) :
    V m c main_v28 (ix3 0 0 j) = m ((c : Thread nD τ).loc main_arg4) (ix2 0 j) := by
  unfold_abbrev_sides
  after_reads_simp
  pointwise

/-- The stacked operand holds the four argument matrices side by side. -/
theorem z1 (c : Dev nD) (b : Fin 4) (s : Fin 2048) (j : Fin 1024) :
    V m c main_v8 (ix2 ⟨2048 * b.val + s.val, by omega⟩ ⟨14336 + j.val, by omega⟩) =
      m ((c : Thread nD τ).loc main_arg0) (ix3 b s j) := by
  unfold_abbrev_sides
  after_reads_simp
  try dsimp only [Matrix.cons_val]
  try after_reads_simp
  pointwise
  rw [dif_pos (by omega)]
  exact u1 m c b s j

theorem z2 (c : Dev nD) (b : Fin 4) (s : Fin 2048) (j : Fin 1024) :
    V m c main_v8 (ix2 ⟨2048 * b.val + s.val, by omega⟩ ⟨15360 + j.val, by omega⟩) =
      m ((c : Thread nD τ).loc main_arg1) (ix3 b s j) := by
  unfold_abbrev_sides
  after_reads_simp
  try dsimp only [Matrix.cons_val]
  try after_reads_simp
  pointwise
  rw [dif_pos (by omega)]
  rw [dif_neg (by omega)]
  rw [dif_neg (by omega)]
  rw [dif_pos (by omega)]
  have e : (⟨15360 + j.val - 14336 - 1024, by omega⟩ : Fin 1024) = j := Fin.ext (by simp only; omega)
  rw [e]
  exact u2 m c b s j

theorem z3 (c : Dev nD) (b : Fin 4) (s : Fin 2048) (j : Fin 1024) :
    V m c main_v8 (ix2 ⟨2048 * b.val + s.val, by omega⟩ ⟨16384 + j.val, by omega⟩) =
      m ((c : Thread nD τ).loc main_arg2) (ix3 b s j) := by
  unfold_abbrev_sides
  after_reads_simp
  try dsimp only [Matrix.cons_val]
  try after_reads_simp
  pointwise
  rw [dif_pos (by omega)]
  rw [dif_neg (by omega)]
  rw [dif_neg (by omega)]
  rw [dif_neg (by omega)]
  rw [dif_pos (by omega)]
  have e : (⟨16384 + j.val - 14336 - 1024 - 1024, by omega⟩ : Fin 1024) = j := Fin.ext (by simp only; omega)
  rw [e]
  exact u3 m c b s j

theorem z4 (c : Dev nD) (b : Fin 4) (s : Fin 2048) (j : Fin 1024) :
    V m c main_v8 (ix2 ⟨2048 * b.val + s.val, by omega⟩ ⟨17408 + j.val, by omega⟩) =
      m ((c : Thread nD τ).loc main_arg3) (ix3 b s j) := by
  unfold_abbrev_sides
  after_reads_simp
  try dsimp only [Matrix.cons_val]
  try after_reads_simp
  pointwise
  rw [dif_pos (by omega)]
  rw [dif_neg (by omega)]
  rw [dif_neg (by omega)]
  rw [dif_neg (by omega)]
  rw [dif_neg (by omega)]
  rw [dif_pos (by omega)]
  have e : (⟨17408 + j.val - 14336 - 1024 - 1024 - 1024, by omega⟩ : Fin 1024) = j := Fin.ext (by simp only; omega)
  rw [e]
  exact u4 m c b s j

/-- The blocks of the four matrices at grid point `t`. -/
theorem x0 (c : Dev nD) (t : Fin cfg0.N) (r : Fin 256) (j : Fin 512) (b : Fin 4) (s : Fin 2048) (n : Fin 1024)
   (hb : b.val = t.val / 16) (hs : s.val = t.val % 8 * 256 + r.val) (hn : n.val = t.val / 8 % 2 * 512 + j.val) :
   X0_0 m c t (ix2 r j) = m ((c : Thread nD τ).loc main_arg0) (ix3 b s n) := by
  refine Eq.trans ?_ (z1 m c b s n)
  have h : ∀ (g : ((cfg0.win 0).xblock (cfg0.grid.coords t)).Idx → EReal) d, (cfg0.win 0).fill (cfg0.grid.coords t) d g (ix2 r j) =
      g (fun a => ⟨((ix2 r j : (cfg0.win 0).block.Idx) a).val, ((cfg0.win 0).moved_iff _ _).mp (moved0_0 t (ix2 r j)) a⟩) := by
    intro g d
    unfold Pipeline.Window.fill; rw [dif_pos (moved0_0 t (ix2 r j))]
  refine Eq.trans (h _ _) ?_
  blk_point [iblk, V, idx t]

theorem x1 (c : Dev nD) (t : Fin cfg0.N) (r : Fin 256) (j : Fin 512) (b : Fin 4) (s : Fin 2048) (n : Fin 1024)
   (hb : b.val = t.val / 16) (hs : s.val = t.val % 8 * 256 + r.val) (hn : n.val = t.val / 8 % 2 * 512 + j.val) :
   X0_1 m c t (ix2 r j) = m ((c : Thread nD τ).loc main_arg1) (ix3 b s n) := by
  refine Eq.trans ?_ (z2 m c b s n)
  have h : ∀ (g : ((cfg0.win 1).xblock (cfg0.grid.coords t)).Idx → EReal) d, (cfg0.win 1).fill (cfg0.grid.coords t) d g (ix2 r j) =
      g (fun a => ⟨((ix2 r j : (cfg0.win 1).block.Idx) a).val, ((cfg0.win 1).moved_iff _ _).mp (moved0_1 t (ix2 r j)) a⟩) := by
    intro g d
    unfold Pipeline.Window.fill; rw [dif_pos (moved0_1 t (ix2 r j))]
  refine Eq.trans (h _ _) ?_
  blk_point [iblk, V, idx t]

theorem x2 (c : Dev nD) (t : Fin cfg0.N) (r : Fin 256) (j : Fin 512) (b : Fin 4) (s : Fin 2048) (n : Fin 1024)
   (hb : b.val = t.val / 16) (hs : s.val = t.val % 8 * 256 + r.val) (hn : n.val = t.val / 8 % 2 * 512 + j.val) :
   X0_2 m c t (ix2 r j) = m ((c : Thread nD τ).loc main_arg2) (ix3 b s n) := by
  refine Eq.trans ?_ (z3 m c b s n)
  have h : ∀ (g : ((cfg0.win 2).xblock (cfg0.grid.coords t)).Idx → EReal) d, (cfg0.win 2).fill (cfg0.grid.coords t) d g (ix2 r j) =
      g (fun a => ⟨((ix2 r j : (cfg0.win 2).block.Idx) a).val, ((cfg0.win 2).moved_iff _ _).mp (moved0_2 t (ix2 r j)) a⟩) := by
    intro g d
    unfold Pipeline.Window.fill; rw [dif_pos (moved0_2 t (ix2 r j))]
  refine Eq.trans (h _ _) ?_
  blk_point [iblk, V, idx t]

theorem x3 (c : Dev nD) (t : Fin cfg0.N) (r : Fin 256) (j : Fin 512) (b : Fin 4) (s : Fin 2048) (n : Fin 1024)
   (hb : b.val = t.val / 16) (hs : s.val = t.val % 8 * 256 + r.val) (hn : n.val = t.val / 8 % 2 * 512 + j.val) :
   X0_3 m c t (ix2 r j) = m ((c : Thread nD τ).loc main_arg3) (ix3 b s n) := by
  refine Eq.trans ?_ (z4 m c b s n)
  have h : ∀ (g : ((cfg0.win 3).xblock (cfg0.grid.coords t)).Idx → EReal) d, (cfg0.win 3).fill (cfg0.grid.coords t) d g (ix2 r j) =
      g (fun a => ⟨((ix2 r j : (cfg0.win 3).block.Idx) a).val, ((cfg0.win 3).moved_iff _ _).mp (moved0_3 t (ix2 r j)) a⟩) := by
    intro g d
    unfold Pipeline.Window.fill; rw [dif_pos (moved0_3 t (ix2 r j))]
  refine Eq.trans (h _ _) ?_
  blk_point [iblk, V, idx t]

/-- The blocks of the two tables and of the norm's weights at grid point `t`. -/
theorem b4 (c : Dev nD) (t : Fin cfg0.N) (r : Fin 256) (j : Fin 128) (s : Fin 2048)
   (hs : s.val = t.val % 8 * 256 + r.val) :
   iblk m c 4 t (ix2 r j) = cosT s.val j.val := by
  refine Eq.trans ?_ (v25 m c s j)
  blk_point [iblk, V, idx t]
theorem b5 (c : Dev nD) (t : Fin cfg0.N) (r : Fin 256) (j : Fin 128) (s : Fin 2048)
   (hs : s.val = t.val % 8 * 256 + r.val) :
   iblk m c 5 t (ix2 r j) = sinT s.val j.val := by
  refine Eq.trans ?_ (v27 m c s j)
  blk_point [iblk, V, idx t]
theorem b6 (c : Dev nD) (t : Fin cfg0.N) (j : Fin 512) (n : Fin 1024) (hn : n.val = t.val / 8 % 2 * 512 + j.val) :
   iblk m c 6 t (ix3 0 0 j) = m ((c : Thread nD τ).loc main_arg4) (ix2 0 n) := by
  refine Eq.trans ?_ (v28 m c n)
  blk_point [iblk, V, idx t]

end Cert.KernelIdeal.Value
-- ==== Proof.Ret.Kern.lean ====
module

public import proofs.«01_k».proof.Proof.Ret.Reads

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Ret
variable (m : (ℓ : Loc nD τ sig) → Buf (Elt Ideal) ℓ)

/-- The named logarithms of the decays, head by head. -/
theorem lgB_coe (p : ℕ) (hp : p < 2) (hh : Fin 4) : lgB (BitVec.ofNat 32 p) hh = ((gam (4 * p + hh.val) : ℝ) : EReal) := by
  interval_cases p <;> fin_cases hh <;>
    simp only [lgB, gam] <;>
    · first
      | refine (IdealRules.named_const.ideal_named_scalar κ "lg0" _ _ rfl).trans ?_
      | refine (IdealRules.named_const.ideal_named_scalar κ "lg1" _ _ rfl).trans ?_
      | refine (IdealRules.named_const.ideal_named_scalar κ "lg2" _ _ rfl).trans ?_
      | refine (IdealRules.named_const.ideal_named_scalar κ "lg3" _ _ rfl).trans ?_
      | refine (IdealRules.named_const.ideal_named_scalar κ "lg4" _ _ rfl).trans ?_
      | refine (IdealRules.named_const.ideal_named_scalar κ "lg5" _ _ rfl).trans ?_
      | refine (IdealRules.named_const.ideal_named_scalar κ "lg6" _ _ rfl).trans ?_
      | refine (IdealRules.named_const.ideal_named_scalar κ "lg7" _ _ rfl).trans ?_
      norm_num

section decays
variable (A : BitVec 32) (hh : Fin 4) (L : ℝ) (hL : lgB A hh = (L : EReal))
include hL

theorem kdB_coe (r : Fin 256) : kdB A hh r = ((Real.exp (L * (((256 : ℕ) : ℝ) - 1 - r.val)) : ℝ) : EReal) := by
  unfold kdB
  rw [hL, bits255, sitofp_nat r.val (by omega), ← EReal.coe_sub, ← EReal.coe_mul, Ideal.exp_coe]
  norm_num
theorem qdB_coe (r : Fin 256) : qdB A hh r = ((Real.exp (L * ((r.val : ℝ) + 1)) : ℝ) : EReal) := by
  unfold qdB
  rw [hL, sitofp_nat r.val (by omega), ← EReal.coe_one, ← EReal.coe_add, ← EReal.coe_mul, Ideal.exp_coe]
theorem itB_coe (r u : Fin 256) :
    itB A hh r u = ((if u.val ≤ r.val then Real.exp (L * ((r.val : ℝ) - u.val)) else 0 : ℝ) : EReal) := by
  unfold itB
  rw [hL, sitofp_sub r.val u.val (by omega) (by omega)]
  by_cases h : u.val ≤ r.val
  · have h' : (0 : ℝ) ≤ (r.val : ℝ) - u.val := by
      have : (u.val : ℝ) ≤ r.val := by exact_mod_cast h
      linarith
    rw [if_pos h, if_pos (by exact_mod_cast h'), max_eq_left (by exact_mod_cast h'), ← EReal.coe_mul, Ideal.exp_coe]
  · have h' : ¬(0 : ℝ) ≤ (r.val : ℝ) - u.val := by
      have : (r.val : ℝ) < u.val := by exact_mod_cast (not_le.mp h)
      linarith
    rw [if_neg h, if_neg (by exact_mod_cast h')]; rfl

variable (q k v : ℕ → Fin 128 → ℝ) (n : ℕ)
variable (xq xk xv : FVec Ideal S256x512 .f32) (co si : FVec Ideal S256x128 .f32)
  (s : FVec Ideal S4x128x128 .f32) (it : FVec Ideal S4x256x256 .f32) (qd kd : FVec Ideal S4x256x128 .f32)

/-- A chunk's step of the state, over real numbers. -/
theorem stB_coe (hk : ∀ r d, rotB xk co si hh r d * Ideal.ofBits .f32 0x3DB504F3#32 = ((k (n + r.val) d : ℝ) : EReal))
    (hv : ∀ (r : Fin 256) (e : Fin 128), xv (ix2 r ⟨128 * hh.val + e.val, by omega⟩) = ((v (n + r.val) e : ℝ) : EReal))
    (hs : ∀ d e, s (ix3 hh d e) = ((Sr L k v n d e : ℝ) : EReal))
    (hkd : ∀ r d, kd (ix3 hh r d) = ((Real.exp (L * (((256 : ℕ) : ℝ) - 1 - r.val)) : ℝ) : EReal)) (d e : Fin 128) :
    stB A xk xv co si s kd hh d e = ((Sr L k v (n + 256) d e : ℝ) : EReal) := by
  unfold stB
  rw [← state_step L k v n 256 d e, EReal.coe_add, coe_sum, hs, hL, bits256, ← EReal.coe_mul, Ideal.exp_coe, EReal.coe_mul]
  congr 1
  refine Finset.sum_congr rfl fun r _ => ?_
  rw [hk, hv, hkd, EReal.coe_mul, EReal.coe_mul]

/-- A chunk's readout, over real numbers. -/
theorem oB_coe (hq : ∀ r d, rotB xq co si hh r d = ((q (n + r.val) d : ℝ) : EReal))
    (hk : ∀ r d, rotB xk co si hh r d * Ideal.ofBits .f32 0x3DB504F3#32 = ((k (n + r.val) d : ℝ) : EReal))
    (hv : ∀ (r : Fin 256) (e : Fin 128), xv (ix2 r ⟨128 * hh.val + e.val, by omega⟩) = ((v (n + r.val) e : ℝ) : EReal))
    (hs : ∀ d e, s (ix3 hh d e) = ((Sr L k v n d e : ℝ) : EReal))
    (hit : ∀ r u, it (ix3 hh r u) = ((if u.val ≤ r.val then Real.exp (L * ((r.val : ℝ) - u.val)) else 0 : ℝ) : EReal))
    (hqd : ∀ r d, qd (ix3 hh r d) = ((Real.exp (L * ((r.val : ℝ) + 1)) : ℝ) : EReal)) (r : Fin 256) (e : Fin 128) :
    oB xq xk xv co si s it qd hh r e = ((Or L q k v (n + r.val) e : ℝ) : EReal) := by
  unfold oB
  rw [← out_step L q k v n 256 r e, EReal.coe_add, coe_sum, coe_sum]
  congr 1
  · refine Finset.sum_congr rfl fun u _ => ?_
    rw [EReal.coe_mul, EReal.coe_mul, coe_sum, hit, hv]
    congr 2
    refine Finset.sum_congr rfl fun d _ => ?_
    rw [hq, hk, EReal.coe_mul]
  · refine Finset.sum_congr rfl fun d _ => ?_
    rw [hq, hqd, hs, EReal.coe_mul, EReal.coe_mul]
end decays

section chunks
variable (c : Dev nD)

/-- The four argument matrices, the queries, keys, values and gates. -/
abbrev Xq : (⟨3, ![4, 2048, 1024]⟩ : Shape).Idx → EReal := m ((c : Thread nD τ).loc main_arg0)
@[inherit_doc Xq] abbrev Xk : (⟨3, ![4, 2048, 1024]⟩ : Shape).Idx → EReal := m ((c : Thread nD τ).loc main_arg1)
@[inherit_doc Xq] abbrev Xv : (⟨3, ![4, 2048, 1024]⟩ : Shape).Idx → EReal := m ((c : Thread nD τ).loc main_arg2)
@[inherit_doc Xq] abbrev Xg : (⟨3, ![4, 2048, 1024]⟩ : Shape).Idx → EReal := m ((c : Thread nD τ).loc main_arg3)

/-- The batch entry and the first head of grid point `t`. -/
def bt (t : Fin cfg0.N) : Fin 4 := ⟨t.val / 16, by have := (idx t).2.2.2.2.2.2.2.2.2.2; omega⟩
@[inherit_doc bt]
def ht (t : Fin cfg0.N) (hh : Fin 4) : ℕ := 4 * (t.val / 8 % 2) + hh.val

theorem lg_t (t : Fin cfg0.N) (hh : Fin 4) : lgB (BitVec.ofNat 32 ↑(grid0.coords t 1)) hh = ((gam (ht t hh) : ℝ) : EReal) := by
  rw [(idx t).2.2.2.2.2.2.2.2.2.1]
  exact lgB_coe _ (by omega) hh

theorem rot_t (X : (⟨3, ![4, 2048, 1024]⟩ : Shape).Idx → EReal) (hX : ∀ i, max (X i) (-X i) < ⊤)
    (t : Fin cfg0.N) (x : FVec Ideal S256x512 .f32) (hx : ∀ (r : Fin 256) (j : Fin 512) (b : Fin 4) (s : Fin 2048) (n : Fin 1024)
      (hb : b.val = t.val / 16) (hs : s.val = t.val % 8 * 256 + r.val) (hn : n.val = t.val / 8 % 2 * 512 + j.val),
      x (ix2 r j) = X (ix3 b s n)) (hh : Fin 4) (r : Fin 256) (d : Fin 128) :
    rotB x (iblk m c 4 t) (iblk m c 5 t) hh r d = ((rotR X (bt t) (ht t hh) (256 * (t.val % 8) + r.val) d : ℝ) : EReal) := by
  have ht' := (idx t).2.2.2.2.2.2.2.2.2.2
  have hs : 256 * (t.val % 8) + r.val < 2048 := by omega
  unfold rotB rotR
  rw [hx r _ (bt t) ⟨_, hs⟩ ⟨128 * ht t hh + d.val, by unfold ht; omega⟩ rfl (by simp only; omega) (by simp only [ht]; omega),
    hx r _ (bt t) ⟨_, hs⟩ ⟨128 * ht t hh + (d.val + 64) % 128, by unfold ht; omega⟩ rfl (by simp only; omega) (by simp only [ht]; omega),
    b4 m c t r d ⟨_, hs⟩ (by simp only; omega), b5 m c t r d ⟨_, hs⟩ (by simp only; omega),
    arr_coe X hX, arr_coe X hX, cosT_coe _ _ hs d.isLt, sinT_coe _ _ hs d.isLt, EReal.coe_add, EReal.coe_mul, EReal.coe_mul]

theorem row_t (X : (⟨3, ![4, 2048, 1024]⟩ : Shape).Idx → EReal) (hX : ∀ i, max (X i) (-X i) < ⊤)
    (t : Fin cfg0.N) (x : FVec Ideal S256x512 .f32) (hx : ∀ (r : Fin 256) (j : Fin 512) (b : Fin 4) (s : Fin 2048) (n : Fin 1024)
      (hb : b.val = t.val / 16) (hs : s.val = t.val % 8 * 256 + r.val) (hn : n.val = t.val / 8 % 2 * 512 + j.val),
      x (ix2 r j) = X (ix3 b s n)) (hh : Fin 4) (r : Fin 256) (e : Fin 128) :
    x (ix2 r ⟨128 * hh.val + e.val, by omega⟩) = ((row X (bt t) (ht t hh) (256 * (t.val % 8) + r.val) e : ℝ) : EReal) := by
  have ht' := (idx t).2.2.2.2.2.2.2.2.2.2
  have hs : 256 * (t.val % 8) + r.val < 2048 := by omega
  unfold row
  rw [hx r _ (bt t) ⟨_, hs⟩ ⟨128 * ht t hh + e.val, by unfold ht; omega⟩ rfl (by simp only; omega) (by simp only [ht]; omega), arr_coe X hX]

variable (hq : ∀ i, max (Xq m c i) (-Xq m c i) < ⊤) (hk : ∀ i, max (Xk m c i) (-Xk m c i) < ⊤) (hv : ∀ i, max (Xv m c i) (-Xv m c i) < ⊤)

theorem krot_t (hk : ∀ i, max (Xk m c i) (-Xk m c i) < ⊤) (t : Fin cfg0.N) (hh : Fin 4) (r : Fin 256) (d : Fin 128) :
    rotB (X0_1 m c t) (iblk m c 4 t) (iblk m c 5 t) hh r d * Ideal.ofBits .f32 0x3DB504F3#32 =
      ((rotK (Xk m c) (bt t) (ht t hh) (256 * (t.val % 8) + r.val) d : ℝ) : EReal) := by
  rw [rot_t m c (Xk m c) hk t _ (fun r j b s n => x1 m c t r j b s n), bitsKap, rotK, EReal.coe_mul]

/-- The state of head `hh` of grid point `t` after `n` positions, and its readout. -/
def St (t : Fin cfg0.N) (hh : Fin 4) (n : ℕ) (d e : Fin 128) : ℝ :=
  Sr (gam (ht t hh)) (rotK (Xk m c) (bt t) (ht t hh)) (row (Xv m c) (bt t) (ht t hh)) n d e
@[inherit_doc St]
def Ot (t : Fin cfg0.N) (hh : Fin 4) (s : ℕ) (e : Fin 128) : ℝ :=
  Or (gam (ht t hh)) (rotR (Xq m c) (bt t) (ht t hh)) (rotK (Xk m c) (bt t) (ht t hh)) (row (Xv m c) (bt t) (ht t hh)) s e

/-- What a grid point leaves in the four buffers the chunks of a head share. -/
def Inv (t : Fin cfg0.N) : Prop :=
  (∀ hh d e, (outsAt0 m c t.val t.isLt).2.2.1 (ix3 hh d e) = ((St m c t hh (256 * (t.val % 8 + 1)) d e : ℝ) : EReal)) ∧
  (∀ hh r u, (outsAt0 m c t.val t.isLt).2.2.2.1 (ix3 hh r u) =
    ((if u.val ≤ r.val then Real.exp (gam (ht t hh) * ((r.val : ℝ) - u.val)) else 0 : ℝ) : EReal)) ∧
  (∀ hh r d, (outsAt0 m c t.val t.isLt).2.2.2.2.1 (ix3 hh r d) = ((Real.exp (gam (ht t hh) * ((r.val : ℝ) + 1)) : ℝ) : EReal)) ∧
  (∀ hh r d, (outsAt0 m c t.val t.isLt).2.2.2.2.2 (ix3 hh r d) =
    ((Real.exp (gam (ht t hh) * (((256 : ℕ) : ℝ) - 1 - r.val)) : ℝ) : EReal))

theorem Sr_zero (L : ℝ) (k v : ℕ → Fin 128 → ℝ) (d e : Fin 128) : Sr L k v 0 d e = 0 := by simp [Sr]

include hk hv in
theorem inv_first (t : Fin cfg0.N) (hA : t.val % 8 = 0) : Inv m c t := by
  have hC : ¬t.val % 8 = 7 := by omega
  refine ⟨fun hh d e => ?_, fun hh r u => ?_, fun hh r d => ?_, fun hh r d => ?_⟩
  · rw [st_A m c t hA hC]
    have h := stB_coe _ hh _ (lg_t t hh) (rotK (Xk m c) (bt t) (ht t hh)) (row (Xv m c) (bt t) (ht t hh)) (256 * (t.val % 8))
      (X0_1 m c t) (X0_2 m c t) (iblk m c 4 t) (iblk m c 5 t) (fun _ => 0)
      (fun i => kdB (BitVec.ofNat 32 ↑(grid0.coords t 1)) (i 0) (i 1)) (krot_t m c hk t hh)
      (row_t (Xv m c) hv t _ (fun r j b s n => x2 m c t r j b s n) hh)
      (fun d e => by rw [hA, Sr_zero]; rfl) (fun r d => kdB_coe _ hh _ (lg_t t hh) r) d e
    exact h
  · rw [it_A m c t hA hC]; exact itB_coe _ hh _ (lg_t t hh) r u
  · rw [qd_A m c t hA hC]; exact qdB_coe _ hh _ (lg_t t hh) r
  · rw [kd_A m c t hA hC]; exact kdB_coe _ hh _ (lg_t t hh) r

theorem ht_pred (t t' : Fin cfg0.N) (h : t'.val = t.val - 1) (hA : ¬t.val % 8 = 0) (hh : Fin 4) : ht t' hh = ht t hh := by
  unfold ht; rw [h]; omega
theorem bt_pred (t t' : Fin cfg0.N) (h : t'.val = t.val - 1) (hA : ¬t.val % 8 = 0) : bt t' = bt t := by
  unfold bt; apply Fin.ext; simp only; rw [h]; omega

include hk hv in
theorem inv_next (t t' : Fin cfg0.N) (h : t'.val = t.val - 1) (hA : ¬t.val % 8 = 0) (ih : Inv m c t') : Inv m c t := by
  obtain ⟨n, hn⟩ := t'
  obtain rfl : n = t.val - 1 := h
  obtain ⟨i1, i2, i3, i4⟩ := ih
  have H1 : ∀ h hh, ht ⟨t.val - 1, h⟩ hh = ht t hh := fun h hh => ht_pred t ⟨_, h⟩ rfl hA hh
  have H2 : ∀ h, bt ⟨t.val - 1, h⟩ = bt t := fun h => bt_pred t ⟨_, h⟩ rfl hA
  simp only [St, H1, H2] at i1 i2 i3 i4
  have e1 : 256 * ((t.val - 1) % 8 + 1) = 256 * (t.val % 8) := by omega
  rw [e1] at i1
  by_cases hC : t.val % 8 = 7
  · refine ⟨fun hh d e => ?_, fun hh r u => ?_, fun hh r d => ?_, fun hh r d => ?_⟩
    · rw [st_C m c t hA hC]
      exact stB_coe _ hh _ (lg_t t hh) (rotK (Xk m c) (bt t) (ht t hh)) (row (Xv m c) (bt t) (ht t hh)) (256 * (t.val % 8))
        (X0_1 m c t) (X0_2 m c t) (iblk m c 4 t) (iblk m c 5 t) _ _ (krot_t m c hk t hh)
        (row_t (Xv m c) hv t _ (fun r j b s n => x2 m c t r j b s n) hh) (i1 hh) (i4 hh) d e
    · rw [it_C m c t hA hC]; exact i2 hh r u
    · rw [qd_C m c t hA hC]; exact i3 hh r d
    · rw [kd_C m c t hA hC]; exact i4 hh r d
  · refine ⟨fun hh d e => ?_, fun hh r u => ?_, fun hh r d => ?_, fun hh r d => ?_⟩
    · rw [st_B m c t hA hC]
      exact stB_coe _ hh _ (lg_t t hh) (rotK (Xk m c) (bt t) (ht t hh)) (row (Xv m c) (bt t) (ht t hh)) (256 * (t.val % 8))
        (X0_1 m c t) (X0_2 m c t) (iblk m c 4 t) (iblk m c 5 t) _ _ (krot_t m c hk t hh)
        (row_t (Xv m c) hv t _ (fun r j b s n => x2 m c t r j b s n) hh) (i1 hh) (i4 hh) d e
    · rw [it_B m c t hA hC]; exact i2 hh r u
    · rw [qd_B m c t hA hC]; exact i3 hh r d
    · rw [kd_B m c t hA hC]; exact i4 hh r d

include hk hv in
/-- Every grid point leaves the state after its chunk and the head's decays. -/
theorem inv (t : Fin cfg0.N) : Inv m c t := by
  obtain ⟨n, hn⟩ := t
  induction n with
  | zero => exact inv_first m c hk hv _ (by simp)
  | succ n ih =>
    by_cases hA : (n + 1) % 8 = 0
    · exact inv_first m c hk hv _ hA
    · exact inv_next m c hk hv _ ⟨n, by omega⟩ rfl hA (ih _)

theorem yB_of (xq xk xv g : FVec Ideal S256x512 .f32) (co si : FVec Ideal S256x128 .f32) (nrm : FVec Ideal S1x1x512 .f32)
    (s : FVec Ideal S4x128x128 .f32) (it : FVec Ideal S4x256x256 .f32) (qd : FVec Ideal S4x256x128 .f32) (hh : Fin 4) (r : Fin 256)
    (o : Fin 128 → ℝ) (ho : ∀ e, oB xq xk xv co si s it qd hh r e = ((o e : ℝ) : EReal)) (e : Fin 128) :
    yB xq xk xv g co si nrm s it qd hh r e =
      yR o (nrm (ix3 0 0 ⟨128 * hh.val + e.val, by omega⟩)) (g (ix2 r ⟨128 * hh.val + e.val, by omega⟩)) e := by
  unfold yB yR
  simp only [ho]

include hq hk hv in
/-- The readout every grid point writes. -/
theorem out_t (t : Fin cfg0.N) (y : S256x512.Idx) (hh : Fin 4) (r : Fin 256) (e : Fin 128)
    (hr : (y 0).val = r.val) (he : (y 1).val = 128 * hh.val + e.val) (s : Fin 2048) (n : Fin 1024)
    (hs : s.val = 256 * (t.val % 8) + r.val) (hn : n.val = 128 * ht t hh + e.val) :
    (outsAt0 m c t.val t.isLt).1 y =
      yR (Ot m c t hh s.val) (m ((c : Thread nD τ).loc main_arg4) (ix2 0 n)) (Xg m c (ix3 (bt t) s n)) e := by
  have hw : iblk m c 6 t (ix3 0 0 ⟨128 * hh.val + e.val, by omega⟩) = m ((c : Thread nD τ).loc main_arg4) (ix2 0 n) :=
    b6 m c t _ n (by simp only [ht] at hn ⊢; omega)
  have hg : X0_3 m c t (ix2 r ⟨128 * hh.val + e.val, by omega⟩) = Xg m c (ix3 (bt t) s n) :=
    x3 m c t r _ (bt t) s n rfl (by omega) (by simp only [ht] at hn ⊢; omega)
  rw [← hw, ← hg, hs]
  by_cases hA : t.val % 8 = 0
  · have hC : ¬t.val % 8 = 7 := by omega
    rw [out_A m c t hA hC y hh r e hr he]
    refine yB_of _ _ _ _ _ _ _ _ _ _ hh r (Ot m c t hh (256 * (t.val % 8) + r.val)) (fun e => ?_) e
    exact oB_coe _ hh _ (lg_t t hh) _ _ _ (256 * (t.val % 8)) _ _ _ _ _ _ _ _
      (rot_t m c (Xq m c) hq t _ (fun r j b s n => x0 m c t r j b s n) hh) (krot_t m c hk t hh)
      (row_t (Xv m c) hv t _ (fun r j b s n => x2 m c t r j b s n) hh)
      (fun d e => by rw [hA, Sr_zero]; rfl) (fun r u => itB_coe _ hh _ (lg_t t hh) r u) (fun r d => qdB_coe _ hh _ (lg_t t hh) r) r e
  · have ih := inv m c hk hv ⟨t.val - 1, by have := t.isLt; omega⟩
    obtain ⟨i1, i2, i3, i4⟩ := ih
    have H1 : ∀ h hh, ht ⟨t.val - 1, h⟩ hh = ht t hh := fun h hh => ht_pred t ⟨_, h⟩ rfl hA hh
    have H2 : ∀ h, bt ⟨t.val - 1, h⟩ = bt t := fun h => bt_pred t ⟨_, h⟩ rfl hA
    simp only [St, H1, H2] at i1 i2 i3 i4
    have e1 : 256 * ((t.val - 1) % 8 + 1) = 256 * (t.val % 8) := by omega
    rw [e1] at i1
    by_cases hC : t.val % 8 = 7
    · rw [out_C m c t hA hC y hh r e hr he]
      refine yB_of _ _ _ _ _ _ _ _ _ _ hh r (Ot m c t hh (256 * (t.val % 8) + r.val)) (fun e => ?_) e
      exact oB_coe _ hh _ (lg_t t hh) _ _ _ (256 * (t.val % 8)) _ _ _ _ _ _ _ _
        (rot_t m c (Xq m c) hq t _ (fun r j b s n => x0 m c t r j b s n) hh) (krot_t m c hk t hh)
        (row_t (Xv m c) hv t _ (fun r j b s n => x2 m c t r j b s n) hh) (i1 hh) (i2 hh) (i3 hh) r e
    · rw [out_B m c t hA hC y hh r e hr he]
      refine yB_of _ _ _ _ _ _ _ _ _ _ hh r (Ot m c t hh (256 * (t.val % 8) + r.val)) (fun e => ?_) e
      exact oB_coe _ hh _ (lg_t t hh) _ _ _ (256 * (t.val % 8)) _ _ _ _ _ _ _ _
        (rot_t m c (Xq m c) hq t _ (fun r j b s n => x0 m c t r j b s n) hh) (krot_t m c hk t hh)
        (row_t (Xv m c) hv t _ (fun r j b s n => x2 m c t r j b s n) hh) (i1 hh) (i2 hh) (i3 hh) r e
end chunks

end Cert.KernelIdeal.Value
-- ==== Proof.Ret.Final.lean ====
module

public import proofs.«01_k».proof.Proof.Ret.Kern

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Ret
variable (m : (ℓ : Loc nD τ sig) → Buf (Elt Ideal) ℓ)
variable (c : Dev nD)
variable (hq : ∀ i, max (Xq m c i) (-Xq m c i) < ⊤) (hk : ∀ i, max (Xk m c i) (-Xk m c i) < ⊤) (hv : ∀ i, max (Xv m c i) (-Xv m c i) < ⊤)

/-- The weights of the norm. -/
abbrev Wn : (⟨2, ![2, 1024]⟩ : Shape).Idx → EReal := m ((c : Thread nD τ).loc main_arg4)

include hk hv in
/-- The state array. -/
theorem final8 : (dats m 0 c).arrAt 8 cfg0.N = fun y => stT (Xk m c) (Xv m c) (y 0) (y 1).val (y 2) (y 3) := by
  refine (dats m 0 c).arrAt_eq_of_covers 8 _ (by decide +kernel) fun t hf y => ?_
  have h7 : t.val % 8 = 7 := (flush0_8 t).mp hf
  blk_simp
  rw [after0_8, out8_C m c t (by omega) h7]
  refine ((inv m c hk hv t).1 _ _ _).trans ?_
  have i8 := (idx t).2.2.2.2.2.2.2.2.1
  have hN := (idx t).2.2.2.2.2.2.2.2.2.2
  have h1 : (y 1).val < 4 := (y 1).isLt
  have hy0 : (y 0).val < 1 := (y 0).isLt
  have e0 : (win0_8.blk t).view.emb y 0 = bt t := Fin.ext (by blk_simp [i8]; rfl)
  have e2 : (win0_8.blk t).view.emb y 2 = y 2 := Fin.ext (by blk_simp [i8])
  have e3 : (win0_8.blk t).view.emb y 3 = y 3 := Fin.ext (by blk_simp [i8])
  have e1 : win0_8.index t 1 * 4 + (y 1).val = ht t (y 1) := by rw [i8]; show t.val / 8 % 2 * 4 + (y 1).val = 4 * (t.val / 8 % 2) + (y 1).val; omega
  rw [e0, e2, e3, e1, h7]
  rfl

/-- Row `r`, feature `n` of the output array. -/
abbrev rowT (r n : ℕ) : EReal :=
  outT (Xq m c) (Xk m c) (Xv m c) (Xg m c) (Wn m c) ⟨r / 2048 % 4, Nat.mod_lt _ (by decide)⟩ ⟨r % 2048, Nat.mod_lt _ (by decide)⟩
    ⟨n / 128 % 8, Nat.mod_lt _ (by decide)⟩ ⟨n % 128, Nat.mod_lt _ (by decide)⟩

include hq hk hv in
/-- The first 8192 rows of the output array. -/
theorem final7 : (dats m 0 c).arrAt 7 cfg0.N = fun y => if (y 0).val < 8192 then rowT m c (y 0).val (y 1).val else V m c main_v29_0 y := by
  refine (dats m 0 c).arrAt_eq_of_coversWhere 7 (fun y => rowT m c (y 0).val (y 1).val) (fun β => β 0 < 32) (by decide +kernel) (fun t hf y => ?_)
    (fun j => by blk_simp [Pipeline.Window.cell_apply]; omega)
  have i7 := (idx t).2.2.2.2.2.2.2.1
  have hN := (idx t).2.2.2.2.2.2.2.2.2.2
  blk_simp [i7]
  rw [after0_7]
  have y0 : (y 0).val < 256 := ((cfg0.win 7).xinj (cfg0.grid.coords t) y 0).isLt
  have y1 : (y 1).val < 512 := ((cfg0.win 7).xinj (cfg0.grid.coords t) y 1).isLt
  have hb : (⟨((t.val / 16 * 8 + t.val % 8) * 256 + (y 0).val) / 2048 % 4, Nat.mod_lt _ (by decide)⟩ : Fin 4) = bt t := Fin.ext (by simp only [bt]; omega)
  have hs : ((t.val / 16 * 8 + t.val % 8) * 256 + (y 0).val) % 2048 = 256 * (t.val % 8) + (y 0).val := by omega
  have hh : (t.val / 8 % 2 * 512 + (y 1).val) / 128 % 8 = ht t ⟨(y 1).val / 128, by omega⟩ := by simp only [ht]; omega
  have hd : (t.val / 8 % 2 * 512 + (y 1).val) % 128 = (y 1).val % 128 := by omega
  refine (out_t m c hq hk hv t _ ⟨(y 1).val / 128, by omega⟩ ⟨(y 0).val, y0⟩ ⟨(y 1).val % 128, by omega⟩ rfl (by simp only; omega)
    ⟨256 * (t.val % 8) + (y 0).val, by omega⟩ ⟨128 * ht t ⟨(y 1).val / 128, by omega⟩ + (y 1).val % 128, by simp only [ht]; omega⟩ rfl rfl).trans ?_
  simp only [rowT, outT, hb, hs, hh, hd]
  rfl

end Cert.KernelIdeal.Value
-- ==== Proof.Ret.RefRot.lean ====
module

public import proofs.«01_k».proof.Proof.Gen.ReferenceIdeal.Run
public import proofs.«01_k».proof.Proof.Ret.Real
public import Idealize.ShloMosaic.Lib.Claim
public import Idealize.ShloMosaic.Lib.Pointwise
public import Idealize.ShloMosaic.Lib.StableHlo.RunRead

@[expose] public section

set_option maxRecDepth 16384
noncomputable section
open Idealize.ShloMosaic Idealize.ShloMosaic.TcCoe Idealize.SL.Sem Idealize.ShloMosaic.StableHlo
namespace Cert.ReferenceIdeal.Value
open Cert.ReferenceIdeal Cert.Ret
variable (m : (ℓ : Loc nD τ sig) → Buf (Elt Ideal) ℓ)

/-- Argument 0 as a matrix of numbers. -/
abbrev Xq (c : Dev nD) : (⟨3, ![4, 2048, 1024]⟩ : Shape).Idx → EReal := m ((c : Thread nD τ).loc main_arg0)
/-- Argument 1 as a matrix of numbers. -/
abbrev Xk (c : Dev nD) : (⟨3, ![4, 2048, 1024]⟩ : Shape).Idx → EReal := m ((c : Thread nD τ).loc main_arg1)
/-- Argument 2 as a matrix of numbers. -/
abbrev Xv (c : Dev nD) : (⟨3, ![4, 2048, 1024]⟩ : Shape).Idx → EReal := m ((c : Thread nD τ).loc main_arg2)
/-- Argument 3 as a matrix of numbers. -/
abbrev Xg (c : Dev nD) : (⟨3, ![4, 2048, 1024]⟩ : Shape).Idx → EReal := m ((c : Thread nD τ).loc main_arg3)
/-- The norm's weights. -/
abbrev Wn (c : Dev nD) : (⟨2, ![2, 1024]⟩ : Shape).Idx → EReal := m ((c : Thread nD τ).loc main_arg4)

theorem l15 (c : Dev nD) (d : Fin 63) : upto Gen.hostOps0_1 (after Gen.hostOps0 (launchContents m c)) 20 (Proc.devRef .tc main_call0_v15) (ix1 d) = lin d.val := by
  after_reads_simp
  simp only [TRef.toBuf, TRef.ofBuf, cast_eq, id_eq]
  pointwise [lin]
theorem l16 (c : Dev nD) (d : Fin 1) : upto Gen.hostOps0_1 (after Gen.hostOps0 (launchContents m c)) 20 (Proc.devRef .tc main_call0_v16) (ix1 d) = (1 : EReal) := by
  after_reads_simp
  simp only [TRef.toBuf, TRef.ofBuf, cast_eq, id_eq]
  pointwise [lin]
/-- The evenly spaced line the frequencies are built from. -/
theorem lcat (c : Dev nD) (d : ℕ) (hd : d < 64) : (if h : d < 63 then
      upto Gen.hostOps0_1 (after Gen.hostOps0 (launchContents m c)) 20 (Proc.devRef .tc main_call0_v15) (ix1 ⟨d, h⟩)
    else upto Gen.hostOps0_1 (after Gen.hostOps0 (launchContents m c)) 20 (Proc.devRef .tc main_call0_v16) (ix1 ⟨d - 63, by omega⟩)) = lin d := by
  split
  · exact l15 m c _
  · rw [l16, lin, if_neg (by assumption)]

theorem u25 (c : Dev nD) (b : Fin 4) (s : Fin 2048) (h : Fin 8) (d : Fin 64) :
    upto Gen.hostOps0_2 (after Gen.hostOps0_1 (after Gen.hostOps0 (launchContents m c))) 33 (Proc.devRef .tc main_v25) (ix4 b s h d) =
      Xq m c (ix3 b s ⟨128 * h.val + d.val, by omega⟩) * Ideal.cos (angle s.val d.val) - Xq m c (ix3 b s ⟨128 * h.val + (d.val + 64), by omega⟩) * Ideal.sin (angle s.val d.val) := by
  after_reads_simp
  try simp only [id_eq, TRef.toBuf, TRef.ofBuf, cast_eq]
  pointwise
  simp only [Nat.mul_comm h.val 128, Nat.add_comm 64 d.val]
  rw [lcat m c d.val d.isLt]
  rfl

theorem u32 (c : Dev nD) (b : Fin 4) (s : Fin 2048) (h : Fin 8) (d : Fin 64) :
    upto Gen.hostOps0_2 (after Gen.hostOps0_1 (after Gen.hostOps0 (launchContents m c))) 33 (Proc.devRef .tc main_v32) (ix4 b s h d) =
      Xq m c (ix3 b s ⟨128 * h.val + (d.val + 64), by omega⟩) * Ideal.cos (angle s.val d.val) + Xq m c (ix3 b s ⟨128 * h.val + d.val, by omega⟩) * Ideal.sin (angle s.val d.val) := by
  after_reads_simp
  try simp only [id_eq, TRef.toBuf, TRef.ofBuf, cast_eq]
  pointwise
  simp only [Nat.mul_comm h.val 128, Nat.add_comm 64 d.val]
  rw [lcat m c d.val d.isLt]
  rfl

theorem u53 (c : Dev nD) (b : Fin 4) (s : Fin 2048) (h : Fin 8) (d : Fin 64) :
    upto Gen.hostOps0_2 (after Gen.hostOps0_1 (after Gen.hostOps0 (launchContents m c))) 61 (Proc.devRef .tc main_v53) (ix4 b s h d) =
      Xk m c (ix3 b s ⟨128 * h.val + d.val, by omega⟩) * Ideal.cos (angle s.val d.val) - Xk m c (ix3 b s ⟨128 * h.val + (d.val + 64), by omega⟩) * Ideal.sin (angle s.val d.val) := by
  after_reads_simp
  try simp only [id_eq, TRef.toBuf, TRef.ofBuf, cast_eq]
  pointwise
  simp only [Nat.mul_comm h.val 128, Nat.add_comm 64 d.val]
  rw [lcat m c d.val d.isLt]
  rfl

theorem u60 (c : Dev nD) (b : Fin 4) (s : Fin 2048) (h : Fin 8) (d : Fin 64) :
    upto Gen.hostOps0_2 (after Gen.hostOps0_1 (after Gen.hostOps0 (launchContents m c))) 61 (Proc.devRef .tc main_v60) (ix4 b s h d) =
      Xk m c (ix3 b s ⟨128 * h.val + (d.val + 64), by omega⟩) * Ideal.cos (angle s.val d.val) + Xk m c (ix3 b s ⟨128 * h.val + d.val, by omega⟩) * Ideal.sin (angle s.val d.val) := by
  after_reads_simp
  try simp only [id_eq, TRef.toBuf, TRef.ofBuf, cast_eq]
  pointwise
  simp only [Nat.mul_comm h.val 128, Nat.add_comm 64 d.val]
  rw [lcat m c d.val d.isLt]
  rfl
end Cert.ReferenceIdeal.Value
-- ==== Proof.Ret.RefEntry.lean ====
module

public import proofs.«01_k».proof.Proof.Gen.ReferenceIdeal.Run
public import proofs.«01_k».proof.Proof.Ret.RefRot
public import Idealize.ShloMosaic.Lib.Claim
public import Idealize.ShloMosaic.Lib.Pointwise
public import Idealize.ShloMosaic.Lib.StableHlo.RunRead

@[expose] public section

set_option maxRecDepth 16384
noncomputable section
open Idealize.ShloMosaic Idealize.ShloMosaic.TcCoe Idealize.SL.Sem Idealize.ShloMosaic.StableHlo
namespace Cert.ReferenceIdeal.Value
open Cert.ReferenceIdeal Cert.Ret
variable (m : (ℓ : Loc nD τ sig) → Buf (Elt Ideal) ℓ) (c : Dev nD)

/-- The two halves of a rotated row as real numbers. -/
theorem rot_lo (X : (⟨3, ![4, 2048, 1024]⟩ : Shape).Idx → EReal) (hX : ∀ i, max (X i) (-X i) < ⊤) (b : Fin 4) (s : Fin 2048) (h : Fin 8) (d : Fin 128) (hd : d.val < 64) :
    X (ix3 b s ⟨128 * h.val + d.val, by omega⟩) * Ideal.cos (angle s.val d.val) - X (ix3 b s ⟨128 * h.val + (d.val + 64), by omega⟩) * Ideal.sin (angle s.val d.val)
      = ((rotR X b h.val s.val d : ℝ) : EReal) := by
  rw [arr_coe X hX, arr_coe X hX, angle_coe _ _ s.isLt hd, Ideal.cos_coe, Ideal.sin_coe, ← EReal.coe_mul, ← EReal.coe_mul, ← EReal.coe_sub]
  congr 1
  unfold rotR ct sn
  rw [if_pos hd, if_pos hd, show (d.val + 64) % 128 = d.val + 64 by omega]
  ring
@[inherit_doc rot_lo]
theorem rot_hi (X : (⟨3, ![4, 2048, 1024]⟩ : Shape).Idx → EReal) (hX : ∀ i, max (X i) (-X i) < ⊤) (b : Fin 4) (s : Fin 2048) (h : Fin 8) (d : Fin 128) (hd : ¬ d.val < 64) :
    X (ix3 b s ⟨128 * h.val + ((d.val - 64) + 64), by omega⟩) * Ideal.cos (angle s.val (d.val - 64)) + X (ix3 b s ⟨128 * h.val + (d.val - 64), by omega⟩) * Ideal.sin (angle s.val (d.val - 64))
      = ((rotR X b h.val s.val d : ℝ) : EReal) := by
  rw [arr_coe X hX, arr_coe X hX, angle_coe _ _ s.isLt (by omega), Ideal.cos_coe, Ideal.sin_coe, ← EReal.coe_mul, ← EReal.coe_mul, ← EReal.coe_add]
  congr 1
  unfold rotR ct sn
  rw [if_neg hd, if_neg hd]
  simp only [show d.val - 64 + 64 = d.val by omega, show (d.val + 64) % 128 = d.val - 64 by omega]

/-- The logarithm of a head's decay, as the reference computes it. -/
theorem gam_coe (h : Fin 8) : Ideal.log (1 - Ideal.pow (Ideal.ofBits FTy.f32 1073741824#32)
      (Ideal.ofBits FTy.f32 3231711232#32 - FloatOps.sitofp (F := Ideal) FTy.f32 (BitVec.ofNat 32 h.val))) = ((gam h.val : ℝ) : EReal) := by
  have h2 : Ideal.ofBits FTy.f32 1073741824#32 = ((2 : ℝ) : EReal) := by simp [Ideal.ofBits, Ideal.ieee, -EReal.coe_mul]; norm_num
  have h5 : Ideal.ofBits FTy.f32 3231711232#32 = ((-5 : ℝ) : EReal) := by simp [Ideal.ofBits, Ideal.ieee, -EReal.coe_mul]; norm_num
  have hp : Real.rpow 2 (-5 - (h.val : ℝ)) = 1 / 2 ^ (5 + h.val) := by
    rw [show (-5 - (h.val : ℝ)) = -((5 + h.val : ℕ) : ℝ) by push_cast; ring]
    show (2 : ℝ) ^ (-((5 + h.val : ℕ) : ℝ)) = _
    rw [Real.rpow_neg (by norm_num), Real.rpow_natCast, one_div]
  have h1 : (1 : ℝ) ≤ 2 ^ (4 + h.val) := one_le_pow₀ (by norm_num)
  have h3 : (2 : ℝ) ^ (5 + h.val) = 2 * 2 ^ (4 + h.val) := by ring
  have hpos : (0 : ℝ) < 2 ^ (5 + h.val) := by positivity
  rw [h2, h5, sitofp_nat h.val (by omega), ← EReal.coe_sub, Ideal.pow_coe_coe, hp, ← EReal.coe_one, ← EReal.coe_sub, Ideal.log_coe,
    if_neg, gam]
  · congr 2
    field_simp
  · rw [not_le, sub_pos, div_lt_one hpos]; linarith

section entry
variable (hq : ∀ i, max (Xq m c i) (-Xq m c i) < ⊤) (hk : ∀ i, max (Xk m c i) (-Xk m c i) < ⊤) (hv : ∀ i, max (Xv m c i) (-Xv m c i) < ⊤)

include hq in
/-- The rotated queries, chunk by chunk. -/
theorem e0 (n : Fin 32) (b : Fin 4) (h : Fin 8) (i : Fin 64) (d : Fin 128) : entryContents preI m c (Proc.devRef .tc main_v120_0) (ix5 n b h i d) = ((rotR (Xq m c) b h.val (64 * n.val + i.val) d : ℝ) : EReal) := by
  unfold entryContents
  simp only [preI, afterL_cons, afterL_nil]
  after_reads_simp
  simp only [id_eq, TRef.toBuf, TRef.ofBuf, cast_eq]
  pointwise
  simp only [Nat.mul_comm n.val 64]
  split
  · rw [u25 m c b ⟨64 * n.val + i.val, by omega⟩ h ⟨d.val, by assumption⟩]
    exact rot_lo (Xq m c) hq b ⟨64 * n.val + i.val, by omega⟩ h d (by assumption)
  · rw [u32 m c b ⟨64 * n.val + i.val, by omega⟩ h ⟨d.val - 64, by omega⟩]
    exact rot_hi (Xq m c) hq b ⟨64 * n.val + i.val, by omega⟩ h d (by assumption)
include hk in
/-- The rotated and scaled keys, chunk by chunk. -/
theorem e1 (n : Fin 32) (b : Fin 4) (h : Fin 8) (i : Fin 64) (d : Fin 128) : entryContents preI m c (Proc.devRef .tc main_v120_1) (ix5 n b h i d) = ((rotK (Xk m c) b h.val (64 * n.val + i.val) d : ℝ) : EReal) := by
  unfold entryContents
  simp only [preI, afterL_cons, afterL_nil]
  after_reads_simp
  simp only [id_eq, TRef.toBuf, TRef.ofBuf, cast_eq]
  pointwise
  simp only [Nat.mul_comm n.val 64]
  unfold rotK
  rw [EReal.coe_mul, ← bitsKap]
  congr 1
  split
  · rw [u53 m c b ⟨64 * n.val + i.val, by omega⟩ h ⟨d.val, by assumption⟩]
    exact rot_lo (Xk m c) hk b ⟨64 * n.val + i.val, by omega⟩ h d (by assumption)
  · rw [u60 m c b ⟨64 * n.val + i.val, by omega⟩ h ⟨d.val - 64, by omega⟩]
    exact rot_hi (Xk m c) hk b ⟨64 * n.val + i.val, by omega⟩ h d (by assumption)
include hv in
/-- The values, chunk by chunk. -/
theorem e2 (n : Fin 32) (b : Fin 4) (h : Fin 8) (i : Fin 64) (d : Fin 128) : entryContents preI m c (Proc.devRef .tc main_v120_2) (ix5 n b h i d) = ((row (Xv m c) b h.val (64 * n.val + i.val) d : ℝ) : EReal) := by
  unfold entryContents
  simp only [preI, afterL_cons, afterL_nil]
  after_reads_simp
  simp only [id_eq, TRef.toBuf, TRef.ofBuf, cast_eq]
  pointwise
  simp only [Nat.mul_comm n.val 64, Nat.mul_comm h.val 128]
  exact arr_coe (Xv m c) hv b ⟨64 * n.val + i.val, by omega⟩ ⟨128 * h.val + d.val, by omega⟩
/-- The decays inside a chunk. -/
theorem e3 (h : Fin 8) (i j : Fin 64) : entryContents preI m c (Proc.devRef .tc main_v120_3) (ix3 h i j) = ((if j.val ≤ i.val then Real.exp (gam h.val * ((i.val : ℝ) - j.val)) else 0 : ℝ) : EReal) := by
  unfold entryContents
  simp only [preI, afterL_cons, afterL_nil]
  after_reads_simp
  simp only [id_eq, TRef.toBuf, TRef.ofBuf, cast_eq]
  pointwise
  rw [gam_coe, sitofp_nat i.val (by omega), sitofp_nat j.val (by omega), ← EReal.coe_sub, ← EReal.coe_zero]
  have hij : (((0 : ℝ) : EReal) ≤ (((i.val : ℝ) - j.val : ℝ) : EReal)) ↔ j.val ≤ i.val := by
    rw [EReal.coe_le_coe_iff, sub_nonneg, Nat.cast_le]
  by_cases hc : j.val ≤ i.val
  · rw [if_pos (hij.mpr hc), if_pos hc, max_eq_left (hij.mpr hc), ← EReal.coe_mul, Ideal.exp_coe]
  · rw [if_neg (fun hh => hc (hij.mp hh)), if_neg hc]
/-- The decay a query carries. -/
theorem e4 (h : Fin 8) (i : Fin 64) : entryContents preI m c (Proc.devRef .tc main_v120_4) (ix3 h i 0) = ((Real.exp (gam h.val * ((i.val : ℝ) + 1)) : ℝ) : EReal) := by
  unfold entryContents
  simp only [preI, afterL_cons, afterL_nil]
  after_reads_simp
  simp only [id_eq, TRef.toBuf, TRef.ofBuf, cast_eq]
  pointwise
  rw [gam_coe, sitofp_nat i.val (by omega), ← EReal.coe_one, ← EReal.coe_add, ← EReal.coe_mul, Ideal.exp_coe]
/-- The decay across a chunk. -/
theorem e5 (h : Fin 8) : entryContents preI m c (Proc.devRef .tc main_v120_5) (ix3 h 0 0) = ((Real.exp (gam h.val * ((64 : ℕ) : ℝ)) : ℝ) : EReal) := by
  unfold entryContents
  simp only [preI, afterL_cons, afterL_nil]
  after_reads_simp
  simp only [id_eq, TRef.toBuf, TRef.ofBuf, cast_eq]
  pointwise
  rw [gam_coe, show Ideal.ofBits FTy.f32 1115684864#32 = ((64 : ℝ) : EReal) from bits64, ← EReal.coe_mul, Ideal.exp_coe]
  norm_num
/-- The decay a key carries. -/
theorem e6 (h : Fin 8) (i : Fin 64) : entryContents preI m c (Proc.devRef .tc main_v120_6) (ix3 h i 0) = ((Real.exp (gam h.val * (((64 : ℕ) : ℝ) - 1 - i.val)) : ℝ) : EReal) := by
  unfold entryContents
  simp only [preI, afterL_cons, afterL_nil]
  after_reads_simp
  simp only [id_eq, TRef.toBuf, TRef.ofBuf, cast_eq]
  pointwise
  rw [gam_coe, show Ideal.ofBits FTy.f32 1115422720#32 = ((63 : ℝ) : EReal) from bits63, sitofp_nat i.val (by omega), ← EReal.coe_sub, ← EReal.coe_mul, Ideal.exp_coe]
  norm_num
/-- The state starts at zero. -/
theorem e8 (b : Fin 4) (h : Fin 8) (d e : Fin 128) : entryContents preI m c (Proc.devRef .tc main_v120_8) (ix4 b h d e) = (0 : EReal) := by
  unfold entryContents
  simp only [preI, afterL_cons, afterL_nil]
  after_reads_simp
  simp only [id_eq, TRef.toBuf, TRef.ofBuf, cast_eq]
  pointwise
end entry
end Cert.ReferenceIdeal.Value
-- ==== Proof.Ret.RefStep.lean ====
module

public import proofs.«01_k».proof.Proof.Gen.ReferenceIdeal.Run
public import proofs.«01_k».proof.Proof.Ret.Real
public import Idealize.ShloMosaic.Lib.DynamicIndex
public import Idealize.ShloMosaic.Lib.WordCmp
public import Idealize.ShloMosaic.Lib.Claim
public import Idealize.ShloMosaic.Lib.Pointwise
public import Idealize.ShloMosaic.Lib.StableHlo.RunRead

@[expose] public section

set_option maxRecDepth 16384
noncomputable section
open Idealize.ShloMosaic Idealize.ShloMosaic.TcCoe Idealize.SL.Sem Idealize.ShloMosaic.StableHlo
namespace Cert.ReferenceIdeal.Value
open Cert.ReferenceIdeal Cert.Ret
variable (V : Valuation τ sig (Elt Ideal))

theorem toInt_k (k : ℕ) (hk : k < 32) : (BitVec.ofNat 32 k).toInt = (k : ℤ) := by
  rw [BitVec.toInt_eq_toNat_of_lt (by rw [BitVec.toNat_ofNat]; omega), BitVec.toNat_ofNat]; omega
/-- Carried array 0 as numbers. -/
abbrev C0 : S32x4x8x64x128.Idx → EReal := V (Proc.devRef .tc main_v120_0)
/-- Carried array 1 as numbers. -/
abbrev C1 : S32x4x8x64x128.Idx → EReal := V (Proc.devRef .tc main_v120_1)
/-- Carried array 2 as numbers. -/
abbrev C2 : S32x4x8x64x128.Idx → EReal := V (Proc.devRef .tc main_v120_2)
/-- Carried array 3 as numbers. -/
abbrev C3 : S8x64x64.Idx → EReal := V (Proc.devRef .tc main_v120_3)
/-- Carried array 4 as numbers. -/
abbrev C4 : S8x64x1.Idx → EReal := V (Proc.devRef .tc main_v120_4)
/-- Carried array 5 as numbers. -/
abbrev C5 : S8x1x1.Idx → EReal := V (Proc.devRef .tc main_v120_5)
/-- Carried array 6 as numbers. -/
abbrev C6 : S8x64x1.Idx → EReal := V (Proc.devRef .tc main_v120_6)
/-- Carried array 8 as numbers. -/
abbrev C8 : S4x8x128x128.Idx → EReal := V (Proc.devRef .tc main_v120_8)
/-- Carried array 9 as numbers. -/
abbrev C9 : S32x4x8x64x128.Idx → EReal := V (Proc.devRef .tc main_v120_9)
/-- A chunk as numbers. -/
abbrev Q : S4x8x64x128.Idx → EReal := res_main_while0b_v146 V
/-- A chunk as numbers. -/
abbrev K : S4x8x64x128.Idx → EReal := res_main_while0b_v147 V
/-- A chunk as numbers. -/
abbrev U : S4x8x64x128.Idx → EReal := res_main_while0b_v148 V
theorem fits (k : ℕ) (hk : k < 32) : (⟨5, ![32, 4, 8, 64, 128]⟩ : Shape).Slices (![k, 0, 0, 0, 0] : Fin 5 → ℕ) S1x4x8x64x128 :=
  ⟨rfl, by intro a; fin_cases a <;> simp <;> omega⟩
/-- One chunk of carried array 0. -/
theorem r146 (k : ℕ) (hk : k < 32) (h7 : V (Proc.devRef .tc main_v120_7) = fun _ => BitVec.ofNat 32 k) (b : Fin 4) (h : Fin 8) (i : Fin 64) (d : Fin 128) :
    res_main_while0b_v146 V (ix4 b h i d) = C0 V (ix5 ⟨k, hk⟩ b h i d) := by
  unfold res_main_while0b_v146
  rw [h7, Host.dynamicSlice_eq_extractStridedSlice S1x4x8x64x128 _ _ (![k, 0, 0, 0, 0] : Fin 5 → ℕ) _ (fits k hk) ?_]
  · pointwise
  · intro a
    fin_cases a
    · show (BitVec.ofNat 32 k).toInt = (k : ℤ)
      exact toInt_k k hk
    all_goals rfl
/-- One chunk of carried array 1. -/
theorem r147 (k : ℕ) (hk : k < 32) (h7 : V (Proc.devRef .tc main_v120_7) = fun _ => BitVec.ofNat 32 k) (b : Fin 4) (h : Fin 8) (i : Fin 64) (d : Fin 128) :
    res_main_while0b_v147 V (ix4 b h i d) = C1 V (ix5 ⟨k, hk⟩ b h i d) := by
  unfold res_main_while0b_v147
  rw [h7, Host.dynamicSlice_eq_extractStridedSlice S1x4x8x64x128 _ _ (![k, 0, 0, 0, 0] : Fin 5 → ℕ) _ (fits k hk) ?_]
  · pointwise
  · intro a
    fin_cases a
    · show (BitVec.ofNat 32 k).toInt = (k : ℤ)
      exact toInt_k k hk
    all_goals rfl
/-- One chunk of carried array 2. -/
theorem r148 (k : ℕ) (hk : k < 32) (h7 : V (Proc.devRef .tc main_v120_7) = fun _ => BitVec.ofNat 32 k) (b : Fin 4) (h : Fin 8) (i : Fin 64) (d : Fin 128) :
    res_main_while0b_v148 V (ix4 b h i d) = C2 V (ix5 ⟨k, hk⟩ b h i d) := by
  unfold res_main_while0b_v148
  rw [h7, Host.dynamicSlice_eq_extractStridedSlice S1x4x8x64x128 _ _ (![k, 0, 0, 0, 0] : Fin 5 → ℕ) _ (fits k hk) ?_]
  · pointwise
  · intro a
    fin_cases a
    · show (BitVec.ofNat 32 k).toInt = (k : ℤ)
      exact toInt_k k hk
    all_goals rfl

/-- One step of the state. -/
theorem s8 (b : Fin 4) (h : Fin 8) (d e : Fin 128) : (step_main_v120_8 V : S4x8x128x128.Idx → EReal) (ix4 b h d e) =
    C8 V (ix4 b h d e) * C5 V (ix3 h 0 0) + ∑ r : Fin 64, (K V (ix4 b h r d) * C6 V (ix3 h r 0)) * U V (ix4 b h r e) := by
  unfold step_main_v120_8
  simp only [id_eq]
  pointwise
/-- One step of the readouts. -/
theorem s9 (k : ℕ) (hk : k < 32) (h7 : V (Proc.devRef .tc main_v120_7) = fun _ => BitVec.ofNat 32 k) (n : Fin 32) (b : Fin 4) (h : Fin 8) (i : Fin 64) (e : Fin 128) : (step_main_v120_9 V : S32x4x8x64x128.Idx → EReal) (ix5 n b h i e) =
    if n.val = k then ((∑ u : Fin 64, ((∑ d : Fin 128, Q V (ix4 b h i d) * K V (ix4 b h u d)) * C3 V (ix3 h i u)) * U V (ix4 b h u e))
      + ∑ d : Fin 128, (Q V (ix4 b h i d) * C4 V (ix3 h i 0)) * C8 V (ix4 b h d e))
    else C9 V (ix5 n b h i e) := by
  unfold step_main_v120_9
  simp only [id_eq]
  rw [h7, WordCmp.dynamicUpdateSlice_eq_update _ _ _ _ (![k, 0, 0, 0, 0] : Fin 5 → ℕ) (fits k hk) ?_]
  · pointwise
    by_cases hn : n.val = k
    · rw [if_pos hn, dif_pos]
      intro a
      fin_cases a
      · show k ≤ n.val ∧ n.val < k + 1; omega
      · show 0 ≤ b.val ∧ b.val < 0 + 4; omega
      · show 0 ≤ h.val ∧ h.val < 0 + 8; omega
      · show 0 ≤ i.val ∧ i.val < 0 + 64; omega
      · show 0 ≤ e.val ∧ e.val < 0 + 128; omega
    · rw [if_neg hn, dif_neg]
      intro hh
      have h0 : k ≤ n.val ∧ n.val < k + 1 := hh (0 : Fin 5)
      omega
  · intro a
    fin_cases a
    · show (BitVec.ofNat 32 k).toInt = (k : ℤ)
      exact toInt_k k hk
    all_goals rfl

/-- What the contents before trip `k` hold: the inputs `q kk v` of the recurrence in chunks, its decays `L`, the
state after the chunks before, and the readouts of the chunks before. -/
structure Inv (q kk v : Fin 4 → Fin 8 → ℕ → Fin 128 → ℝ) (L : Fin 8 → ℝ) (V : Valuation τ sig (Elt Ideal)) (k : ℕ) : Prop where
  a0 : ∀ n b h i d, C0 V (ix5 n b h i d) = ((q b h (64 * n.val + i.val) d : ℝ) : EReal)
  a1 : ∀ n b h i d, C1 V (ix5 n b h i d) = ((kk b h (64 * n.val + i.val) d : ℝ) : EReal)
  a2 : ∀ n b h i d, C2 V (ix5 n b h i d) = ((v b h (64 * n.val + i.val) d : ℝ) : EReal)
  a3 : ∀ h i j, C3 V (ix3 h i j) = ((if j.val ≤ i.val then Real.exp (L h * ((i.val : ℝ) - j.val)) else 0 : ℝ) : EReal)
  a4 : ∀ h i, C4 V (ix3 h i 0) = ((Real.exp (L h * ((i.val : ℝ) + 1)) : ℝ) : EReal)
  a5 : ∀ h, C5 V (ix3 h 0 0) = ((Real.exp (L h * ((64 : ℕ) : ℝ)) : ℝ) : EReal)
  a6 : ∀ h i, C6 V (ix3 h i 0) = ((Real.exp (L h * (((64 : ℕ) : ℝ) - 1 - i.val)) : ℝ) : EReal)
  a7 : V (Proc.devRef .tc main_v120_7) = fun _ => BitVec.ofNat 32 k
  a8 : ∀ b h d e, C8 V (ix4 b h d e) = ((Sr (L h) (kk b h) (v b h) (64 * k) d e : ℝ) : EReal)
  a9 : ∀ n b h i e, n.val < k → C9 V (ix5 n b h i e) = ((Or (L h) (q b h) (kk b h) (v b h) (64 * n.val + i.val) e : ℝ) : EReal)

theorem inv_step (q kk v : Fin 4 → Fin 8 → ℕ → Fin 128 → ℝ) (L : Fin 8 → ℝ) (k : ℕ) (hk : k < 32)
    (I : Inv q kk v L V k) : Inv q kk v L (STEP V) (k + 1) where
  a0 := by intros; rw [C0, STEP_main_v120_0]; exact I.a0 _ _ _ _ _
  a1 := by intros; rw [C1, STEP_main_v120_1]; exact I.a1 _ _ _ _ _
  a2 := by intros; rw [C2, STEP_main_v120_2]; exact I.a2 _ _ _ _ _
  a3 := by intros; rw [C3, STEP_main_v120_3]; exact I.a3 _ _ _
  a4 := by intros; rw [C4, STEP_main_v120_4]; exact I.a4 _ _
  a5 := by intros; rw [C5, STEP_main_v120_5]; exact I.a5 _
  a6 := by intros; rw [C6, STEP_main_v120_6]; exact I.a6 _ _
  a7 := by
    rw [STEP_main_v120_7, step_main_v120_7, id_eq, I.a7]
    funext i
    show BitVec.ofNat 32 k + 1#32 = _
    rw [BitVec.ofNat_add]
  a8 := by
    intro b h d e
    rw [C8, STEP_main_v120_8, s8, show (64 * (k + 1)) = 64 * k + 64 by ring, ← state_step, I.a8, I.a5, ← EReal.coe_mul,
      EReal.coe_add]
    congr 1
    rw [coe_sum]
    refine Finset.sum_congr rfl fun r _ => ?_
    rw [K, U, r147 V k hk I.a7, r148 V k hk I.a7, I.a1, I.a2, I.a6, ← EReal.coe_mul, ← EReal.coe_mul]
  a9 := by
    intro n b h i e hn
    rw [C9, STEP_main_v120_9, s9 V k hk I.a7]
    by_cases hnk : n.val = k
    · rw [if_pos hnk, hnk, ← out_step, EReal.coe_add]
      congr 1
      · rw [coe_sum]
        refine Finset.sum_congr rfl fun u _ => ?_
        rw [U, r148 V k hk I.a7, I.a2, I.a3, EReal.coe_mul, EReal.coe_mul, coe_sum]
        congr 2
        refine Finset.sum_congr rfl fun d _ => ?_
        rw [Q, K, r146 V k hk I.a7, r147 V k hk I.a7, I.a0, I.a1, ← EReal.coe_mul]
      · rw [coe_sum]
        refine Finset.sum_congr rfl fun d _ => ?_
        rw [Q, r146 V k hk I.a7, I.a0, I.a4, I.a8, ← EReal.coe_mul, ← EReal.coe_mul]
    · rw [if_neg hnk]
      exact I.a9 n b h i e (by omega)

theorem inv_iter (q kk v : Fin 4 → Fin 8 → ℕ → Fin 128 → ℝ) (L : Fin 8 → ℝ) (I : Inv q kk v L V 0) :
    ∀ k ≤ 32, Inv q kk v L (STEP^[k] V) k
  | 0, _ => I
  | k + 1, hk => by
    rw [Function.iterate_succ_apply']
    exact inv_step _ q kk v L k (by omega) (inv_iter q kk v L I k (by omega))

/-- Argument 3 as numbers. -/
abbrev G : S4x2048x1024.Idx → EReal := V (Proc.devRef .tc main_arg3)
/-- Argument 4 as numbers. -/
abbrev W : S2x1024.Idx → EReal := V (Proc.devRef .tc main_arg4)

/-- The first result, from the readouts. -/
theorem out_apply (q kk v : Fin 4 → Fin 8 → ℕ → Fin 128 → ℝ) (L : Fin 8 → ℝ) (I : Inv q kk v L V 32)
    (b : Fin 4) (s : Fin 2048) (h : Fin 8) (e : Fin 128) (r : Fin 8320) (j : Fin 1024)
    (hr : r.val = 2048 * b.val + s.val) (hj : j.val = 128 * h.val + e.val) :
    (out_main_v145 V : S8320x1024.Idx → EReal) (ix2 r j) = yR (Or (L h) (q b h) (kk b h) (v b h) s.val) (W V (ix2 0 j)) (G V (ix3 b s j)) e := by
  unfold out_main_v145
  pointwise
  rw [dif_pos (show r.val < 8192 by omega)]
  suffices H : ∀ (n : Fin 32) (b' : Fin 4) (h' : Fin 8) (i : Fin 64) (e' : Fin 128) (s' : Fin 2048), n.val = s.val / 64 → b'.val = b.val →
      h'.val = h.val → i.val = s.val % 64 → e'.val = e.val → s'.val = s.val →
      C9 V (ix5 n b' h' i e') * Ideal.rsqrt (Ideal.div (∑ x, C9 V (ix5 n b' h' i x) * C9 V (ix5 n b' h' i x)) (Ideal.ofBits FTy.f32 1124073472#32) +
        Ideal.ofBits FTy.f32 897988541#32) * W V (ix2 0 j) * (G V (ix3 b' s' j) * Ideal.div 1 (1 + Ideal.exp (-G V (ix3 b' s' j))))
        = yR (Or (L h) (q b h) (kk b h) (v b h) s.val) (W V (ix2 0 j)) (G V (ix3 b s j)) e from
    H ⟨r.val % 2048 / 64, by omega⟩ ⟨r.val / 2048, by omega⟩ ⟨j.val / 128, by omega⟩ ⟨r.val % 2048 % 64, by omega⟩ ⟨j.val % 128, by omega⟩
      ⟨r.val % 2048, by omega⟩ (by simp only; omega) (by simp only; omega) (by simp only; omega) (by simp only; omega) (by simp only; omega) (by simp only; omega)
  intro n b' h' i e' s' hn hb hh hi he hs
  obtain rfl := Fin.ext hb
  obtain rfl := Fin.ext hh
  obtain rfl := Fin.ext he
  obtain rfl := Fin.ext hs
  have ha : ∀ x, C9 V (ix5 n b' h' i x) = ((Or (L h') (q b' h') (kk b' h') (v b' h') s'.val x : ℝ) : EReal) := by
    intro x
    rw [I.a9 n b' h' i x (by omega), show 64 * n.val + i.val = s'.val by omega]
  simp only [ha]
  rfl
end Cert.ReferenceIdeal.Value
-- ==== Proof.Ret.RefFinal.lean ====
module

public import proofs.«01_k».proof.Proof.Gen.ReferenceIdeal.Run
public import proofs.«01_k».proof.Proof.Ret.RefRot
public import proofs.«01_k».proof.Proof.Ret.RefEntry
public import proofs.«01_k».proof.Proof.Ret.RefStep
public import Idealize.ShloMosaic.Lib.Quiescent
public import Idealize.ShloMosaic.Lib.Claim
public import Idealize.ShloMosaic.Lib.Pointwise
public import Idealize.ShloMosaic.Lib.StableHlo.RunRead

@[expose] public section

set_option maxRecDepth 16384
noncomputable section
open Idealize.ShloMosaic Idealize.ShloMosaic.TcCoe Idealize.SL.Sem Idealize.ShloMosaic.StableHlo
namespace Cert.ReferenceIdeal.Value
open Cert.ReferenceIdeal Cert.Ret
variable (m : (ℓ : Loc nD τ sig) → Buf (Elt Ideal) ℓ) (c : Dev nD)

section results
variable (hq : ∀ i, max (Xq m c i) (-Xq m c i) < ⊤) (hk : ∀ i, max (Xk m c i) (-Xk m c i) < ⊤) (hv : ∀ i, max (Xv m c i) (-Xv m c i) < ⊤)
include hq hk hv

/-- The contents before the first trip. -/
theorem inv0 : Inv (fun b h => rotR (Xq m c) b h.val) (fun b h => rotK (Xk m c) b h.val) (fun b h => row (Xv m c) b h.val)
    (fun h => gam h.val) (entryContents preI m c) 0 where
  a0 := e0 m c hq
  a1 := e1 m c hk
  a2 := e2 m c hv
  a3 := e3 m c
  a4 := e4 m c
  a5 := e5 m c
  a6 := e6 m c
  a7 := ctr_entry m c
  a8 := fun b h d e => (e8 m c b h d e).trans (by simp [Sr])
  a9 := fun n b h i e hn => absurd hn (Nat.not_lt_zero _)

/-- The contents after the last trip. -/
theorem inv32 : Inv (fun b h => rotR (Xq m c) b h.val) (fun b h => rotK (Xk m c) b h.val) (fun b h => row (Xv m c) b h.val)
    (fun h => gam h.val) (STEP^[32] (entryContents preI m c)) 32 :=
  inv_iter _ _ _ _ _ (inv0 m c hq hk hv) 32 le_rfl

/-- The second result. -/
theorem res8 (i : S4x8x128x128.Idx) : (STEP^[32] (entryContents preI m c)) (Proc.devRef .tc main_v120_8) i =
    stT (Xk m c) (Xv m c) (i 0) (i 1).val (i 2) (i 3) := by
  have h := (inv32 m c hq hk hv).a8 (i 0) (i 1) (i 2) (i 3)
  rw [← eq_ix4 i] at h
  exact h

/-- The first result, on the rows of the prompt. -/
theorem res145 (i : S8320x1024.Idx) (hi : (i 0).val < 8192) : out_main_v145 (STEP^[32] (entryContents preI m c)) i =
    outT (Xq m c) (Xk m c) (Xv m c) (Xg m c) (Wn m c) ⟨(i 0).val / 2048 % 4, Nat.mod_lt _ (by decide)⟩ ⟨(i 0).val % 2048, Nat.mod_lt _ (by decide)⟩
      ⟨(i 1).val / 128 % 8, Nat.mod_lt _ (by decide)⟩ ⟨(i 1).val % 128, Nat.mod_lt _ (by decide)⟩ := by
  have i1 : (i 1).val < 1024 := (i 1).isLt
  have h := out_apply _ _ _ _ _ (inv32 m c hq hk hv) ⟨(i 0).val / 2048 % 4, Nat.mod_lt _ (by decide)⟩ ⟨(i 0).val % 2048, Nat.mod_lt _ (by decide)⟩
      ⟨(i 1).val / 128 % 8, Nat.mod_lt _ (by decide)⟩ ⟨(i 1).val % 128, Nat.mod_lt _ (by decide)⟩ (i 0) (i 1) (by simp only; omega) (by simp only; omega)
  rw [← eq_ix2 i] at h
  refine h.trans ?_
  unfold outT
  have hj : (i 1) = (⟨128 * ((i 1).val / 128 % 8) + (i 1).val % 128, by omega⟩ : Fin 1024) := Fin.ext (by simp only; omega)
  have h3 : G (STEP^[32] (entryContents preI m c)) = Xg m c := iter_main_arg3 m c 32
  have h4 : W (STEP^[32] (entryContents preI m c)) = Wn m c := iter_main_arg4 m c 32
  rw [h3, h4]
  congr 2
  · exact congrArg (ix2 0) hj
  · exact congrArg (ix3 _ _) hj
end results
end Cert.ReferenceIdeal.Value
-- ==== Proof.Ret.Claims.lean ====
module

public import proofs.«01_k».proof.Defs
public import proofs.«01_k».proof.Proof.Gen.Kernel.Frame
public import proofs.«01_k».proof.Proof.Gen.KernelIdeal.Frame
public import proofs.«01_k».proof.Proof.Gen.Pre_finite_qkv
public import proofs.«01_k».proof.Proof.Gen.On_prompt_rows
public import proofs.«01_k».proof.Proof.Ret.Final
public import proofs.«01_k».proof.Proof.Ret.RefFinal
public import Idealize.ShloMosaic.Lib.Quiescent

@[expose] public section

set_option maxRecDepth 16384
noncomputable section
open Idealize.ShloMosaic Idealize.ShloMosaic.TcCoe Idealize.SL.Sem
namespace Cert.Ret

/-- Each literal is one of the eight logarithms, as the table of named constants says. -/
theorem preserves : Cert.preserves_Kernel_KernelIdeal :=
  ⟨IdealRules.named_const.statement Cert.KernelIdeal.κ "lg0" .f32 0xBD020AEC#32 ((Real.log (31 / 32) : ℝ) : EReal) rfl,
    IdealRules.named_const.statement Cert.KernelIdeal.κ "lg4" .f32 0xBB00200B#32 ((Real.log (511 / 512) : ℝ) : EReal) rfl,
    IdealRules.named_const.statement Cert.KernelIdeal.κ "lg1" .f32 0xBC8102B3#32 ((Real.log (63 / 64) : ℝ) : EReal) rfl,
    IdealRules.named_const.statement Cert.KernelIdeal.κ "lg5" .f32 0xBA801003#32 ((Real.log (1023 / 1024) : ℝ) : EReal) rfl,
    IdealRules.named_const.statement Cert.KernelIdeal.κ "lg2" .f32 0xBC0080AC#32 ((Real.log (127 / 128) : ℝ) : EReal) rfl,
    IdealRules.named_const.statement Cert.KernelIdeal.κ "lg6" .f32 0xBA000801#32 ((Real.log (2047 / 2048) : ℝ) : EReal) rfl,
    IdealRules.named_const.statement Cert.KernelIdeal.κ "lg3" .f32 0xBB80402B#32 ((Real.log (255 / 256) : ℝ) : EReal) rfl,
    IdealRules.named_const.statement Cert.KernelIdeal.κ "lg7" .f32 0xB9800400#32 ((Real.log (4095 / 4096) : ℝ) : EReal) rfl⟩

theorem frameP : Cert.quiescent_Kernel := fun m g _ => Cert.Kernel.Gen.frame m g
theorem framePI : Cert.quiescent_KernelIdeal := fun m g _ => Cert.KernelIdeal.Gen.frame m g
theorem framePI_pre : Cert.quiescent_KernelIdeal_pre_finite_qkv := fun m g _ => Cert.KernelIdeal.Gen.frame m g
theorem frameRI : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)
theorem frameRI_pre : Cert.quiescent_ReferenceIdeal_pre_finite_qkv := fun m g _ => frameRI m g trivial

/-- An entry the precondition holds of is finite. -/
theorem lt_top {x : EReal} (h : Ideal.cmp .olt (max x (-x)) (Ideal.ofBits .f32 0x7F800000#32) = 1#1) : max x (-x) < ⊤ := by
  have hT : Ideal.ofBits .f32 0x7F800000#32 = ⊤ := by simp [Ideal.ofBits, Ideal.ieee]
  rw [hT] at h
  by_contra hn
  simp [Ideal.cmp, hn] at h

/-- The mask's rows. -/
theorem row_of_mask (i : (⟨2, ![8320, 1024]⟩ : Shape).Idx)
    (hi : IntOp.cmpi .slt (BitVec.ofNat 32 (i 0).val) 8192#32 = 1#1) : (i 0).val < 8192 := by
  have h0 : (i 0).val < 8320 := (i 0).isLt
  word_cmp at hi

theorem algebraic : Cert.algebraic_KernelIdeal_ReferenceIdeal_on_prompt_rows_pre_finite_qkv := by
  intro m g m' g' hpre hm
  have fin : ∀ c : Dev Cert.KernelIdeal.nD, (∀ i, max (Cert.KernelIdeal.Value.Xq m c i) (-Cert.KernelIdeal.Value.Xq m c i) < ⊤) ∧
      (∀ i, max (Cert.KernelIdeal.Value.Xk m c i) (-Cert.KernelIdeal.Value.Xk m c i) < ⊤) ∧
      (∀ i, max (Cert.KernelIdeal.Value.Xv m c i) (-Cert.KernelIdeal.Value.Xv m c i) < ⊤) := by
    intro c
    obtain ⟨h0, h1, h2⟩ := hpre c
    exact ⟨fun i => lt_top (congrFun h0 i), fun i => lt_top (congrFun h1 i), fun i => lt_top (congrFun h2 i)⟩
  refine ⟨fun c i => Cert.KernelIdeal.Value.rowT m c (i 0).val (i 1).val,
    fun c i => stT (Cert.KernelIdeal.Value.Xk m c) (Cert.KernelIdeal.Value.Xv m c) (i 0) (i 1).val (i 2) (i 3), ?_, ?_⟩
  · refine (θ_run Cert.KernelIdeal.defs _ _).mono (fun r h c => ?_) (Cert.KernelIdeal.Value.run_blocks m g)
    obtain ⟨h7, h8, hargs⟩ := h c
    obtain ⟨hq, hk, hv⟩ := fin c
    refine ⟨fun i hi => ?_, fun i _ => ?_, hargs⟩
    · rw [h7, Cert.KernelIdeal.Value.final7 m c hq hk hv]
      exact if_pos (row_of_mask i hi)
    · rw [h8, Cert.KernelIdeal.Value.final8 m c hk hv]
  · refine (θ_run Cert.ReferenceIdeal.defs _ _).mono (fun r h c => ?_) (Cert.ReferenceIdeal.Value.run m' g')
    obtain ⟨h7, h8, hargs⟩ := h c
    obtain ⟨hq, hk, hv⟩ := fin c
    obtain ⟨e0, e1, e2, e3, e4⟩ := hm c
    have q' : Cert.ReferenceIdeal.Value.Xq m' c = Cert.KernelIdeal.Value.Xq m c := e0
    have k' : Cert.ReferenceIdeal.Value.Xk m' c = Cert.KernelIdeal.Value.Xk m c := e1
    have v' : Cert.ReferenceIdeal.Value.Xv m' c = Cert.KernelIdeal.Value.Xv m c := e2
    have g' : Cert.ReferenceIdeal.Value.Xg m' c = Cert.KernelIdeal.Value.Xg m c := e3
    have w' : Cert.ReferenceIdeal.Value.Wn m' c = Cert.KernelIdeal.Value.Wn m c := e4
    have hq' : ∀ i, max (Cert.ReferenceIdeal.Value.Xq m' c i) (-Cert.ReferenceIdeal.Value.Xq m' c i) < ⊤ := by rw [q']; exact hq
    have hk' : ∀ i, max (Cert.ReferenceIdeal.Value.Xk m' c i) (-Cert.ReferenceIdeal.Value.Xk m' c i) < ⊤ := by rw [k']; exact hk
    have hv' : ∀ i, max (Cert.ReferenceIdeal.Value.Xv m' c i) (-Cert.ReferenceIdeal.Value.Xv m' c i) < ⊤ := by rw [v']; exact hv
    refine ⟨fun i hi => ?_, fun i _ => ?_, hargs⟩
    · rw [h7]
      refine (Cert.ReferenceIdeal.Value.res145 m' c hq' hk' hv' i (row_of_mask i hi)).trans ?_
      rw [q', k', v', g', w']
    · rw [h8]
      refine (Cert.ReferenceIdeal.Value.res8 m' c hq' hk' hv' i).trans ?_
      rw [k', v']
end Cert.Ret
-- ==== Proof.lean ====
module

public import proofs.«01_k».proof.Proof.Ffn.Claims
public import proofs.«01_k».proof.Proof.Mix.Claims
public import proofs.«01_k».proof.Proof.Mix.KeysClaims
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_qkv
public import proofs.«01_k».proof.Proof.Gen.On_prompt_rows
public import proofs.«01_k».proof.Proof.Ret.Claims
public import Idealize.ShloMosaic.Adequacy
public import Idealize.ShloMosaic.Init

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Up.Gen.facts, Cert.UpIdeal.Gen.facts, Cert.UpReferenceIdeal.Gen.facts,
    Cert.Down.Gen.facts, Cert.DownIdeal.Gen.facts, Cert.DownReferenceIdeal.Gen.facts,
    Cert.Feed.Gen.facts, Cert.FeedIdeal.Gen.facts, Cert.FeedReferenceIdeal.Gen.facts,
    Cert.Proj.Gen.facts, Cert.ProjIdeal.Gen.facts, Cert.ProjReferenceIdeal.Gen.facts,
    Cert.Merge.Gen.facts, Cert.MergeIdeal.Gen.facts, Cert.MergeReferenceIdeal.Gen.facts,
    Cert.Out.Gen.facts, Cert.OutIdeal.Gen.facts, Cert.OutReferenceIdeal.Gen.facts,
    Cert.Keys.Gen.facts, Cert.KeysIdeal.Gen.facts, Cert.KeysReferenceIdeal.Gen.facts,
    Cert.KeysSample.Gen.facts, Cert.KeysSampleIdeal.Gen.facts, Cert.KeysSampleReferenceIdeal.Gen.facts,
    Cert.Pre_finite_qkv.Gen.facts, Cert.On_prompt_rows.Gen.facts,
    Cert.Ret.frameP, Cert.Ret.framePI, Cert.Ret.framePI_pre, Cert.Ret.frameRI, Cert.Ret.frameRI_pre,
    Cert.Ffn.up_frameP, Cert.Ffn.up_framePI, Cert.Ffn.up_frameRI, Cert.Ffn.down_frameP, Cert.Ffn.down_framePI, Cert.Ffn.down_frameRI,
    Cert.Mix.feed_frameP, Cert.Mix.feed_framePI, Cert.Mix.feed_frameRI,
    Cert.Mix.proj_frameP, Cert.Mix.proj_framePI, Cert.Mix.proj_frameRI,
    Cert.Mix.merge_frameP, Cert.Mix.merge_framePI, Cert.Mix.merge_frameRI,
    Cert.Mix.out_frameP, Cert.Mix.out_framePI, Cert.Mix.out_frameRI,
    Cert.Mix.keys_frameP, Cert.Mix.keys_framePI, Cert.Mix.keys_frameRI,
    Cert.Mix.keys_sample_frameP, Cert.Mix.keys_sample_framePI, Cert.Mix.keys_sample_frameRI,
    Cert.Ret.preserves, Cert.Ret.algebraic, Cert.Ffn.up_preserves, Cert.Ffn.up_algebraic, Cert.Ffn.down_preserves, Cert.Ffn.down_algebraic,
    Cert.Mix.feed_preserves, Cert.Mix.feed_algebraic,
    Cert.Mix.proj_preserves, Cert.Mix.proj_algebraic,
    Cert.Mix.merge_preserves, Cert.Mix.merge_algebraic,
    Cert.Mix.out_preserves, Cert.Mix.out_algebraic,
    Cert.Mix.keys_preserves, Cert.Mix.keys_algebraic,
    Cert.Mix.keys_sample_preserves, Cert.Mix.keys_sample_algebraic⟩

end Cert.Proof

end
